-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S32 : Shape := ⟨1, ![32]⟩
abbrev S4096x8192 : Shape := ⟨2, ![4096, 8192]⟩
abbrev S_ : Shape := ⟨0, ![]⟩
abbrev S1 : Shape := ⟨1, ![1]⟩
abbrev S2x64x8192 : Shape := ⟨3, ![2, 64, 8192]⟩
abbrev S3x64x8192 : Shape := ⟨3, ![3, 64, 8192]⟩
abbrev S64x8192 : Shape := ⟨2, ![64, 8192]⟩
abbrev S6x128 : Shape := ⟨2, ![6, 128]⟩
abbrev S6 : Shape := ⟨1, ![6]⟩
abbrev S5 : Shape := ⟨1, ![5]⟩
abbrev S1x64x8192 : Shape := ⟨3, ![1, 64, 8192]⟩
abbrev S1x32x8192 : Shape := ⟨3, ![1, 32, 8192]⟩
abbrev S32x8192 : Shape := ⟨2, ![32, 8192]⟩
abbrev S1x1x1 : Shape := ⟨3, ![1, 1, 1]⟩
abbrev S1x128 : Shape := ⟨2, ![1, 128]⟩
abbrev S1x1x128 : Shape := ⟨3, ![1, 1, 128]⟩

abbrev nBuf : Space → Nat
  | .hbm => 37
  | .vmem => 16
  | .smem => 3
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S32, .i32⟩
  | .hbm, ⟨3, _⟩ => ⟨S32, .i32⟩
  | .hbm, ⟨4, _⟩ => ⟨S32, .i32⟩
  | .hbm, ⟨5, _⟩ => ⟨S4096x8192, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S4096x8192, .f32⟩
  | .local _ .vmem, ⟨0, _⟩ => ⟨S2x64x8192, .f32⟩
  | .local _ .vmem, ⟨1, _⟩ => ⟨S2x64x8192, .f32⟩
  | .local _ .vmem, ⟨2, _⟩ => ⟨S2x64x8192, .f32⟩
  | .local _ .vmem, ⟨3, _⟩ => ⟨S2x64x8192, .f32⟩
  | .local _ .vmem, ⟨4, _⟩ => ⟨S3x64x8192, .bf16⟩
  | .local _ .vmem, ⟨5, _⟩ => ⟨S3x64x8192, .bf16⟩
  | .local _ .vmem, ⟨6, _⟩ => ⟨S3x64x8192, .bf16⟩
  | .local _ .vmem, ⟨7, _⟩ => ⟨S3x64x8192, .bf16⟩
  | .local _ .vmem, ⟨8, _⟩ => ⟨S3x64x8192, .i8⟩
  | .local _ .vmem, ⟨9, _⟩ => ⟨S3x64x8192, .i8⟩
  | .local _ .vmem, ⟨10, _⟩ => ⟨S64x8192, .i8⟩
  | .local _ .vmem, ⟨11, _⟩ => ⟨S64x8192, .i8⟩
  | .local _ .vmem, ⟨12, _⟩ => ⟨S64x8192, .f32⟩
  | .local _ .vmem, ⟨13, _⟩ => ⟨S64x8192, .f32⟩
  | .local _ .vmem, ⟨14, _⟩ => ⟨S6x128, .f32⟩
  | .local _ .vmem, ⟨15, _⟩ => ⟨S6x128, .f32⟩
  | .local _ .smem, ⟨0, _⟩ => ⟨S1, .i32⟩
  | .local _ .smem, ⟨1, _⟩ => ⟨S1, .i32⟩
  | .local _ .smem, ⟨2, _⟩ => ⟨S1, .i32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 5 65 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_c_2 : Ref sig .tc := ⟨.hbm, 6, rfl⟩
abbrev main_c_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_c_5 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_6 : Ref sig .tc := ⟨.hbm, 20, rfl⟩
abbrev main_v12 : Ref sig .tc := ⟨.hbm, 21, rfl⟩
abbrev main_c_7 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_8 : Ref sig .tc := ⟨.hbm, 28, rfl⟩
abbrev main_v18 : Ref sig .tc := ⟨.hbm, 29, rfl⟩
abbrev main_c_9 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev barrier0 : Sem sig := 4

abbrev nD : Nat := 32
abbrev τ : Topo := Topo.v7x

variable {F : FTy → Type} [FloatOps F]

abbrev grid0 : Pipeline.Grid := .none

def k0_dev1 (v5 : BitVec 32) : Nat :=
  let c0_i32 : BitVec 32 := 0#32
  let c1_i32_3 : BitVec 32 := 1#32
  let v7 : BitVec 32 := Scalar.muli v5 c1_i32_3
  let v8 : BitVec 32 := Scalar.addi c0_i32 v7
  v8.toNat

def k0_dev2 (v4 : BitVec 32) : Nat :=
  let c0_i32_6 : BitVec 32 := 0#32
  let c1_i32_5 : BitVec 32 := 1#32
  let v9 : BitVec 32 := Scalar.muli v4 c1_i32_5
  let v10 : BitVec 32 := Scalar.addi c0_i32_6 v9
  v10.toNat

def k0_off1 (v3 : BitVec 32) : Fin 2 → Nat :=
  let c128_i32 : BitVec 32 := 128#32
  let v11 : BitVec 32 := Scalar.muli v3 c128_i32
  let c0_i32_11 : BitVec 32 := 0#32
  ![v11.toNat, 0]

def k0_off2 (v3 : BitVec 32) : Fin 2 → Nat :=
  let c128_i32_7 : BitVec 32 := 128#32
  let v12 : BitVec 32 := Scalar.muli v3 c128_i32_7
  let c64_i32 : BitVec 32 := 64#32
  let v13 : BitVec 32 := Scalar.addi v12 c64_i32
  let c0_i32_15 : BitVec 32 := 0#32
  ![v13.toNat, 0]
def k0_dev3 (v4 : BitVec 32) : Nat :=
  let c0_i32_41 : BitVec 32 := 0#32
  let c1_i32_40 : BitVec 32 := 1#32
  let v38 : BitVec 32 := Scalar.muli v4 c1_i32_40
  let v39 : BitVec 32 := Scalar.addi c0_i32_41 v38
  v39.toNat
def k0_dev4 (v5 : BitVec 32) : Nat :=
  let c0_i32_51 : BitVec 32 := 0#32
  let c1_i32_50 : BitVec 32 := 1#32
  let v48 : BitVec 32 := Scalar.muli v5 c1_i32_50
  let v49 : BitVec 32 := Scalar.addi c0_i32_51 v48
  v49.toNat
def k0_dev5 (v4 : BitVec 32) : Nat :=
  let c0_i32_61 : BitVec 32 := 0#32
  let c1_i32_60 : BitVec 32 := 1#32
  let v58 : BitVec 32 := Scalar.muli v4 c1_i32_60
  let v59 : BitVec 32 := Scalar.addi c0_i32_61 v58
  v59.toNat
def k0_dev6 (v5 : BitVec 32) : Nat :=
  let c0_i32_71 : BitVec 32 := 0#32
  let c1_i32_70 : BitVec 32 := 1#32
  let v68 : BitVec 32 := Scalar.muli v5 c1_i32_70
  let v69 : BitVec 32 := Scalar.addi c0_i32_71 v68
  v69.toNat
def k0_off3 (v3 : BitVec 32) (c0_i32_76 : BitVec 32) : Fin 2 → Nat :=
  let v78 : BitVec 32 := Scalar.subi v3 c0_i32_76
  let c1_i32_77 : BitVec 32 := 1#32
  let v79 : BitVec 32 := Scalar.subi v78 c1_i32_77
  let c32_i32_78 : BitVec 32 := 32#32
  let c0_i32_79 : BitVec 32 := 0#32
  let v80 : BitVec 1 := Scalar.cmpi .eq c32_i32_78 c0_i32_79
  let c1_i32_80 : BitVec 32 := 1#32
  let v81 : BitVec 32 := Scalar.select v80 c1_i32_80 c32_i32_78
  let v82 : BitVec 32 := Scalar.remsi v79 v81
  let c0_i32_82 : BitVec 32 := 0#32
  let v84 : BitVec 1 := Scalar.cmpi .slt v82 c0_i32_82
  let c0_i32_83 : BitVec 32 := 0#32
  let v85 : BitVec 1 := Scalar.cmpi .slt v81 c0_i32_83
  let v86 : BitVec 1 := Scalar.xori v84 v85
  let c0_i32_81 : BitVec 32 := 0#32
  let v83 : BitVec 1 := Scalar.cmpi .ne v82 c0_i32_81
  let v87 : BitVec 1 := Scalar.andi v86 v83
  let v88 : BitVec 32 := Scalar.addi v82 v81
  let v89 : BitVec 32 := Scalar.select v87 v88 v82
  let c128_i32_92 : BitVec 32 := 128#32
  let v102 : BitVec 32 := Scalar.muli v89 c128_i32_92
  let c0_i32_98 : BitVec 32 := 0#32
  ![v102.toNat, 0]
def k0_off4 (v3 : BitVec 32) (c0_i32_84 : BitVec 32) : Fin 2 → Nat :=
  let v90 : BitVec 32 := Scalar.addi v3 c0_i32_84
  let c1_i32_85 : BitVec 32 := 1#32
  let v91 : BitVec 32 := Scalar.addi v90 c1_i32_85
  let c32_i32_86 : BitVec 32 := 32#32
  let c0_i32_87 : BitVec 32 := 0#32
  let v92 : BitVec 1 := Scalar.cmpi .eq c32_i32_86 c0_i32_87
  let c1_i32_88 : BitVec 32 := 1#32
  let v93 : BitVec 32 := Scalar.select v92 c1_i32_88 c32_i32_86
  let v94 : BitVec 32 := Scalar.remsi v91 v93
  let c0_i32_90 : BitVec 32 := 0#32
  let v96 : BitVec 1 := Scalar.cmpi .slt v94 c0_i32_90
  let c0_i32_91 : BitVec 32 := 0#32
  let v97 : BitVec 1 := Scalar.cmpi .slt v93 c0_i32_91
  let v98 : BitVec 1 := Scalar.xori v96 v97
  let c0_i32_89 : BitVec 32 := 0#32
  let v95 : BitVec 1 := Scalar.cmpi .ne v94 c0_i32_89
  let v99 : BitVec 1 := Scalar.andi v98 v95
  let v100 : BitVec 32 := Scalar.addi v94 v93
  let v101 : BitVec 32 := Scalar.select v99 v100 v94
  let c128_i32_93 : BitVec 32 := 128#32
  let v103 : BitVec 32 := Scalar.muli v101 c128_i32_93
  let c64_i32_94 : BitVec 32 := 64#32
  let v104 : BitVec 32 := Scalar.addi v103 c64_i32_94
  let c0_i32_102 : BitVec 32 := 0#32
  ![v104.toNat, 0]
def k0_dev7 (v5 : BitVec 32) : Nat :=
  let c0_i32_187 : BitVec 32 := 0#32
  let c1_i32_186 : BitVec 32 := 1#32
  let v189 : BitVec 32 := Scalar.muli v5 c1_i32_186
  let v190 : BitVec 32 := Scalar.addi c0_i32_187 v189
  v190.toNat
def k0_dev8 (v4 : BitVec 32) : Nat :=
  let c0_i32_190 : BitVec 32 := 0#32
  let c1_i32_189 : BitVec 32 := 1#32
  let v191 : BitVec 32 := Scalar.muli v4 c1_i32_189
  let v192 : BitVec 32 := Scalar.addi c0_i32_190 v191
  v192.toNat
def k0_dev9 (v4 : BitVec 32) : Nat :=
  let c0_i32_196 : BitVec 32 := 0#32
  let c1_i32_195 : BitVec 32 := 1#32
  let v193 : BitVec 32 := Scalar.muli v4 c1_i32_195
  let v194 : BitVec 32 := Scalar.addi c0_i32_196 v193
  v194.toNat
def k0_dev10 (v5 : BitVec 32) : Nat :=
  let c0_i32_206 : BitVec 32 := 0#32
  let c1_i32_205 : BitVec 32 := 1#32
  let v203 : BitVec 32 := Scalar.muli v5 c1_i32_205
  let v204 : BitVec 32 := Scalar.addi c0_i32_206 v203
  v204.toNat
def k0_dev11 (v4 : BitVec 32) : Nat :=
  let c0_i32_215 : BitVec 32 := 0#32
  let c1_i32_214 : BitVec 32 := 1#32
  let v213 : BitVec 32 := Scalar.muli v4 c1_i32_214
  let v214 : BitVec 32 := Scalar.addi c0_i32_215 v213
  v214.toNat
def k0_dev12 (v5 : BitVec 32) : Nat :=
  let c0_i32_225 : BitVec 32 := 0#32
  let c1_i32_224 : BitVec 32 := 1#32
  let v223 : BitVec 32 := Scalar.muli v5 c1_i32_224
  let v224 : BitVec 32 := Scalar.addi c0_i32_225 v223
  v224.toNat
def k0_dev13 (v5 : BitVec 32) : Nat :=
  let c0_i32_342 : BitVec 32 := 0#32
  let c1_i32_341 : BitVec 32 := 1#32
  let v344 : BitVec 32 := Scalar.muli v5 c1_i32_341
  let v345 : BitVec 32 := Scalar.addi c0_i32_342 v344
  v345.toNat
def k0_dev14 (v4 : BitVec 32) : Nat :=
  let c0_i32_345 : BitVec 32 := 0#32
  let c1_i32_344 : BitVec 32 := 1#32
  let v346 : BitVec 32 := Scalar.muli v4 c1_i32_344
  let v347 : BitVec 32 := Scalar.addi c0_i32_345 v346
  v347.toNat
def k0_dev15 (v4 : BitVec 32) : Nat :=
  let c0_i32_350 : BitVec 32 := 0#32
  let c1_i32_349 : BitVec 32 := 1#32
  let v348 : BitVec 32 := Scalar.muli v4 c1_i32_349
  let v349 : BitVec 32 := Scalar.addi c0_i32_350 v348
  v349.toNat
def k0_dev16 (v5 : BitVec 32) : Nat :=
  let c0_i32_360 : BitVec 32 := 0#32
  let c1_i32_359 : BitVec 32 := 1#32
  let v358 : BitVec 32 := Scalar.muli v5 c1_i32_359
  let v359 : BitVec 32 := Scalar.addi c0_i32_360 v358
  v359.toNat
def k0_dev17 (v4 : BitVec 32) : Nat :=
  let c0_i32_369 : BitVec 32 := 0#32
  let c1_i32_368 : BitVec 32 := 1#32
  let v368 : BitVec 32 := Scalar.muli v4 c1_i32_368
  let v369 : BitVec 32 := Scalar.addi c0_i32_369 v368
  v369.toNat
def k0_dev18 (v5 : BitVec 32) : Nat :=
  let c0_i32_379 : BitVec 32 := 0#32
  let c1_i32_378 : BitVec 32 := 1#32
  let v378 : BitVec 32 := Scalar.muli v5 c1_i32_378
  let v379 : BitVec 32 := Scalar.addi c0_i32_379 v378
  v379.toNat
def k0_dev19 (v5 : BitVec 32) : Nat :=
  let c0_i32_533 : BitVec 32 := 0#32
  let c1_i32_532 : BitVec 32 := 1#32
  let v523 : BitVec 32 := Scalar.muli v5 c1_i32_532
  let v524 : BitVec 32 := Scalar.addi c0_i32_533 v523
  v524.toNat
def k0_dev20 (v4 : BitVec 32) : Nat :=
  let c0_i32_536 : BitVec 32 := 0#32
  let c1_i32_535 : BitVec 32 := 1#32
  let v525 : BitVec 32 := Scalar.muli v4 c1_i32_535
  let v526 : BitVec 32 := Scalar.addi c0_i32_536 v525
  v526.toNat
def k0_dev21 (v4 : BitVec 32) : Nat :=
  let c0_i32_546 : BitVec 32 := 0#32
  let c1_i32_545 : BitVec 32 := 1#32
  let v527 : BitVec 32 := Scalar.muli v4 c1_i32_545
  let v528 : BitVec 32 := Scalar.addi c0_i32_546 v527
  v528.toNat
def k0_dev22 (v5 : BitVec 32) : Nat :=
  let c0_i32_556 : BitVec 32 := 0#32
  let c1_i32_555 : BitVec 32 := 1#32
  let v537 : BitVec 32 := Scalar.muli v5 c1_i32_555
  let v538 : BitVec 32 := Scalar.addi c0_i32_556 v537
  v538.toNat
def k0_dev23 (v4 : BitVec 32) : Nat :=
  let c0_i32_566 : BitVec 32 := 0#32
  let c1_i32_565 : BitVec 32 := 1#32
  let v547 : BitVec 32 := Scalar.muli v4 c1_i32_565
  let v548 : BitVec 32 := Scalar.addi c0_i32_566 v547
  v548.toNat
def k0_dev24 (v5 : BitVec 32) : Nat :=
  let c0_i32_576 : BitVec 32 := 0#32
  let c1_i32_575 : BitVec 32 := 1#32
  let v557 : BitVec 32 := Scalar.muli v5 c1_i32_575
  let v558 : BitVec 32 := Scalar.addi c0_i32_576 v557
  v558.toNat
def k0_dev25 (v5 : BitVec 32) : Nat :=
  let c0_i32_730 : BitVec 32 := 0#32
  let c1_i32_729 : BitVec 32 := 1#32
  let v702 : BitVec 32 := Scalar.muli v5 c1_i32_729
  let v703 : BitVec 32 := Scalar.addi c0_i32_730 v702
  v703.toNat
def k0_dev26 (v4 : BitVec 32) : Nat :=
  let c0_i32_733 : BitVec 32 := 0#32
  let c1_i32_732 : BitVec 32 := 1#32
  let v704 : BitVec 32 := Scalar.muli v4 c1_i32_732
  let v705 : BitVec 32 := Scalar.addi c0_i32_733 v704
  v705.toNat
def k0_dev27 (v4 : BitVec 32) : Nat :=
  let c0_i32_743 : BitVec 32 := 0#32
  let c1_i32_742 : BitVec 32 := 1#32
  let v706 : BitVec 32 := Scalar.muli v4 c1_i32_742
  let v707 : BitVec 32 := Scalar.addi c0_i32_743 v706
  v707.toNat
def k0_dev28 (v5 : BitVec 32) : Nat :=
  let c0_i32_753 : BitVec 32 := 0#32
  let c1_i32_752 : BitVec 32 := 1#32
  let v716 : BitVec 32 := Scalar.muli v5 c1_i32_752
  let v717 : BitVec 32 := Scalar.addi c0_i32_753 v716
  v717.toNat
def k0_dev29 (v4 : BitVec 32) : Nat :=
  let c0_i32_763 : BitVec 32 := 0#32
  let c1_i32_762 : BitVec 32 := 1#32
  let v726 : BitVec 32 := Scalar.muli v4 c1_i32_762
  let v727 : BitVec 32 := Scalar.addi c0_i32_763 v726
  v727.toNat
def k0_dev30 (v5 : BitVec 32) : Nat :=
  let c0_i32_773 : BitVec 32 := 0#32
  let c1_i32_772 : BitVec 32 := 1#32
  let v736 : BitVec 32 := Scalar.muli v5 c1_i32_772
  let v737 : BitVec 32 := Scalar.addi c0_i32_773 v736
  v737.toNat
def k0_dev31 (v5 : BitVec 32) : Nat :=
  let c0_i32_927 : BitVec 32 := 0#32
  let c1_i32_926 : BitVec 32 := 1#32
  let v881 : BitVec 32 := Scalar.muli v5 c1_i32_926
  let v882 : BitVec 32 := Scalar.addi c0_i32_927 v881
  v882.toNat
def k0_dev32 (v4 : BitVec 32) : Nat :=
  let c0_i32_930 : BitVec 32 := 0#32
  let c1_i32_929 : BitVec 32 := 1#32
  let v883 : BitVec 32 := Scalar.muli v4 c1_i32_929
  let v884 : BitVec 32 := Scalar.addi c0_i32_930 v883
  v884.toNat
def k0_dev33 (v4 : BitVec 32) : Nat :=
  let c0_i32_940 : BitVec 32 := 0#32
  let c1_i32_939 : BitVec 32 := 1#32
  let v885 : BitVec 32 := Scalar.muli v4 c1_i32_939
  let v886 : BitVec 32 := Scalar.addi c0_i32_940 v885
  v886.toNat
def k0_dev34 (v5 : BitVec 32) : Nat :=
  let c0_i32_950 : BitVec 32 := 0#32
  let c1_i32_949 : BitVec 32 := 1#32
  let v895 : BitVec 32 := Scalar.muli v5 c1_i32_949
  let v896 : BitVec 32 := Scalar.addi c0_i32_950 v895
  v896.toNat
def k0_dev35 (v4 : BitVec 32) : Nat :=
  let c0_i32_960 : BitVec 32 := 0#32
  let c1_i32_959 : BitVec 32 := 1#32
  let v905 : BitVec 32 := Scalar.muli v4 c1_i32_959
  let v906 : BitVec 32 := Scalar.addi c0_i32_960 v905
  v906.toNat
def k0_dev36 (v5 : BitVec 32) : Nat :=
  let c0_i32_970 : BitVec 32 := 0#32
  let c1_i32_969 : BitVec 32 := 1#32
  let v915 : BitVec 32 := Scalar.muli v5 c1_i32_969
  let v916 : BitVec 32 := Scalar.addi c0_i32_970 v915
  v916.toNat
def k0_dev37 (v5 : BitVec 32) : Nat :=
  let c0_i32_1124 : BitVec 32 := 0#32
  let c1_i32_1123 : BitVec 32 := 1#32
  let v1060 : BitVec 32 := Scalar.muli v5 c1_i32_1123
  let v1061 : BitVec 32 := Scalar.addi c0_i32_1124 v1060
  v1061.toNat
def k0_dev38 (v4 : BitVec 32) : Nat :=
  let c0_i32_1127 : BitVec 32 := 0#32
  let c1_i32_1126 : BitVec 32 := 1#32
  let v1062 : BitVec 32 := Scalar.muli v4 c1_i32_1126
  let v1063 : BitVec 32 := Scalar.addi c0_i32_1127 v1062
  v1063.toNat
def k0_dev39 (v4 : BitVec 32) : Nat :=
  let c0_i32_1137 : BitVec 32 := 0#32
  let c1_i32_1136 : BitVec 32 := 1#32
  let v1064 : BitVec 32 := Scalar.muli v4 c1_i32_1136
  let v1065 : BitVec 32 := Scalar.addi c0_i32_1137 v1064
  v1065.toNat
def k0_dev40 (v5 : BitVec 32) : Nat :=
  let c0_i32_1147 : BitVec 32 := 0#32
  let c1_i32_1146 : BitVec 32 := 1#32
  let v1074 : BitVec 32 := Scalar.muli v5 c1_i32_1146
  let v1075 : BitVec 32 := Scalar.addi c0_i32_1147 v1074
  v1075.toNat
def k0_dev41 (v4 : BitVec 32) : Nat :=
  let c0_i32_1157 : BitVec 32 := 0#32
  let c1_i32_1156 : BitVec 32 := 1#32
  let v1084 : BitVec 32 := Scalar.muli v4 c1_i32_1156
  let v1085 : BitVec 32 := Scalar.addi c0_i32_1157 v1084
  v1085.toNat
def k0_dev42 (v5 : BitVec 32) : Nat :=
  let c0_i32_1167 : BitVec 32 := 0#32
  let c1_i32_1166 : BitVec 32 := 1#32
  let v1094 : BitVec 32 := Scalar.muli v5 c1_i32_1166
  let v1095 : BitVec 32 := Scalar.addi c0_i32_1167 v1094
  v1095.toNat
def k0_dev43 (v5 : BitVec 32) : Nat :=
  let c0_i32_1320 : BitVec 32 := 0#32
  let c1_i32_1319 : BitVec 32 := 1#32
  let v1239 : BitVec 32 := Scalar.muli v5 c1_i32_1319
  let v1240 : BitVec 32 := Scalar.addi c0_i32_1320 v1239
  v1240.toNat
def k0_dev44 (v4 : BitVec 32) : Nat :=
  let c0_i32_1323 : BitVec 32 := 0#32
  let c1_i32_1322 : BitVec 32 := 1#32
  let v1241 : BitVec 32 := Scalar.muli v4 c1_i32_1322
  let v1242 : BitVec 32 := Scalar.addi c0_i32_1323 v1241
  v1242.toNat
def k0_dev45 (v4 : BitVec 32) : Nat :=
  let c0_i32_1333 : BitVec 32 := 0#32
  let c1_i32_1332 : BitVec 32 := 1#32
  let v1243 : BitVec 32 := Scalar.muli v4 c1_i32_1332
  let v1244 : BitVec 32 := Scalar.addi c0_i32_1333 v1243
  v1244.toNat
def k0_dev46 (v5 : BitVec 32) : Nat :=
  let c0_i32_1343 : BitVec 32 := 0#32
  let c1_i32_1342 : BitVec 32 := 1#32
  let v1253 : BitVec 32 := Scalar.muli v5 c1_i32_1342
  let v1254 : BitVec 32 := Scalar.addi c0_i32_1343 v1253
  v1254.toNat
def k0_dev47 (v4 : BitVec 32) : Nat :=
  let c0_i32_1353 : BitVec 32 := 0#32
  let c1_i32_1352 : BitVec 32 := 1#32
  let v1263 : BitVec 32 := Scalar.muli v4 c1_i32_1352
  let v1264 : BitVec 32 := Scalar.addi c0_i32_1353 v1263
  v1264.toNat
def k0_dev48 (v5 : BitVec 32) : Nat :=
  let c0_i32_1363 : BitVec 32 := 0#32
  let c1_i32_1362 : BitVec 32 := 1#32
  let v1273 : BitVec 32 := Scalar.muli v5 c1_i32_1362
  let v1274 : BitVec 32 := Scalar.addi c0_i32_1363 v1273
  v1274.toNat
def k0_dev49 (v5 : BitVec 32) : Nat :=
  let c0_i32_1516 : BitVec 32 := 0#32
  let c1_i32_1515 : BitVec 32 := 1#32
  let v1418 : BitVec 32 := Scalar.muli v5 c1_i32_1515
  let v1419 : BitVec 32 := Scalar.addi c0_i32_1516 v1418
  v1419.toNat
def k0_dev50 (v4 : BitVec 32) : Nat :=
  let c0_i32_1519 : BitVec 32 := 0#32
  let c1_i32_1518 : BitVec 32 := 1#32
  let v1420 : BitVec 32 := Scalar.muli v4 c1_i32_1518
  let v1421 : BitVec 32 := Scalar.addi c0_i32_1519 v1420
  v1421.toNat
def k0_dev51 (v4 : BitVec 32) : Nat :=
  let c0_i32_1529 : BitVec 32 := 0#32
  let c1_i32_1528 : BitVec 32 := 1#32
  let v1422 : BitVec 32 := Scalar.muli v4 c1_i32_1528
  let v1423 : BitVec 32 := Scalar.addi c0_i32_1529 v1422
  v1423.toNat
def k0_dev52 (v5 : BitVec 32) : Nat :=
  let c0_i32_1539 : BitVec 32 := 0#32
  let c1_i32_1538 : BitVec 32 := 1#32
  let v1432 : BitVec 32 := Scalar.muli v5 c1_i32_1538
  let v1433 : BitVec 32 := Scalar.addi c0_i32_1539 v1432
  v1433.toNat
def k0_dev53 (v4 : BitVec 32) : Nat :=
  let c0_i32_1549 : BitVec 32 := 0#32
  let c1_i32_1548 : BitVec 32 := 1#32
  let v1442 : BitVec 32 := Scalar.muli v4 c1_i32_1548
  let v1443 : BitVec 32 := Scalar.addi c0_i32_1549 v1442
  v1443.toNat
def k0_dev54 (v5 : BitVec 32) : Nat :=
  let c0_i32_1559 : BitVec 32 := 0#32
  let c1_i32_1558 : BitVec 32 := 1#32
  let v1452 : BitVec 32 := Scalar.muli v5 c1_i32_1558
  let v1453 : BitVec 32 := Scalar.addi c0_i32_1559 v1452
  v1453.toNat
def k0_dev55 (v5 : BitVec 32) : Nat :=
  let c0_i32_1712 : BitVec 32 := 0#32
  let c1_i32_1711 : BitVec 32 := 1#32
  let v1597 : BitVec 32 := Scalar.muli v5 c1_i32_1711
  let v1598 : BitVec 32 := Scalar.addi c0_i32_1712 v1597
  v1598.toNat
def k0_dev56 (v4 : BitVec 32) : Nat :=
  let c0_i32_1715 : BitVec 32 := 0#32
  let c1_i32_1714 : BitVec 32 := 1#32
  let v1599 : BitVec 32 := Scalar.muli v4 c1_i32_1714
  let v1600 : BitVec 32 := Scalar.addi c0_i32_1715 v1599
  v1600.toNat
def k0_dev57 (v4 : BitVec 32) : Nat :=
  let c0_i32_1725 : BitVec 32 := 0#32
  let c1_i32_1724 : BitVec 32 := 1#32
  let v1601 : BitVec 32 := Scalar.muli v4 c1_i32_1724
  let v1602 : BitVec 32 := Scalar.addi c0_i32_1725 v1601
  v1602.toNat
def k0_dev58 (v5 : BitVec 32) : Nat :=
  let c0_i32_1735 : BitVec 32 := 0#32
  let c1_i32_1734 : BitVec 32 := 1#32
  let v1611 : BitVec 32 := Scalar.muli v5 c1_i32_1734
  let v1612 : BitVec 32 := Scalar.addi c0_i32_1735 v1611
  v1612.toNat
def k0_dev59 (v4 : BitVec 32) : Nat :=
  let c0_i32_1745 : BitVec 32 := 0#32
  let c1_i32_1744 : BitVec 32 := 1#32
  let v1621 : BitVec 32 := Scalar.muli v4 c1_i32_1744
  let v1622 : BitVec 32 := Scalar.addi c0_i32_1745 v1621
  v1622.toNat
def k0_dev60 (v5 : BitVec 32) : Nat :=
  let c0_i32_1755 : BitVec 32 := 0#32
  let c1_i32_1754 : BitVec 32 := 1#32
  let v1631 : BitVec 32 := Scalar.muli v5 c1_i32_1754
  let v1632 : BitVec 32 := Scalar.addi c0_i32_1755 v1631
  v1632.toNat
def k0_dev61 (v5 : BitVec 32) : Nat :=
  let c0_i32_1908 : BitVec 32 := 0#32
  let c1_i32_1907 : BitVec 32 := 1#32
  let v1776 : BitVec 32 := Scalar.muli v5 c1_i32_1907
  let v1777 : BitVec 32 := Scalar.addi c0_i32_1908 v1776
  v1777.toNat
def k0_dev62 (v4 : BitVec 32) : Nat :=
  let c0_i32_1911 : BitVec 32 := 0#32
  let c1_i32_1910 : BitVec 32 := 1#32
  let v1778 : BitVec 32 := Scalar.muli v4 c1_i32_1910
  let v1779 : BitVec 32 := Scalar.addi c0_i32_1911 v1778
  v1779.toNat
def k0_dev63 (v4 : BitVec 32) : Nat :=
  let c0_i32_1921 : BitVec 32 := 0#32
  let c1_i32_1920 : BitVec 32 := 1#32
  let v1780 : BitVec 32 := Scalar.muli v4 c1_i32_1920
  let v1781 : BitVec 32 := Scalar.addi c0_i32_1921 v1780
  v1781.toNat
def k0_dev64 (v5 : BitVec 32) : Nat :=
  let c0_i32_1931 : BitVec 32 := 0#32
  let c1_i32_1930 : BitVec 32 := 1#32
  let v1790 : BitVec 32 := Scalar.muli v5 c1_i32_1930
  let v1791 : BitVec 32 := Scalar.addi c0_i32_1931 v1790
  v1791.toNat
def k0_dev65 (v4 : BitVec 32) : Nat :=
  let c0_i32_1941 : BitVec 32 := 0#32
  let c1_i32_1940 : BitVec 32 := 1#32
  let v1800 : BitVec 32 := Scalar.muli v4 c1_i32_1940
  let v1801 : BitVec 32 := Scalar.addi c0_i32_1941 v1800
  v1801.toNat
def k0_dev66 (v5 : BitVec 32) : Nat :=
  let c0_i32_1951 : BitVec 32 := 0#32
  let c1_i32_1950 : BitVec 32 := 1#32
  let v1810 : BitVec 32 := Scalar.muli v5 c1_i32_1950
  let v1811 : BitVec 32 := Scalar.addi c0_i32_1951 v1810
  v1811.toNat
def k0_dev67 (v5 : BitVec 32) : Nat :=
  let c0_i32_2104 : BitVec 32 := 0#32
  let c1_i32_2103 : BitVec 32 := 1#32
  let v1955 : BitVec 32 := Scalar.muli v5 c1_i32_2103
  let v1956 : BitVec 32 := Scalar.addi c0_i32_2104 v1955
  v1956.toNat
def k0_dev68 (v4 : BitVec 32) : Nat :=
  let c0_i32_2107 : BitVec 32 := 0#32
  let c1_i32_2106 : BitVec 32 := 1#32
  let v1957 : BitVec 32 := Scalar.muli v4 c1_i32_2106
  let v1958 : BitVec 32 := Scalar.addi c0_i32_2107 v1957
  v1958.toNat
def k0_dev69 (v4 : BitVec 32) : Nat :=
  let c0_i32_2117 : BitVec 32 := 0#32
  let c1_i32_2116 : BitVec 32 := 1#32
  let v1959 : BitVec 32 := Scalar.muli v4 c1_i32_2116
  let v1960 : BitVec 32 := Scalar.addi c0_i32_2117 v1959
  v1960.toNat
def k0_dev70 (v5 : BitVec 32) : Nat :=
  let c0_i32_2127 : BitVec 32 := 0#32
  let c1_i32_2126 : BitVec 32 := 1#32
  let v1969 : BitVec 32 := Scalar.muli v5 c1_i32_2126
  let v1970 : BitVec 32 := Scalar.addi c0_i32_2127 v1969
  v1970.toNat
def k0_dev71 (v4 : BitVec 32) : Nat :=
  let c0_i32_2137 : BitVec 32 := 0#32
  let c1_i32_2136 : BitVec 32 := 1#32
  let v1979 : BitVec 32 := Scalar.muli v4 c1_i32_2136
  let v1980 : BitVec 32 := Scalar.addi c0_i32_2137 v1979
  v1980.toNat
def k0_dev72 (v5 : BitVec 32) : Nat :=
  let c0_i32_2147 : BitVec 32 := 0#32
  let c1_i32_2146 : BitVec 32 := 1#32
  let v1989 : BitVec 32 := Scalar.muli v5 c1_i32_2146
  let v1990 : BitVec 32 := Scalar.addi c0_i32_2147 v1989
  v1990.toNat
def k0_dev73 (v5 : BitVec 32) : Nat :=
  let c0_i32_2300 : BitVec 32 := 0#32
  let c1_i32_2299 : BitVec 32 := 1#32
  let v2134 : BitVec 32 := Scalar.muli v5 c1_i32_2299
  let v2135 : BitVec 32 := Scalar.addi c0_i32_2300 v2134
  v2135.toNat
def k0_dev74 (v4 : BitVec 32) : Nat :=
  let c0_i32_2303 : BitVec 32 := 0#32
  let c1_i32_2302 : BitVec 32 := 1#32
  let v2136 : BitVec 32 := Scalar.muli v4 c1_i32_2302
  let v2137 : BitVec 32 := Scalar.addi c0_i32_2303 v2136
  v2137.toNat
def k0_dev75 (v4 : BitVec 32) : Nat :=
  let c0_i32_2313 : BitVec 32 := 0#32
  let c1_i32_2312 : BitVec 32 := 1#32
  let v2138 : BitVec 32 := Scalar.muli v4 c1_i32_2312
  let v2139 : BitVec 32 := Scalar.addi c0_i32_2313 v2138
  v2139.toNat
def k0_dev76 (v5 : BitVec 32) : Nat :=
  let c0_i32_2323 : BitVec 32 := 0#32
  let c1_i32_2322 : BitVec 32 := 1#32
  let v2148 : BitVec 32 := Scalar.muli v5 c1_i32_2322
  let v2149 : BitVec 32 := Scalar.addi c0_i32_2323 v2148
  v2149.toNat
def k0_dev77 (v4 : BitVec 32) : Nat :=
  let c0_i32_2333 : BitVec 32 := 0#32
  let c1_i32_2332 : BitVec 32 := 1#32
  let v2158 : BitVec 32 := Scalar.muli v4 c1_i32_2332
  let v2159 : BitVec 32 := Scalar.addi c0_i32_2333 v2158
  v2159.toNat
def k0_dev78 (v5 : BitVec 32) : Nat :=
  let c0_i32_2343 : BitVec 32 := 0#32
  let c1_i32_2342 : BitVec 32 := 1#32
  let v2168 : BitVec 32 := Scalar.muli v5 c1_i32_2342
  let v2169 : BitVec 32 := Scalar.addi c0_i32_2343 v2168
  v2169.toNat
def k0_dev79 (v5 : BitVec 32) : Nat :=
  let c0_i32_2496 : BitVec 32 := 0#32
  let c1_i32_2495 : BitVec 32 := 1#32
  let v2313 : BitVec 32 := Scalar.muli v5 c1_i32_2495
  let v2314 : BitVec 32 := Scalar.addi c0_i32_2496 v2313
  v2314.toNat
def k0_dev80 (v4 : BitVec 32) : Nat :=
  let c0_i32_2499 : BitVec 32 := 0#32
  let c1_i32_2498 : BitVec 32 := 1#32
  let v2315 : BitVec 32 := Scalar.muli v4 c1_i32_2498
  let v2316 : BitVec 32 := Scalar.addi c0_i32_2499 v2315
  v2316.toNat
def k0_dev81 (v4 : BitVec 32) : Nat :=
  let c0_i32_2509 : BitVec 32 := 0#32
  let c1_i32_2508 : BitVec 32 := 1#32
  let v2317 : BitVec 32 := Scalar.muli v4 c1_i32_2508
  let v2318 : BitVec 32 := Scalar.addi c0_i32_2509 v2317
  v2318.toNat
def k0_dev82 (v5 : BitVec 32) : Nat :=
  let c0_i32_2519 : BitVec 32 := 0#32
  let c1_i32_2518 : BitVec 32 := 1#32
  let v2327 : BitVec 32 := Scalar.muli v5 c1_i32_2518
  let v2328 : BitVec 32 := Scalar.addi c0_i32_2519 v2327
  v2328.toNat
def k0_dev83 (v4 : BitVec 32) : Nat :=
  let c0_i32_2529 : BitVec 32 := 0#32
  let c1_i32_2528 : BitVec 32 := 1#32
  let v2337 : BitVec 32 := Scalar.muli v4 c1_i32_2528
  let v2338 : BitVec 32 := Scalar.addi c0_i32_2529 v2337
  v2338.toNat
def k0_dev84 (v5 : BitVec 32) : Nat :=
  let c0_i32_2539 : BitVec 32 := 0#32
  let c1_i32_2538 : BitVec 32 := 1#32
  let v2347 : BitVec 32 := Scalar.muli v5 c1_i32_2538
  let v2348 : BitVec 32 := Scalar.addi c0_i32_2539 v2347
  v2348.toNat
def k0_dev85 (v5 : BitVec 32) : Nat :=
  let c0_i32_2692 : BitVec 32 := 0#32
  let c1_i32_2691 : BitVec 32 := 1#32
  let v2492 : BitVec 32 := Scalar.muli v5 c1_i32_2691
  let v2493 : BitVec 32 := Scalar.addi c0_i32_2692 v2492
  v2493.toNat
def k0_dev86 (v4 : BitVec 32) : Nat :=
  let c0_i32_2695 : BitVec 32 := 0#32
  let c1_i32_2694 : BitVec 32 := 1#32
  let v2494 : BitVec 32 := Scalar.muli v4 c1_i32_2694
  let v2495 : BitVec 32 := Scalar.addi c0_i32_2695 v2494
  v2495.toNat
def k0_dev87 (v4 : BitVec 32) : Nat :=
  let c0_i32_2705 : BitVec 32 := 0#32
  let c1_i32_2704 : BitVec 32 := 1#32
  let v2496 : BitVec 32 := Scalar.muli v4 c1_i32_2704
  let v2497 : BitVec 32 := Scalar.addi c0_i32_2705 v2496
  v2497.toNat
def k0_dev88 (v5 : BitVec 32) : Nat :=
  let c0_i32_2715 : BitVec 32 := 0#32
  let c1_i32_2714 : BitVec 32 := 1#32
  let v2506 : BitVec 32 := Scalar.muli v5 c1_i32_2714
  let v2507 : BitVec 32 := Scalar.addi c0_i32_2715 v2506
  v2507.toNat
def k0_dev89 (v4 : BitVec 32) : Nat :=
  let c0_i32_2725 : BitVec 32 := 0#32
  let c1_i32_2724 : BitVec 32 := 1#32
  let v2516 : BitVec 32 := Scalar.muli v4 c1_i32_2724
  let v2517 : BitVec 32 := Scalar.addi c0_i32_2725 v2516
  v2517.toNat
def k0_dev90 (v5 : BitVec 32) : Nat :=
  let c0_i32_2735 : BitVec 32 := 0#32
  let c1_i32_2734 : BitVec 32 := 1#32
  let v2526 : BitVec 32 := Scalar.muli v5 c1_i32_2734
  let v2527 : BitVec 32 := Scalar.addi c0_i32_2735 v2526
  v2527.toNat
def k0_dev91 (v5 : BitVec 32) : Nat :=
  let c0_i32_2888 : BitVec 32 := 0#32
  let c1_i32_2887 : BitVec 32 := 1#32
  let v2671 : BitVec 32 := Scalar.muli v5 c1_i32_2887
  let v2672 : BitVec 32 := Scalar.addi c0_i32_2888 v2671
  v2672.toNat
def k0_dev92 (v4 : BitVec 32) : Nat :=
  let c0_i32_2891 : BitVec 32 := 0#32
  let c1_i32_2890 : BitVec 32 := 1#32
  let v2673 : BitVec 32 := Scalar.muli v4 c1_i32_2890
  let v2674 : BitVec 32 := Scalar.addi c0_i32_2891 v2673
  v2674.toNat
def k0_dev93 (v4 : BitVec 32) : Nat :=
  let c0_i32_2901 : BitVec 32 := 0#32
  let c1_i32_2900 : BitVec 32 := 1#32
  let v2675 : BitVec 32 := Scalar.muli v4 c1_i32_2900
  let v2676 : BitVec 32 := Scalar.addi c0_i32_2901 v2675
  v2676.toNat
def k0_dev94 (v5 : BitVec 32) : Nat :=
  let c0_i32_2911 : BitVec 32 := 0#32
  let c1_i32_2910 : BitVec 32 := 1#32
  let v2685 : BitVec 32 := Scalar.muli v5 c1_i32_2910
  let v2686 : BitVec 32 := Scalar.addi c0_i32_2911 v2685
  v2686.toNat
def k0_dev95 (v4 : BitVec 32) : Nat :=
  let c0_i32_2921 : BitVec 32 := 0#32
  let c1_i32_2920 : BitVec 32 := 1#32
  let v2695 : BitVec 32 := Scalar.muli v4 c1_i32_2920
  let v2696 : BitVec 32 := Scalar.addi c0_i32_2921 v2695
  v2696.toNat
def k0_dev96 (v5 : BitVec 32) : Nat :=
  let c0_i32_2931 : BitVec 32 := 0#32
  let c1_i32_2930 : BitVec 32 := 1#32
  let v2705 : BitVec 32 := Scalar.muli v5 c1_i32_2930
  let v2706 : BitVec 32 := Scalar.addi c0_i32_2931 v2705
  v2706.toNat
def k0_dev97 (v5 : BitVec 32) : Nat :=
  let c0_i32_3084 : BitVec 32 := 0#32
  let c1_i32_3083 : BitVec 32 := 1#32
  let v2850 : BitVec 32 := Scalar.muli v5 c1_i32_3083
  let v2851 : BitVec 32 := Scalar.addi c0_i32_3084 v2850
  v2851.toNat
def k0_dev98 (v4 : BitVec 32) : Nat :=
  let c0_i32_3087 : BitVec 32 := 0#32
  let c1_i32_3086 : BitVec 32 := 1#32
  let v2852 : BitVec 32 := Scalar.muli v4 c1_i32_3086
  let v2853 : BitVec 32 := Scalar.addi c0_i32_3087 v2852
  v2853.toNat
def k0_dev99 (v4 : BitVec 32) : Nat :=
  let c0_i32_3097 : BitVec 32 := 0#32
  let c1_i32_3096 : BitVec 32 := 1#32
  let v2854 : BitVec 32 := Scalar.muli v4 c1_i32_3096
  let v2855 : BitVec 32 := Scalar.addi c0_i32_3097 v2854
  v2855.toNat
def k0_dev100 (v5 : BitVec 32) : Nat :=
  let c0_i32_3107 : BitVec 32 := 0#32
  let c1_i32_3106 : BitVec 32 := 1#32
  let v2864 : BitVec 32 := Scalar.muli v5 c1_i32_3106
  let v2865 : BitVec 32 := Scalar.addi c0_i32_3107 v2864
  v2865.toNat
def k0_dev101 (v4 : BitVec 32) : Nat :=
  let c0_i32_3117 : BitVec 32 := 0#32
  let c1_i32_3116 : BitVec 32 := 1#32
  let v2874 : BitVec 32 := Scalar.muli v4 c1_i32_3116
  let v2875 : BitVec 32 := Scalar.addi c0_i32_3117 v2874
  v2875.toNat
def k0_dev102 (v5 : BitVec 32) : Nat :=
  let c0_i32_3127 : BitVec 32 := 0#32
  let c1_i32_3126 : BitVec 32 := 1#32
  let v2884 : BitVec 32 := Scalar.muli v5 c1_i32_3126
  let v2885 : BitVec 32 := Scalar.addi c0_i32_3127 v2884
  v2885.toNat
def k0_dev103 (v5 : BitVec 32) : Nat :=
  let c0_i32_3280 : BitVec 32 := 0#32
  let c1_i32_3279 : BitVec 32 := 1#32
  let v3029 : BitVec 32 := Scalar.muli v5 c1_i32_3279
  let v3030 : BitVec 32 := Scalar.addi c0_i32_3280 v3029
  v3030.toNat
def k0_dev104 (v4 : BitVec 32) : Nat :=
  let c0_i32_3283 : BitVec 32 := 0#32
  let c1_i32_3282 : BitVec 32 := 1#32
  let v3031 : BitVec 32 := Scalar.muli v4 c1_i32_3282
  let v3032 : BitVec 32 := Scalar.addi c0_i32_3283 v3031
  v3032.toNat
def k0_dev105 (v4 : BitVec 32) : Nat :=
  let c0_i32_3293 : BitVec 32 := 0#32
  let c1_i32_3292 : BitVec 32 := 1#32
  let v3033 : BitVec 32 := Scalar.muli v4 c1_i32_3292
  let v3034 : BitVec 32 := Scalar.addi c0_i32_3293 v3033
  v3034.toNat
def k0_dev106 (v5 : BitVec 32) : Nat :=
  let c0_i32_3303 : BitVec 32 := 0#32
  let c1_i32_3302 : BitVec 32 := 1#32
  let v3043 : BitVec 32 := Scalar.muli v5 c1_i32_3302
  let v3044 : BitVec 32 := Scalar.addi c0_i32_3303 v3043
  v3044.toNat
def k0_dev107 (v4 : BitVec 32) : Nat :=
  let c0_i32_3313 : BitVec 32 := 0#32
  let c1_i32_3312 : BitVec 32 := 1#32
  let v3053 : BitVec 32 := Scalar.muli v4 c1_i32_3312
  let v3054 : BitVec 32 := Scalar.addi c0_i32_3313 v3053
  v3054.toNat
def k0_dev108 (v5 : BitVec 32) : Nat :=
  let c0_i32_3323 : BitVec 32 := 0#32
  let c1_i32_3322 : BitVec 32 := 1#32
  let v3063 : BitVec 32 := Scalar.muli v5 c1_i32_3322
  let v3064 : BitVec 32 := Scalar.addi c0_i32_3323 v3063
  v3064.toNat
def k0_dev109 (v5 : BitVec 32) : Nat :=
  let c0_i32_3476 : BitVec 32 := 0#32
  let c1_i32_3475 : BitVec 32 := 1#32
  let v3208 : BitVec 32 := Scalar.muli v5 c1_i32_3475
  let v3209 : BitVec 32 := Scalar.addi c0_i32_3476 v3208
  v3209.toNat
def k0_dev110 (v4 : BitVec 32) : Nat :=
  let c0_i32_3479 : BitVec 32 := 0#32
  let c1_i32_3478 : BitVec 32 := 1#32
  let v3210 : BitVec 32 := Scalar.muli v4 c1_i32_3478
  let v3211 : BitVec 32 := Scalar.addi c0_i32_3479 v3210
  v3211.toNat
def k0_dev111 (v4 : BitVec 32) : Nat :=
  let c0_i32_3489 : BitVec 32 := 0#32
  let c1_i32_3488 : BitVec 32 := 1#32
  let v3212 : BitVec 32 := Scalar.muli v4 c1_i32_3488
  let v3213 : BitVec 32 := Scalar.addi c0_i32_3489 v3212
  v3213.toNat
def k0_dev112 (v5 : BitVec 32) : Nat :=
  let c0_i32_3499 : BitVec 32 := 0#32
  let c1_i32_3498 : BitVec 32 := 1#32
  let v3222 : BitVec 32 := Scalar.muli v5 c1_i32_3498
  let v3223 : BitVec 32 := Scalar.addi c0_i32_3499 v3222
  v3223.toNat
def k0_dev113 (v4 : BitVec 32) : Nat :=
  let c0_i32_3509 : BitVec 32 := 0#32
  let c1_i32_3508 : BitVec 32 := 1#32
  let v3232 : BitVec 32 := Scalar.muli v4 c1_i32_3508
  let v3233 : BitVec 32 := Scalar.addi c0_i32_3509 v3232
  v3233.toNat
def k0_dev114 (v5 : BitVec 32) : Nat :=
  let c0_i32_3519 : BitVec 32 := 0#32
  let c1_i32_3518 : BitVec 32 := 1#32
  let v3242 : BitVec 32 := Scalar.muli v5 c1_i32_3518
  let v3243 : BitVec 32 := Scalar.addi c0_i32_3519 v3242
  v3243.toNat
def k0_dev115 (v5 : BitVec 32) : Nat :=
  let c0_i32_3672 : BitVec 32 := 0#32
  let c1_i32_3671 : BitVec 32 := 1#32
  let v3387 : BitVec 32 := Scalar.muli v5 c1_i32_3671
  let v3388 : BitVec 32 := Scalar.addi c0_i32_3672 v3387
  v3388.toNat
def k0_dev116 (v4 : BitVec 32) : Nat :=
  let c0_i32_3675 : BitVec 32 := 0#32
  let c1_i32_3674 : BitVec 32 := 1#32
  let v3389 : BitVec 32 := Scalar.muli v4 c1_i32_3674
  let v3390 : BitVec 32 := Scalar.addi c0_i32_3675 v3389
  v3390.toNat
def k0_dev117 (v4 : BitVec 32) : Nat :=
  let c0_i32_3685 : BitVec 32 := 0#32
  let c1_i32_3684 : BitVec 32 := 1#32
  let v3391 : BitVec 32 := Scalar.muli v4 c1_i32_3684
  let v3392 : BitVec 32 := Scalar.addi c0_i32_3685 v3391
  v3392.toNat
def k0_dev118 (v5 : BitVec 32) : Nat :=
  let c0_i32_3695 : BitVec 32 := 0#32
  let c1_i32_3694 : BitVec 32 := 1#32
  let v3401 : BitVec 32 := Scalar.muli v5 c1_i32_3694
  let v3402 : BitVec 32 := Scalar.addi c0_i32_3695 v3401
  v3402.toNat
def k0_dev119 (v4 : BitVec 32) : Nat :=
  let c0_i32_3705 : BitVec 32 := 0#32
  let c1_i32_3704 : BitVec 32 := 1#32
  let v3411 : BitVec 32 := Scalar.muli v4 c1_i32_3704
  let v3412 : BitVec 32 := Scalar.addi c0_i32_3705 v3411
  v3412.toNat
def k0_dev120 (v5 : BitVec 32) : Nat :=
  let c0_i32_3715 : BitVec 32 := 0#32
  let c1_i32_3714 : BitVec 32 := 1#32
  let v3421 : BitVec 32 := Scalar.muli v5 c1_i32_3714
  let v3422 : BitVec 32 := Scalar.addi c0_i32_3715 v3421
  v3422.toNat
def k0_dev121 (v5 : BitVec 32) : Nat :=
  let c0_i32_3868 : BitVec 32 := 0#32
  let c1_i32_3867 : BitVec 32 := 1#32
  let v3566 : BitVec 32 := Scalar.muli v5 c1_i32_3867
  let v3567 : BitVec 32 := Scalar.addi c0_i32_3868 v3566
  v3567.toNat
def k0_dev122 (v4 : BitVec 32) : Nat :=
  let c0_i32_3871 : BitVec 32 := 0#32
  let c1_i32_3870 : BitVec 32 := 1#32
  let v3568 : BitVec 32 := Scalar.muli v4 c1_i32_3870
  let v3569 : BitVec 32 := Scalar.addi c0_i32_3871 v3568
  v3569.toNat
def k0_dev123 (v4 : BitVec 32) : Nat :=
  let c0_i32_3881 : BitVec 32 := 0#32
  let c1_i32_3880 : BitVec 32 := 1#32
  let v3570 : BitVec 32 := Scalar.muli v4 c1_i32_3880
  let v3571 : BitVec 32 := Scalar.addi c0_i32_3881 v3570
  v3571.toNat
def k0_dev124 (v5 : BitVec 32) : Nat :=
  let c0_i32_3891 : BitVec 32 := 0#32
  let c1_i32_3890 : BitVec 32 := 1#32
  let v3580 : BitVec 32 := Scalar.muli v5 c1_i32_3890
  let v3581 : BitVec 32 := Scalar.addi c0_i32_3891 v3580
  v3581.toNat
def k0_dev125 (v4 : BitVec 32) : Nat :=
  let c0_i32_3901 : BitVec 32 := 0#32
  let c1_i32_3900 : BitVec 32 := 1#32
  let v3590 : BitVec 32 := Scalar.muli v4 c1_i32_3900
  let v3591 : BitVec 32 := Scalar.addi c0_i32_3901 v3590
  v3591.toNat
def k0_dev126 (v5 : BitVec 32) : Nat :=
  let c0_i32_3911 : BitVec 32 := 0#32
  let c1_i32_3910 : BitVec 32 := 1#32
  let v3600 : BitVec 32 := Scalar.muli v5 c1_i32_3910
  let v3601 : BitVec 32 := Scalar.addi c0_i32_3911 v3600
  v3601.toNat
def k0_dev127 (v5 : BitVec 32) : Nat :=
  let c0_i32_4064 : BitVec 32 := 0#32
  let c1_i32_4063 : BitVec 32 := 1#32
  let v3745 : BitVec 32 := Scalar.muli v5 c1_i32_4063
  let v3746 : BitVec 32 := Scalar.addi c0_i32_4064 v3745
  v3746.toNat
def k0_dev128 (v4 : BitVec 32) : Nat :=
  let c0_i32_4067 : BitVec 32 := 0#32
  let c1_i32_4066 : BitVec 32 := 1#32
  let v3747 : BitVec 32 := Scalar.muli v4 c1_i32_4066
  let v3748 : BitVec 32 := Scalar.addi c0_i32_4067 v3747
  v3748.toNat
def k0_dev129 (v4 : BitVec 32) : Nat :=
  let c0_i32_4077 : BitVec 32 := 0#32
  let c1_i32_4076 : BitVec 32 := 1#32
  let v3749 : BitVec 32 := Scalar.muli v4 c1_i32_4076
  let v3750 : BitVec 32 := Scalar.addi c0_i32_4077 v3749
  v3750.toNat
def k0_dev130 (v5 : BitVec 32) : Nat :=
  let c0_i32_4087 : BitVec 32 := 0#32
  let c1_i32_4086 : BitVec 32 := 1#32
  let v3759 : BitVec 32 := Scalar.muli v5 c1_i32_4086
  let v3760 : BitVec 32 := Scalar.addi c0_i32_4087 v3759
  v3760.toNat
def k0_dev131 (v4 : BitVec 32) : Nat :=
  let c0_i32_4097 : BitVec 32 := 0#32
  let c1_i32_4096 : BitVec 32 := 1#32
  let v3769 : BitVec 32 := Scalar.muli v4 c1_i32_4096
  let v3770 : BitVec 32 := Scalar.addi c0_i32_4097 v3769
  v3770.toNat
def k0_dev132 (v5 : BitVec 32) : Nat :=
  let c0_i32_4107 : BitVec 32 := 0#32
  let c1_i32_4106 : BitVec 32 := 1#32
  let v3779 : BitVec 32 := Scalar.muli v5 c1_i32_4106
  let v3780 : BitVec 32 := Scalar.addi c0_i32_4107 v3779
  v3780.toNat
def k0_dev133 (v5 : BitVec 32) : Nat :=
  let c0_i32_4260 : BitVec 32 := 0#32
  let c1_i32_4259 : BitVec 32 := 1#32
  let v3924 : BitVec 32 := Scalar.muli v5 c1_i32_4259
  let v3925 : BitVec 32 := Scalar.addi c0_i32_4260 v3924
  v3925.toNat
def k0_dev134 (v4 : BitVec 32) : Nat :=
  let c0_i32_4263 : BitVec 32 := 0#32
  let c1_i32_4262 : BitVec 32 := 1#32
  let v3926 : BitVec 32 := Scalar.muli v4 c1_i32_4262
  let v3927 : BitVec 32 := Scalar.addi c0_i32_4263 v3926
  v3927.toNat
def k0_dev135 (v4 : BitVec 32) : Nat :=
  let c0_i32_4273 : BitVec 32 := 0#32
  let c1_i32_4272 : BitVec 32 := 1#32
  let v3928 : BitVec 32 := Scalar.muli v4 c1_i32_4272
  let v3929 : BitVec 32 := Scalar.addi c0_i32_4273 v3928
  v3929.toNat
def k0_dev136 (v5 : BitVec 32) : Nat :=
  let c0_i32_4283 : BitVec 32 := 0#32
  let c1_i32_4282 : BitVec 32 := 1#32
  let v3938 : BitVec 32 := Scalar.muli v5 c1_i32_4282
  let v3939 : BitVec 32 := Scalar.addi c0_i32_4283 v3938
  v3939.toNat
def k0_dev137 (v4 : BitVec 32) : Nat :=
  let c0_i32_4293 : BitVec 32 := 0#32
  let c1_i32_4292 : BitVec 32 := 1#32
  let v3948 : BitVec 32 := Scalar.muli v4 c1_i32_4292
  let v3949 : BitVec 32 := Scalar.addi c0_i32_4293 v3948
  v3949.toNat
def k0_dev138 (v5 : BitVec 32) : Nat :=
  let c0_i32_4303 : BitVec 32 := 0#32
  let c1_i32_4302 : BitVec 32 := 1#32
  let v3958 : BitVec 32 := Scalar.muli v5 c1_i32_4302
  let v3959 : BitVec 32 := Scalar.addi c0_i32_4303 v3958
  v3959.toNat
def k0_dev139 (v5 : BitVec 32) : Nat :=
  let c0_i32_4456 : BitVec 32 := 0#32
  let c1_i32_4455 : BitVec 32 := 1#32
  let v4103 : BitVec 32 := Scalar.muli v5 c1_i32_4455
  let v4104 : BitVec 32 := Scalar.addi c0_i32_4456 v4103
  v4104.toNat
def k0_dev140 (v4 : BitVec 32) : Nat :=
  let c0_i32_4459 : BitVec 32 := 0#32
  let c1_i32_4458 : BitVec 32 := 1#32
  let v4105 : BitVec 32 := Scalar.muli v4 c1_i32_4458
  let v4106 : BitVec 32 := Scalar.addi c0_i32_4459 v4105
  v4106.toNat
def k0_dev141 (v4 : BitVec 32) : Nat :=
  let c0_i32_4469 : BitVec 32 := 0#32
  let c1_i32_4468 : BitVec 32 := 1#32
  let v4107 : BitVec 32 := Scalar.muli v4 c1_i32_4468
  let v4108 : BitVec 32 := Scalar.addi c0_i32_4469 v4107
  v4108.toNat
def k0_dev142 (v5 : BitVec 32) : Nat :=
  let c0_i32_4479 : BitVec 32 := 0#32
  let c1_i32_4478 : BitVec 32 := 1#32
  let v4117 : BitVec 32 := Scalar.muli v5 c1_i32_4478
  let v4118 : BitVec 32 := Scalar.addi c0_i32_4479 v4117
  v4118.toNat
def k0_dev143 (v4 : BitVec 32) : Nat :=
  let c0_i32_4489 : BitVec 32 := 0#32
  let c1_i32_4488 : BitVec 32 := 1#32
  let v4127 : BitVec 32 := Scalar.muli v4 c1_i32_4488
  let v4128 : BitVec 32 := Scalar.addi c0_i32_4489 v4127
  v4128.toNat
def k0_dev144 (v5 : BitVec 32) : Nat :=
  let c0_i32_4499 : BitVec 32 := 0#32
  let c1_i32_4498 : BitVec 32 := 1#32
  let v4137 : BitVec 32 := Scalar.muli v5 c1_i32_4498
  let v4138 : BitVec 32 := Scalar.addi c0_i32_4499 v4137
  v4138.toNat
def k0_dev145 (v5 : BitVec 32) : Nat :=
  let c0_i32_4652 : BitVec 32 := 0#32
  let c1_i32_4651 : BitVec 32 := 1#32
  let v4282 : BitVec 32 := Scalar.muli v5 c1_i32_4651
  let v4283 : BitVec 32 := Scalar.addi c0_i32_4652 v4282
  v4283.toNat
def k0_dev146 (v4 : BitVec 32) : Nat :=
  let c0_i32_4655 : BitVec 32 := 0#32
  let c1_i32_4654 : BitVec 32 := 1#32
  let v4284 : BitVec 32 := Scalar.muli v4 c1_i32_4654
  let v4285 : BitVec 32 := Scalar.addi c0_i32_4655 v4284
  v4285.toNat
def k0_dev147 (v4 : BitVec 32) : Nat :=
  let c0_i32_4665 : BitVec 32 := 0#32
  let c1_i32_4664 : BitVec 32 := 1#32
  let v4286 : BitVec 32 := Scalar.muli v4 c1_i32_4664
  let v4287 : BitVec 32 := Scalar.addi c0_i32_4665 v4286
  v4287.toNat
def k0_dev148 (v5 : BitVec 32) : Nat :=
  let c0_i32_4675 : BitVec 32 := 0#32
  let c1_i32_4674 : BitVec 32 := 1#32
  let v4296 : BitVec 32 := Scalar.muli v5 c1_i32_4674
  let v4297 : BitVec 32 := Scalar.addi c0_i32_4675 v4296
  v4297.toNat
def k0_dev149 (v4 : BitVec 32) : Nat :=
  let c0_i32_4685 : BitVec 32 := 0#32
  let c1_i32_4684 : BitVec 32 := 1#32
  let v4306 : BitVec 32 := Scalar.muli v4 c1_i32_4684
  let v4307 : BitVec 32 := Scalar.addi c0_i32_4685 v4306
  v4307.toNat
def k0_dev150 (v5 : BitVec 32) : Nat :=
  let c0_i32_4695 : BitVec 32 := 0#32
  let c1_i32_4694 : BitVec 32 := 1#32
  let v4316 : BitVec 32 := Scalar.muli v5 c1_i32_4694
  let v4317 : BitVec 32 := Scalar.addi c0_i32_4695 v4316
  v4317.toNat
def k0_dev151 (v5 : BitVec 32) : Nat :=
  let c0_i32_4848 : BitVec 32 := 0#32
  let c1_i32_4847 : BitVec 32 := 1#32
  let v4461 : BitVec 32 := Scalar.muli v5 c1_i32_4847
  let v4462 : BitVec 32 := Scalar.addi c0_i32_4848 v4461
  v4462.toNat
def k0_dev152 (v4 : BitVec 32) : Nat :=
  let c0_i32_4851 : BitVec 32 := 0#32
  let c1_i32_4850 : BitVec 32 := 1#32
  let v4463 : BitVec 32 := Scalar.muli v4 c1_i32_4850
  let v4464 : BitVec 32 := Scalar.addi c0_i32_4851 v4463
  v4464.toNat
def k0_dev153 (v4 : BitVec 32) : Nat :=
  let c0_i32_4861 : BitVec 32 := 0#32
  let c1_i32_4860 : BitVec 32 := 1#32
  let v4465 : BitVec 32 := Scalar.muli v4 c1_i32_4860
  let v4466 : BitVec 32 := Scalar.addi c0_i32_4861 v4465
  v4466.toNat
def k0_dev154 (v5 : BitVec 32) : Nat :=
  let c0_i32_4871 : BitVec 32 := 0#32
  let c1_i32_4870 : BitVec 32 := 1#32
  let v4475 : BitVec 32 := Scalar.muli v5 c1_i32_4870
  let v4476 : BitVec 32 := Scalar.addi c0_i32_4871 v4475
  v4476.toNat
def k0_dev155 (v4 : BitVec 32) : Nat :=
  let c0_i32_4881 : BitVec 32 := 0#32
  let c1_i32_4880 : BitVec 32 := 1#32
  let v4485 : BitVec 32 := Scalar.muli v4 c1_i32_4880
  let v4486 : BitVec 32 := Scalar.addi c0_i32_4881 v4485
  v4486.toNat
def k0_dev156 (v5 : BitVec 32) : Nat :=
  let c0_i32_4891 : BitVec 32 := 0#32
  let c1_i32_4890 : BitVec 32 := 1#32
  let v4495 : BitVec 32 := Scalar.muli v5 c1_i32_4890
  let v4496 : BitVec 32 := Scalar.addi c0_i32_4891 v4495
  v4496.toNat
def k0_dev157 (v5 : BitVec 32) : Nat :=
  let c0_i32_5044 : BitVec 32 := 0#32
  let c1_i32_5043 : BitVec 32 := 1#32
  let v4640 : BitVec 32 := Scalar.muli v5 c1_i32_5043
  let v4641 : BitVec 32 := Scalar.addi c0_i32_5044 v4640
  v4641.toNat
def k0_dev158 (v4 : BitVec 32) : Nat :=
  let c0_i32_5047 : BitVec 32 := 0#32
  let c1_i32_5046 : BitVec 32 := 1#32
  let v4642 : BitVec 32 := Scalar.muli v4 c1_i32_5046
  let v4643 : BitVec 32 := Scalar.addi c0_i32_5047 v4642
  v4643.toNat
def k0_dev159 (v4 : BitVec 32) : Nat :=
  let c0_i32_5057 : BitVec 32 := 0#32
  let c1_i32_5056 : BitVec 32 := 1#32
  let v4644 : BitVec 32 := Scalar.muli v4 c1_i32_5056
  let v4645 : BitVec 32 := Scalar.addi c0_i32_5057 v4644
  v4645.toNat
def k0_dev160 (v5 : BitVec 32) : Nat :=
  let c0_i32_5067 : BitVec 32 := 0#32
  let c1_i32_5066 : BitVec 32 := 1#32
  let v4654 : BitVec 32 := Scalar.muli v5 c1_i32_5066
  let v4655 : BitVec 32 := Scalar.addi c0_i32_5067 v4654
  v4655.toNat
def k0_dev161 (v4 : BitVec 32) : Nat :=
  let c0_i32_5077 : BitVec 32 := 0#32
  let c1_i32_5076 : BitVec 32 := 1#32
  let v4664 : BitVec 32 := Scalar.muli v4 c1_i32_5076
  let v4665 : BitVec 32 := Scalar.addi c0_i32_5077 v4664
  v4665.toNat
def k0_dev162 (v5 : BitVec 32) : Nat :=
  let c0_i32_5087 : BitVec 32 := 0#32
  let c1_i32_5086 : BitVec 32 := 1#32
  let v4674 : BitVec 32 := Scalar.muli v5 c1_i32_5086
  let v4675 : BitVec 32 := Scalar.addi c0_i32_5087 v4674
  v4675.toNat
def k0_dev163 (v5 : BitVec 32) : Nat :=
  let c0_i32_5240 : BitVec 32 := 0#32
  let c1_i32_5239 : BitVec 32 := 1#32
  let v4819 : BitVec 32 := Scalar.muli v5 c1_i32_5239
  let v4820 : BitVec 32 := Scalar.addi c0_i32_5240 v4819
  v4820.toNat
def k0_dev164 (v4 : BitVec 32) : Nat :=
  let c0_i32_5243 : BitVec 32 := 0#32
  let c1_i32_5242 : BitVec 32 := 1#32
  let v4821 : BitVec 32 := Scalar.muli v4 c1_i32_5242
  let v4822 : BitVec 32 := Scalar.addi c0_i32_5243 v4821
  v4822.toNat
def k0_dev165 (v4 : BitVec 32) : Nat :=
  let c0_i32_5253 : BitVec 32 := 0#32
  let c1_i32_5252 : BitVec 32 := 1#32
  let v4823 : BitVec 32 := Scalar.muli v4 c1_i32_5252
  let v4824 : BitVec 32 := Scalar.addi c0_i32_5253 v4823
  v4824.toNat
def k0_dev166 (v5 : BitVec 32) : Nat :=
  let c0_i32_5263 : BitVec 32 := 0#32
  let c1_i32_5262 : BitVec 32 := 1#32
  let v4833 : BitVec 32 := Scalar.muli v5 c1_i32_5262
  let v4834 : BitVec 32 := Scalar.addi c0_i32_5263 v4833
  v4834.toNat
def k0_dev167 (v4 : BitVec 32) : Nat :=
  let c0_i32_5273 : BitVec 32 := 0#32
  let c1_i32_5272 : BitVec 32 := 1#32
  let v4843 : BitVec 32 := Scalar.muli v4 c1_i32_5272
  let v4844 : BitVec 32 := Scalar.addi c0_i32_5273 v4843
  v4844.toNat
def k0_dev168 (v5 : BitVec 32) : Nat :=
  let c0_i32_5283 : BitVec 32 := 0#32
  let c1_i32_5282 : BitVec 32 := 1#32
  let v4853 : BitVec 32 := Scalar.muli v5 c1_i32_5282
  let v4854 : BitVec 32 := Scalar.addi c0_i32_5283 v4853
  v4854.toNat
def k0_dev169 (v5 : BitVec 32) : Nat :=
  let c0_i32_5436 : BitVec 32 := 0#32
  let c1_i32_5435 : BitVec 32 := 1#32
  let v4998 : BitVec 32 := Scalar.muli v5 c1_i32_5435
  let v4999 : BitVec 32 := Scalar.addi c0_i32_5436 v4998
  v4999.toNat
def k0_dev170 (v4 : BitVec 32) : Nat :=
  let c0_i32_5439 : BitVec 32 := 0#32
  let c1_i32_5438 : BitVec 32 := 1#32
  let v5000 : BitVec 32 := Scalar.muli v4 c1_i32_5438
  let v5001 : BitVec 32 := Scalar.addi c0_i32_5439 v5000
  v5001.toNat
def k0_dev171 (v4 : BitVec 32) : Nat :=
  let c0_i32_5449 : BitVec 32 := 0#32
  let c1_i32_5448 : BitVec 32 := 1#32
  let v5002 : BitVec 32 := Scalar.muli v4 c1_i32_5448
  let v5003 : BitVec 32 := Scalar.addi c0_i32_5449 v5002
  v5003.toNat
def k0_dev172 (v5 : BitVec 32) : Nat :=
  let c0_i32_5459 : BitVec 32 := 0#32
  let c1_i32_5458 : BitVec 32 := 1#32
  let v5012 : BitVec 32 := Scalar.muli v5 c1_i32_5458
  let v5013 : BitVec 32 := Scalar.addi c0_i32_5459 v5012
  v5013.toNat
def k0_dev173 (v4 : BitVec 32) : Nat :=
  let c0_i32_5469 : BitVec 32 := 0#32
  let c1_i32_5468 : BitVec 32 := 1#32
  let v5022 : BitVec 32 := Scalar.muli v4 c1_i32_5468
  let v5023 : BitVec 32 := Scalar.addi c0_i32_5469 v5022
  v5023.toNat
def k0_dev174 (v5 : BitVec 32) : Nat :=
  let c0_i32_5479 : BitVec 32 := 0#32
  let c1_i32_5478 : BitVec 32 := 1#32
  let v5032 : BitVec 32 := Scalar.muli v5 c1_i32_5478
  let v5033 : BitVec 32 := Scalar.addi c0_i32_5479 v5032
  v5033.toNat
def k0_dev175 (v4 : BitVec 32) : Nat :=
  let c0_i32_5639 : BitVec 32 := 0#32
  let c1_i32_5638 : BitVec 32 := 1#32
  let v5177 : BitVec 32 := Scalar.muli v4 c1_i32_5638
  let v5178 : BitVec 32 := Scalar.addi c0_i32_5639 v5177
  v5178.toNat
def k0_dev176 (v5 : BitVec 32) : Nat :=
  let c0_i32_5649 : BitVec 32 := 0#32
  let c1_i32_5648 : BitVec 32 := 1#32
  let v5187 : BitVec 32 := Scalar.muli v5 c1_i32_5648
  let v5188 : BitVec 32 := Scalar.addi c0_i32_5649 v5187
  v5188.toNat
def k0_dev177 (v4 : BitVec 32) : Nat :=
  let c0_i32_5659 : BitVec 32 := 0#32
  let c1_i32_5658 : BitVec 32 := 1#32
  let v5197 : BitVec 32 := Scalar.muli v4 c1_i32_5658
  let v5198 : BitVec 32 := Scalar.addi c0_i32_5659 v5197
  v5198.toNat
def k0_dev178 (v5 : BitVec 32) : Nat :=
  let c0_i32_5669 : BitVec 32 := 0#32
  let c1_i32_5668 : BitVec 32 := 1#32
  let v5207 : BitVec 32 := Scalar.muli v5 c1_i32_5668
  let v5208 : BitVec 32 := Scalar.addi c0_i32_5669 v5207
  v5208.toNat
def k0_dev179 (v4 : BitVec 32) : Nat :=
  let c0_i32_5829 : BitVec 32 := 0#32
  let c1_i32_5828 : BitVec 32 := 1#32
  let v5352 : BitVec 32 := Scalar.muli v4 c1_i32_5828
  let v5353 : BitVec 32 := Scalar.addi c0_i32_5829 v5352
  v5353.toNat
def k0_dev180 (v5 : BitVec 32) : Nat :=
  let c0_i32_5839 : BitVec 32 := 0#32
  let c1_i32_5838 : BitVec 32 := 1#32
  let v5362 : BitVec 32 := Scalar.muli v5 c1_i32_5838
  let v5363 : BitVec 32 := Scalar.addi c0_i32_5839 v5362
  v5363.toNat
def k0_dev181 (v4 : BitVec 32) : Nat :=
  let c0_i32_5849 : BitVec 32 := 0#32
  let c1_i32_5848 : BitVec 32 := 1#32
  let v5372 : BitVec 32 := Scalar.muli v4 c1_i32_5848
  let v5373 : BitVec 32 := Scalar.addi c0_i32_5849 v5372
  v5373.toNat
def k0_dev182 (v5 : BitVec 32) : Nat :=
  let c0_i32_5859 : BitVec 32 := 0#32
  let c1_i32_5858 : BitVec 32 := 1#32
  let v5382 : BitVec 32 := Scalar.muli v5 c1_i32_5858
  let v5383 : BitVec 32 := Scalar.addi c0_i32_5859 v5382
  v5383.toNat
def k0_dev183 (d0 : Dev nD) : Nat :=
  let c0_i32_6095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6091 : BitVec 32 := 1#32
  let v5590 : BitVec 32 := Scalar.xori v2 c1_i32_6091
  let c1_i32_6094 : BitVec 32 := 1#32
  let v5591 : BitVec 32 := Scalar.muli v5590 c1_i32_6094
  let v5592 : BitVec 32 := Scalar.addi c0_i32_6095 v5591
  v5592.toNat
def k0_dev184 (d0 : Dev nD) : Nat :=
  let c0_i32_6125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_6121 : BitVec 32 := 2#32
  let v5615 : BitVec 32 := Scalar.xori v2 c2_i32_6121
  let c1_i32_6124 : BitVec 32 := 1#32
  let v5616 : BitVec 32 := Scalar.muli v5615 c1_i32_6124
  let v5617 : BitVec 32 := Scalar.addi c0_i32_6125 v5616
  v5617.toNat
def k0_dev185 (d0 : Dev nD) : Nat :=
  let c0_i32_6155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_6151 : BitVec 32 := 4#32
  let v5640 : BitVec 32 := Scalar.xori v2 c4_i32_6151
  let c1_i32_6154 : BitVec 32 := 1#32
  let v5641 : BitVec 32 := Scalar.muli v5640 c1_i32_6154
  let v5642 : BitVec 32 := Scalar.addi c0_i32_6155 v5641
  v5642.toNat
def k0_dev186 (d0 : Dev nD) : Nat :=
  let c0_i32_6184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_6180 : BitVec 32 := 8#32
  let v5665 : BitVec 32 := Scalar.xori v2 c8_i32_6180
  let c1_i32_6183 : BitVec 32 := 1#32
  let v5666 : BitVec 32 := Scalar.muli v5665 c1_i32_6183
  let v5667 : BitVec 32 := Scalar.addi c0_i32_6184 v5666
  v5667.toNat
def k0_dev187 (d0 : Dev nD) : Nat :=
  let c0_i32_6213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_6209 : BitVec 32 := 16#32
  let v5690 : BitVec 32 := Scalar.xori v2 c16_i32_6209
  let c1_i32_6212 : BitVec 32 := 1#32
  let v5691 : BitVec 32 := Scalar.muli v5690 c1_i32_6212
  let v5692 : BitVec 32 := Scalar.addi c0_i32_6213 v5691
  v5692.toNat
def k0_off5 (v3 : BitVec 32) : Fin 2 → Nat :=
  let c1_i32_6264 : BitVec 32 := 1#32
  let v5761 : BitVec 32 := Scalar.addi v3 c1_i32_6264
  let c32_i32_6265 : BitVec 32 := 32#32
  let c0_i32_6266 : BitVec 32 := 0#32
  let v5762 : BitVec 1 := Scalar.cmpi .eq c32_i32_6265 c0_i32_6266
  let c1_i32_6267 : BitVec 32 := 1#32
  let v5763 : BitVec 32 := Scalar.select v5762 c1_i32_6267 c32_i32_6265
  let v5764 : BitVec 32 := Scalar.remsi v5761 v5763
  let c0_i32_6269 : BitVec 32 := 0#32
  let v5766 : BitVec 1 := Scalar.cmpi .slt v5764 c0_i32_6269
  let c0_i32_6270 : BitVec 32 := 0#32
  let v5767 : BitVec 1 := Scalar.cmpi .slt v5763 c0_i32_6270
  let v5768 : BitVec 1 := Scalar.xori v5766 v5767
  let c0_i32_6268 : BitVec 32 := 0#32
  let v5765 : BitVec 1 := Scalar.cmpi .ne v5764 c0_i32_6268
  let v5769 : BitVec 1 := Scalar.andi v5768 v5765
  let v5770 : BitVec 32 := Scalar.addi v5764 v5763
  let v5771 : BitVec 32 := Scalar.select v5769 v5770 v5764
  let c128_i32_6271 : BitVec 32 := 128#32
  let v5772 : BitVec 32 := Scalar.muli v5771 c128_i32_6271
  let c0_i32_6281 : BitVec 32 := 0#32
  ![v5772.toNat, 0]
def k0_off6 (v3 : BitVec 32) : Fin 2 → Nat :=
  let c1_i32_6272 : BitVec 32 := 1#32
  let v5773 : BitVec 32 := Scalar.subi v3 c1_i32_6272
  let c32_i32_6273 : BitVec 32 := 32#32
  let c0_i32_6274 : BitVec 32 := 0#32
  let v5774 : BitVec 1 := Scalar.cmpi .eq c32_i32_6273 c0_i32_6274
  let c1_i32_6275 : BitVec 32 := 1#32
  let v5775 : BitVec 32 := Scalar.select v5774 c1_i32_6275 c32_i32_6273
  let v5776 : BitVec 32 := Scalar.remsi v5773 v5775
  let c0_i32_6277 : BitVec 32 := 0#32
  let v5778 : BitVec 1 := Scalar.cmpi .slt v5776 c0_i32_6277
  let c0_i32_6278 : BitVec 32 := 0#32
  let v5779 : BitVec 1 := Scalar.cmpi .slt v5775 c0_i32_6278
  let v5780 : BitVec 1 := Scalar.xori v5778 v5779
  let c0_i32_6276 : BitVec 32 := 0#32
  let v5777 : BitVec 1 := Scalar.cmpi .ne v5776 c0_i32_6276
  let v5781 : BitVec 1 := Scalar.andi v5780 v5777
  let v5782 : BitVec 32 := Scalar.addi v5776 v5775
  let v5783 : BitVec 32 := Scalar.select v5781 v5782 v5776
  let c128_i32_6279 : BitVec 32 := 128#32
  let v5784 : BitVec 32 := Scalar.muli v5783 c128_i32_6279
  let c64_i32_6280 : BitVec 32 := 64#32
  let v5785 : BitVec 32 := Scalar.addi v5784 c64_i32_6280
  let c0_i32_6282 : BitVec 32 := 0#32
  ![v5785.toNat, 0]
def k0_dev188 (v4 : BitVec 32) : Nat :=
  let c0_i32_6289 : BitVec 32 := 0#32
  let c1_i32_6288 : BitVec 32 := 1#32
  let v5790 : BitVec 32 := Scalar.muli v4 c1_i32_6288
  let v5791 : BitVec 32 := Scalar.addi c0_i32_6289 v5790
  v5791.toNat
def k0_dev189 (v5 : BitVec 32) : Nat :=
  let c0_i32_6298 : BitVec 32 := 0#32
  let c1_i32_6297 : BitVec 32 := 1#32
  let v5799 : BitVec 32 := Scalar.muli v5 c1_i32_6297
  let v5800 : BitVec 32 := Scalar.addi c0_i32_6298 v5799
  v5800.toNat
def k0_dev190 (v4 : BitVec 32) : Nat :=
  let c0_i32_6307 : BitVec 32 := 0#32
  let c1_i32_6306 : BitVec 32 := 1#32
  let v5808 : BitVec 32 := Scalar.muli v4 c1_i32_6306
  let v5809 : BitVec 32 := Scalar.addi c0_i32_6307 v5808
  v5809.toNat
def k0_dev191 (v5 : BitVec 32) : Nat :=
  let c0_i32_6316 : BitVec 32 := 0#32
  let c1_i32_6315 : BitVec 32 := 1#32
  let v5817 : BitVec 32 := Scalar.muli v5 c1_i32_6315
  let v5818 : BitVec 32 := Scalar.addi c0_i32_6316 v5817
  v5818.toNat
def k0_off7 (v3 : BitVec 32) (c0_i32_6321 : BitVec 32) : Fin 2 → Nat :=
  let v5826 : BitVec 32 := Scalar.subi v3 c0_i32_6321
  let c32_i32_6322 : BitVec 32 := 32#32
  let c0_i32_6323 : BitVec 32 := 0#32
  let v5827 : BitVec 1 := Scalar.cmpi .eq c32_i32_6322 c0_i32_6323
  let c1_i32_6324 : BitVec 32 := 1#32
  let v5828 : BitVec 32 := Scalar.select v5827 c1_i32_6324 c32_i32_6322
  let v5829 : BitVec 32 := Scalar.remsi v5826 v5828
  let c0_i32_6326 : BitVec 32 := 0#32
  let v5831 : BitVec 1 := Scalar.cmpi .slt v5829 c0_i32_6326
  let c0_i32_6327 : BitVec 32 := 0#32
  let v5832 : BitVec 1 := Scalar.cmpi .slt v5828 c0_i32_6327
  let v5833 : BitVec 1 := Scalar.xori v5831 v5832
  let c0_i32_6325 : BitVec 32 := 0#32
  let v5830 : BitVec 1 := Scalar.cmpi .ne v5829 c0_i32_6325
  let v5834 : BitVec 1 := Scalar.andi v5833 v5830
  let v5835 : BitVec 32 := Scalar.addi v5829 v5828
  let v5836 : BitVec 32 := Scalar.select v5834 v5835 v5829
  let c128_i32_6363 : BitVec 32 := 128#32
  let v5878 : BitVec 32 := Scalar.muli v5836 c128_i32_6363
  let c0_i32_6366 : BitVec 32 := 0#32
  ![v5878.toNat, 0]
def k0_off8 (v3 : BitVec 32) (c0_i32_6328 : BitVec 32) : Fin 2 → Nat :=
  let v5837 : BitVec 32 := Scalar.addi v3 c0_i32_6328
  let c32_i32_6329 : BitVec 32 := 32#32
  let c0_i32_6330 : BitVec 32 := 0#32
  let v5838 : BitVec 1 := Scalar.cmpi .eq c32_i32_6329 c0_i32_6330
  let c1_i32_6331 : BitVec 32 := 1#32
  let v5839 : BitVec 32 := Scalar.select v5838 c1_i32_6331 c32_i32_6329
  let v5840 : BitVec 32 := Scalar.remsi v5837 v5839
  let c0_i32_6333 : BitVec 32 := 0#32
  let v5842 : BitVec 1 := Scalar.cmpi .slt v5840 c0_i32_6333
  let c0_i32_6334 : BitVec 32 := 0#32
  let v5843 : BitVec 1 := Scalar.cmpi .slt v5839 c0_i32_6334
  let v5844 : BitVec 1 := Scalar.xori v5842 v5843
  let c0_i32_6332 : BitVec 32 := 0#32
  let v5841 : BitVec 1 := Scalar.cmpi .ne v5840 c0_i32_6332
  let v5845 : BitVec 1 := Scalar.andi v5844 v5841
  let v5846 : BitVec 32 := Scalar.addi v5840 v5839
  let v5847 : BitVec 32 := Scalar.select v5845 v5846 v5840
  let c128_i32_6364 : BitVec 32 := 128#32
  let v5879 : BitVec 32 := Scalar.muli v5847 c128_i32_6364
  let c64_i32_6365 : BitVec 32 := 64#32
  let v5880 : BitVec 32 := Scalar.addi v5879 c64_i32_6365
  let c0_i32_6369 : BitVec 32 := 0#32
  ![v5880.toNat, 0]
def k0_off9 (v3 : BitVec 32) (c0_i32_6321 : BitVec 32) : Fin 2 → Nat :=
  let v5826 : BitVec 32 := Scalar.subi v3 c0_i32_6321
  let c32_i32_6322 : BitVec 32 := 32#32
  let c0_i32_6323 : BitVec 32 := 0#32
  let v5827 : BitVec 1 := Scalar.cmpi .eq c32_i32_6322 c0_i32_6323
  let c1_i32_6324 : BitVec 32 := 1#32
  let v5828 : BitVec 32 := Scalar.select v5827 c1_i32_6324 c32_i32_6322
  let v5829 : BitVec 32 := Scalar.remsi v5826 v5828
  let c0_i32_6326 : BitVec 32 := 0#32
  let v5831 : BitVec 1 := Scalar.cmpi .slt v5829 c0_i32_6326
  let c0_i32_6327 : BitVec 32 := 0#32
  let v5832 : BitVec 1 := Scalar.cmpi .slt v5828 c0_i32_6327
  let v5833 : BitVec 1 := Scalar.xori v5831 v5832
  let c0_i32_6325 : BitVec 32 := 0#32
  let v5830 : BitVec 1 := Scalar.cmpi .ne v5829 c0_i32_6325
  let v5834 : BitVec 1 := Scalar.andi v5833 v5830
  let v5835 : BitVec 32 := Scalar.addi v5829 v5828
  let v5836 : BitVec 32 := Scalar.select v5834 v5835 v5829
  let c128_i32_6406 : BitVec 32 := 128#32
  let v5919 : BitVec 32 := Scalar.muli v5836 c128_i32_6406
  let c32_i32_6407 : BitVec 32 := 32#32
  let v5920 : BitVec 32 := Scalar.addi v5919 c32_i32_6407
  let c0_i32_6411 : BitVec 32 := 0#32
  ![v5920.toNat, 0]
def k0_off10 (v3 : BitVec 32) (c0_i32_6328 : BitVec 32) : Fin 2 → Nat :=
  let v5837 : BitVec 32 := Scalar.addi v3 c0_i32_6328
  let c32_i32_6329 : BitVec 32 := 32#32
  let c0_i32_6330 : BitVec 32 := 0#32
  let v5838 : BitVec 1 := Scalar.cmpi .eq c32_i32_6329 c0_i32_6330
  let c1_i32_6331 : BitVec 32 := 1#32
  let v5839 : BitVec 32 := Scalar.select v5838 c1_i32_6331 c32_i32_6329
  let v5840 : BitVec 32 := Scalar.remsi v5837 v5839
  let c0_i32_6333 : BitVec 32 := 0#32
  let v5842 : BitVec 1 := Scalar.cmpi .slt v5840 c0_i32_6333
  let c0_i32_6334 : BitVec 32 := 0#32
  let v5843 : BitVec 1 := Scalar.cmpi .slt v5839 c0_i32_6334
  let v5844 : BitVec 1 := Scalar.xori v5842 v5843
  let c0_i32_6332 : BitVec 32 := 0#32
  let v5841 : BitVec 1 := Scalar.cmpi .ne v5840 c0_i32_6332
  let v5845 : BitVec 1 := Scalar.andi v5844 v5841
  let v5846 : BitVec 32 := Scalar.addi v5840 v5839
  let v5847 : BitVec 32 := Scalar.select v5845 v5846 v5840
  let c128_i32_6408 : BitVec 32 := 128#32
  let v5921 : BitVec 32 := Scalar.muli v5847 c128_i32_6408
  let c64_i32_6409 : BitVec 32 := 64#32
  let v5922 : BitVec 32 := Scalar.addi v5921 c64_i32_6409
  let c32_i32_6410 : BitVec 32 := 32#32
  let v5923 : BitVec 32 := Scalar.addi v5922 c32_i32_6410
  let c0_i32_6414 : BitVec 32 := 0#32
  ![v5923.toNat, 0]

def k0_chk3 (v3 : BitVec 32) : Prop :=
  (∀ a, (k0_off1 v3) a + S64x8192.size a ≤ S4096x8192.size a) ∧
  (∀ a, (k0_off2 v3) a + S64x8192.size a ≤ S4096x8192.size a) ∧
  (∀ (r : Fin 31), ∀ a, (k0_off3 v3 (BitVec.ofNat 32 r.val)) a + S64x8192.size a ≤ S4096x8192.size a) ∧
  (∀ (r : Fin 31), ∀ a, (k0_off4 v3 (BitVec.ofNat 32 r.val)) a + S64x8192.size a ≤ S4096x8192.size a) ∧
  (∀ a, (k0_off5 v3) a + S64x8192.size a ≤ S4096x8192.size a) ∧
  (∀ a, (k0_off6 v3) a + S64x8192.size a ≤ S4096x8192.size a) ∧
  (∀ (r : Fin 31), ∀ a, (k0_off7 v3 (BitVec.ofNat 32 r.val)) a + S32x8192.size a ≤ S4096x8192.size a) ∧
  (∀ (r : Fin 31), ∀ a, (k0_off8 v3 (BitVec.ofNat 32 r.val)) a + S32x8192.size a ≤ S4096x8192.size a) ∧
  (∀ (r : Fin 31), ∀ a, (k0_off9 v3 (BitVec.ofNat 32 r.val)) a + S32x8192.size a ≤ S4096x8192.size a) ∧
  (∀ (r : Fin 31), ∀ a, (k0_off10 v3 (BitVec.ofNat 32 r.val)) a + S32x8192.size a ≤ S4096x8192.size a)
theorem k0_off1_inb : ∀ (v3 : BitVec 32) (k0_hw3 : k0_chk3 v3), ∀ a, (k0_off1 v3) a + S64x8192.size a ≤ S4096x8192.size a := fun v3 k0_hw3 => k0_hw3.1
theorem k0_off2_inb : ∀ (v3 : BitVec 32) (k0_hw3 : k0_chk3 v3), ∀ a, (k0_off2 v3) a + S64x8192.size a ≤ S4096x8192.size a := fun v3 k0_hw3 => k0_hw3.2.1
theorem k0_off3_inb : ∀ (v3 : BitVec 32) (k0_hw3 : k0_chk3 v3), ∀ (r : Fin 31), ∀ a, (k0_off3 v3 (BitVec.ofNat 32 r.val)) a + S64x8192.size a ≤ S4096x8192.size a := fun v3 k0_hw3 r => k0_hw3.2.2.1 r
theorem k0_off4_inb : ∀ (v3 : BitVec 32) (k0_hw3 : k0_chk3 v3), ∀ (r : Fin 31), ∀ a, (k0_off4 v3 (BitVec.ofNat 32 r.val)) a + S64x8192.size a ≤ S4096x8192.size a := fun v3 k0_hw3 r => k0_hw3.2.2.2.1 r
theorem k0_off5_inb : ∀ (v3 : BitVec 32) (k0_hw3 : k0_chk3 v3), ∀ a, (k0_off5 v3) a + S64x8192.size a ≤ S4096x8192.size a := fun v3 k0_hw3 => k0_hw3.2.2.2.2.1
theorem k0_off6_inb : ∀ (v3 : BitVec 32) (k0_hw3 : k0_chk3 v3), ∀ a, (k0_off6 v3) a + S64x8192.size a ≤ S4096x8192.size a := fun v3 k0_hw3 => k0_hw3.2.2.2.2.2.1
theorem k0_off7_inb : ∀ (v3 : BitVec 32) (k0_hw3 : k0_chk3 v3), ∀ (r : Fin 31), ∀ a, (k0_off7 v3 (BitVec.ofNat 32 r.val)) a + S32x8192.size a ≤ S4096x8192.size a := fun v3 k0_hw3 r => k0_hw3.2.2.2.2.2.2.1 r
theorem k0_off8_inb : ∀ (v3 : BitVec 32) (k0_hw3 : k0_chk3 v3), ∀ (r : Fin 31), ∀ a, (k0_off8 v3 (BitVec.ofNat 32 r.val)) a + S32x8192.size a ≤ S4096x8192.size a := fun v3 k0_hw3 r => k0_hw3.2.2.2.2.2.2.2.1 r
theorem k0_off9_inb : ∀ (v3 : BitVec 32) (k0_hw3 : k0_chk3 v3), ∀ (r : Fin 31), ∀ a, (k0_off9 v3 (BitVec.ofNat 32 r.val)) a + S32x8192.size a ≤ S4096x8192.size a := fun v3 k0_hw3 r => k0_hw3.2.2.2.2.2.2.2.2.1 r
theorem k0_off10_inb : ∀ (v3 : BitVec 32) (k0_hw3 : k0_chk3 v3), ∀ (r : Fin 31), ∀ a, (k0_off10 v3 (BitVec.ofNat 32 r.val)) a + S32x8192.size a ≤ S4096x8192.size a := fun v3 k0_hw3 r => k0_hw3.2.2.2.2.2.2.2.2.2 r

def k0_dev192 (v4 : BitVec 32) : Nat :=
  let c0_i32_6460 : BitVec 32 := 0#32
  let c1_i32_6459 : BitVec 32 := 1#32
  let v5952 : BitVec 32 := Scalar.muli v4 c1_i32_6459
  let v5953 : BitVec 32 := Scalar.addi c0_i32_6460 v5952
  v5953.toNat
def k0_dev193 (v5 : BitVec 32) : Nat :=
  let c0_i32_6470 : BitVec 32 := 0#32
  let c1_i32_6469 : BitVec 32 := 1#32
  let v5962 : BitVec 32 := Scalar.muli v5 c1_i32_6469
  let v5963 : BitVec 32 := Scalar.addi c0_i32_6470 v5962
  v5963.toNat
def k0_dev194 (v4 : BitVec 32) : Nat :=
  let c0_i32_6480 : BitVec 32 := 0#32
  let c1_i32_6479 : BitVec 32 := 1#32
  let v5972 : BitVec 32 := Scalar.muli v4 c1_i32_6479
  let v5973 : BitVec 32 := Scalar.addi c0_i32_6480 v5972
  v5973.toNat
def k0_dev195 (v5 : BitVec 32) : Nat :=
  let c0_i32_6490 : BitVec 32 := 0#32
  let c1_i32_6489 : BitVec 32 := 1#32
  let v5982 : BitVec 32 := Scalar.muli v5 c1_i32_6489
  let v5983 : BitVec 32 := Scalar.addi c0_i32_6490 v5982
  v5983.toNat
def k0_dev196 (v5 : BitVec 32) : Nat :=
  let c0_i32_6633 : BitVec 32 := 0#32
  let c1_i32_6632 : BitVec 32 := 1#32
  let v6122 : BitVec 32 := Scalar.muli v5 c1_i32_6632
  let v6123 : BitVec 32 := Scalar.addi c0_i32_6633 v6122
  v6123.toNat
def k0_dev197 (v4 : BitVec 32) : Nat :=
  let c0_i32_6636 : BitVec 32 := 0#32
  let c1_i32_6635 : BitVec 32 := 1#32
  let v6124 : BitVec 32 := Scalar.muli v4 c1_i32_6635
  let v6125 : BitVec 32 := Scalar.addi c0_i32_6636 v6124
  v6125.toNat
def k0_dev198 (v4 : BitVec 32) : Nat :=
  let c0_i32_6648 : BitVec 32 := 0#32
  let c1_i32_6647 : BitVec 32 := 1#32
  let v6130 : BitVec 32 := Scalar.muli v4 c1_i32_6647
  let v6131 : BitVec 32 := Scalar.addi c0_i32_6648 v6130
  v6131.toNat
def k0_dev199 (v5 : BitVec 32) : Nat :=
  let c0_i32_6658 : BitVec 32 := 0#32
  let c1_i32_6657 : BitVec 32 := 1#32
  let v6140 : BitVec 32 := Scalar.muli v5 c1_i32_6657
  let v6141 : BitVec 32 := Scalar.addi c0_i32_6658 v6140
  v6141.toNat
def k0_dev200 (v4 : BitVec 32) : Nat :=
  let c0_i32_6668 : BitVec 32 := 0#32
  let c1_i32_6667 : BitVec 32 := 1#32
  let v6150 : BitVec 32 := Scalar.muli v4 c1_i32_6667
  let v6151 : BitVec 32 := Scalar.addi c0_i32_6668 v6150
  v6151.toNat
def k0_dev201 (v5 : BitVec 32) : Nat :=
  let c0_i32_6678 : BitVec 32 := 0#32
  let c1_i32_6677 : BitVec 32 := 1#32
  let v6160 : BitVec 32 := Scalar.muli v5 c1_i32_6677
  let v6161 : BitVec 32 := Scalar.addi c0_i32_6678 v6160
  v6161.toNat
def k0_dev202 (v5 : BitVec 32) : Nat :=
  let c0_i32_6821 : BitVec 32 := 0#32
  let c1_i32_6820 : BitVec 32 := 1#32
  let v6300 : BitVec 32 := Scalar.muli v5 c1_i32_6820
  let v6301 : BitVec 32 := Scalar.addi c0_i32_6821 v6300
  v6301.toNat
def k0_dev203 (v4 : BitVec 32) : Nat :=
  let c0_i32_6824 : BitVec 32 := 0#32
  let c1_i32_6823 : BitVec 32 := 1#32
  let v6302 : BitVec 32 := Scalar.muli v4 c1_i32_6823
  let v6303 : BitVec 32 := Scalar.addi c0_i32_6824 v6302
  v6303.toNat
def k0_dev204 (v4 : BitVec 32) : Nat :=
  let c0_i32_6840 : BitVec 32 := 0#32
  let c1_i32_6839 : BitVec 32 := 1#32
  let v6308 : BitVec 32 := Scalar.muli v4 c1_i32_6839
  let v6309 : BitVec 32 := Scalar.addi c0_i32_6840 v6308
  v6309.toNat
def k0_dev205 (v5 : BitVec 32) : Nat :=
  let c0_i32_6850 : BitVec 32 := 0#32
  let c1_i32_6849 : BitVec 32 := 1#32
  let v6318 : BitVec 32 := Scalar.muli v5 c1_i32_6849
  let v6319 : BitVec 32 := Scalar.addi c0_i32_6850 v6318
  v6319.toNat
def k0_dev206 (v4 : BitVec 32) : Nat :=
  let c0_i32_6860 : BitVec 32 := 0#32
  let c1_i32_6859 : BitVec 32 := 1#32
  let v6328 : BitVec 32 := Scalar.muli v4 c1_i32_6859
  let v6329 : BitVec 32 := Scalar.addi c0_i32_6860 v6328
  v6329.toNat
def k0_dev207 (v5 : BitVec 32) : Nat :=
  let c0_i32_6870 : BitVec 32 := 0#32
  let c1_i32_6869 : BitVec 32 := 1#32
  let v6338 : BitVec 32 := Scalar.muli v5 c1_i32_6869
  let v6339 : BitVec 32 := Scalar.addi c0_i32_6870 v6338
  v6339.toNat
def k0_dev208 (v5 : BitVec 32) : Nat :=
  let c0_i32_7013 : BitVec 32 := 0#32
  let c1_i32_7012 : BitVec 32 := 1#32
  let v6478 : BitVec 32 := Scalar.muli v5 c1_i32_7012
  let v6479 : BitVec 32 := Scalar.addi c0_i32_7013 v6478
  v6479.toNat
def k0_dev209 (v4 : BitVec 32) : Nat :=
  let c0_i32_7016 : BitVec 32 := 0#32
  let c1_i32_7015 : BitVec 32 := 1#32
  let v6480 : BitVec 32 := Scalar.muli v4 c1_i32_7015
  let v6481 : BitVec 32 := Scalar.addi c0_i32_7016 v6480
  v6481.toNat
def k0_dev210 (v4 : BitVec 32) : Nat :=
  let c0_i32_7032 : BitVec 32 := 0#32
  let c1_i32_7031 : BitVec 32 := 1#32
  let v6486 : BitVec 32 := Scalar.muli v4 c1_i32_7031
  let v6487 : BitVec 32 := Scalar.addi c0_i32_7032 v6486
  v6487.toNat
def k0_dev211 (v5 : BitVec 32) : Nat :=
  let c0_i32_7042 : BitVec 32 := 0#32
  let c1_i32_7041 : BitVec 32 := 1#32
  let v6496 : BitVec 32 := Scalar.muli v5 c1_i32_7041
  let v6497 : BitVec 32 := Scalar.addi c0_i32_7042 v6496
  v6497.toNat
def k0_dev212 (v4 : BitVec 32) : Nat :=
  let c0_i32_7052 : BitVec 32 := 0#32
  let c1_i32_7051 : BitVec 32 := 1#32
  let v6506 : BitVec 32 := Scalar.muli v4 c1_i32_7051
  let v6507 : BitVec 32 := Scalar.addi c0_i32_7052 v6506
  v6507.toNat
def k0_dev213 (v5 : BitVec 32) : Nat :=
  let c0_i32_7062 : BitVec 32 := 0#32
  let c1_i32_7061 : BitVec 32 := 1#32
  let v6516 : BitVec 32 := Scalar.muli v5 c1_i32_7061
  let v6517 : BitVec 32 := Scalar.addi c0_i32_7062 v6516
  v6517.toNat
def k0_dev214 (v5 : BitVec 32) : Nat :=
  let c0_i32_7205 : BitVec 32 := 0#32
  let c1_i32_7204 : BitVec 32 := 1#32
  let v6656 : BitVec 32 := Scalar.muli v5 c1_i32_7204
  let v6657 : BitVec 32 := Scalar.addi c0_i32_7205 v6656
  v6657.toNat
def k0_dev215 (v4 : BitVec 32) : Nat :=
  let c0_i32_7208 : BitVec 32 := 0#32
  let c1_i32_7207 : BitVec 32 := 1#32
  let v6658 : BitVec 32 := Scalar.muli v4 c1_i32_7207
  let v6659 : BitVec 32 := Scalar.addi c0_i32_7208 v6658
  v6659.toNat
def k0_dev216 (v4 : BitVec 32) : Nat :=
  let c0_i32_7224 : BitVec 32 := 0#32
  let c1_i32_7223 : BitVec 32 := 1#32
  let v6664 : BitVec 32 := Scalar.muli v4 c1_i32_7223
  let v6665 : BitVec 32 := Scalar.addi c0_i32_7224 v6664
  v6665.toNat
def k0_dev217 (v5 : BitVec 32) : Nat :=
  let c0_i32_7234 : BitVec 32 := 0#32
  let c1_i32_7233 : BitVec 32 := 1#32
  let v6674 : BitVec 32 := Scalar.muli v5 c1_i32_7233
  let v6675 : BitVec 32 := Scalar.addi c0_i32_7234 v6674
  v6675.toNat
def k0_dev218 (v4 : BitVec 32) : Nat :=
  let c0_i32_7244 : BitVec 32 := 0#32
  let c1_i32_7243 : BitVec 32 := 1#32
  let v6684 : BitVec 32 := Scalar.muli v4 c1_i32_7243
  let v6685 : BitVec 32 := Scalar.addi c0_i32_7244 v6684
  v6685.toNat
def k0_dev219 (v5 : BitVec 32) : Nat :=
  let c0_i32_7254 : BitVec 32 := 0#32
  let c1_i32_7253 : BitVec 32 := 1#32
  let v6694 : BitVec 32 := Scalar.muli v5 c1_i32_7253
  let v6695 : BitVec 32 := Scalar.addi c0_i32_7254 v6694
  v6695.toNat
def k0_dev220 (v5 : BitVec 32) : Nat :=
  let c0_i32_7397 : BitVec 32 := 0#32
  let c1_i32_7396 : BitVec 32 := 1#32
  let v6834 : BitVec 32 := Scalar.muli v5 c1_i32_7396
  let v6835 : BitVec 32 := Scalar.addi c0_i32_7397 v6834
  v6835.toNat
def k0_dev221 (v4 : BitVec 32) : Nat :=
  let c0_i32_7400 : BitVec 32 := 0#32
  let c1_i32_7399 : BitVec 32 := 1#32
  let v6836 : BitVec 32 := Scalar.muli v4 c1_i32_7399
  let v6837 : BitVec 32 := Scalar.addi c0_i32_7400 v6836
  v6837.toNat
def k0_dev222 (v4 : BitVec 32) : Nat :=
  let c0_i32_7416 : BitVec 32 := 0#32
  let c1_i32_7415 : BitVec 32 := 1#32
  let v6842 : BitVec 32 := Scalar.muli v4 c1_i32_7415
  let v6843 : BitVec 32 := Scalar.addi c0_i32_7416 v6842
  v6843.toNat
def k0_dev223 (v5 : BitVec 32) : Nat :=
  let c0_i32_7426 : BitVec 32 := 0#32
  let c1_i32_7425 : BitVec 32 := 1#32
  let v6852 : BitVec 32 := Scalar.muli v5 c1_i32_7425
  let v6853 : BitVec 32 := Scalar.addi c0_i32_7426 v6852
  v6853.toNat
def k0_dev224 (v4 : BitVec 32) : Nat :=
  let c0_i32_7436 : BitVec 32 := 0#32
  let c1_i32_7435 : BitVec 32 := 1#32
  let v6862 : BitVec 32 := Scalar.muli v4 c1_i32_7435
  let v6863 : BitVec 32 := Scalar.addi c0_i32_7436 v6862
  v6863.toNat
def k0_dev225 (v5 : BitVec 32) : Nat :=
  let c0_i32_7446 : BitVec 32 := 0#32
  let c1_i32_7445 : BitVec 32 := 1#32
  let v6872 : BitVec 32 := Scalar.muli v5 c1_i32_7445
  let v6873 : BitVec 32 := Scalar.addi c0_i32_7446 v6872
  v6873.toNat
def k0_dev226 (v5 : BitVec 32) : Nat :=
  let c0_i32_7589 : BitVec 32 := 0#32
  let c1_i32_7588 : BitVec 32 := 1#32
  let v7012 : BitVec 32 := Scalar.muli v5 c1_i32_7588
  let v7013 : BitVec 32 := Scalar.addi c0_i32_7589 v7012
  v7013.toNat
def k0_dev227 (v4 : BitVec 32) : Nat :=
  let c0_i32_7592 : BitVec 32 := 0#32
  let c1_i32_7591 : BitVec 32 := 1#32
  let v7014 : BitVec 32 := Scalar.muli v4 c1_i32_7591
  let v7015 : BitVec 32 := Scalar.addi c0_i32_7592 v7014
  v7015.toNat
def k0_dev228 (v4 : BitVec 32) : Nat :=
  let c0_i32_7608 : BitVec 32 := 0#32
  let c1_i32_7607 : BitVec 32 := 1#32
  let v7020 : BitVec 32 := Scalar.muli v4 c1_i32_7607
  let v7021 : BitVec 32 := Scalar.addi c0_i32_7608 v7020
  v7021.toNat
def k0_dev229 (v5 : BitVec 32) : Nat :=
  let c0_i32_7618 : BitVec 32 := 0#32
  let c1_i32_7617 : BitVec 32 := 1#32
  let v7030 : BitVec 32 := Scalar.muli v5 c1_i32_7617
  let v7031 : BitVec 32 := Scalar.addi c0_i32_7618 v7030
  v7031.toNat
def k0_dev230 (v4 : BitVec 32) : Nat :=
  let c0_i32_7628 : BitVec 32 := 0#32
  let c1_i32_7627 : BitVec 32 := 1#32
  let v7040 : BitVec 32 := Scalar.muli v4 c1_i32_7627
  let v7041 : BitVec 32 := Scalar.addi c0_i32_7628 v7040
  v7041.toNat
def k0_dev231 (v5 : BitVec 32) : Nat :=
  let c0_i32_7638 : BitVec 32 := 0#32
  let c1_i32_7637 : BitVec 32 := 1#32
  let v7050 : BitVec 32 := Scalar.muli v5 c1_i32_7637
  let v7051 : BitVec 32 := Scalar.addi c0_i32_7638 v7050
  v7051.toNat
def k0_dev232 (v5 : BitVec 32) : Nat :=
  let c0_i32_7781 : BitVec 32 := 0#32
  let c1_i32_7780 : BitVec 32 := 1#32
  let v7190 : BitVec 32 := Scalar.muli v5 c1_i32_7780
  let v7191 : BitVec 32 := Scalar.addi c0_i32_7781 v7190
  v7191.toNat
def k0_dev233 (v4 : BitVec 32) : Nat :=
  let c0_i32_7784 : BitVec 32 := 0#32
  let c1_i32_7783 : BitVec 32 := 1#32
  let v7192 : BitVec 32 := Scalar.muli v4 c1_i32_7783
  let v7193 : BitVec 32 := Scalar.addi c0_i32_7784 v7192
  v7193.toNat
def k0_dev234 (v4 : BitVec 32) : Nat :=
  let c0_i32_7800 : BitVec 32 := 0#32
  let c1_i32_7799 : BitVec 32 := 1#32
  let v7198 : BitVec 32 := Scalar.muli v4 c1_i32_7799
  let v7199 : BitVec 32 := Scalar.addi c0_i32_7800 v7198
  v7199.toNat
def k0_dev235 (v5 : BitVec 32) : Nat :=
  let c0_i32_7810 : BitVec 32 := 0#32
  let c1_i32_7809 : BitVec 32 := 1#32
  let v7208 : BitVec 32 := Scalar.muli v5 c1_i32_7809
  let v7209 : BitVec 32 := Scalar.addi c0_i32_7810 v7208
  v7209.toNat
def k0_dev236 (v4 : BitVec 32) : Nat :=
  let c0_i32_7820 : BitVec 32 := 0#32
  let c1_i32_7819 : BitVec 32 := 1#32
  let v7218 : BitVec 32 := Scalar.muli v4 c1_i32_7819
  let v7219 : BitVec 32 := Scalar.addi c0_i32_7820 v7218
  v7219.toNat
def k0_dev237 (v5 : BitVec 32) : Nat :=
  let c0_i32_7830 : BitVec 32 := 0#32
  let c1_i32_7829 : BitVec 32 := 1#32
  let v7228 : BitVec 32 := Scalar.muli v5 c1_i32_7829
  let v7229 : BitVec 32 := Scalar.addi c0_i32_7830 v7228
  v7229.toNat
def k0_dev238 (v5 : BitVec 32) : Nat :=
  let c0_i32_7973 : BitVec 32 := 0#32
  let c1_i32_7972 : BitVec 32 := 1#32
  let v7368 : BitVec 32 := Scalar.muli v5 c1_i32_7972
  let v7369 : BitVec 32 := Scalar.addi c0_i32_7973 v7368
  v7369.toNat
def k0_dev239 (v4 : BitVec 32) : Nat :=
  let c0_i32_7976 : BitVec 32 := 0#32
  let c1_i32_7975 : BitVec 32 := 1#32
  let v7370 : BitVec 32 := Scalar.muli v4 c1_i32_7975
  let v7371 : BitVec 32 := Scalar.addi c0_i32_7976 v7370
  v7371.toNat
def k0_dev240 (v4 : BitVec 32) : Nat :=
  let c0_i32_7992 : BitVec 32 := 0#32
  let c1_i32_7991 : BitVec 32 := 1#32
  let v7376 : BitVec 32 := Scalar.muli v4 c1_i32_7991
  let v7377 : BitVec 32 := Scalar.addi c0_i32_7992 v7376
  v7377.toNat
def k0_dev241 (v5 : BitVec 32) : Nat :=
  let c0_i32_8002 : BitVec 32 := 0#32
  let c1_i32_8001 : BitVec 32 := 1#32
  let v7386 : BitVec 32 := Scalar.muli v5 c1_i32_8001
  let v7387 : BitVec 32 := Scalar.addi c0_i32_8002 v7386
  v7387.toNat
def k0_dev242 (v4 : BitVec 32) : Nat :=
  let c0_i32_8012 : BitVec 32 := 0#32
  let c1_i32_8011 : BitVec 32 := 1#32
  let v7396 : BitVec 32 := Scalar.muli v4 c1_i32_8011
  let v7397 : BitVec 32 := Scalar.addi c0_i32_8012 v7396
  v7397.toNat
def k0_dev243 (v5 : BitVec 32) : Nat :=
  let c0_i32_8022 : BitVec 32 := 0#32
  let c1_i32_8021 : BitVec 32 := 1#32
  let v7406 : BitVec 32 := Scalar.muli v5 c1_i32_8021
  let v7407 : BitVec 32 := Scalar.addi c0_i32_8022 v7406
  v7407.toNat
def k0_dev244 (v5 : BitVec 32) : Nat :=
  let c0_i32_8165 : BitVec 32 := 0#32
  let c1_i32_8164 : BitVec 32 := 1#32
  let v7546 : BitVec 32 := Scalar.muli v5 c1_i32_8164
  let v7547 : BitVec 32 := Scalar.addi c0_i32_8165 v7546
  v7547.toNat
def k0_dev245 (v4 : BitVec 32) : Nat :=
  let c0_i32_8168 : BitVec 32 := 0#32
  let c1_i32_8167 : BitVec 32 := 1#32
  let v7548 : BitVec 32 := Scalar.muli v4 c1_i32_8167
  let v7549 : BitVec 32 := Scalar.addi c0_i32_8168 v7548
  v7549.toNat
def k0_dev246 (v4 : BitVec 32) : Nat :=
  let c0_i32_8184 : BitVec 32 := 0#32
  let c1_i32_8183 : BitVec 32 := 1#32
  let v7554 : BitVec 32 := Scalar.muli v4 c1_i32_8183
  let v7555 : BitVec 32 := Scalar.addi c0_i32_8184 v7554
  v7555.toNat
def k0_dev247 (v5 : BitVec 32) : Nat :=
  let c0_i32_8194 : BitVec 32 := 0#32
  let c1_i32_8193 : BitVec 32 := 1#32
  let v7564 : BitVec 32 := Scalar.muli v5 c1_i32_8193
  let v7565 : BitVec 32 := Scalar.addi c0_i32_8194 v7564
  v7565.toNat
def k0_dev248 (v4 : BitVec 32) : Nat :=
  let c0_i32_8204 : BitVec 32 := 0#32
  let c1_i32_8203 : BitVec 32 := 1#32
  let v7574 : BitVec 32 := Scalar.muli v4 c1_i32_8203
  let v7575 : BitVec 32 := Scalar.addi c0_i32_8204 v7574
  v7575.toNat
def k0_dev249 (v5 : BitVec 32) : Nat :=
  let c0_i32_8214 : BitVec 32 := 0#32
  let c1_i32_8213 : BitVec 32 := 1#32
  let v7584 : BitVec 32 := Scalar.muli v5 c1_i32_8213
  let v7585 : BitVec 32 := Scalar.addi c0_i32_8214 v7584
  v7585.toNat
def k0_dev250 (v5 : BitVec 32) : Nat :=
  let c0_i32_8357 : BitVec 32 := 0#32
  let c1_i32_8356 : BitVec 32 := 1#32
  let v7724 : BitVec 32 := Scalar.muli v5 c1_i32_8356
  let v7725 : BitVec 32 := Scalar.addi c0_i32_8357 v7724
  v7725.toNat
def k0_dev251 (v4 : BitVec 32) : Nat :=
  let c0_i32_8360 : BitVec 32 := 0#32
  let c1_i32_8359 : BitVec 32 := 1#32
  let v7726 : BitVec 32 := Scalar.muli v4 c1_i32_8359
  let v7727 : BitVec 32 := Scalar.addi c0_i32_8360 v7726
  v7727.toNat
def k0_dev252 (v4 : BitVec 32) : Nat :=
  let c0_i32_8376 : BitVec 32 := 0#32
  let c1_i32_8375 : BitVec 32 := 1#32
  let v7732 : BitVec 32 := Scalar.muli v4 c1_i32_8375
  let v7733 : BitVec 32 := Scalar.addi c0_i32_8376 v7732
  v7733.toNat
def k0_dev253 (v5 : BitVec 32) : Nat :=
  let c0_i32_8386 : BitVec 32 := 0#32
  let c1_i32_8385 : BitVec 32 := 1#32
  let v7742 : BitVec 32 := Scalar.muli v5 c1_i32_8385
  let v7743 : BitVec 32 := Scalar.addi c0_i32_8386 v7742
  v7743.toNat
def k0_dev254 (v4 : BitVec 32) : Nat :=
  let c0_i32_8396 : BitVec 32 := 0#32
  let c1_i32_8395 : BitVec 32 := 1#32
  let v7752 : BitVec 32 := Scalar.muli v4 c1_i32_8395
  let v7753 : BitVec 32 := Scalar.addi c0_i32_8396 v7752
  v7753.toNat
def k0_dev255 (v5 : BitVec 32) : Nat :=
  let c0_i32_8406 : BitVec 32 := 0#32
  let c1_i32_8405 : BitVec 32 := 1#32
  let v7762 : BitVec 32 := Scalar.muli v5 c1_i32_8405
  let v7763 : BitVec 32 := Scalar.addi c0_i32_8406 v7762
  v7763.toNat
def k0_dev256 (v5 : BitVec 32) : Nat :=
  let c0_i32_8549 : BitVec 32 := 0#32
  let c1_i32_8548 : BitVec 32 := 1#32
  let v7902 : BitVec 32 := Scalar.muli v5 c1_i32_8548
  let v7903 : BitVec 32 := Scalar.addi c0_i32_8549 v7902
  v7903.toNat
def k0_dev257 (v4 : BitVec 32) : Nat :=
  let c0_i32_8552 : BitVec 32 := 0#32
  let c1_i32_8551 : BitVec 32 := 1#32
  let v7904 : BitVec 32 := Scalar.muli v4 c1_i32_8551
  let v7905 : BitVec 32 := Scalar.addi c0_i32_8552 v7904
  v7905.toNat
def k0_dev258 (v4 : BitVec 32) : Nat :=
  let c0_i32_8568 : BitVec 32 := 0#32
  let c1_i32_8567 : BitVec 32 := 1#32
  let v7910 : BitVec 32 := Scalar.muli v4 c1_i32_8567
  let v7911 : BitVec 32 := Scalar.addi c0_i32_8568 v7910
  v7911.toNat
def k0_dev259 (v5 : BitVec 32) : Nat :=
  let c0_i32_8578 : BitVec 32 := 0#32
  let c1_i32_8577 : BitVec 32 := 1#32
  let v7920 : BitVec 32 := Scalar.muli v5 c1_i32_8577
  let v7921 : BitVec 32 := Scalar.addi c0_i32_8578 v7920
  v7921.toNat
def k0_dev260 (v4 : BitVec 32) : Nat :=
  let c0_i32_8588 : BitVec 32 := 0#32
  let c1_i32_8587 : BitVec 32 := 1#32
  let v7930 : BitVec 32 := Scalar.muli v4 c1_i32_8587
  let v7931 : BitVec 32 := Scalar.addi c0_i32_8588 v7930
  v7931.toNat
def k0_dev261 (v5 : BitVec 32) : Nat :=
  let c0_i32_8598 : BitVec 32 := 0#32
  let c1_i32_8597 : BitVec 32 := 1#32
  let v7940 : BitVec 32 := Scalar.muli v5 c1_i32_8597
  let v7941 : BitVec 32 := Scalar.addi c0_i32_8598 v7940
  v7941.toNat
def k0_dev262 (v5 : BitVec 32) : Nat :=
  let c0_i32_8741 : BitVec 32 := 0#32
  let c1_i32_8740 : BitVec 32 := 1#32
  let v8080 : BitVec 32 := Scalar.muli v5 c1_i32_8740
  let v8081 : BitVec 32 := Scalar.addi c0_i32_8741 v8080
  v8081.toNat
def k0_dev263 (v4 : BitVec 32) : Nat :=
  let c0_i32_8744 : BitVec 32 := 0#32
  let c1_i32_8743 : BitVec 32 := 1#32
  let v8082 : BitVec 32 := Scalar.muli v4 c1_i32_8743
  let v8083 : BitVec 32 := Scalar.addi c0_i32_8744 v8082
  v8083.toNat
def k0_dev264 (v4 : BitVec 32) : Nat :=
  let c0_i32_8760 : BitVec 32 := 0#32
  let c1_i32_8759 : BitVec 32 := 1#32
  let v8088 : BitVec 32 := Scalar.muli v4 c1_i32_8759
  let v8089 : BitVec 32 := Scalar.addi c0_i32_8760 v8088
  v8089.toNat
def k0_dev265 (v5 : BitVec 32) : Nat :=
  let c0_i32_8770 : BitVec 32 := 0#32
  let c1_i32_8769 : BitVec 32 := 1#32
  let v8098 : BitVec 32 := Scalar.muli v5 c1_i32_8769
  let v8099 : BitVec 32 := Scalar.addi c0_i32_8770 v8098
  v8099.toNat
def k0_dev266 (v4 : BitVec 32) : Nat :=
  let c0_i32_8780 : BitVec 32 := 0#32
  let c1_i32_8779 : BitVec 32 := 1#32
  let v8108 : BitVec 32 := Scalar.muli v4 c1_i32_8779
  let v8109 : BitVec 32 := Scalar.addi c0_i32_8780 v8108
  v8109.toNat
def k0_dev267 (v5 : BitVec 32) : Nat :=
  let c0_i32_8790 : BitVec 32 := 0#32
  let c1_i32_8789 : BitVec 32 := 1#32
  let v8118 : BitVec 32 := Scalar.muli v5 c1_i32_8789
  let v8119 : BitVec 32 := Scalar.addi c0_i32_8790 v8118
  v8119.toNat
def k0_dev268 (v5 : BitVec 32) : Nat :=
  let c0_i32_8933 : BitVec 32 := 0#32
  let c1_i32_8932 : BitVec 32 := 1#32
  let v8258 : BitVec 32 := Scalar.muli v5 c1_i32_8932
  let v8259 : BitVec 32 := Scalar.addi c0_i32_8933 v8258
  v8259.toNat
def k0_dev269 (v4 : BitVec 32) : Nat :=
  let c0_i32_8936 : BitVec 32 := 0#32
  let c1_i32_8935 : BitVec 32 := 1#32
  let v8260 : BitVec 32 := Scalar.muli v4 c1_i32_8935
  let v8261 : BitVec 32 := Scalar.addi c0_i32_8936 v8260
  v8261.toNat
def k0_dev270 (v4 : BitVec 32) : Nat :=
  let c0_i32_8952 : BitVec 32 := 0#32
  let c1_i32_8951 : BitVec 32 := 1#32
  let v8266 : BitVec 32 := Scalar.muli v4 c1_i32_8951
  let v8267 : BitVec 32 := Scalar.addi c0_i32_8952 v8266
  v8267.toNat
def k0_dev271 (v5 : BitVec 32) : Nat :=
  let c0_i32_8962 : BitVec 32 := 0#32
  let c1_i32_8961 : BitVec 32 := 1#32
  let v8276 : BitVec 32 := Scalar.muli v5 c1_i32_8961
  let v8277 : BitVec 32 := Scalar.addi c0_i32_8962 v8276
  v8277.toNat
def k0_dev272 (v4 : BitVec 32) : Nat :=
  let c0_i32_8972 : BitVec 32 := 0#32
  let c1_i32_8971 : BitVec 32 := 1#32
  let v8286 : BitVec 32 := Scalar.muli v4 c1_i32_8971
  let v8287 : BitVec 32 := Scalar.addi c0_i32_8972 v8286
  v8287.toNat
def k0_dev273 (v5 : BitVec 32) : Nat :=
  let c0_i32_8982 : BitVec 32 := 0#32
  let c1_i32_8981 : BitVec 32 := 1#32
  let v8296 : BitVec 32 := Scalar.muli v5 c1_i32_8981
  let v8297 : BitVec 32 := Scalar.addi c0_i32_8982 v8296
  v8297.toNat
def k0_dev274 (v5 : BitVec 32) : Nat :=
  let c0_i32_9125 : BitVec 32 := 0#32
  let c1_i32_9124 : BitVec 32 := 1#32
  let v8436 : BitVec 32 := Scalar.muli v5 c1_i32_9124
  let v8437 : BitVec 32 := Scalar.addi c0_i32_9125 v8436
  v8437.toNat
def k0_dev275 (v4 : BitVec 32) : Nat :=
  let c0_i32_9128 : BitVec 32 := 0#32
  let c1_i32_9127 : BitVec 32 := 1#32
  let v8438 : BitVec 32 := Scalar.muli v4 c1_i32_9127
  let v8439 : BitVec 32 := Scalar.addi c0_i32_9128 v8438
  v8439.toNat
def k0_dev276 (v4 : BitVec 32) : Nat :=
  let c0_i32_9144 : BitVec 32 := 0#32
  let c1_i32_9143 : BitVec 32 := 1#32
  let v8444 : BitVec 32 := Scalar.muli v4 c1_i32_9143
  let v8445 : BitVec 32 := Scalar.addi c0_i32_9144 v8444
  v8445.toNat
def k0_dev277 (v5 : BitVec 32) : Nat :=
  let c0_i32_9154 : BitVec 32 := 0#32
  let c1_i32_9153 : BitVec 32 := 1#32
  let v8454 : BitVec 32 := Scalar.muli v5 c1_i32_9153
  let v8455 : BitVec 32 := Scalar.addi c0_i32_9154 v8454
  v8455.toNat
def k0_dev278 (v4 : BitVec 32) : Nat :=
  let c0_i32_9164 : BitVec 32 := 0#32
  let c1_i32_9163 : BitVec 32 := 1#32
  let v8464 : BitVec 32 := Scalar.muli v4 c1_i32_9163
  let v8465 : BitVec 32 := Scalar.addi c0_i32_9164 v8464
  v8465.toNat
def k0_dev279 (v5 : BitVec 32) : Nat :=
  let c0_i32_9174 : BitVec 32 := 0#32
  let c1_i32_9173 : BitVec 32 := 1#32
  let v8474 : BitVec 32 := Scalar.muli v5 c1_i32_9173
  let v8475 : BitVec 32 := Scalar.addi c0_i32_9174 v8474
  v8475.toNat
def k0_dev280 (v5 : BitVec 32) : Nat :=
  let c0_i32_9317 : BitVec 32 := 0#32
  let c1_i32_9316 : BitVec 32 := 1#32
  let v8614 : BitVec 32 := Scalar.muli v5 c1_i32_9316
  let v8615 : BitVec 32 := Scalar.addi c0_i32_9317 v8614
  v8615.toNat
def k0_dev281 (v4 : BitVec 32) : Nat :=
  let c0_i32_9320 : BitVec 32 := 0#32
  let c1_i32_9319 : BitVec 32 := 1#32
  let v8616 : BitVec 32 := Scalar.muli v4 c1_i32_9319
  let v8617 : BitVec 32 := Scalar.addi c0_i32_9320 v8616
  v8617.toNat
def k0_dev282 (v4 : BitVec 32) : Nat :=
  let c0_i32_9336 : BitVec 32 := 0#32
  let c1_i32_9335 : BitVec 32 := 1#32
  let v8622 : BitVec 32 := Scalar.muli v4 c1_i32_9335
  let v8623 : BitVec 32 := Scalar.addi c0_i32_9336 v8622
  v8623.toNat
def k0_dev283 (v5 : BitVec 32) : Nat :=
  let c0_i32_9346 : BitVec 32 := 0#32
  let c1_i32_9345 : BitVec 32 := 1#32
  let v8632 : BitVec 32 := Scalar.muli v5 c1_i32_9345
  let v8633 : BitVec 32 := Scalar.addi c0_i32_9346 v8632
  v8633.toNat
def k0_dev284 (v4 : BitVec 32) : Nat :=
  let c0_i32_9356 : BitVec 32 := 0#32
  let c1_i32_9355 : BitVec 32 := 1#32
  let v8642 : BitVec 32 := Scalar.muli v4 c1_i32_9355
  let v8643 : BitVec 32 := Scalar.addi c0_i32_9356 v8642
  v8643.toNat
def k0_dev285 (v5 : BitVec 32) : Nat :=
  let c0_i32_9366 : BitVec 32 := 0#32
  let c1_i32_9365 : BitVec 32 := 1#32
  let v8652 : BitVec 32 := Scalar.muli v5 c1_i32_9365
  let v8653 : BitVec 32 := Scalar.addi c0_i32_9366 v8652
  v8653.toNat
def k0_dev286 (v5 : BitVec 32) : Nat :=
  let c0_i32_9509 : BitVec 32 := 0#32
  let c1_i32_9508 : BitVec 32 := 1#32
  let v8792 : BitVec 32 := Scalar.muli v5 c1_i32_9508
  let v8793 : BitVec 32 := Scalar.addi c0_i32_9509 v8792
  v8793.toNat
def k0_dev287 (v4 : BitVec 32) : Nat :=
  let c0_i32_9512 : BitVec 32 := 0#32
  let c1_i32_9511 : BitVec 32 := 1#32
  let v8794 : BitVec 32 := Scalar.muli v4 c1_i32_9511
  let v8795 : BitVec 32 := Scalar.addi c0_i32_9512 v8794
  v8795.toNat
def k0_dev288 (v4 : BitVec 32) : Nat :=
  let c0_i32_9528 : BitVec 32 := 0#32
  let c1_i32_9527 : BitVec 32 := 1#32
  let v8800 : BitVec 32 := Scalar.muli v4 c1_i32_9527
  let v8801 : BitVec 32 := Scalar.addi c0_i32_9528 v8800
  v8801.toNat
def k0_dev289 (v5 : BitVec 32) : Nat :=
  let c0_i32_9538 : BitVec 32 := 0#32
  let c1_i32_9537 : BitVec 32 := 1#32
  let v8810 : BitVec 32 := Scalar.muli v5 c1_i32_9537
  let v8811 : BitVec 32 := Scalar.addi c0_i32_9538 v8810
  v8811.toNat
def k0_dev290 (v4 : BitVec 32) : Nat :=
  let c0_i32_9548 : BitVec 32 := 0#32
  let c1_i32_9547 : BitVec 32 := 1#32
  let v8820 : BitVec 32 := Scalar.muli v4 c1_i32_9547
  let v8821 : BitVec 32 := Scalar.addi c0_i32_9548 v8820
  v8821.toNat
def k0_dev291 (v5 : BitVec 32) : Nat :=
  let c0_i32_9558 : BitVec 32 := 0#32
  let c1_i32_9557 : BitVec 32 := 1#32
  let v8830 : BitVec 32 := Scalar.muli v5 c1_i32_9557
  let v8831 : BitVec 32 := Scalar.addi c0_i32_9558 v8830
  v8831.toNat
def k0_dev292 (v5 : BitVec 32) : Nat :=
  let c0_i32_9701 : BitVec 32 := 0#32
  let c1_i32_9700 : BitVec 32 := 1#32
  let v8970 : BitVec 32 := Scalar.muli v5 c1_i32_9700
  let v8971 : BitVec 32 := Scalar.addi c0_i32_9701 v8970
  v8971.toNat
def k0_dev293 (v4 : BitVec 32) : Nat :=
  let c0_i32_9704 : BitVec 32 := 0#32
  let c1_i32_9703 : BitVec 32 := 1#32
  let v8972 : BitVec 32 := Scalar.muli v4 c1_i32_9703
  let v8973 : BitVec 32 := Scalar.addi c0_i32_9704 v8972
  v8973.toNat
def k0_dev294 (v4 : BitVec 32) : Nat :=
  let c0_i32_9720 : BitVec 32 := 0#32
  let c1_i32_9719 : BitVec 32 := 1#32
  let v8978 : BitVec 32 := Scalar.muli v4 c1_i32_9719
  let v8979 : BitVec 32 := Scalar.addi c0_i32_9720 v8978
  v8979.toNat
def k0_dev295 (v5 : BitVec 32) : Nat :=
  let c0_i32_9730 : BitVec 32 := 0#32
  let c1_i32_9729 : BitVec 32 := 1#32
  let v8988 : BitVec 32 := Scalar.muli v5 c1_i32_9729
  let v8989 : BitVec 32 := Scalar.addi c0_i32_9730 v8988
  v8989.toNat
def k0_dev296 (v4 : BitVec 32) : Nat :=
  let c0_i32_9740 : BitVec 32 := 0#32
  let c1_i32_9739 : BitVec 32 := 1#32
  let v8998 : BitVec 32 := Scalar.muli v4 c1_i32_9739
  let v8999 : BitVec 32 := Scalar.addi c0_i32_9740 v8998
  v8999.toNat
def k0_dev297 (v5 : BitVec 32) : Nat :=
  let c0_i32_9750 : BitVec 32 := 0#32
  let c1_i32_9749 : BitVec 32 := 1#32
  let v9008 : BitVec 32 := Scalar.muli v5 c1_i32_9749
  let v9009 : BitVec 32 := Scalar.addi c0_i32_9750 v9008
  v9009.toNat
def k0_dev298 (v5 : BitVec 32) : Nat :=
  let c0_i32_9893 : BitVec 32 := 0#32
  let c1_i32_9892 : BitVec 32 := 1#32
  let v9148 : BitVec 32 := Scalar.muli v5 c1_i32_9892
  let v9149 : BitVec 32 := Scalar.addi c0_i32_9893 v9148
  v9149.toNat
def k0_dev299 (v4 : BitVec 32) : Nat :=
  let c0_i32_9896 : BitVec 32 := 0#32
  let c1_i32_9895 : BitVec 32 := 1#32
  let v9150 : BitVec 32 := Scalar.muli v4 c1_i32_9895
  let v9151 : BitVec 32 := Scalar.addi c0_i32_9896 v9150
  v9151.toNat
def k0_dev300 (v4 : BitVec 32) : Nat :=
  let c0_i32_9912 : BitVec 32 := 0#32
  let c1_i32_9911 : BitVec 32 := 1#32
  let v9156 : BitVec 32 := Scalar.muli v4 c1_i32_9911
  let v9157 : BitVec 32 := Scalar.addi c0_i32_9912 v9156
  v9157.toNat
def k0_dev301 (v5 : BitVec 32) : Nat :=
  let c0_i32_9922 : BitVec 32 := 0#32
  let c1_i32_9921 : BitVec 32 := 1#32
  let v9166 : BitVec 32 := Scalar.muli v5 c1_i32_9921
  let v9167 : BitVec 32 := Scalar.addi c0_i32_9922 v9166
  v9167.toNat
def k0_dev302 (v4 : BitVec 32) : Nat :=
  let c0_i32_9932 : BitVec 32 := 0#32
  let c1_i32_9931 : BitVec 32 := 1#32
  let v9176 : BitVec 32 := Scalar.muli v4 c1_i32_9931
  let v9177 : BitVec 32 := Scalar.addi c0_i32_9932 v9176
  v9177.toNat
def k0_dev303 (v5 : BitVec 32) : Nat :=
  let c0_i32_9942 : BitVec 32 := 0#32
  let c1_i32_9941 : BitVec 32 := 1#32
  let v9186 : BitVec 32 := Scalar.muli v5 c1_i32_9941
  let v9187 : BitVec 32 := Scalar.addi c0_i32_9942 v9186
  v9187.toNat
def k0_dev304 (v5 : BitVec 32) : Nat :=
  let c0_i32_10085 : BitVec 32 := 0#32
  let c1_i32_10084 : BitVec 32 := 1#32
  let v9326 : BitVec 32 := Scalar.muli v5 c1_i32_10084
  let v9327 : BitVec 32 := Scalar.addi c0_i32_10085 v9326
  v9327.toNat
def k0_dev305 (v4 : BitVec 32) : Nat :=
  let c0_i32_10088 : BitVec 32 := 0#32
  let c1_i32_10087 : BitVec 32 := 1#32
  let v9328 : BitVec 32 := Scalar.muli v4 c1_i32_10087
  let v9329 : BitVec 32 := Scalar.addi c0_i32_10088 v9328
  v9329.toNat
def k0_dev306 (v4 : BitVec 32) : Nat :=
  let c0_i32_10104 : BitVec 32 := 0#32
  let c1_i32_10103 : BitVec 32 := 1#32
  let v9334 : BitVec 32 := Scalar.muli v4 c1_i32_10103
  let v9335 : BitVec 32 := Scalar.addi c0_i32_10104 v9334
  v9335.toNat
def k0_dev307 (v5 : BitVec 32) : Nat :=
  let c0_i32_10114 : BitVec 32 := 0#32
  let c1_i32_10113 : BitVec 32 := 1#32
  let v9344 : BitVec 32 := Scalar.muli v5 c1_i32_10113
  let v9345 : BitVec 32 := Scalar.addi c0_i32_10114 v9344
  v9345.toNat
def k0_dev308 (v4 : BitVec 32) : Nat :=
  let c0_i32_10124 : BitVec 32 := 0#32
  let c1_i32_10123 : BitVec 32 := 1#32
  let v9354 : BitVec 32 := Scalar.muli v4 c1_i32_10123
  let v9355 : BitVec 32 := Scalar.addi c0_i32_10124 v9354
  v9355.toNat
def k0_dev309 (v5 : BitVec 32) : Nat :=
  let c0_i32_10134 : BitVec 32 := 0#32
  let c1_i32_10133 : BitVec 32 := 1#32
  let v9364 : BitVec 32 := Scalar.muli v5 c1_i32_10133
  let v9365 : BitVec 32 := Scalar.addi c0_i32_10134 v9364
  v9365.toNat
def k0_dev310 (v5 : BitVec 32) : Nat :=
  let c0_i32_10277 : BitVec 32 := 0#32
  let c1_i32_10276 : BitVec 32 := 1#32
  let v9504 : BitVec 32 := Scalar.muli v5 c1_i32_10276
  let v9505 : BitVec 32 := Scalar.addi c0_i32_10277 v9504
  v9505.toNat
def k0_dev311 (v4 : BitVec 32) : Nat :=
  let c0_i32_10280 : BitVec 32 := 0#32
  let c1_i32_10279 : BitVec 32 := 1#32
  let v9506 : BitVec 32 := Scalar.muli v4 c1_i32_10279
  let v9507 : BitVec 32 := Scalar.addi c0_i32_10280 v9506
  v9507.toNat
def k0_dev312 (v4 : BitVec 32) : Nat :=
  let c0_i32_10296 : BitVec 32 := 0#32
  let c1_i32_10295 : BitVec 32 := 1#32
  let v9512 : BitVec 32 := Scalar.muli v4 c1_i32_10295
  let v9513 : BitVec 32 := Scalar.addi c0_i32_10296 v9512
  v9513.toNat
def k0_dev313 (v5 : BitVec 32) : Nat :=
  let c0_i32_10306 : BitVec 32 := 0#32
  let c1_i32_10305 : BitVec 32 := 1#32
  let v9522 : BitVec 32 := Scalar.muli v5 c1_i32_10305
  let v9523 : BitVec 32 := Scalar.addi c0_i32_10306 v9522
  v9523.toNat
def k0_dev314 (v4 : BitVec 32) : Nat :=
  let c0_i32_10316 : BitVec 32 := 0#32
  let c1_i32_10315 : BitVec 32 := 1#32
  let v9532 : BitVec 32 := Scalar.muli v4 c1_i32_10315
  let v9533 : BitVec 32 := Scalar.addi c0_i32_10316 v9532
  v9533.toNat
def k0_dev315 (v5 : BitVec 32) : Nat :=
  let c0_i32_10326 : BitVec 32 := 0#32
  let c1_i32_10325 : BitVec 32 := 1#32
  let v9542 : BitVec 32 := Scalar.muli v5 c1_i32_10325
  let v9543 : BitVec 32 := Scalar.addi c0_i32_10326 v9542
  v9543.toNat
def k0_dev316 (v5 : BitVec 32) : Nat :=
  let c0_i32_10469 : BitVec 32 := 0#32
  let c1_i32_10468 : BitVec 32 := 1#32
  let v9682 : BitVec 32 := Scalar.muli v5 c1_i32_10468
  let v9683 : BitVec 32 := Scalar.addi c0_i32_10469 v9682
  v9683.toNat
def k0_dev317 (v4 : BitVec 32) : Nat :=
  let c0_i32_10472 : BitVec 32 := 0#32
  let c1_i32_10471 : BitVec 32 := 1#32
  let v9684 : BitVec 32 := Scalar.muli v4 c1_i32_10471
  let v9685 : BitVec 32 := Scalar.addi c0_i32_10472 v9684
  v9685.toNat
def k0_dev318 (v4 : BitVec 32) : Nat :=
  let c0_i32_10488 : BitVec 32 := 0#32
  let c1_i32_10487 : BitVec 32 := 1#32
  let v9690 : BitVec 32 := Scalar.muli v4 c1_i32_10487
  let v9691 : BitVec 32 := Scalar.addi c0_i32_10488 v9690
  v9691.toNat
def k0_dev319 (v5 : BitVec 32) : Nat :=
  let c0_i32_10498 : BitVec 32 := 0#32
  let c1_i32_10497 : BitVec 32 := 1#32
  let v9700 : BitVec 32 := Scalar.muli v5 c1_i32_10497
  let v9701 : BitVec 32 := Scalar.addi c0_i32_10498 v9700
  v9701.toNat
def k0_dev320 (v4 : BitVec 32) : Nat :=
  let c0_i32_10508 : BitVec 32 := 0#32
  let c1_i32_10507 : BitVec 32 := 1#32
  let v9710 : BitVec 32 := Scalar.muli v4 c1_i32_10507
  let v9711 : BitVec 32 := Scalar.addi c0_i32_10508 v9710
  v9711.toNat
def k0_dev321 (v5 : BitVec 32) : Nat :=
  let c0_i32_10518 : BitVec 32 := 0#32
  let c1_i32_10517 : BitVec 32 := 1#32
  let v9720 : BitVec 32 := Scalar.muli v5 c1_i32_10517
  let v9721 : BitVec 32 := Scalar.addi c0_i32_10518 v9720
  v9721.toNat
def k0_dev322 (v5 : BitVec 32) : Nat :=
  let c0_i32_10661 : BitVec 32 := 0#32
  let c1_i32_10660 : BitVec 32 := 1#32
  let v9860 : BitVec 32 := Scalar.muli v5 c1_i32_10660
  let v9861 : BitVec 32 := Scalar.addi c0_i32_10661 v9860
  v9861.toNat
def k0_dev323 (v4 : BitVec 32) : Nat :=
  let c0_i32_10664 : BitVec 32 := 0#32
  let c1_i32_10663 : BitVec 32 := 1#32
  let v9862 : BitVec 32 := Scalar.muli v4 c1_i32_10663
  let v9863 : BitVec 32 := Scalar.addi c0_i32_10664 v9862
  v9863.toNat
def k0_dev324 (v4 : BitVec 32) : Nat :=
  let c0_i32_10680 : BitVec 32 := 0#32
  let c1_i32_10679 : BitVec 32 := 1#32
  let v9868 : BitVec 32 := Scalar.muli v4 c1_i32_10679
  let v9869 : BitVec 32 := Scalar.addi c0_i32_10680 v9868
  v9869.toNat
def k0_dev325 (v5 : BitVec 32) : Nat :=
  let c0_i32_10690 : BitVec 32 := 0#32
  let c1_i32_10689 : BitVec 32 := 1#32
  let v9878 : BitVec 32 := Scalar.muli v5 c1_i32_10689
  let v9879 : BitVec 32 := Scalar.addi c0_i32_10690 v9878
  v9879.toNat
def k0_dev326 (v4 : BitVec 32) : Nat :=
  let c0_i32_10700 : BitVec 32 := 0#32
  let c1_i32_10699 : BitVec 32 := 1#32
  let v9888 : BitVec 32 := Scalar.muli v4 c1_i32_10699
  let v9889 : BitVec 32 := Scalar.addi c0_i32_10700 v9888
  v9889.toNat
def k0_dev327 (v5 : BitVec 32) : Nat :=
  let c0_i32_10710 : BitVec 32 := 0#32
  let c1_i32_10709 : BitVec 32 := 1#32
  let v9898 : BitVec 32 := Scalar.muli v5 c1_i32_10709
  let v9899 : BitVec 32 := Scalar.addi c0_i32_10710 v9898
  v9899.toNat
def k0_dev328 (v5 : BitVec 32) : Nat :=
  let c0_i32_10853 : BitVec 32 := 0#32
  let c1_i32_10852 : BitVec 32 := 1#32
  let v10038 : BitVec 32 := Scalar.muli v5 c1_i32_10852
  let v10039 : BitVec 32 := Scalar.addi c0_i32_10853 v10038
  v10039.toNat
def k0_dev329 (v4 : BitVec 32) : Nat :=
  let c0_i32_10856 : BitVec 32 := 0#32
  let c1_i32_10855 : BitVec 32 := 1#32
  let v10040 : BitVec 32 := Scalar.muli v4 c1_i32_10855
  let v10041 : BitVec 32 := Scalar.addi c0_i32_10856 v10040
  v10041.toNat
def k0_dev330 (v4 : BitVec 32) : Nat :=
  let c0_i32_10872 : BitVec 32 := 0#32
  let c1_i32_10871 : BitVec 32 := 1#32
  let v10046 : BitVec 32 := Scalar.muli v4 c1_i32_10871
  let v10047 : BitVec 32 := Scalar.addi c0_i32_10872 v10046
  v10047.toNat
def k0_dev331 (v5 : BitVec 32) : Nat :=
  let c0_i32_10882 : BitVec 32 := 0#32
  let c1_i32_10881 : BitVec 32 := 1#32
  let v10056 : BitVec 32 := Scalar.muli v5 c1_i32_10881
  let v10057 : BitVec 32 := Scalar.addi c0_i32_10882 v10056
  v10057.toNat
def k0_dev332 (v4 : BitVec 32) : Nat :=
  let c0_i32_10892 : BitVec 32 := 0#32
  let c1_i32_10891 : BitVec 32 := 1#32
  let v10066 : BitVec 32 := Scalar.muli v4 c1_i32_10891
  let v10067 : BitVec 32 := Scalar.addi c0_i32_10892 v10066
  v10067.toNat
def k0_dev333 (v5 : BitVec 32) : Nat :=
  let c0_i32_10902 : BitVec 32 := 0#32
  let c1_i32_10901 : BitVec 32 := 1#32
  let v10076 : BitVec 32 := Scalar.muli v5 c1_i32_10901
  let v10077 : BitVec 32 := Scalar.addi c0_i32_10902 v10076
  v10077.toNat
def k0_dev334 (v5 : BitVec 32) : Nat :=
  let c0_i32_11045 : BitVec 32 := 0#32
  let c1_i32_11044 : BitVec 32 := 1#32
  let v10216 : BitVec 32 := Scalar.muli v5 c1_i32_11044
  let v10217 : BitVec 32 := Scalar.addi c0_i32_11045 v10216
  v10217.toNat
def k0_dev335 (v4 : BitVec 32) : Nat :=
  let c0_i32_11048 : BitVec 32 := 0#32
  let c1_i32_11047 : BitVec 32 := 1#32
  let v10218 : BitVec 32 := Scalar.muli v4 c1_i32_11047
  let v10219 : BitVec 32 := Scalar.addi c0_i32_11048 v10218
  v10219.toNat
def k0_dev336 (v4 : BitVec 32) : Nat :=
  let c0_i32_11064 : BitVec 32 := 0#32
  let c1_i32_11063 : BitVec 32 := 1#32
  let v10224 : BitVec 32 := Scalar.muli v4 c1_i32_11063
  let v10225 : BitVec 32 := Scalar.addi c0_i32_11064 v10224
  v10225.toNat
def k0_dev337 (v5 : BitVec 32) : Nat :=
  let c0_i32_11074 : BitVec 32 := 0#32
  let c1_i32_11073 : BitVec 32 := 1#32
  let v10234 : BitVec 32 := Scalar.muli v5 c1_i32_11073
  let v10235 : BitVec 32 := Scalar.addi c0_i32_11074 v10234
  v10235.toNat
def k0_dev338 (v4 : BitVec 32) : Nat :=
  let c0_i32_11084 : BitVec 32 := 0#32
  let c1_i32_11083 : BitVec 32 := 1#32
  let v10244 : BitVec 32 := Scalar.muli v4 c1_i32_11083
  let v10245 : BitVec 32 := Scalar.addi c0_i32_11084 v10244
  v10245.toNat
def k0_dev339 (v5 : BitVec 32) : Nat :=
  let c0_i32_11094 : BitVec 32 := 0#32
  let c1_i32_11093 : BitVec 32 := 1#32
  let v10254 : BitVec 32 := Scalar.muli v5 c1_i32_11093
  let v10255 : BitVec 32 := Scalar.addi c0_i32_11094 v10254
  v10255.toNat
def k0_dev340 (v5 : BitVec 32) : Nat :=
  let c0_i32_11237 : BitVec 32 := 0#32
  let c1_i32_11236 : BitVec 32 := 1#32
  let v10394 : BitVec 32 := Scalar.muli v5 c1_i32_11236
  let v10395 : BitVec 32 := Scalar.addi c0_i32_11237 v10394
  v10395.toNat
def k0_dev341 (v4 : BitVec 32) : Nat :=
  let c0_i32_11240 : BitVec 32 := 0#32
  let c1_i32_11239 : BitVec 32 := 1#32
  let v10396 : BitVec 32 := Scalar.muli v4 c1_i32_11239
  let v10397 : BitVec 32 := Scalar.addi c0_i32_11240 v10396
  v10397.toNat
def k0_dev342 (v4 : BitVec 32) : Nat :=
  let c0_i32_11256 : BitVec 32 := 0#32
  let c1_i32_11255 : BitVec 32 := 1#32
  let v10402 : BitVec 32 := Scalar.muli v4 c1_i32_11255
  let v10403 : BitVec 32 := Scalar.addi c0_i32_11256 v10402
  v10403.toNat
def k0_dev343 (v5 : BitVec 32) : Nat :=
  let c0_i32_11266 : BitVec 32 := 0#32
  let c1_i32_11265 : BitVec 32 := 1#32
  let v10412 : BitVec 32 := Scalar.muli v5 c1_i32_11265
  let v10413 : BitVec 32 := Scalar.addi c0_i32_11266 v10412
  v10413.toNat
def k0_dev344 (v4 : BitVec 32) : Nat :=
  let c0_i32_11276 : BitVec 32 := 0#32
  let c1_i32_11275 : BitVec 32 := 1#32
  let v10422 : BitVec 32 := Scalar.muli v4 c1_i32_11275
  let v10423 : BitVec 32 := Scalar.addi c0_i32_11276 v10422
  v10423.toNat
def k0_dev345 (v5 : BitVec 32) : Nat :=
  let c0_i32_11286 : BitVec 32 := 0#32
  let c1_i32_11285 : BitVec 32 := 1#32
  let v10432 : BitVec 32 := Scalar.muli v5 c1_i32_11285
  let v10433 : BitVec 32 := Scalar.addi c0_i32_11286 v10432
  v10433.toNat
def k0_dev346 (v5 : BitVec 32) : Nat :=
  let c0_i32_11429 : BitVec 32 := 0#32
  let c1_i32_11428 : BitVec 32 := 1#32
  let v10572 : BitVec 32 := Scalar.muli v5 c1_i32_11428
  let v10573 : BitVec 32 := Scalar.addi c0_i32_11429 v10572
  v10573.toNat
def k0_dev347 (v4 : BitVec 32) : Nat :=
  let c0_i32_11432 : BitVec 32 := 0#32
  let c1_i32_11431 : BitVec 32 := 1#32
  let v10574 : BitVec 32 := Scalar.muli v4 c1_i32_11431
  let v10575 : BitVec 32 := Scalar.addi c0_i32_11432 v10574
  v10575.toNat
def k0_dev348 (v4 : BitVec 32) : Nat :=
  let c0_i32_11448 : BitVec 32 := 0#32
  let c1_i32_11447 : BitVec 32 := 1#32
  let v10580 : BitVec 32 := Scalar.muli v4 c1_i32_11447
  let v10581 : BitVec 32 := Scalar.addi c0_i32_11448 v10580
  v10581.toNat
def k0_dev349 (v5 : BitVec 32) : Nat :=
  let c0_i32_11458 : BitVec 32 := 0#32
  let c1_i32_11457 : BitVec 32 := 1#32
  let v10590 : BitVec 32 := Scalar.muli v5 c1_i32_11457
  let v10591 : BitVec 32 := Scalar.addi c0_i32_11458 v10590
  v10591.toNat
def k0_dev350 (v4 : BitVec 32) : Nat :=
  let c0_i32_11468 : BitVec 32 := 0#32
  let c1_i32_11467 : BitVec 32 := 1#32
  let v10600 : BitVec 32 := Scalar.muli v4 c1_i32_11467
  let v10601 : BitVec 32 := Scalar.addi c0_i32_11468 v10600
  v10601.toNat
def k0_dev351 (v5 : BitVec 32) : Nat :=
  let c0_i32_11478 : BitVec 32 := 0#32
  let c1_i32_11477 : BitVec 32 := 1#32
  let v10610 : BitVec 32 := Scalar.muli v5 c1_i32_11477
  let v10611 : BitVec 32 := Scalar.addi c0_i32_11478 v10610
  v10611.toNat
def k0_dev352 (v5 : BitVec 32) : Nat :=
  let c0_i32_11621 : BitVec 32 := 0#32
  let c1_i32_11620 : BitVec 32 := 1#32
  let v10750 : BitVec 32 := Scalar.muli v5 c1_i32_11620
  let v10751 : BitVec 32 := Scalar.addi c0_i32_11621 v10750
  v10751.toNat
def k0_dev353 (v4 : BitVec 32) : Nat :=
  let c0_i32_11624 : BitVec 32 := 0#32
  let c1_i32_11623 : BitVec 32 := 1#32
  let v10752 : BitVec 32 := Scalar.muli v4 c1_i32_11623
  let v10753 : BitVec 32 := Scalar.addi c0_i32_11624 v10752
  v10753.toNat
def k0_dev354 (v4 : BitVec 32) : Nat :=
  let c0_i32_11640 : BitVec 32 := 0#32
  let c1_i32_11639 : BitVec 32 := 1#32
  let v10758 : BitVec 32 := Scalar.muli v4 c1_i32_11639
  let v10759 : BitVec 32 := Scalar.addi c0_i32_11640 v10758
  v10759.toNat
def k0_dev355 (v5 : BitVec 32) : Nat :=
  let c0_i32_11650 : BitVec 32 := 0#32
  let c1_i32_11649 : BitVec 32 := 1#32
  let v10768 : BitVec 32 := Scalar.muli v5 c1_i32_11649
  let v10769 : BitVec 32 := Scalar.addi c0_i32_11650 v10768
  v10769.toNat
def k0_dev356 (v4 : BitVec 32) : Nat :=
  let c0_i32_11660 : BitVec 32 := 0#32
  let c1_i32_11659 : BitVec 32 := 1#32
  let v10778 : BitVec 32 := Scalar.muli v4 c1_i32_11659
  let v10779 : BitVec 32 := Scalar.addi c0_i32_11660 v10778
  v10779.toNat
def k0_dev357 (v5 : BitVec 32) : Nat :=
  let c0_i32_11670 : BitVec 32 := 0#32
  let c1_i32_11669 : BitVec 32 := 1#32
  let v10788 : BitVec 32 := Scalar.muli v5 c1_i32_11669
  let v10789 : BitVec 32 := Scalar.addi c0_i32_11670 v10788
  v10789.toNat
def k0_dev358 (v5 : BitVec 32) : Nat :=
  let c0_i32_11813 : BitVec 32 := 0#32
  let c1_i32_11812 : BitVec 32 := 1#32
  let v10928 : BitVec 32 := Scalar.muli v5 c1_i32_11812
  let v10929 : BitVec 32 := Scalar.addi c0_i32_11813 v10928
  v10929.toNat
def k0_dev359 (v4 : BitVec 32) : Nat :=
  let c0_i32_11816 : BitVec 32 := 0#32
  let c1_i32_11815 : BitVec 32 := 1#32
  let v10930 : BitVec 32 := Scalar.muli v4 c1_i32_11815
  let v10931 : BitVec 32 := Scalar.addi c0_i32_11816 v10930
  v10931.toNat
def k0_dev360 (v4 : BitVec 32) : Nat :=
  let c0_i32_11832 : BitVec 32 := 0#32
  let c1_i32_11831 : BitVec 32 := 1#32
  let v10936 : BitVec 32 := Scalar.muli v4 c1_i32_11831
  let v10937 : BitVec 32 := Scalar.addi c0_i32_11832 v10936
  v10937.toNat
def k0_dev361 (v5 : BitVec 32) : Nat :=
  let c0_i32_11842 : BitVec 32 := 0#32
  let c1_i32_11841 : BitVec 32 := 1#32
  let v10946 : BitVec 32 := Scalar.muli v5 c1_i32_11841
  let v10947 : BitVec 32 := Scalar.addi c0_i32_11842 v10946
  v10947.toNat
def k0_dev362 (v4 : BitVec 32) : Nat :=
  let c0_i32_11852 : BitVec 32 := 0#32
  let c1_i32_11851 : BitVec 32 := 1#32
  let v10956 : BitVec 32 := Scalar.muli v4 c1_i32_11851
  let v10957 : BitVec 32 := Scalar.addi c0_i32_11852 v10956
  v10957.toNat
def k0_dev363 (v5 : BitVec 32) : Nat :=
  let c0_i32_11862 : BitVec 32 := 0#32
  let c1_i32_11861 : BitVec 32 := 1#32
  let v10966 : BitVec 32 := Scalar.muli v5 c1_i32_11861
  let v10967 : BitVec 32 := Scalar.addi c0_i32_11862 v10966
  v10967.toNat
def k0_dev364 (v4 : BitVec 32) : Nat :=
  let c0_i32_12018 : BitVec 32 := 0#32
  let c1_i32_12017 : BitVec 32 := 1#32
  let v11110 : BitVec 32 := Scalar.muli v4 c1_i32_12017
  let v11111 : BitVec 32 := Scalar.addi c0_i32_12018 v11110
  v11111.toNat
def k0_dev365 (v5 : BitVec 32) : Nat :=
  let c0_i32_12028 : BitVec 32 := 0#32
  let c1_i32_12027 : BitVec 32 := 1#32
  let v11120 : BitVec 32 := Scalar.muli v5 c1_i32_12027
  let v11121 : BitVec 32 := Scalar.addi c0_i32_12028 v11120
  v11121.toNat
def k0_dev366 (v4 : BitVec 32) : Nat :=
  let c0_i32_12038 : BitVec 32 := 0#32
  let c1_i32_12037 : BitVec 32 := 1#32
  let v11130 : BitVec 32 := Scalar.muli v4 c1_i32_12037
  let v11131 : BitVec 32 := Scalar.addi c0_i32_12038 v11130
  v11131.toNat

def k0_chk2_0 (v4 : BitVec 32) : Prop :=
  ((k0_dev2 v4) < nD) ∧
  ((k0_dev3 v4) < nD) ∧
  ((k0_dev5 v4) < nD) ∧
  ((k0_dev8 v4) < nD) ∧
  ((k0_dev9 v4) < nD) ∧
  ((k0_dev11 v4) < nD) ∧
  ((k0_dev14 v4) < nD) ∧
  ((k0_dev15 v4) < nD) ∧
  ((k0_dev17 v4) < nD) ∧
  ((k0_dev20 v4) < nD) ∧
  ((k0_dev21 v4) < nD) ∧
  ((k0_dev23 v4) < nD) ∧
  ((k0_dev26 v4) < nD) ∧
  ((k0_dev27 v4) < nD) ∧
  ((k0_dev29 v4) < nD) ∧
  ((k0_dev32 v4) < nD) ∧
  ((k0_dev33 v4) < nD) ∧
  ((k0_dev35 v4) < nD) ∧
  ((k0_dev38 v4) < nD) ∧
  ((k0_dev39 v4) < nD) ∧
  ((k0_dev41 v4) < nD) ∧
  ((k0_dev44 v4) < nD) ∧
  ((k0_dev45 v4) < nD) ∧
  ((k0_dev47 v4) < nD) ∧
  ((k0_dev50 v4) < nD) ∧
  ((k0_dev51 v4) < nD) ∧
  ((k0_dev53 v4) < nD) ∧
  ((k0_dev56 v4) < nD) ∧
  ((k0_dev57 v4) < nD) ∧
  ((k0_dev59 v4) < nD) ∧
  ((k0_dev62 v4) < nD) ∧
  ((k0_dev63 v4) < nD)
def k0_chk2_1 (v4 : BitVec 32) : Prop :=
  ((k0_dev65 v4) < nD) ∧
  ((k0_dev68 v4) < nD) ∧
  ((k0_dev69 v4) < nD) ∧
  ((k0_dev71 v4) < nD) ∧
  ((k0_dev74 v4) < nD) ∧
  ((k0_dev75 v4) < nD) ∧
  ((k0_dev77 v4) < nD) ∧
  ((k0_dev80 v4) < nD) ∧
  ((k0_dev81 v4) < nD) ∧
  ((k0_dev83 v4) < nD) ∧
  ((k0_dev86 v4) < nD) ∧
  ((k0_dev87 v4) < nD) ∧
  ((k0_dev89 v4) < nD) ∧
  ((k0_dev92 v4) < nD) ∧
  ((k0_dev93 v4) < nD) ∧
  ((k0_dev95 v4) < nD) ∧
  ((k0_dev98 v4) < nD) ∧
  ((k0_dev99 v4) < nD) ∧
  ((k0_dev101 v4) < nD) ∧
  ((k0_dev104 v4) < nD) ∧
  ((k0_dev105 v4) < nD) ∧
  ((k0_dev107 v4) < nD) ∧
  ((k0_dev110 v4) < nD) ∧
  ((k0_dev111 v4) < nD) ∧
  ((k0_dev113 v4) < nD) ∧
  ((k0_dev116 v4) < nD) ∧
  ((k0_dev117 v4) < nD) ∧
  ((k0_dev119 v4) < nD) ∧
  ((k0_dev122 v4) < nD) ∧
  ((k0_dev123 v4) < nD) ∧
  ((k0_dev125 v4) < nD) ∧
  ((k0_dev128 v4) < nD)
def k0_chk2_2 (v4 : BitVec 32) : Prop :=
  ((k0_dev129 v4) < nD) ∧
  ((k0_dev131 v4) < nD) ∧
  ((k0_dev134 v4) < nD) ∧
  ((k0_dev135 v4) < nD) ∧
  ((k0_dev137 v4) < nD) ∧
  ((k0_dev140 v4) < nD) ∧
  ((k0_dev141 v4) < nD) ∧
  ((k0_dev143 v4) < nD) ∧
  ((k0_dev146 v4) < nD) ∧
  ((k0_dev147 v4) < nD) ∧
  ((k0_dev149 v4) < nD) ∧
  ((k0_dev152 v4) < nD) ∧
  ((k0_dev153 v4) < nD) ∧
  ((k0_dev155 v4) < nD) ∧
  ((k0_dev158 v4) < nD) ∧
  ((k0_dev159 v4) < nD) ∧
  ((k0_dev161 v4) < nD) ∧
  ((k0_dev164 v4) < nD) ∧
  ((k0_dev165 v4) < nD) ∧
  ((k0_dev167 v4) < nD) ∧
  ((k0_dev170 v4) < nD) ∧
  ((k0_dev171 v4) < nD) ∧
  ((k0_dev173 v4) < nD) ∧
  ((k0_dev175 v4) < nD) ∧
  ((k0_dev177 v4) < nD) ∧
  ((k0_dev179 v4) < nD) ∧
  ((k0_dev181 v4) < nD) ∧
  ((k0_dev188 v4) < nD) ∧
  ((k0_dev190 v4) < nD) ∧
  ((k0_dev192 v4) < nD) ∧
  ((k0_dev194 v4) < nD) ∧
  ((k0_dev197 v4) < nD)
def k0_chk2_3 (v4 : BitVec 32) : Prop :=
  ((k0_dev198 v4) < nD) ∧
  ((k0_dev200 v4) < nD) ∧
  ((k0_dev203 v4) < nD) ∧
  ((k0_dev204 v4) < nD) ∧
  ((k0_dev206 v4) < nD) ∧
  ((k0_dev209 v4) < nD) ∧
  ((k0_dev210 v4) < nD) ∧
  ((k0_dev212 v4) < nD) ∧
  ((k0_dev215 v4) < nD) ∧
  ((k0_dev216 v4) < nD) ∧
  ((k0_dev218 v4) < nD) ∧
  ((k0_dev221 v4) < nD) ∧
  ((k0_dev222 v4) < nD) ∧
  ((k0_dev224 v4) < nD) ∧
  ((k0_dev227 v4) < nD) ∧
  ((k0_dev228 v4) < nD) ∧
  ((k0_dev230 v4) < nD) ∧
  ((k0_dev233 v4) < nD) ∧
  ((k0_dev234 v4) < nD) ∧
  ((k0_dev236 v4) < nD) ∧
  ((k0_dev239 v4) < nD) ∧
  ((k0_dev240 v4) < nD) ∧
  ((k0_dev242 v4) < nD) ∧
  ((k0_dev245 v4) < nD) ∧
  ((k0_dev246 v4) < nD) ∧
  ((k0_dev248 v4) < nD) ∧
  ((k0_dev251 v4) < nD) ∧
  ((k0_dev252 v4) < nD) ∧
  ((k0_dev254 v4) < nD) ∧
  ((k0_dev257 v4) < nD) ∧
  ((k0_dev258 v4) < nD) ∧
  ((k0_dev260 v4) < nD)
def k0_chk2_4 (v4 : BitVec 32) : Prop :=
  ((k0_dev263 v4) < nD) ∧
  ((k0_dev264 v4) < nD) ∧
  ((k0_dev266 v4) < nD) ∧
  ((k0_dev269 v4) < nD) ∧
  ((k0_dev270 v4) < nD) ∧
  ((k0_dev272 v4) < nD) ∧
  ((k0_dev275 v4) < nD) ∧
  ((k0_dev276 v4) < nD) ∧
  ((k0_dev278 v4) < nD) ∧
  ((k0_dev281 v4) < nD) ∧
  ((k0_dev282 v4) < nD) ∧
  ((k0_dev284 v4) < nD) ∧
  ((k0_dev287 v4) < nD) ∧
  ((k0_dev288 v4) < nD) ∧
  ((k0_dev290 v4) < nD) ∧
  ((k0_dev293 v4) < nD) ∧
  ((k0_dev294 v4) < nD) ∧
  ((k0_dev296 v4) < nD) ∧
  ((k0_dev299 v4) < nD) ∧
  ((k0_dev300 v4) < nD) ∧
  ((k0_dev302 v4) < nD) ∧
  ((k0_dev305 v4) < nD) ∧
  ((k0_dev306 v4) < nD) ∧
  ((k0_dev308 v4) < nD) ∧
  ((k0_dev311 v4) < nD) ∧
  ((k0_dev312 v4) < nD) ∧
  ((k0_dev314 v4) < nD) ∧
  ((k0_dev317 v4) < nD) ∧
  ((k0_dev318 v4) < nD) ∧
  ((k0_dev320 v4) < nD) ∧
  ((k0_dev323 v4) < nD) ∧
  ((k0_dev324 v4) < nD)
def k0_chk2_5 (v4 : BitVec 32) : Prop :=
  ((k0_dev326 v4) < nD) ∧
  ((k0_dev329 v4) < nD) ∧
  ((k0_dev330 v4) < nD) ∧
  ((k0_dev332 v4) < nD) ∧
  ((k0_dev335 v4) < nD) ∧
  ((k0_dev336 v4) < nD) ∧
  ((k0_dev338 v4) < nD) ∧
  ((k0_dev341 v4) < nD) ∧
  ((k0_dev342 v4) < nD) ∧
  ((k0_dev344 v4) < nD) ∧
  ((k0_dev347 v4) < nD) ∧
  ((k0_dev348 v4) < nD) ∧
  ((k0_dev350 v4) < nD) ∧
  ((k0_dev353 v4) < nD) ∧
  ((k0_dev354 v4) < nD) ∧
  ((k0_dev356 v4) < nD) ∧
  ((k0_dev359 v4) < nD) ∧
  ((k0_dev360 v4) < nD) ∧
  ((k0_dev362 v4) < nD) ∧
  ((k0_dev364 v4) < nD) ∧
  ((k0_dev366 v4) < nD)
def k0_chk2 (v4 : BitVec 32) : Prop :=
  k0_chk2_0 v4 ∧
  k0_chk2_1 v4 ∧
  k0_chk2_2 v4 ∧
  k0_chk2_3 v4 ∧
  k0_chk2_4 v4 ∧
  k0_chk2_5 v4
theorem k0_dev2_lt : ∀ (v4 : BitVec 32) (k0_hw2 : k0_chk2 v4), (k0_dev2 v4) < nD := fun v4 k0_hw2 => k0_hw2.1.1
theorem k0_dev3_lt : ∀ (v4 : BitVec 32) (k0_hw2 : k0_chk2 v4), (k0_dev3 v4) < nD := fun v4 k0_hw2 => k0_hw2.1.2.1
theorem k0_dev5_lt : ∀ (v4 : BitVec 32) (k0_hw2 : k0_chk2 v4), (k0_dev5 v4) < nD := fun v4 k0_hw2 => k0_hw2.1.2.2.1
theorem k0_dev8_lt : ∀ (v4 : BitVec 32) (k0_hw2 : k0_chk2 v4), (k0_dev8 v4) < nD := fun v4 k0_hw2 => k0_hw2.1.2.2.2.1
theorem k0_dev9_lt : ∀ (v4 : BitVec 32) (k0_hw2 : k0_chk2 v4), (k0_dev9 v4) < nD := fun v4 k0_hw2 => k0_hw2.1.2.2.2.2.1
theorem k0_dev11_lt : ∀ (v4 : BitVec 32) (k0_hw2 : k0_chk2 v4), (k0_dev11 v4) < nD := fun v4 k0_hw2 => k0_hw2.1.2.2.2.2.2.1
theorem k0_dev14_lt : ∀ (v4 : BitVec 32) (k0_hw2 : k0_chk2 v4), (k0_dev14 v4) < nD := fun v4 k0_hw2 => k0_hw2.1.2.2.2.2.2.2.1
theorem k0_dev15_lt : ∀ (v4 : BitVec 32) (k0_hw2 : k0_chk2 v4), (k0_dev15 v4) < nD := fun v4 k0_hw2 => k0_hw2.1.2.2.2.2.2.2.2.1
theorem k0_dev17_lt : ∀ (v4 : BitVec 32) (k0_hw2 : k0_chk2 v4), (k0_dev17 v4) < nD := fun v4 k0_hw2 => k0_hw2.1.2.2.2.2.2.2.2.2.1
theorem k0_dev20_lt : ∀ (v4 : BitVec 32) (k0_hw2 : k0_chk2 v4), (k0_dev20 v4) < nD := fun v4 k0_hw2 => k0_hw2.1.2.2.2.2.2.2.2.2.2.1
theorem k0_dev21_lt : ∀ (v4 : BitVec 32) (k0_hw2 : k0_chk2 v4), (k0_dev21 v4) < nD := fun v4 k0_hw2 => k0_hw2.1.2.2.2.2.2.2.2.2.2.2.1
theorem k0_dev23_lt : ∀ (v4 : BitVec 32) (k0_hw2 : k0_chk2 v4), (k0_dev23 v4) < nD := fun v4 k0_hw2 => k0_hw2.1.2.2.2.2.2.2.2.2.2.2.2.1
theorem k0_dev26_lt : ∀ (v4 : BitVec 32) (k0_hw2 : k0_chk2 v4), (k0_dev26 v4) < nD := fun v4 k0_hw2 => k0_hw2.1.2.2.2.2.2.2.2.2.2.2.2.2.1
theorem k0_dev27_lt : ∀ (v4 : BitVec 32) (k0_hw2 : k0_chk2 v4), (k0_dev27 v4) < nD := fun v4 k0_hw2 => k0_hw2.1.2.2.2.2.2.2.2.2.2.2.2.2.2.1
theorem k0_dev29_lt : ∀ (v4 : BitVec 32) (k0_hw2 : k0_chk2 v4), (k0_dev29 v4) < nD := fun v4 k0_hw2 => k0_hw2.1.2.2.2.2.2.2.2.2.2.2.2.2.2.2.1
theorem k0_dev32_lt : ∀ (v4 : BitVec 32) (k0_hw2 : k0_chk2 v4), (k0_dev32 v4) < nD := fun v4 k0_hw2 => k0_hw2.1.2.2.2.2.2.2.2.2.2.2.2.2.2.2.2.1
theorem k0_dev33_lt : ∀ (v4 : BitVec 32) (k0_hw2 : k0_chk2 v4), (k0_dev33 v4) < nD := fun v4 k0_hw2 => k0_hw2.1.2.2.2.2.2.2.2.2.2.2.2.2.2.2.2.2.1
theorem k0_dev35_lt : ∀ (v4 : BitVec 32) (k0_hw2 : k0_chk2 v4), (k0_dev35 v4) < nD := fun v4 k0_hw2 => k0_hw2.1.2.2.2.2.2.2.2.2.2.2.2.2.2.2.2.2.2.1
theorem k0_dev38_lt : ∀ (v4 : BitVec 32) (k0_hw2 : k0_chk2 v4), (k0_dev38 v4) < nD := fun v4 k0_hw2 => k0_hw2.1.2.2.2.2.2.2.2.2.2.2.2.2.2.2.2.2.2.2.1
theorem k0_dev39_lt : ∀ (v4 : BitVec 32) (k0_hw2 : k0_chk2 v4), (k0_dev39 v4) < nD := fun v4 k0_hw2 => k0_hw2.1.2.2.2.2.2.2.2.2.2.2.2.2.2.2.2.2.2.2.2.1
theorem k0_dev41_lt : ∀ (v4 : BitVec 32) (k0_hw2 : k0_chk2 v4), (k0_dev41 v4) < nD := fun v4 k0_hw2 => k0_hw2.1.2.2.2.2.2.2.2.2.2.2.2.2.2.2.2.2.2.2.2.2.1
theorem k0_dev44_lt : ∀ (v4 : BitVec 32) (k0_hw2 : k0_chk2 v4), (k0_dev44 v4) < nD := fun v4 k0_hw2 => k0_hw2.1.2.2.2.2.2.2.2.2.2.2.2.2.2.2.2.2.2.2.2.2.2.1
theorem k0_dev45_lt : ∀ (v4 : BitVec 32) (k0_hw2 : k0_chk2 v4), (k0_dev45 v4) < nD := fun v4 k0_hw2 => k0_hw2.1.2.2.2.2.2.2.2.2.2.2.2.2.2.2.2.2.2.2.2.2.2.2.1
theorem k0_dev47_lt : ∀ (v4 : BitVec 32) (k0_hw2 : k0_chk2 v4), (k0_dev47 v4) < nD := fun v4 k0_hw2 => k0_hw2.1.2.2.2.2.2.2.2.2.2.2.2.2.2.2.2.2.2.2.2.2.2.2.2.1
theorem k0_dev50_lt : ∀ (v4 : BitVec 32) (k0_hw2 : k0_chk2 v4), (k0_dev50 v4) < nD := fun v4 k0_hw2 => k0_hw2.1.2.2.2.2.2.2.2.2.2.2.2.2.2.2.2.2.2.2.2.2.2.2.2.2.1
theorem k0_dev51_lt : ∀ (v4 : BitVec 32) (k0_hw2 : k0_chk2 v4), (k0_dev51 v4) < nD := fun v4 k0_hw2 => k0_hw2.1.2.2.2.2.2.2.2.2.2.2.2.2.2.2.2.2.2.2.2.2.2.2.2.2.2.1
theorem k0_dev53_lt : ∀ (v4 : BitVec 32) (k0_hw2 : k0_chk2 v4), (k0_dev53 v4) < nD := fun v4 k0_hw2 => k0_hw2.1.2.2.2.2.2.2.2.2.2.2.2.2.2.2.2.2.2.2.2.2.2.2.2.2.2.2.1
theorem k0_dev56_lt : ∀ (v4 : BitVec 32) (k0_hw2 : k0_chk2 v4), (k0_dev56 v4) < nD := fun v4 k0_hw2 => k0_hw2.1.2.2.2.2.2.2.2.2.2.2.2.2.2.2.2.2.2.2.2.2.2.2.2.2.2.2.2.1
theorem k0_dev57_lt : ∀ (v4 : BitVec 32) (k0_hw2 : k0_chk2 v4), (k0_dev57 v4) < nD := fun v4 k0_hw2 => k0_hw2.1.2.2.2.2.2.2.2.2.2.2.2.2.2.2.2.2.2.2.2.2.2.2.2.2.2.2.2.2.1
theorem k0_dev59_lt : ∀ (v4 : BitVec 32) (k0_hw2 : k0_chk2 v4), (k0_dev59 v4) < nD := fun v4 k0_hw2 => k0_hw2.1.2.2.2.2.2.2.2.2.2.2.2.2.2.2.2.2.2.2.2.2.2.2.2.2.2.2.2.2.2.1
theorem k0_dev62_lt : ∀ (v4 : BitVec 32) (k0_hw2 : k0_chk2 v4), (k0_dev62 v4) < nD := fun v4 k0_hw2 => k0_hw2.1.2.2.2.2.2.2.2.2.2.2.2.2.2.2.2.2.2.2.2.2.2.2.2.2.2.2.2.2.2.2.1
theorem k0_dev63_lt : ∀ (v4 : BitVec 32) (k0_hw2 : k0_chk2 v4), (k0_dev63 v4) < nD := fun v4 k0_hw2 => k0_hw2.1.2.2.2.2.2.2.2.2.2.2.2.2.2.2.2.2.2.2.2.2.2.2.2.2.2.2.2.2.2.2.2
theorem k0_dev65_lt : ∀ (v4 : BitVec 32) (k0_hw2 : k0_chk2 v4), (k0_dev65 v4) < nD := fun v4 k0_hw2 => k0_hw2.2.1.1
theorem k0_dev68_lt : ∀ (v4 : BitVec 32) (k0_hw2 : k0_chk2 v4), (k0_dev68 v4) < nD := fun v4 k0_hw2 => k0_hw2.2.1.2.1
theorem k0_dev69_lt : ∀ (v4 : BitVec 32) (k0_hw2 : k0_chk2 v4), (k0_dev69 v4) < nD := fun v4 k0_hw2 => k0_hw2.2.1.2.2.1
theorem k0_dev71_lt : ∀ (v4 : BitVec 32) (k0_hw2 : k0_chk2 v4), (k0_dev71 v4) < nD := fun v4 k0_hw2 => k0_hw2.2.1.2.2.2.1
theorem k0_dev74_lt : ∀ (v4 : BitVec 32) (k0_hw2 : k0_chk2 v4), (k0_dev74 v4) < nD := fun v4 k0_hw2 => k0_hw2.2.1.2.2.2.2.1
theorem k0_dev75_lt : ∀ (v4 : BitVec 32) (k0_hw2 : k0_chk2 v4), (k0_dev75 v4) < nD := fun v4 k0_hw2 => k0_hw2.2.1.2.2.2.2.2.1
theorem k0_dev77_lt : ∀ (v4 : BitVec 32) (k0_hw2 : k0_chk2 v4), (k0_dev77 v4) < nD := fun v4 k0_hw2 => k0_hw2.2.1.2.2.2.2.2.2.1
theorem k0_dev80_lt : ∀ (v4 : BitVec 32) (k0_hw2 : k0_chk2 v4), (k0_dev80 v4) < nD := fun v4 k0_hw2 => k0_hw2.2.1.2.2.2.2.2.2.2.1
theorem k0_dev81_lt : ∀ (v4 : BitVec 32) (k0_hw2 : k0_chk2 v4), (k0_dev81 v4) < nD := fun v4 k0_hw2 => k0_hw2.2.1.2.2.2.2.2.2.2.2.1
theorem k0_dev83_lt : ∀ (v4 : BitVec 32) (k0_hw2 : k0_chk2 v4), (k0_dev83 v4) < nD := fun v4 k0_hw2 => k0_hw2.2.1.2.2.2.2.2.2.2.2.2.1
theorem k0_dev86_lt : ∀ (v4 : BitVec 32) (k0_hw2 : k0_chk2 v4), (k0_dev86 v4) < nD := fun v4 k0_hw2 => k0_hw2.2.1.2.2.2.2.2.2.2.2.2.2.1
theorem k0_dev87_lt : ∀ (v4 : BitVec 32) (k0_hw2 : k0_chk2 v4), (k0_dev87 v4) < nD := fun v4 k0_hw2 => k0_hw2.2.1.2.2.2.2.2.2.2.2.2.2.2.1
theorem k0_dev89_lt : ∀ (v4 : BitVec 32) (k0_hw2 : k0_chk2 v4), (k0_dev89 v4) < nD := fun v4 k0_hw2 => k0_hw2.2.1.2.2.2.2.2.2.2.2.2.2.2.2.1
theorem k0_dev92_lt : ∀ (v4 : BitVec 32) (k0_hw2 : k0_chk2 v4), (k0_dev92 v4) < nD := fun v4 k0_hw2 => k0_hw2.2.1.2.2.2.2.2.2.2.2.2.2.2.2.2.1
theorem k0_dev93_lt : ∀ (v4 : BitVec 32) (k0_hw2 : k0_chk2 v4), (k0_dev93 v4) < nD := fun v4 k0_hw2 => k0_hw2.2.1.2.2.2.2.2.2.2.2.2.2.2.2.2.2.1
theorem k0_dev95_lt : ∀ (v4 : BitVec 32) (k0_hw2 : k0_chk2 v4), (k0_dev95 v4) < nD := fun v4 k0_hw2 => k0_hw2.2.1.2.2.2.2.2.2.2.2.2.2.2.2.2.2.2.1
theorem k0_dev98_lt : ∀ (v4 : BitVec 32) (k0_hw2 : k0_chk2 v4), (k0_dev98 v4) < nD := fun v4 k0_hw2 => k0_hw2.2.1.2.2.2.2.2.2.2.2.2.2.2.2.2.2.2.2.1
theorem k0_dev99_lt : ∀ (v4 : BitVec 32) (k0_hw2 : k0_chk2 v4), (k0_dev99 v4) < nD := fun v4 k0_hw2 => k0_hw2.2.1.2.2.2.2.2.2.2.2.2.2.2.2.2.2.2.2.2.1
theorem k0_dev101_lt : ∀ (v4 : BitVec 32) (k0_hw2 : k0_chk2 v4), (k0_dev101 v4) < nD := fun v4 k0_hw2 => k0_hw2.2.1.2.2.2.2.2.2.2.2.2.2.2.2.2.2.2.2.2.2.1
theorem k0_dev104_lt : ∀ (v4 : BitVec 32) (k0_hw2 : k0_chk2 v4), (k0_dev104 v4) < nD := fun v4 k0_hw2 => k0_hw2.2.1.2.2.2.2.2.2.2.2.2.2.2.2.2.2.2.2.2.2.2.1
theorem k0_dev105_lt : ∀ (v4 : BitVec 32) (k0_hw2 : k0_chk2 v4), (k0_dev105 v4) < nD := fun v4 k0_hw2 => k0_hw2.2.1.2.2.2.2.2.2.2.2.2.2.2.2.2.2.2.2.2.2.2.2.1
theorem k0_dev107_lt : ∀ (v4 : BitVec 32) (k0_hw2 : k0_chk2 v4), (k0_dev107 v4) < nD := fun v4 k0_hw2 => k0_hw2.2.1.2.2.2.2.2.2.2.2.2.2.2.2.2.2.2.2.2.2.2.2.2.1
theorem k0_dev110_lt : ∀ (v4 : BitVec 32) (k0_hw2 : k0_chk2 v4), (k0_dev110 v4) < nD := fun v4 k0_hw2 => k0_hw2.2.1.2.2.2.2.2.2.2.2.2.2.2.2.2.2.2.2.2.2.2.2.2.2.1
theorem k0_dev111_lt : ∀ (v4 : BitVec 32) (k0_hw2 : k0_chk2 v4), (k0_dev111 v4) < nD := fun v4 k0_hw2 => k0_hw2.2.1.2.2.2.2.2.2.2.2.2.2.2.2.2.2.2.2.2.2.2.2.2.2.2.1
theorem k0_dev113_lt : ∀ (v4 : BitVec 32) (k0_hw2 : k0_chk2 v4), (k0_dev113 v4) < nD := fun v4 k0_hw2 => k0_hw2.2.1.2.2.2.2.2.2.2.2.2.2.2.2.2.2.2.2.2.2.2.2.2.2.2.2.1
theorem k0_dev116_lt : ∀ (v4 : BitVec 32) (k0_hw2 : k0_chk2 v4), (k0_dev116 v4) < nD := fun v4 k0_hw2 => k0_hw2.2.1.2.2.2.2.2.2.2.2.2.2.2.2.2.2.2.2.2.2.2.2.2.2.2.2.2.1
theorem k0_dev117_lt : ∀ (v4 : BitVec 32) (k0_hw2 : k0_chk2 v4), (k0_dev117 v4) < nD := fun v4 k0_hw2 => k0_hw2.2.1.2.2.2.2.2.2.2.2.2.2.2.2.2.2.2.2.2.2.2.2.2.2.2.2.2.2.1
theorem k0_dev119_lt : ∀ (v4 : BitVec 32) (k0_hw2 : k0_chk2 v4), (k0_dev119 v4) < nD := fun v4 k0_hw2 => k0_hw2.2.1.2.2.2.2.2.2.2.2.2.2.2.2.2.2.2.2.2.2.2.2.2.2.2.2.2.2.2.1
theorem k0_dev122_lt : ∀ (v4 : BitVec 32) (k0_hw2 : k0_chk2 v4), (k0_dev122 v4) < nD := fun v4 k0_hw2 => k0_hw2.2.1.2.2.2.2.2.2.2.2.2.2.2.2.2.2.2.2.2.2.2.2.2.2.2.2.2.2.2.2.1
theorem k0_dev123_lt : ∀ (v4 : BitVec 32) (k0_hw2 : k0_chk2 v4), (k0_dev123 v4) < nD := fun v4 k0_hw2 => k0_hw2.2.1.2.2.2.2.2.2.2.2.2.2.2.2.2.2.2.2.2.2.2.2.2.2.2.2.2.2.2.2.2.1
theorem k0_dev125_lt : ∀ (v4 : BitVec 32) (k0_hw2 : k0_chk2 v4), (k0_dev125 v4) < nD := fun v4 k0_hw2 => k0_hw2.2.1.2.2.2.2.2.2.2.2.2.2.2.2.2.2.2.2.2.2.2.2.2.2.2.2.2.2.2.2.2.2.1
theorem k0_dev128_lt : ∀ (v4 : BitVec 32) (k0_hw2 : k0_chk2 v4), (k0_dev128 v4) < nD := fun v4 k0_hw2 => k0_hw2.2.1.2.2.2.2.2.2.2.2.2.2.2.2.2.2.2.2.2.2.2.2.2.2.2.2.2.2.2.2.2.2.2
theorem k0_dev129_lt : ∀ (v4 : BitVec 32) (k0_hw2 : k0_chk2 v4), (k0_dev129 v4) < nD := fun v4 k0_hw2 => k0_hw2.2.2.1.1
theorem k0_dev131_lt : ∀ (v4 : BitVec 32) (k0_hw2 : k0_chk2 v4), (k0_dev131 v4) < nD := fun v4 k0_hw2 => k0_hw2.2.2.1.2.1
theorem k0_dev134_lt : ∀ (v4 : BitVec 32) (k0_hw2 : k0_chk2 v4), (k0_dev134 v4) < nD := fun v4 k0_hw2 => k0_hw2.2.2.1.2.2.1
theorem k0_dev135_lt : ∀ (v4 : BitVec 32) (k0_hw2 : k0_chk2 v4), (k0_dev135 v4) < nD := fun v4 k0_hw2 => k0_hw2.2.2.1.2.2.2.1
theorem k0_dev137_lt : ∀ (v4 : BitVec 32) (k0_hw2 : k0_chk2 v4), (k0_dev137 v4) < nD := fun v4 k0_hw2 => k0_hw2.2.2.1.2.2.2.2.1
theorem k0_dev140_lt : ∀ (v4 : BitVec 32) (k0_hw2 : k0_chk2 v4), (k0_dev140 v4) < nD := fun v4 k0_hw2 => k0_hw2.2.2.1.2.2.2.2.2.1
theorem k0_dev141_lt : ∀ (v4 : BitVec 32) (k0_hw2 : k0_chk2 v4), (k0_dev141 v4) < nD := fun v4 k0_hw2 => k0_hw2.2.2.1.2.2.2.2.2.2.1
theorem k0_dev143_lt : ∀ (v4 : BitVec 32) (k0_hw2 : k0_chk2 v4), (k0_dev143 v4) < nD := fun v4 k0_hw2 => k0_hw2.2.2.1.2.2.2.2.2.2.2.1
theorem k0_dev146_lt : ∀ (v4 : BitVec 32) (k0_hw2 : k0_chk2 v4), (k0_dev146 v4) < nD := fun v4 k0_hw2 => k0_hw2.2.2.1.2.2.2.2.2.2.2.2.1
theorem k0_dev147_lt : ∀ (v4 : BitVec 32) (k0_hw2 : k0_chk2 v4), (k0_dev147 v4) < nD := fun v4 k0_hw2 => k0_hw2.2.2.1.2.2.2.2.2.2.2.2.2.1
theorem k0_dev149_lt : ∀ (v4 : BitVec 32) (k0_hw2 : k0_chk2 v4), (k0_dev149 v4) < nD := fun v4 k0_hw2 => k0_hw2.2.2.1.2.2.2.2.2.2.2.2.2.2.1
theorem k0_dev152_lt : ∀ (v4 : BitVec 32) (k0_hw2 : k0_chk2 v4), (k0_dev152 v4) < nD := fun v4 k0_hw2 => k0_hw2.2.2.1.2.2.2.2.2.2.2.2.2.2.2.1
theorem k0_dev153_lt : ∀ (v4 : BitVec 32) (k0_hw2 : k0_chk2 v4), (k0_dev153 v4) < nD := fun v4 k0_hw2 => k0_hw2.2.2.1.2.2.2.2.2.2.2.2.2.2.2.2.1
theorem k0_dev155_lt : ∀ (v4 : BitVec 32) (k0_hw2 : k0_chk2 v4), (k0_dev155 v4) < nD := fun v4 k0_hw2 => k0_hw2.2.2.1.2.2.2.2.2.2.2.2.2.2.2.2.2.1
theorem k0_dev158_lt : ∀ (v4 : BitVec 32) (k0_hw2 : k0_chk2 v4), (k0_dev158 v4) < nD := fun v4 k0_hw2 => k0_hw2.2.2.1.2.2.2.2.2.2.2.2.2.2.2.2.2.2.1
theorem k0_dev159_lt : ∀ (v4 : BitVec 32) (k0_hw2 : k0_chk2 v4), (k0_dev159 v4) < nD := fun v4 k0_hw2 => k0_hw2.2.2.1.2.2.2.2.2.2.2.2.2.2.2.2.2.2.2.1
theorem k0_dev161_lt : ∀ (v4 : BitVec 32) (k0_hw2 : k0_chk2 v4), (k0_dev161 v4) < nD := fun v4 k0_hw2 => k0_hw2.2.2.1.2.2.2.2.2.2.2.2.2.2.2.2.2.2.2.2.1
theorem k0_dev164_lt : ∀ (v4 : BitVec 32) (k0_hw2 : k0_chk2 v4), (k0_dev164 v4) < nD := fun v4 k0_hw2 => k0_hw2.2.2.1.2.2.2.2.2.2.2.2.2.2.2.2.2.2.2.2.2.1
theorem k0_dev165_lt : ∀ (v4 : BitVec 32) (k0_hw2 : k0_chk2 v4), (k0_dev165 v4) < nD := fun v4 k0_hw2 => k0_hw2.2.2.1.2.2.2.2.2.2.2.2.2.2.2.2.2.2.2.2.2.2.1
theorem k0_dev167_lt : ∀ (v4 : BitVec 32) (k0_hw2 : k0_chk2 v4), (k0_dev167 v4) < nD := fun v4 k0_hw2 => k0_hw2.2.2.1.2.2.2.2.2.2.2.2.2.2.2.2.2.2.2.2.2.2.2.1
theorem k0_dev170_lt : ∀ (v4 : BitVec 32) (k0_hw2 : k0_chk2 v4), (k0_dev170 v4) < nD := fun v4 k0_hw2 => k0_hw2.2.2.1.2.2.2.2.2.2.2.2.2.2.2.2.2.2.2.2.2.2.2.2.1
theorem k0_dev171_lt : ∀ (v4 : BitVec 32) (k0_hw2 : k0_chk2 v4), (k0_dev171 v4) < nD := fun v4 k0_hw2 => k0_hw2.2.2.1.2.2.2.2.2.2.2.2.2.2.2.2.2.2.2.2.2.2.2.2.2.1
theorem k0_dev173_lt : ∀ (v4 : BitVec 32) (k0_hw2 : k0_chk2 v4), (k0_dev173 v4) < nD := fun v4 k0_hw2 => k0_hw2.2.2.1.2.2.2.2.2.2.2.2.2.2.2.2.2.2.2.2.2.2.2.2.2.2.1
theorem k0_dev175_lt : ∀ (v4 : BitVec 32) (k0_hw2 : k0_chk2 v4), (k0_dev175 v4) < nD := fun v4 k0_hw2 => k0_hw2.2.2.1.2.2.2.2.2.2.2.2.2.2.2.2.2.2.2.2.2.2.2.2.2.2.2.1
theorem k0_dev177_lt : ∀ (v4 : BitVec 32) (k0_hw2 : k0_chk2 v4), (k0_dev177 v4) < nD := fun v4 k0_hw2 => k0_hw2.2.2.1.2.2.2.2.2.2.2.2.2.2.2.2.2.2.2.2.2.2.2.2.2.2.2.2.1
theorem k0_dev179_lt : ∀ (v4 : BitVec 32) (k0_hw2 : k0_chk2 v4), (k0_dev179 v4) < nD := fun v4 k0_hw2 => k0_hw2.2.2.1.2.2.2.2.2.2.2.2.2.2.2.2.2.2.2.2.2.2.2.2.2.2.2.2.2.1
theorem k0_dev181_lt : ∀ (v4 : BitVec 32) (k0_hw2 : k0_chk2 v4), (k0_dev181 v4) < nD := fun v4 k0_hw2 => k0_hw2.2.2.1.2.2.2.2.2.2.2.2.2.2.2.2.2.2.2.2.2.2.2.2.2.2.2.2.2.2.1
theorem k0_dev188_lt : ∀ (v4 : BitVec 32) (k0_hw2 : k0_chk2 v4), (k0_dev188 v4) < nD := fun v4 k0_hw2 => k0_hw2.2.2.1.2.2.2.2.2.2.2.2.2.2.2.2.2.2.2.2.2.2.2.2.2.2.2.2.2.2.2.1
theorem k0_dev190_lt : ∀ (v4 : BitVec 32) (k0_hw2 : k0_chk2 v4), (k0_dev190 v4) < nD := fun v4 k0_hw2 => k0_hw2.2.2.1.2.2.2.2.2.2.2.2.2.2.2.2.2.2.2.2.2.2.2.2.2.2.2.2.2.2.2.2.1
theorem k0_dev192_lt : ∀ (v4 : BitVec 32) (k0_hw2 : k0_chk2 v4), (k0_dev192 v4) < nD := fun v4 k0_hw2 => k0_hw2.2.2.1.2.2.2.2.2.2.2.2.2.2.2.2.2.2.2.2.2.2.2.2.2.2.2.2.2.2.2.2.2.1
theorem k0_dev194_lt : ∀ (v4 : BitVec 32) (k0_hw2 : k0_chk2 v4), (k0_dev194 v4) < nD := fun v4 k0_hw2 => k0_hw2.2.2.1.2.2.2.2.2.2.2.2.2.2.2.2.2.2.2.2.2.2.2.2.2.2.2.2.2.2.2.2.2.2.1
theorem k0_dev197_lt : ∀ (v4 : BitVec 32) (k0_hw2 : k0_chk2 v4), (k0_dev197 v4) < nD := fun v4 k0_hw2 => k0_hw2.2.2.1.2.2.2.2.2.2.2.2.2.2.2.2.2.2.2.2.2.2.2.2.2.2.2.2.2.2.2.2.2.2.2
theorem k0_dev198_lt : ∀ (v4 : BitVec 32) (k0_hw2 : k0_chk2 v4), (k0_dev198 v4) < nD := fun v4 k0_hw2 => k0_hw2.2.2.2.1.1
theorem k0_dev200_lt : ∀ (v4 : BitVec 32) (k0_hw2 : k0_chk2 v4), (k0_dev200 v4) < nD := fun v4 k0_hw2 => k0_hw2.2.2.2.1.2.1
theorem k0_dev203_lt : ∀ (v4 : BitVec 32) (k0_hw2 : k0_chk2 v4), (k0_dev203 v4) < nD := fun v4 k0_hw2 => k0_hw2.2.2.2.1.2.2.1
theorem k0_dev204_lt : ∀ (v4 : BitVec 32) (k0_hw2 : k0_chk2 v4), (k0_dev204 v4) < nD := fun v4 k0_hw2 => k0_hw2.2.2.2.1.2.2.2.1
theorem k0_dev206_lt : ∀ (v4 : BitVec 32) (k0_hw2 : k0_chk2 v4), (k0_dev206 v4) < nD := fun v4 k0_hw2 => k0_hw2.2.2.2.1.2.2.2.2.1
theorem k0_dev209_lt : ∀ (v4 : BitVec 32) (k0_hw2 : k0_chk2 v4), (k0_dev209 v4) < nD := fun v4 k0_hw2 => k0_hw2.2.2.2.1.2.2.2.2.2.1
theorem k0_dev210_lt : ∀ (v4 : BitVec 32) (k0_hw2 : k0_chk2 v4), (k0_dev210 v4) < nD := fun v4 k0_hw2 => k0_hw2.2.2.2.1.2.2.2.2.2.2.1
theorem k0_dev212_lt : ∀ (v4 : BitVec 32) (k0_hw2 : k0_chk2 v4), (k0_dev212 v4) < nD := fun v4 k0_hw2 => k0_hw2.2.2.2.1.2.2.2.2.2.2.2.1
theorem k0_dev215_lt : ∀ (v4 : BitVec 32) (k0_hw2 : k0_chk2 v4), (k0_dev215 v4) < nD := fun v4 k0_hw2 => k0_hw2.2.2.2.1.2.2.2.2.2.2.2.2.1
theorem k0_dev216_lt : ∀ (v4 : BitVec 32) (k0_hw2 : k0_chk2 v4), (k0_dev216 v4) < nD := fun v4 k0_hw2 => k0_hw2.2.2.2.1.2.2.2.2.2.2.2.2.2.1
theorem k0_dev218_lt : ∀ (v4 : BitVec 32) (k0_hw2 : k0_chk2 v4), (k0_dev218 v4) < nD := fun v4 k0_hw2 => k0_hw2.2.2.2.1.2.2.2.2.2.2.2.2.2.2.1
theorem k0_dev221_lt : ∀ (v4 : BitVec 32) (k0_hw2 : k0_chk2 v4), (k0_dev221 v4) < nD := fun v4 k0_hw2 => k0_hw2.2.2.2.1.2.2.2.2.2.2.2.2.2.2.2.1
theorem k0_dev222_lt : ∀ (v4 : BitVec 32) (k0_hw2 : k0_chk2 v4), (k0_dev222 v4) < nD := fun v4 k0_hw2 => k0_hw2.2.2.2.1.2.2.2.2.2.2.2.2.2.2.2.2.1
theorem k0_dev224_lt : ∀ (v4 : BitVec 32) (k0_hw2 : k0_chk2 v4), (k0_dev224 v4) < nD := fun v4 k0_hw2 => k0_hw2.2.2.2.1.2.2.2.2.2.2.2.2.2.2.2.2.2.1
theorem k0_dev227_lt : ∀ (v4 : BitVec 32) (k0_hw2 : k0_chk2 v4), (k0_dev227 v4) < nD := fun v4 k0_hw2 => k0_hw2.2.2.2.1.2.2.2.2.2.2.2.2.2.2.2.2.2.2.1
theorem k0_dev228_lt : ∀ (v4 : BitVec 32) (k0_hw2 : k0_chk2 v4), (k0_dev228 v4) < nD := fun v4 k0_hw2 => k0_hw2.2.2.2.1.2.2.2.2.2.2.2.2.2.2.2.2.2.2.2.1
theorem k0_dev230_lt : ∀ (v4 : BitVec 32) (k0_hw2 : k0_chk2 v4), (k0_dev230 v4) < nD := fun v4 k0_hw2 => k0_hw2.2.2.2.1.2.2.2.2.2.2.2.2.2.2.2.2.2.2.2.2.1
theorem k0_dev233_lt : ∀ (v4 : BitVec 32) (k0_hw2 : k0_chk2 v4), (k0_dev233 v4) < nD := fun v4 k0_hw2 => k0_hw2.2.2.2.1.2.2.2.2.2.2.2.2.2.2.2.2.2.2.2.2.2.1
theorem k0_dev234_lt : ∀ (v4 : BitVec 32) (k0_hw2 : k0_chk2 v4), (k0_dev234 v4) < nD := fun v4 k0_hw2 => k0_hw2.2.2.2.1.2.2.2.2.2.2.2.2.2.2.2.2.2.2.2.2.2.2.1
theorem k0_dev236_lt : ∀ (v4 : BitVec 32) (k0_hw2 : k0_chk2 v4), (k0_dev236 v4) < nD := fun v4 k0_hw2 => k0_hw2.2.2.2.1.2.2.2.2.2.2.2.2.2.2.2.2.2.2.2.2.2.2.2.1
theorem k0_dev239_lt : ∀ (v4 : BitVec 32) (k0_hw2 : k0_chk2 v4), (k0_dev239 v4) < nD := fun v4 k0_hw2 => k0_hw2.2.2.2.1.2.2.2.2.2.2.2.2.2.2.2.2.2.2.2.2.2.2.2.2.1
theorem k0_dev240_lt : ∀ (v4 : BitVec 32) (k0_hw2 : k0_chk2 v4), (k0_dev240 v4) < nD := fun v4 k0_hw2 => k0_hw2.2.2.2.1.2.2.2.2.2.2.2.2.2.2.2.2.2.2.2.2.2.2.2.2.2.1
theorem k0_dev242_lt : ∀ (v4 : BitVec 32) (k0_hw2 : k0_chk2 v4), (k0_dev242 v4) < nD := fun v4 k0_hw2 => k0_hw2.2.2.2.1.2.2.2.2.2.2.2.2.2.2.2.2.2.2.2.2.2.2.2.2.2.2.1
theorem k0_dev245_lt : ∀ (v4 : BitVec 32) (k0_hw2 : k0_chk2 v4), (k0_dev245 v4) < nD := fun v4 k0_hw2 => k0_hw2.2.2.2.1.2.2.2.2.2.2.2.2.2.2.2.2.2.2.2.2.2.2.2.2.2.2.2.1
theorem k0_dev246_lt : ∀ (v4 : BitVec 32) (k0_hw2 : k0_chk2 v4), (k0_dev246 v4) < nD := fun v4 k0_hw2 => k0_hw2.2.2.2.1.2.2.2.2.2.2.2.2.2.2.2.2.2.2.2.2.2.2.2.2.2.2.2.2.1
theorem k0_dev248_lt : ∀ (v4 : BitVec 32) (k0_hw2 : k0_chk2 v4), (k0_dev248 v4) < nD := fun v4 k0_hw2 => k0_hw2.2.2.2.1.2.2.2.2.2.2.2.2.2.2.2.2.2.2.2.2.2.2.2.2.2.2.2.2.2.1
theorem k0_dev251_lt : ∀ (v4 : BitVec 32) (k0_hw2 : k0_chk2 v4), (k0_dev251 v4) < nD := fun v4 k0_hw2 => k0_hw2.2.2.2.1.2.2.2.2.2.2.2.2.2.2.2.2.2.2.2.2.2.2.2.2.2.2.2.2.2.2.1
theorem k0_dev252_lt : ∀ (v4 : BitVec 32) (k0_hw2 : k0_chk2 v4), (k0_dev252 v4) < nD := fun v4 k0_hw2 => k0_hw2.2.2.2.1.2.2.2.2.2.2.2.2.2.2.2.2.2.2.2.2.2.2.2.2.2.2.2.2.2.2.2.1
theorem k0_dev254_lt : ∀ (v4 : BitVec 32) (k0_hw2 : k0_chk2 v4), (k0_dev254 v4) < nD := fun v4 k0_hw2 => k0_hw2.2.2.2.1.2.2.2.2.2.2.2.2.2.2.2.2.2.2.2.2.2.2.2.2.2.2.2.2.2.2.2.2.1
theorem k0_dev257_lt : ∀ (v4 : BitVec 32) (k0_hw2 : k0_chk2 v4), (k0_dev257 v4) < nD := fun v4 k0_hw2 => k0_hw2.2.2.2.1.2.2.2.2.2.2.2.2.2.2.2.2.2.2.2.2.2.2.2.2.2.2.2.2.2.2.2.2.2.1
theorem k0_dev258_lt : ∀ (v4 : BitVec 32) (k0_hw2 : k0_chk2 v4), (k0_dev258 v4) < nD := fun v4 k0_hw2 => k0_hw2.2.2.2.1.2.2.2.2.2.2.2.2.2.2.2.2.2.2.2.2.2.2.2.2.2.2.2.2.2.2.2.2.2.2.1
theorem k0_dev260_lt : ∀ (v4 : BitVec 32) (k0_hw2 : k0_chk2 v4), (k0_dev260 v4) < nD := fun v4 k0_hw2 => k0_hw2.2.2.2.1.2.2.2.2.2.2.2.2.2.2.2.2.2.2.2.2.2.2.2.2.2.2.2.2.2.2.2.2.2.2.2
theorem k0_dev263_lt : ∀ (v4 : BitVec 32) (k0_hw2 : k0_chk2 v4), (k0_dev263 v4) < nD := fun v4 k0_hw2 => k0_hw2.2.2.2.2.1.1
theorem k0_dev264_lt : ∀ (v4 : BitVec 32) (k0_hw2 : k0_chk2 v4), (k0_dev264 v4) < nD := fun v4 k0_hw2 => k0_hw2.2.2.2.2.1.2.1
theorem k0_dev266_lt : ∀ (v4 : BitVec 32) (k0_hw2 : k0_chk2 v4), (k0_dev266 v4) < nD := fun v4 k0_hw2 => k0_hw2.2.2.2.2.1.2.2.1
theorem k0_dev269_lt : ∀ (v4 : BitVec 32) (k0_hw2 : k0_chk2 v4), (k0_dev269 v4) < nD := fun v4 k0_hw2 => k0_hw2.2.2.2.2.1.2.2.2.1
theorem k0_dev270_lt : ∀ (v4 : BitVec 32) (k0_hw2 : k0_chk2 v4), (k0_dev270 v4) < nD := fun v4 k0_hw2 => k0_hw2.2.2.2.2.1.2.2.2.2.1
theorem k0_dev272_lt : ∀ (v4 : BitVec 32) (k0_hw2 : k0_chk2 v4), (k0_dev272 v4) < nD := fun v4 k0_hw2 => k0_hw2.2.2.2.2.1.2.2.2.2.2.1
theorem k0_dev275_lt : ∀ (v4 : BitVec 32) (k0_hw2 : k0_chk2 v4), (k0_dev275 v4) < nD := fun v4 k0_hw2 => k0_hw2.2.2.2.2.1.2.2.2.2.2.2.1
theorem k0_dev276_lt : ∀ (v4 : BitVec 32) (k0_hw2 : k0_chk2 v4), (k0_dev276 v4) < nD := fun v4 k0_hw2 => k0_hw2.2.2.2.2.1.2.2.2.2.2.2.2.1
theorem k0_dev278_lt : ∀ (v4 : BitVec 32) (k0_hw2 : k0_chk2 v4), (k0_dev278 v4) < nD := fun v4 k0_hw2 => k0_hw2.2.2.2.2.1.2.2.2.2.2.2.2.2.1
theorem k0_dev281_lt : ∀ (v4 : BitVec 32) (k0_hw2 : k0_chk2 v4), (k0_dev281 v4) < nD := fun v4 k0_hw2 => k0_hw2.2.2.2.2.1.2.2.2.2.2.2.2.2.2.1
theorem k0_dev282_lt : ∀ (v4 : BitVec 32) (k0_hw2 : k0_chk2 v4), (k0_dev282 v4) < nD := fun v4 k0_hw2 => k0_hw2.2.2.2.2.1.2.2.2.2.2.2.2.2.2.2.1
theorem k0_dev284_lt : ∀ (v4 : BitVec 32) (k0_hw2 : k0_chk2 v4), (k0_dev284 v4) < nD := fun v4 k0_hw2 => k0_hw2.2.2.2.2.1.2.2.2.2.2.2.2.2.2.2.2.1
theorem k0_dev287_lt : ∀ (v4 : BitVec 32) (k0_hw2 : k0_chk2 v4), (k0_dev287 v4) < nD := fun v4 k0_hw2 => k0_hw2.2.2.2.2.1.2.2.2.2.2.2.2.2.2.2.2.2.1
theorem k0_dev288_lt : ∀ (v4 : BitVec 32) (k0_hw2 : k0_chk2 v4), (k0_dev288 v4) < nD := fun v4 k0_hw2 => k0_hw2.2.2.2.2.1.2.2.2.2.2.2.2.2.2.2.2.2.2.1
theorem k0_dev290_lt : ∀ (v4 : BitVec 32) (k0_hw2 : k0_chk2 v4), (k0_dev290 v4) < nD := fun v4 k0_hw2 => k0_hw2.2.2.2.2.1.2.2.2.2.2.2.2.2.2.2.2.2.2.2.1
theorem k0_dev293_lt : ∀ (v4 : BitVec 32) (k0_hw2 : k0_chk2 v4), (k0_dev293 v4) < nD := fun v4 k0_hw2 => k0_hw2.2.2.2.2.1.2.2.2.2.2.2.2.2.2.2.2.2.2.2.2.1
theorem k0_dev294_lt : ∀ (v4 : BitVec 32) (k0_hw2 : k0_chk2 v4), (k0_dev294 v4) < nD := fun v4 k0_hw2 => k0_hw2.2.2.2.2.1.2.2.2.2.2.2.2.2.2.2.2.2.2.2.2.2.1
theorem k0_dev296_lt : ∀ (v4 : BitVec 32) (k0_hw2 : k0_chk2 v4), (k0_dev296 v4) < nD := fun v4 k0_hw2 => k0_hw2.2.2.2.2.1.2.2.2.2.2.2.2.2.2.2.2.2.2.2.2.2.2.1
theorem k0_dev299_lt : ∀ (v4 : BitVec 32) (k0_hw2 : k0_chk2 v4), (k0_dev299 v4) < nD := fun v4 k0_hw2 => k0_hw2.2.2.2.2.1.2.2.2.2.2.2.2.2.2.2.2.2.2.2.2.2.2.2.1
theorem k0_dev300_lt : ∀ (v4 : BitVec 32) (k0_hw2 : k0_chk2 v4), (k0_dev300 v4) < nD := fun v4 k0_hw2 => k0_hw2.2.2.2.2.1.2.2.2.2.2.2.2.2.2.2.2.2.2.2.2.2.2.2.2.1
theorem k0_dev302_lt : ∀ (v4 : BitVec 32) (k0_hw2 : k0_chk2 v4), (k0_dev302 v4) < nD := fun v4 k0_hw2 => k0_hw2.2.2.2.2.1.2.2.2.2.2.2.2.2.2.2.2.2.2.2.2.2.2.2.2.2.1
theorem k0_dev305_lt : ∀ (v4 : BitVec 32) (k0_hw2 : k0_chk2 v4), (k0_dev305 v4) < nD := fun v4 k0_hw2 => k0_hw2.2.2.2.2.1.2.2.2.2.2.2.2.2.2.2.2.2.2.2.2.2.2.2.2.2.2.1
theorem k0_dev306_lt : ∀ (v4 : BitVec 32) (k0_hw2 : k0_chk2 v4), (k0_dev306 v4) < nD := fun v4 k0_hw2 => k0_hw2.2.2.2.2.1.2.2.2.2.2.2.2.2.2.2.2.2.2.2.2.2.2.2.2.2.2.2.1
theorem k0_dev308_lt : ∀ (v4 : BitVec 32) (k0_hw2 : k0_chk2 v4), (k0_dev308 v4) < nD := fun v4 k0_hw2 => k0_hw2.2.2.2.2.1.2.2.2.2.2.2.2.2.2.2.2.2.2.2.2.2.2.2.2.2.2.2.2.1
theorem k0_dev311_lt : ∀ (v4 : BitVec 32) (k0_hw2 : k0_chk2 v4), (k0_dev311 v4) < nD := fun v4 k0_hw2 => k0_hw2.2.2.2.2.1.2.2.2.2.2.2.2.2.2.2.2.2.2.2.2.2.2.2.2.2.2.2.2.2.1
theorem k0_dev312_lt : ∀ (v4 : BitVec 32) (k0_hw2 : k0_chk2 v4), (k0_dev312 v4) < nD := fun v4 k0_hw2 => k0_hw2.2.2.2.2.1.2.2.2.2.2.2.2.2.2.2.2.2.2.2.2.2.2.2.2.2.2.2.2.2.2.1
theorem k0_dev314_lt : ∀ (v4 : BitVec 32) (k0_hw2 : k0_chk2 v4), (k0_dev314 v4) < nD := fun v4 k0_hw2 => k0_hw2.2.2.2.2.1.2.2.2.2.2.2.2.2.2.2.2.2.2.2.2.2.2.2.2.2.2.2.2.2.2.2.1
theorem k0_dev317_lt : ∀ (v4 : BitVec 32) (k0_hw2 : k0_chk2 v4), (k0_dev317 v4) < nD := fun v4 k0_hw2 => k0_hw2.2.2.2.2.1.2.2.2.2.2.2.2.2.2.2.2.2.2.2.2.2.2.2.2.2.2.2.2.2.2.2.2.1
theorem k0_dev318_lt : ∀ (v4 : BitVec 32) (k0_hw2 : k0_chk2 v4), (k0_dev318 v4) < nD := fun v4 k0_hw2 => k0_hw2.2.2.2.2.1.2.2.2.2.2.2.2.2.2.2.2.2.2.2.2.2.2.2.2.2.2.2.2.2.2.2.2.2.1
theorem k0_dev320_lt : ∀ (v4 : BitVec 32) (k0_hw2 : k0_chk2 v4), (k0_dev320 v4) < nD := fun v4 k0_hw2 => k0_hw2.2.2.2.2.1.2.2.2.2.2.2.2.2.2.2.2.2.2.2.2.2.2.2.2.2.2.2.2.2.2.2.2.2.2.1
theorem k0_dev323_lt : ∀ (v4 : BitVec 32) (k0_hw2 : k0_chk2 v4), (k0_dev323 v4) < nD := fun v4 k0_hw2 => k0_hw2.2.2.2.2.1.2.2.2.2.2.2.2.2.2.2.2.2.2.2.2.2.2.2.2.2.2.2.2.2.2.2.2.2.2.2.1
theorem k0_dev324_lt : ∀ (v4 : BitVec 32) (k0_hw2 : k0_chk2 v4), (k0_dev324 v4) < nD := fun v4 k0_hw2 => k0_hw2.2.2.2.2.1.2.2.2.2.2.2.2.2.2.2.2.2.2.2.2.2.2.2.2.2.2.2.2.2.2.2.2.2.2.2.2
theorem k0_dev326_lt : ∀ (v4 : BitVec 32) (k0_hw2 : k0_chk2 v4), (k0_dev326 v4) < nD := fun v4 k0_hw2 => k0_hw2.2.2.2.2.2.1
theorem k0_dev329_lt : ∀ (v4 : BitVec 32) (k0_hw2 : k0_chk2 v4), (k0_dev329 v4) < nD := fun v4 k0_hw2 => k0_hw2.2.2.2.2.2.2.1
theorem k0_dev330_lt : ∀ (v4 : BitVec 32) (k0_hw2 : k0_chk2 v4), (k0_dev330 v4) < nD := fun v4 k0_hw2 => k0_hw2.2.2.2.2.2.2.2.1
theorem k0_dev332_lt : ∀ (v4 : BitVec 32) (k0_hw2 : k0_chk2 v4), (k0_dev332 v4) < nD := fun v4 k0_hw2 => k0_hw2.2.2.2.2.2.2.2.2.1
theorem k0_dev335_lt : ∀ (v4 : BitVec 32) (k0_hw2 : k0_chk2 v4), (k0_dev335 v4) < nD := fun v4 k0_hw2 => k0_hw2.2.2.2.2.2.2.2.2.2.1
theorem k0_dev336_lt : ∀ (v4 : BitVec 32) (k0_hw2 : k0_chk2 v4), (k0_dev336 v4) < nD := fun v4 k0_hw2 => k0_hw2.2.2.2.2.2.2.2.2.2.2.1
theorem k0_dev338_lt : ∀ (v4 : BitVec 32) (k0_hw2 : k0_chk2 v4), (k0_dev338 v4) < nD := fun v4 k0_hw2 => k0_hw2.2.2.2.2.2.2.2.2.2.2.2.1
theorem k0_dev341_lt : ∀ (v4 : BitVec 32) (k0_hw2 : k0_chk2 v4), (k0_dev341 v4) < nD := fun v4 k0_hw2 => k0_hw2.2.2.2.2.2.2.2.2.2.2.2.2.1
theorem k0_dev342_lt : ∀ (v4 : BitVec 32) (k0_hw2 : k0_chk2 v4), (k0_dev342 v4) < nD := fun v4 k0_hw2 => k0_hw2.2.2.2.2.2.2.2.2.2.2.2.2.2.1
theorem k0_dev344_lt : ∀ (v4 : BitVec 32) (k0_hw2 : k0_chk2 v4), (k0_dev344 v4) < nD := fun v4 k0_hw2 => k0_hw2.2.2.2.2.2.2.2.2.2.2.2.2.2.2.1
theorem k0_dev347_lt : ∀ (v4 : BitVec 32) (k0_hw2 : k0_chk2 v4), (k0_dev347 v4) < nD := fun v4 k0_hw2 => k0_hw2.2.2.2.2.2.2.2.2.2.2.2.2.2.2.2.1
theorem k0_dev348_lt : ∀ (v4 : BitVec 32) (k0_hw2 : k0_chk2 v4), (k0_dev348 v4) < nD := fun v4 k0_hw2 => k0_hw2.2.2.2.2.2.2.2.2.2.2.2.2.2.2.2.2.1
theorem k0_dev350_lt : ∀ (v4 : BitVec 32) (k0_hw2 : k0_chk2 v4), (k0_dev350 v4) < nD := fun v4 k0_hw2 => k0_hw2.2.2.2.2.2.2.2.2.2.2.2.2.2.2.2.2.2.1
theorem k0_dev353_lt : ∀ (v4 : BitVec 32) (k0_hw2 : k0_chk2 v4), (k0_dev353 v4) < nD := fun v4 k0_hw2 => k0_hw2.2.2.2.2.2.2.2.2.2.2.2.2.2.2.2.2.2.2.1
theorem k0_dev354_lt : ∀ (v4 : BitVec 32) (k0_hw2 : k0_chk2 v4), (k0_dev354 v4) < nD := fun v4 k0_hw2 => k0_hw2.2.2.2.2.2.2.2.2.2.2.2.2.2.2.2.2.2.2.2.1
theorem k0_dev356_lt : ∀ (v4 : BitVec 32) (k0_hw2 : k0_chk2 v4), (k0_dev356 v4) < nD := fun v4 k0_hw2 => k0_hw2.2.2.2.2.2.2.2.2.2.2.2.2.2.2.2.2.2.2.2.2.1
theorem k0_dev359_lt : ∀ (v4 : BitVec 32) (k0_hw2 : k0_chk2 v4), (k0_dev359 v4) < nD := fun v4 k0_hw2 => k0_hw2.2.2.2.2.2.2.2.2.2.2.2.2.2.2.2.2.2.2.2.2.2.1
theorem k0_dev360_lt : ∀ (v4 : BitVec 32) (k0_hw2 : k0_chk2 v4), (k0_dev360 v4) < nD := fun v4 k0_hw2 => k0_hw2.2.2.2.2.2.2.2.2.2.2.2.2.2.2.2.2.2.2.2.2.2.2.1
theorem k0_dev362_lt : ∀ (v4 : BitVec 32) (k0_hw2 : k0_chk2 v4), (k0_dev362 v4) < nD := fun v4 k0_hw2 => k0_hw2.2.2.2.2.2.2.2.2.2.2.2.2.2.2.2.2.2.2.2.2.2.2.2.1
theorem k0_dev364_lt : ∀ (v4 : BitVec 32) (k0_hw2 : k0_chk2 v4), (k0_dev364 v4) < nD := fun v4 k0_hw2 => k0_hw2.2.2.2.2.2.2.2.2.2.2.2.2.2.2.2.2.2.2.2.2.2.2.2.2.1
theorem k0_dev366_lt : ∀ (v4 : BitVec 32) (k0_hw2 : k0_chk2 v4), (k0_dev366 v4) < nD := fun v4 k0_hw2 => k0_hw2.2.2.2.2.2.2.2.2.2.2.2.2.2.2.2.2.2.2.2.2.2.2.2.2.2

def k0_dev367 (v5 : BitVec 32) : Nat :=
  let c0_i32_12048 : BitVec 32 := 0#32
  let c1_i32_12047 : BitVec 32 := 1#32
  let v11140 : BitVec 32 := Scalar.muli v5 c1_i32_12047
  let v11141 : BitVec 32 := Scalar.addi c0_i32_12048 v11140
  v11141.toNat

def k0_chk1_0 (v5 : BitVec 32) : Prop :=
  ((k0_dev1 v5) < nD) ∧
  ((k0_dev4 v5) < nD) ∧
  ((k0_dev6 v5) < nD) ∧
  ((k0_dev7 v5) < nD) ∧
  ((k0_dev10 v5) < nD) ∧
  ((k0_dev12 v5) < nD) ∧
  ((k0_dev13 v5) < nD) ∧
  ((k0_dev16 v5) < nD) ∧
  ((k0_dev18 v5) < nD) ∧
  ((k0_dev19 v5) < nD) ∧
  ((k0_dev22 v5) < nD) ∧
  ((k0_dev24 v5) < nD) ∧
  ((k0_dev25 v5) < nD) ∧
  ((k0_dev28 v5) < nD) ∧
  ((k0_dev30 v5) < nD) ∧
  ((k0_dev31 v5) < nD) ∧
  ((k0_dev34 v5) < nD) ∧
  ((k0_dev36 v5) < nD) ∧
  ((k0_dev37 v5) < nD) ∧
  ((k0_dev40 v5) < nD) ∧
  ((k0_dev42 v5) < nD) ∧
  ((k0_dev43 v5) < nD) ∧
  ((k0_dev46 v5) < nD) ∧
  ((k0_dev48 v5) < nD) ∧
  ((k0_dev49 v5) < nD) ∧
  ((k0_dev52 v5) < nD) ∧
  ((k0_dev54 v5) < nD) ∧
  ((k0_dev55 v5) < nD) ∧
  ((k0_dev58 v5) < nD) ∧
  ((k0_dev60 v5) < nD) ∧
  ((k0_dev61 v5) < nD) ∧
  ((k0_dev64 v5) < nD)
def k0_chk1_1 (v5 : BitVec 32) : Prop :=
  ((k0_dev66 v5) < nD) ∧
  ((k0_dev67 v5) < nD) ∧
  ((k0_dev70 v5) < nD) ∧
  ((k0_dev72 v5) < nD) ∧
  ((k0_dev73 v5) < nD) ∧
  ((k0_dev76 v5) < nD) ∧
  ((k0_dev78 v5) < nD) ∧
  ((k0_dev79 v5) < nD) ∧
  ((k0_dev82 v5) < nD) ∧
  ((k0_dev84 v5) < nD) ∧
  ((k0_dev85 v5) < nD) ∧
  ((k0_dev88 v5) < nD) ∧
  ((k0_dev90 v5) < nD) ∧
  ((k0_dev91 v5) < nD) ∧
  ((k0_dev94 v5) < nD) ∧
  ((k0_dev96 v5) < nD) ∧
  ((k0_dev97 v5) < nD) ∧
  ((k0_dev100 v5) < nD) ∧
  ((k0_dev102 v5) < nD) ∧
  ((k0_dev103 v5) < nD) ∧
  ((k0_dev106 v5) < nD) ∧
  ((k0_dev108 v5) < nD) ∧
  ((k0_dev109 v5) < nD) ∧
  ((k0_dev112 v5) < nD) ∧
  ((k0_dev114 v5) < nD) ∧
  ((k0_dev115 v5) < nD) ∧
  ((k0_dev118 v5) < nD) ∧
  ((k0_dev120 v5) < nD) ∧
  ((k0_dev121 v5) < nD) ∧
  ((k0_dev124 v5) < nD) ∧
  ((k0_dev126 v5) < nD) ∧
  ((k0_dev127 v5) < nD)
def k0_chk1_2 (v5 : BitVec 32) : Prop :=
  ((k0_dev130 v5) < nD) ∧
  ((k0_dev132 v5) < nD) ∧
  ((k0_dev133 v5) < nD) ∧
  ((k0_dev136 v5) < nD) ∧
  ((k0_dev138 v5) < nD) ∧
  ((k0_dev139 v5) < nD) ∧
  ((k0_dev142 v5) < nD) ∧
  ((k0_dev144 v5) < nD) ∧
  ((k0_dev145 v5) < nD) ∧
  ((k0_dev148 v5) < nD) ∧
  ((k0_dev150 v5) < nD) ∧
  ((k0_dev151 v5) < nD) ∧
  ((k0_dev154 v5) < nD) ∧
  ((k0_dev156 v5) < nD) ∧
  ((k0_dev157 v5) < nD) ∧
  ((k0_dev160 v5) < nD) ∧
  ((k0_dev162 v5) < nD) ∧
  ((k0_dev163 v5) < nD) ∧
  ((k0_dev166 v5) < nD) ∧
  ((k0_dev168 v5) < nD) ∧
  ((k0_dev169 v5) < nD) ∧
  ((k0_dev172 v5) < nD) ∧
  ((k0_dev174 v5) < nD) ∧
  ((k0_dev176 v5) < nD) ∧
  ((k0_dev178 v5) < nD) ∧
  ((k0_dev180 v5) < nD) ∧
  ((k0_dev182 v5) < nD) ∧
  ((k0_dev189 v5) < nD) ∧
  ((k0_dev191 v5) < nD) ∧
  ((k0_dev193 v5) < nD) ∧
  ((k0_dev195 v5) < nD) ∧
  ((k0_dev196 v5) < nD)
def k0_chk1_3 (v5 : BitVec 32) : Prop :=
  ((k0_dev199 v5) < nD) ∧
  ((k0_dev201 v5) < nD) ∧
  ((k0_dev202 v5) < nD) ∧
  ((k0_dev205 v5) < nD) ∧
  ((k0_dev207 v5) < nD) ∧
  ((k0_dev208 v5) < nD) ∧
  ((k0_dev211 v5) < nD) ∧
  ((k0_dev213 v5) < nD) ∧
  ((k0_dev214 v5) < nD) ∧
  ((k0_dev217 v5) < nD) ∧
  ((k0_dev219 v5) < nD) ∧
  ((k0_dev220 v5) < nD) ∧
  ((k0_dev223 v5) < nD) ∧
  ((k0_dev225 v5) < nD) ∧
  ((k0_dev226 v5) < nD) ∧
  ((k0_dev229 v5) < nD) ∧
  ((k0_dev231 v5) < nD) ∧
  ((k0_dev232 v5) < nD) ∧
  ((k0_dev235 v5) < nD) ∧
  ((k0_dev237 v5) < nD) ∧
  ((k0_dev238 v5) < nD) ∧
  ((k0_dev241 v5) < nD) ∧
  ((k0_dev243 v5) < nD) ∧
  ((k0_dev244 v5) < nD) ∧
  ((k0_dev247 v5) < nD) ∧
  ((k0_dev249 v5) < nD) ∧
  ((k0_dev250 v5) < nD) ∧
  ((k0_dev253 v5) < nD) ∧
  ((k0_dev255 v5) < nD) ∧
  ((k0_dev256 v5) < nD) ∧
  ((k0_dev259 v5) < nD) ∧
  ((k0_dev261 v5) < nD)
def k0_chk1_4 (v5 : BitVec 32) : Prop :=
  ((k0_dev262 v5) < nD) ∧
  ((k0_dev265 v5) < nD) ∧
  ((k0_dev267 v5) < nD) ∧
  ((k0_dev268 v5) < nD) ∧
  ((k0_dev271 v5) < nD) ∧
  ((k0_dev273 v5) < nD) ∧
  ((k0_dev274 v5) < nD) ∧
  ((k0_dev277 v5) < nD) ∧
  ((k0_dev279 v5) < nD) ∧
  ((k0_dev280 v5) < nD) ∧
  ((k0_dev283 v5) < nD) ∧
  ((k0_dev285 v5) < nD) ∧
  ((k0_dev286 v5) < nD) ∧
  ((k0_dev289 v5) < nD) ∧
  ((k0_dev291 v5) < nD) ∧
  ((k0_dev292 v5) < nD) ∧
  ((k0_dev295 v5) < nD) ∧
  ((k0_dev297 v5) < nD) ∧
  ((k0_dev298 v5) < nD) ∧
  ((k0_dev301 v5) < nD) ∧
  ((k0_dev303 v5) < nD) ∧
  ((k0_dev304 v5) < nD) ∧
  ((k0_dev307 v5) < nD) ∧
  ((k0_dev309 v5) < nD) ∧
  ((k0_dev310 v5) < nD) ∧
  ((k0_dev313 v5) < nD) ∧
  ((k0_dev315 v5) < nD) ∧
  ((k0_dev316 v5) < nD) ∧
  ((k0_dev319 v5) < nD) ∧
  ((k0_dev321 v5) < nD) ∧
  ((k0_dev322 v5) < nD) ∧
  ((k0_dev325 v5) < nD)
def k0_chk1_5 (v5 : BitVec 32) : Prop :=
  ((k0_dev327 v5) < nD) ∧
  ((k0_dev328 v5) < nD) ∧
  ((k0_dev331 v5) < nD) ∧
  ((k0_dev333 v5) < nD) ∧
  ((k0_dev334 v5) < nD) ∧
  ((k0_dev337 v5) < nD) ∧
  ((k0_dev339 v5) < nD) ∧
  ((k0_dev340 v5) < nD) ∧
  ((k0_dev343 v5) < nD) ∧
  ((k0_dev345 v5) < nD) ∧
  ((k0_dev346 v5) < nD) ∧
  ((k0_dev349 v5) < nD) ∧
  ((k0_dev351 v5) < nD) ∧
  ((k0_dev352 v5) < nD) ∧
  ((k0_dev355 v5) < nD) ∧
  ((k0_dev357 v5) < nD) ∧
  ((k0_dev358 v5) < nD) ∧
  ((k0_dev361 v5) < nD) ∧
  ((k0_dev363 v5) < nD) ∧
  ((k0_dev365 v5) < nD) ∧
  ((k0_dev367 v5) < nD)
def k0_chk1 (v5 : BitVec 32) : Prop :=
  k0_chk1_0 v5 ∧
  k0_chk1_1 v5 ∧
  k0_chk1_2 v5 ∧
  k0_chk1_3 v5 ∧
  k0_chk1_4 v5 ∧
  k0_chk1_5 v5
theorem k0_dev1_lt : ∀ (v5 : BitVec 32) (k0_hw1 : k0_chk1 v5), (k0_dev1 v5) < nD := fun v5 k0_hw1 => k0_hw1.1.1
theorem k0_dev4_lt : ∀ (v5 : BitVec 32) (k0_hw1 : k0_chk1 v5), (k0_dev4 v5) < nD := fun v5 k0_hw1 => k0_hw1.1.2.1
theorem k0_dev6_lt : ∀ (v5 : BitVec 32) (k0_hw1 : k0_chk1 v5), (k0_dev6 v5) < nD := fun v5 k0_hw1 => k0_hw1.1.2.2.1
theorem k0_dev7_lt : ∀ (v5 : BitVec 32) (k0_hw1 : k0_chk1 v5), (k0_dev7 v5) < nD := fun v5 k0_hw1 => k0_hw1.1.2.2.2.1
theorem k0_dev10_lt : ∀ (v5 : BitVec 32) (k0_hw1 : k0_chk1 v5), (k0_dev10 v5) < nD := fun v5 k0_hw1 => k0_hw1.1.2.2.2.2.1
theorem k0_dev12_lt : ∀ (v5 : BitVec 32) (k0_hw1 : k0_chk1 v5), (k0_dev12 v5) < nD := fun v5 k0_hw1 => k0_hw1.1.2.2.2.2.2.1
theorem k0_dev13_lt : ∀ (v5 : BitVec 32) (k0_hw1 : k0_chk1 v5), (k0_dev13 v5) < nD := fun v5 k0_hw1 => k0_hw1.1.2.2.2.2.2.2.1
theorem k0_dev16_lt : ∀ (v5 : BitVec 32) (k0_hw1 : k0_chk1 v5), (k0_dev16 v5) < nD := fun v5 k0_hw1 => k0_hw1.1.2.2.2.2.2.2.2.1
theorem k0_dev18_lt : ∀ (v5 : BitVec 32) (k0_hw1 : k0_chk1 v5), (k0_dev18 v5) < nD := fun v5 k0_hw1 => k0_hw1.1.2.2.2.2.2.2.2.2.1
theorem k0_dev19_lt : ∀ (v5 : BitVec 32) (k0_hw1 : k0_chk1 v5), (k0_dev19 v5) < nD := fun v5 k0_hw1 => k0_hw1.1.2.2.2.2.2.2.2.2.2.1
theorem k0_dev22_lt : ∀ (v5 : BitVec 32) (k0_hw1 : k0_chk1 v5), (k0_dev22 v5) < nD := fun v5 k0_hw1 => k0_hw1.1.2.2.2.2.2.2.2.2.2.2.1
theorem k0_dev24_lt : ∀ (v5 : BitVec 32) (k0_hw1 : k0_chk1 v5), (k0_dev24 v5) < nD := fun v5 k0_hw1 => k0_hw1.1.2.2.2.2.2.2.2.2.2.2.2.1
theorem k0_dev25_lt : ∀ (v5 : BitVec 32) (k0_hw1 : k0_chk1 v5), (k0_dev25 v5) < nD := fun v5 k0_hw1 => k0_hw1.1.2.2.2.2.2.2.2.2.2.2.2.2.1
theorem k0_dev28_lt : ∀ (v5 : BitVec 32) (k0_hw1 : k0_chk1 v5), (k0_dev28 v5) < nD := fun v5 k0_hw1 => k0_hw1.1.2.2.2.2.2.2.2.2.2.2.2.2.2.1
theorem k0_dev30_lt : ∀ (v5 : BitVec 32) (k0_hw1 : k0_chk1 v5), (k0_dev30 v5) < nD := fun v5 k0_hw1 => k0_hw1.1.2.2.2.2.2.2.2.2.2.2.2.2.2.2.1
theorem k0_dev31_lt : ∀ (v5 : BitVec 32) (k0_hw1 : k0_chk1 v5), (k0_dev31 v5) < nD := fun v5 k0_hw1 => k0_hw1.1.2.2.2.2.2.2.2.2.2.2.2.2.2.2.2.1
theorem k0_dev34_lt : ∀ (v5 : BitVec 32) (k0_hw1 : k0_chk1 v5), (k0_dev34 v5) < nD := fun v5 k0_hw1 => k0_hw1.1.2.2.2.2.2.2.2.2.2.2.2.2.2.2.2.2.1
theorem k0_dev36_lt : ∀ (v5 : BitVec 32) (k0_hw1 : k0_chk1 v5), (k0_dev36 v5) < nD := fun v5 k0_hw1 => k0_hw1.1.2.2.2.2.2.2.2.2.2.2.2.2.2.2.2.2.2.1
theorem k0_dev37_lt : ∀ (v5 : BitVec 32) (k0_hw1 : k0_chk1 v5), (k0_dev37 v5) < nD := fun v5 k0_hw1 => k0_hw1.1.2.2.2.2.2.2.2.2.2.2.2.2.2.2.2.2.2.2.1
theorem k0_dev40_lt : ∀ (v5 : BitVec 32) (k0_hw1 : k0_chk1 v5), (k0_dev40 v5) < nD := fun v5 k0_hw1 => k0_hw1.1.2.2.2.2.2.2.2.2.2.2.2.2.2.2.2.2.2.2.2.1
theorem k0_dev42_lt : ∀ (v5 : BitVec 32) (k0_hw1 : k0_chk1 v5), (k0_dev42 v5) < nD := fun v5 k0_hw1 => k0_hw1.1.2.2.2.2.2.2.2.2.2.2.2.2.2.2.2.2.2.2.2.2.1
theorem k0_dev43_lt : ∀ (v5 : BitVec 32) (k0_hw1 : k0_chk1 v5), (k0_dev43 v5) < nD := fun v5 k0_hw1 => k0_hw1.1.2.2.2.2.2.2.2.2.2.2.2.2.2.2.2.2.2.2.2.2.2.1
theorem k0_dev46_lt : ∀ (v5 : BitVec 32) (k0_hw1 : k0_chk1 v5), (k0_dev46 v5) < nD := fun v5 k0_hw1 => k0_hw1.1.2.2.2.2.2.2.2.2.2.2.2.2.2.2.2.2.2.2.2.2.2.2.1
theorem k0_dev48_lt : ∀ (v5 : BitVec 32) (k0_hw1 : k0_chk1 v5), (k0_dev48 v5) < nD := fun v5 k0_hw1 => k0_hw1.1.2.2.2.2.2.2.2.2.2.2.2.2.2.2.2.2.2.2.2.2.2.2.2.1
theorem k0_dev49_lt : ∀ (v5 : BitVec 32) (k0_hw1 : k0_chk1 v5), (k0_dev49 v5) < nD := fun v5 k0_hw1 => k0_hw1.1.2.2.2.2.2.2.2.2.2.2.2.2.2.2.2.2.2.2.2.2.2.2.2.2.1
theorem k0_dev52_lt : ∀ (v5 : BitVec 32) (k0_hw1 : k0_chk1 v5), (k0_dev52 v5) < nD := fun v5 k0_hw1 => k0_hw1.1.2.2.2.2.2.2.2.2.2.2.2.2.2.2.2.2.2.2.2.2.2.2.2.2.2.1
theorem k0_dev54_lt : ∀ (v5 : BitVec 32) (k0_hw1 : k0_chk1 v5), (k0_dev54 v5) < nD := fun v5 k0_hw1 => k0_hw1.1.2.2.2.2.2.2.2.2.2.2.2.2.2.2.2.2.2.2.2.2.2.2.2.2.2.2.1
theorem k0_dev55_lt : ∀ (v5 : BitVec 32) (k0_hw1 : k0_chk1 v5), (k0_dev55 v5) < nD := fun v5 k0_hw1 => k0_hw1.1.2.2.2.2.2.2.2.2.2.2.2.2.2.2.2.2.2.2.2.2.2.2.2.2.2.2.2.1
theorem k0_dev58_lt : ∀ (v5 : BitVec 32) (k0_hw1 : k0_chk1 v5), (k0_dev58 v5) < nD := fun v5 k0_hw1 => k0_hw1.1.2.2.2.2.2.2.2.2.2.2.2.2.2.2.2.2.2.2.2.2.2.2.2.2.2.2.2.2.1
theorem k0_dev60_lt : ∀ (v5 : BitVec 32) (k0_hw1 : k0_chk1 v5), (k0_dev60 v5) < nD := fun v5 k0_hw1 => k0_hw1.1.2.2.2.2.2.2.2.2.2.2.2.2.2.2.2.2.2.2.2.2.2.2.2.2.2.2.2.2.2.1
theorem k0_dev61_lt : ∀ (v5 : BitVec 32) (k0_hw1 : k0_chk1 v5), (k0_dev61 v5) < nD := fun v5 k0_hw1 => k0_hw1.1.2.2.2.2.2.2.2.2.2.2.2.2.2.2.2.2.2.2.2.2.2.2.2.2.2.2.2.2.2.2.1
theorem k0_dev64_lt : ∀ (v5 : BitVec 32) (k0_hw1 : k0_chk1 v5), (k0_dev64 v5) < nD := fun v5 k0_hw1 => k0_hw1.1.2.2.2.2.2.2.2.2.2.2.2.2.2.2.2.2.2.2.2.2.2.2.2.2.2.2.2.2.2.2.2
theorem k0_dev66_lt : ∀ (v5 : BitVec 32) (k0_hw1 : k0_chk1 v5), (k0_dev66 v5) < nD := fun v5 k0_hw1 => k0_hw1.2.1.1
theorem k0_dev67_lt : ∀ (v5 : BitVec 32) (k0_hw1 : k0_chk1 v5), (k0_dev67 v5) < nD := fun v5 k0_hw1 => k0_hw1.2.1.2.1
theorem k0_dev70_lt : ∀ (v5 : BitVec 32) (k0_hw1 : k0_chk1 v5), (k0_dev70 v5) < nD := fun v5 k0_hw1 => k0_hw1.2.1.2.2.1
theorem k0_dev72_lt : ∀ (v5 : BitVec 32) (k0_hw1 : k0_chk1 v5), (k0_dev72 v5) < nD := fun v5 k0_hw1 => k0_hw1.2.1.2.2.2.1
theorem k0_dev73_lt : ∀ (v5 : BitVec 32) (k0_hw1 : k0_chk1 v5), (k0_dev73 v5) < nD := fun v5 k0_hw1 => k0_hw1.2.1.2.2.2.2.1
theorem k0_dev76_lt : ∀ (v5 : BitVec 32) (k0_hw1 : k0_chk1 v5), (k0_dev76 v5) < nD := fun v5 k0_hw1 => k0_hw1.2.1.2.2.2.2.2.1
theorem k0_dev78_lt : ∀ (v5 : BitVec 32) (k0_hw1 : k0_chk1 v5), (k0_dev78 v5) < nD := fun v5 k0_hw1 => k0_hw1.2.1.2.2.2.2.2.2.1
theorem k0_dev79_lt : ∀ (v5 : BitVec 32) (k0_hw1 : k0_chk1 v5), (k0_dev79 v5) < nD := fun v5 k0_hw1 => k0_hw1.2.1.2.2.2.2.2.2.2.1
theorem k0_dev82_lt : ∀ (v5 : BitVec 32) (k0_hw1 : k0_chk1 v5), (k0_dev82 v5) < nD := fun v5 k0_hw1 => k0_hw1.2.1.2.2.2.2.2.2.2.2.1
theorem k0_dev84_lt : ∀ (v5 : BitVec 32) (k0_hw1 : k0_chk1 v5), (k0_dev84 v5) < nD := fun v5 k0_hw1 => k0_hw1.2.1.2.2.2.2.2.2.2.2.2.1
theorem k0_dev85_lt : ∀ (v5 : BitVec 32) (k0_hw1 : k0_chk1 v5), (k0_dev85 v5) < nD := fun v5 k0_hw1 => k0_hw1.2.1.2.2.2.2.2.2.2.2.2.2.1
theorem k0_dev88_lt : ∀ (v5 : BitVec 32) (k0_hw1 : k0_chk1 v5), (k0_dev88 v5) < nD := fun v5 k0_hw1 => k0_hw1.2.1.2.2.2.2.2.2.2.2.2.2.2.1
theorem k0_dev90_lt : ∀ (v5 : BitVec 32) (k0_hw1 : k0_chk1 v5), (k0_dev90 v5) < nD := fun v5 k0_hw1 => k0_hw1.2.1.2.2.2.2.2.2.2.2.2.2.2.2.1
theorem k0_dev91_lt : ∀ (v5 : BitVec 32) (k0_hw1 : k0_chk1 v5), (k0_dev91 v5) < nD := fun v5 k0_hw1 => k0_hw1.2.1.2.2.2.2.2.2.2.2.2.2.2.2.2.1
theorem k0_dev94_lt : ∀ (v5 : BitVec 32) (k0_hw1 : k0_chk1 v5), (k0_dev94 v5) < nD := fun v5 k0_hw1 => k0_hw1.2.1.2.2.2.2.2.2.2.2.2.2.2.2.2.2.1
theorem k0_dev96_lt : ∀ (v5 : BitVec 32) (k0_hw1 : k0_chk1 v5), (k0_dev96 v5) < nD := fun v5 k0_hw1 => k0_hw1.2.1.2.2.2.2.2.2.2.2.2.2.2.2.2.2.2.1
theorem k0_dev97_lt : ∀ (v5 : BitVec 32) (k0_hw1 : k0_chk1 v5), (k0_dev97 v5) < nD := fun v5 k0_hw1 => k0_hw1.2.1.2.2.2.2.2.2.2.2.2.2.2.2.2.2.2.2.1
theorem k0_dev100_lt : ∀ (v5 : BitVec 32) (k0_hw1 : k0_chk1 v5), (k0_dev100 v5) < nD := fun v5 k0_hw1 => k0_hw1.2.1.2.2.2.2.2.2.2.2.2.2.2.2.2.2.2.2.2.1
theorem k0_dev102_lt : ∀ (v5 : BitVec 32) (k0_hw1 : k0_chk1 v5), (k0_dev102 v5) < nD := fun v5 k0_hw1 => k0_hw1.2.1.2.2.2.2.2.2.2.2.2.2.2.2.2.2.2.2.2.2.1
theorem k0_dev103_lt : ∀ (v5 : BitVec 32) (k0_hw1 : k0_chk1 v5), (k0_dev103 v5) < nD := fun v5 k0_hw1 => k0_hw1.2.1.2.2.2.2.2.2.2.2.2.2.2.2.2.2.2.2.2.2.2.1
theorem k0_dev106_lt : ∀ (v5 : BitVec 32) (k0_hw1 : k0_chk1 v5), (k0_dev106 v5) < nD := fun v5 k0_hw1 => k0_hw1.2.1.2.2.2.2.2.2.2.2.2.2.2.2.2.2.2.2.2.2.2.2.1
theorem k0_dev108_lt : ∀ (v5 : BitVec 32) (k0_hw1 : k0_chk1 v5), (k0_dev108 v5) < nD := fun v5 k0_hw1 => k0_hw1.2.1.2.2.2.2.2.2.2.2.2.2.2.2.2.2.2.2.2.2.2.2.2.1
theorem k0_dev109_lt : ∀ (v5 : BitVec 32) (k0_hw1 : k0_chk1 v5), (k0_dev109 v5) < nD := fun v5 k0_hw1 => k0_hw1.2.1.2.2.2.2.2.2.2.2.2.2.2.2.2.2.2.2.2.2.2.2.2.2.1
theorem k0_dev112_lt : ∀ (v5 : BitVec 32) (k0_hw1 : k0_chk1 v5), (k0_dev112 v5) < nD := fun v5 k0_hw1 => k0_hw1.2.1.2.2.2.2.2.2.2.2.2.2.2.2.2.2.2.2.2.2.2.2.2.2.2.1
theorem k0_dev114_lt : ∀ (v5 : BitVec 32) (k0_hw1 : k0_chk1 v5), (k0_dev114 v5) < nD := fun v5 k0_hw1 => k0_hw1.2.1.2.2.2.2.2.2.2.2.2.2.2.2.2.2.2.2.2.2.2.2.2.2.2.2.1
theorem k0_dev115_lt : ∀ (v5 : BitVec 32) (k0_hw1 : k0_chk1 v5), (k0_dev115 v5) < nD := fun v5 k0_hw1 => k0_hw1.2.1.2.2.2.2.2.2.2.2.2.2.2.2.2.2.2.2.2.2.2.2.2.2.2.2.2.1
theorem k0_dev118_lt : ∀ (v5 : BitVec 32) (k0_hw1 : k0_chk1 v5), (k0_dev118 v5) < nD := fun v5 k0_hw1 => k0_hw1.2.1.2.2.2.2.2.2.2.2.2.2.2.2.2.2.2.2.2.2.2.2.2.2.2.2.2.2.1
theorem k0_dev120_lt : ∀ (v5 : BitVec 32) (k0_hw1 : k0_chk1 v5), (k0_dev120 v5) < nD := fun v5 k0_hw1 => k0_hw1.2.1.2.2.2.2.2.2.2.2.2.2.2.2.2.2.2.2.2.2.2.2.2.2.2.2.2.2.2.1
theorem k0_dev121_lt : ∀ (v5 : BitVec 32) (k0_hw1 : k0_chk1 v5), (k0_dev121 v5) < nD := fun v5 k0_hw1 => k0_hw1.2.1.2.2.2.2.2.2.2.2.2.2.2.2.2.2.2.2.2.2.2.2.2.2.2.2.2.2.2.2.1
theorem k0_dev124_lt : ∀ (v5 : BitVec 32) (k0_hw1 : k0_chk1 v5), (k0_dev124 v5) < nD := fun v5 k0_hw1 => k0_hw1.2.1.2.2.2.2.2.2.2.2.2.2.2.2.2.2.2.2.2.2.2.2.2.2.2.2.2.2.2.2.2.1
theorem k0_dev126_lt : ∀ (v5 : BitVec 32) (k0_hw1 : k0_chk1 v5), (k0_dev126 v5) < nD := fun v5 k0_hw1 => k0_hw1.2.1.2.2.2.2.2.2.2.2.2.2.2.2.2.2.2.2.2.2.2.2.2.2.2.2.2.2.2.2.2.2.1
theorem k0_dev127_lt : ∀ (v5 : BitVec 32) (k0_hw1 : k0_chk1 v5), (k0_dev127 v5) < nD := fun v5 k0_hw1 => k0_hw1.2.1.2.2.2.2.2.2.2.2.2.2.2.2.2.2.2.2.2.2.2.2.2.2.2.2.2.2.2.2.2.2.2
theorem k0_dev130_lt : ∀ (v5 : BitVec 32) (k0_hw1 : k0_chk1 v5), (k0_dev130 v5) < nD := fun v5 k0_hw1 => k0_hw1.2.2.1.1
theorem k0_dev132_lt : ∀ (v5 : BitVec 32) (k0_hw1 : k0_chk1 v5), (k0_dev132 v5) < nD := fun v5 k0_hw1 => k0_hw1.2.2.1.2.1
theorem k0_dev133_lt : ∀ (v5 : BitVec 32) (k0_hw1 : k0_chk1 v5), (k0_dev133 v5) < nD := fun v5 k0_hw1 => k0_hw1.2.2.1.2.2.1
theorem k0_dev136_lt : ∀ (v5 : BitVec 32) (k0_hw1 : k0_chk1 v5), (k0_dev136 v5) < nD := fun v5 k0_hw1 => k0_hw1.2.2.1.2.2.2.1
theorem k0_dev138_lt : ∀ (v5 : BitVec 32) (k0_hw1 : k0_chk1 v5), (k0_dev138 v5) < nD := fun v5 k0_hw1 => k0_hw1.2.2.1.2.2.2.2.1
theorem k0_dev139_lt : ∀ (v5 : BitVec 32) (k0_hw1 : k0_chk1 v5), (k0_dev139 v5) < nD := fun v5 k0_hw1 => k0_hw1.2.2.1.2.2.2.2.2.1
theorem k0_dev142_lt : ∀ (v5 : BitVec 32) (k0_hw1 : k0_chk1 v5), (k0_dev142 v5) < nD := fun v5 k0_hw1 => k0_hw1.2.2.1.2.2.2.2.2.2.1
theorem k0_dev144_lt : ∀ (v5 : BitVec 32) (k0_hw1 : k0_chk1 v5), (k0_dev144 v5) < nD := fun v5 k0_hw1 => k0_hw1.2.2.1.2.2.2.2.2.2.2.1
theorem k0_dev145_lt : ∀ (v5 : BitVec 32) (k0_hw1 : k0_chk1 v5), (k0_dev145 v5) < nD := fun v5 k0_hw1 => k0_hw1.2.2.1.2.2.2.2.2.2.2.2.1
theorem k0_dev148_lt : ∀ (v5 : BitVec 32) (k0_hw1 : k0_chk1 v5), (k0_dev148 v5) < nD := fun v5 k0_hw1 => k0_hw1.2.2.1.2.2.2.2.2.2.2.2.2.1
theorem k0_dev150_lt : ∀ (v5 : BitVec 32) (k0_hw1 : k0_chk1 v5), (k0_dev150 v5) < nD := fun v5 k0_hw1 => k0_hw1.2.2.1.2.2.2.2.2.2.2.2.2.2.1
theorem k0_dev151_lt : ∀ (v5 : BitVec 32) (k0_hw1 : k0_chk1 v5), (k0_dev151 v5) < nD := fun v5 k0_hw1 => k0_hw1.2.2.1.2.2.2.2.2.2.2.2.2.2.2.1
theorem k0_dev154_lt : ∀ (v5 : BitVec 32) (k0_hw1 : k0_chk1 v5), (k0_dev154 v5) < nD := fun v5 k0_hw1 => k0_hw1.2.2.1.2.2.2.2.2.2.2.2.2.2.2.2.1
theorem k0_dev156_lt : ∀ (v5 : BitVec 32) (k0_hw1 : k0_chk1 v5), (k0_dev156 v5) < nD := fun v5 k0_hw1 => k0_hw1.2.2.1.2.2.2.2.2.2.2.2.2.2.2.2.2.1
theorem k0_dev157_lt : ∀ (v5 : BitVec 32) (k0_hw1 : k0_chk1 v5), (k0_dev157 v5) < nD := fun v5 k0_hw1 => k0_hw1.2.2.1.2.2.2.2.2.2.2.2.2.2.2.2.2.2.1
theorem k0_dev160_lt : ∀ (v5 : BitVec 32) (k0_hw1 : k0_chk1 v5), (k0_dev160 v5) < nD := fun v5 k0_hw1 => k0_hw1.2.2.1.2.2.2.2.2.2.2.2.2.2.2.2.2.2.2.1
theorem k0_dev162_lt : ∀ (v5 : BitVec 32) (k0_hw1 : k0_chk1 v5), (k0_dev162 v5) < nD := fun v5 k0_hw1 => k0_hw1.2.2.1.2.2.2.2.2.2.2.2.2.2.2.2.2.2.2.2.1
theorem k0_dev163_lt : ∀ (v5 : BitVec 32) (k0_hw1 : k0_chk1 v5), (k0_dev163 v5) < nD := fun v5 k0_hw1 => k0_hw1.2.2.1.2.2.2.2.2.2.2.2.2.2.2.2.2.2.2.2.2.1
theorem k0_dev166_lt : ∀ (v5 : BitVec 32) (k0_hw1 : k0_chk1 v5), (k0_dev166 v5) < nD := fun v5 k0_hw1 => k0_hw1.2.2.1.2.2.2.2.2.2.2.2.2.2.2.2.2.2.2.2.2.2.1
theorem k0_dev168_lt : ∀ (v5 : BitVec 32) (k0_hw1 : k0_chk1 v5), (k0_dev168 v5) < nD := fun v5 k0_hw1 => k0_hw1.2.2.1.2.2.2.2.2.2.2.2.2.2.2.2.2.2.2.2.2.2.2.1
theorem k0_dev169_lt : ∀ (v5 : BitVec 32) (k0_hw1 : k0_chk1 v5), (k0_dev169 v5) < nD := fun v5 k0_hw1 => k0_hw1.2.2.1.2.2.2.2.2.2.2.2.2.2.2.2.2.2.2.2.2.2.2.2.1
theorem k0_dev172_lt : ∀ (v5 : BitVec 32) (k0_hw1 : k0_chk1 v5), (k0_dev172 v5) < nD := fun v5 k0_hw1 => k0_hw1.2.2.1.2.2.2.2.2.2.2.2.2.2.2.2.2.2.2.2.2.2.2.2.2.1
theorem k0_dev174_lt : ∀ (v5 : BitVec 32) (k0_hw1 : k0_chk1 v5), (k0_dev174 v5) < nD := fun v5 k0_hw1 => k0_hw1.2.2.1.2.2.2.2.2.2.2.2.2.2.2.2.2.2.2.2.2.2.2.2.2.2.1
theorem k0_dev176_lt : ∀ (v5 : BitVec 32) (k0_hw1 : k0_chk1 v5), (k0_dev176 v5) < nD := fun v5 k0_hw1 => k0_hw1.2.2.1.2.2.2.2.2.2.2.2.2.2.2.2.2.2.2.2.2.2.2.2.2.2.2.1
theorem k0_dev178_lt : ∀ (v5 : BitVec 32) (k0_hw1 : k0_chk1 v5), (k0_dev178 v5) < nD := fun v5 k0_hw1 => k0_hw1.2.2.1.2.2.2.2.2.2.2.2.2.2.2.2.2.2.2.2.2.2.2.2.2.2.2.2.1
theorem k0_dev180_lt : ∀ (v5 : BitVec 32) (k0_hw1 : k0_chk1 v5), (k0_dev180 v5) < nD := fun v5 k0_hw1 => k0_hw1.2.2.1.2.2.2.2.2.2.2.2.2.2.2.2.2.2.2.2.2.2.2.2.2.2.2.2.2.1
theorem k0_dev182_lt : ∀ (v5 : BitVec 32) (k0_hw1 : k0_chk1 v5), (k0_dev182 v5) < nD := fun v5 k0_hw1 => k0_hw1.2.2.1.2.2.2.2.2.2.2.2.2.2.2.2.2.2.2.2.2.2.2.2.2.2.2.2.2.2.1
theorem k0_dev189_lt : ∀ (v5 : BitVec 32) (k0_hw1 : k0_chk1 v5), (k0_dev189 v5) < nD := fun v5 k0_hw1 => k0_hw1.2.2.1.2.2.2.2.2.2.2.2.2.2.2.2.2.2.2.2.2.2.2.2.2.2.2.2.2.2.2.1
theorem k0_dev191_lt : ∀ (v5 : BitVec 32) (k0_hw1 : k0_chk1 v5), (k0_dev191 v5) < nD := fun v5 k0_hw1 => k0_hw1.2.2.1.2.2.2.2.2.2.2.2.2.2.2.2.2.2.2.2.2.2.2.2.2.2.2.2.2.2.2.2.1
theorem k0_dev193_lt : ∀ (v5 : BitVec 32) (k0_hw1 : k0_chk1 v5), (k0_dev193 v5) < nD := fun v5 k0_hw1 => k0_hw1.2.2.1.2.2.2.2.2.2.2.2.2.2.2.2.2.2.2.2.2.2.2.2.2.2.2.2.2.2.2.2.2.1
theorem k0_dev195_lt : ∀ (v5 : BitVec 32) (k0_hw1 : k0_chk1 v5), (k0_dev195 v5) < nD := fun v5 k0_hw1 => k0_hw1.2.2.1.2.2.2.2.2.2.2.2.2.2.2.2.2.2.2.2.2.2.2.2.2.2.2.2.2.2.2.2.2.2.1
theorem k0_dev196_lt : ∀ (v5 : BitVec 32) (k0_hw1 : k0_chk1 v5), (k0_dev196 v5) < nD := fun v5 k0_hw1 => k0_hw1.2.2.1.2.2.2.2.2.2.2.2.2.2.2.2.2.2.2.2.2.2.2.2.2.2.2.2.2.2.2.2.2.2.2
theorem k0_dev199_lt : ∀ (v5 : BitVec 32) (k0_hw1 : k0_chk1 v5), (k0_dev199 v5) < nD := fun v5 k0_hw1 => k0_hw1.2.2.2.1.1
theorem k0_dev201_lt : ∀ (v5 : BitVec 32) (k0_hw1 : k0_chk1 v5), (k0_dev201 v5) < nD := fun v5 k0_hw1 => k0_hw1.2.2.2.1.2.1
theorem k0_dev202_lt : ∀ (v5 : BitVec 32) (k0_hw1 : k0_chk1 v5), (k0_dev202 v5) < nD := fun v5 k0_hw1 => k0_hw1.2.2.2.1.2.2.1
theorem k0_dev205_lt : ∀ (v5 : BitVec 32) (k0_hw1 : k0_chk1 v5), (k0_dev205 v5) < nD := fun v5 k0_hw1 => k0_hw1.2.2.2.1.2.2.2.1
theorem k0_dev207_lt : ∀ (v5 : BitVec 32) (k0_hw1 : k0_chk1 v5), (k0_dev207 v5) < nD := fun v5 k0_hw1 => k0_hw1.2.2.2.1.2.2.2.2.1
theorem k0_dev208_lt : ∀ (v5 : BitVec 32) (k0_hw1 : k0_chk1 v5), (k0_dev208 v5) < nD := fun v5 k0_hw1 => k0_hw1.2.2.2.1.2.2.2.2.2.1
theorem k0_dev211_lt : ∀ (v5 : BitVec 32) (k0_hw1 : k0_chk1 v5), (k0_dev211 v5) < nD := fun v5 k0_hw1 => k0_hw1.2.2.2.1.2.2.2.2.2.2.1
theorem k0_dev213_lt : ∀ (v5 : BitVec 32) (k0_hw1 : k0_chk1 v5), (k0_dev213 v5) < nD := fun v5 k0_hw1 => k0_hw1.2.2.2.1.2.2.2.2.2.2.2.1
theorem k0_dev214_lt : ∀ (v5 : BitVec 32) (k0_hw1 : k0_chk1 v5), (k0_dev214 v5) < nD := fun v5 k0_hw1 => k0_hw1.2.2.2.1.2.2.2.2.2.2.2.2.1
theorem k0_dev217_lt : ∀ (v5 : BitVec 32) (k0_hw1 : k0_chk1 v5), (k0_dev217 v5) < nD := fun v5 k0_hw1 => k0_hw1.2.2.2.1.2.2.2.2.2.2.2.2.2.1
theorem k0_dev219_lt : ∀ (v5 : BitVec 32) (k0_hw1 : k0_chk1 v5), (k0_dev219 v5) < nD := fun v5 k0_hw1 => k0_hw1.2.2.2.1.2.2.2.2.2.2.2.2.2.2.1
theorem k0_dev220_lt : ∀ (v5 : BitVec 32) (k0_hw1 : k0_chk1 v5), (k0_dev220 v5) < nD := fun v5 k0_hw1 => k0_hw1.2.2.2.1.2.2.2.2.2.2.2.2.2.2.2.1
theorem k0_dev223_lt : ∀ (v5 : BitVec 32) (k0_hw1 : k0_chk1 v5), (k0_dev223 v5) < nD := fun v5 k0_hw1 => k0_hw1.2.2.2.1.2.2.2.2.2.2.2.2.2.2.2.2.1
theorem k0_dev225_lt : ∀ (v5 : BitVec 32) (k0_hw1 : k0_chk1 v5), (k0_dev225 v5) < nD := fun v5 k0_hw1 => k0_hw1.2.2.2.1.2.2.2.2.2.2.2.2.2.2.2.2.2.1
theorem k0_dev226_lt : ∀ (v5 : BitVec 32) (k0_hw1 : k0_chk1 v5), (k0_dev226 v5) < nD := fun v5 k0_hw1 => k0_hw1.2.2.2.1.2.2.2.2.2.2.2.2.2.2.2.2.2.2.1
theorem k0_dev229_lt : ∀ (v5 : BitVec 32) (k0_hw1 : k0_chk1 v5), (k0_dev229 v5) < nD := fun v5 k0_hw1 => k0_hw1.2.2.2.1.2.2.2.2.2.2.2.2.2.2.2.2.2.2.2.1
theorem k0_dev231_lt : ∀ (v5 : BitVec 32) (k0_hw1 : k0_chk1 v5), (k0_dev231 v5) < nD := fun v5 k0_hw1 => k0_hw1.2.2.2.1.2.2.2.2.2.2.2.2.2.2.2.2.2.2.2.2.1
theorem k0_dev232_lt : ∀ (v5 : BitVec 32) (k0_hw1 : k0_chk1 v5), (k0_dev232 v5) < nD := fun v5 k0_hw1 => k0_hw1.2.2.2.1.2.2.2.2.2.2.2.2.2.2.2.2.2.2.2.2.2.1
theorem k0_dev235_lt : ∀ (v5 : BitVec 32) (k0_hw1 : k0_chk1 v5), (k0_dev235 v5) < nD := fun v5 k0_hw1 => k0_hw1.2.2.2.1.2.2.2.2.2.2.2.2.2.2.2.2.2.2.2.2.2.2.1
theorem k0_dev237_lt : ∀ (v5 : BitVec 32) (k0_hw1 : k0_chk1 v5), (k0_dev237 v5) < nD := fun v5 k0_hw1 => k0_hw1.2.2.2.1.2.2.2.2.2.2.2.2.2.2.2.2.2.2.2.2.2.2.2.1
theorem k0_dev238_lt : ∀ (v5 : BitVec 32) (k0_hw1 : k0_chk1 v5), (k0_dev238 v5) < nD := fun v5 k0_hw1 => k0_hw1.2.2.2.1.2.2.2.2.2.2.2.2.2.2.2.2.2.2.2.2.2.2.2.2.1
theorem k0_dev241_lt : ∀ (v5 : BitVec 32) (k0_hw1 : k0_chk1 v5), (k0_dev241 v5) < nD := fun v5 k0_hw1 => k0_hw1.2.2.2.1.2.2.2.2.2.2.2.2.2.2.2.2.2.2.2.2.2.2.2.2.2.1
theorem k0_dev243_lt : ∀ (v5 : BitVec 32) (k0_hw1 : k0_chk1 v5), (k0_dev243 v5) < nD := fun v5 k0_hw1 => k0_hw1.2.2.2.1.2.2.2.2.2.2.2.2.2.2.2.2.2.2.2.2.2.2.2.2.2.2.1
theorem k0_dev244_lt : ∀ (v5 : BitVec 32) (k0_hw1 : k0_chk1 v5), (k0_dev244 v5) < nD := fun v5 k0_hw1 => k0_hw1.2.2.2.1.2.2.2.2.2.2.2.2.2.2.2.2.2.2.2.2.2.2.2.2.2.2.2.1
theorem k0_dev247_lt : ∀ (v5 : BitVec 32) (k0_hw1 : k0_chk1 v5), (k0_dev247 v5) < nD := fun v5 k0_hw1 => k0_hw1.2.2.2.1.2.2.2.2.2.2.2.2.2.2.2.2.2.2.2.2.2.2.2.2.2.2.2.2.1
theorem k0_dev249_lt : ∀ (v5 : BitVec 32) (k0_hw1 : k0_chk1 v5), (k0_dev249 v5) < nD := fun v5 k0_hw1 => k0_hw1.2.2.2.1.2.2.2.2.2.2.2.2.2.2.2.2.2.2.2.2.2.2.2.2.2.2.2.2.2.1
theorem k0_dev250_lt : ∀ (v5 : BitVec 32) (k0_hw1 : k0_chk1 v5), (k0_dev250 v5) < nD := fun v5 k0_hw1 => k0_hw1.2.2.2.1.2.2.2.2.2.2.2.2.2.2.2.2.2.2.2.2.2.2.2.2.2.2.2.2.2.2.1
theorem k0_dev253_lt : ∀ (v5 : BitVec 32) (k0_hw1 : k0_chk1 v5), (k0_dev253 v5) < nD := fun v5 k0_hw1 => k0_hw1.2.2.2.1.2.2.2.2.2.2.2.2.2.2.2.2.2.2.2.2.2.2.2.2.2.2.2.2.2.2.2.1
theorem k0_dev255_lt : ∀ (v5 : BitVec 32) (k0_hw1 : k0_chk1 v5), (k0_dev255 v5) < nD := fun v5 k0_hw1 => k0_hw1.2.2.2.1.2.2.2.2.2.2.2.2.2.2.2.2.2.2.2.2.2.2.2.2.2.2.2.2.2.2.2.2.1
theorem k0_dev256_lt : ∀ (v5 : BitVec 32) (k0_hw1 : k0_chk1 v5), (k0_dev256 v5) < nD := fun v5 k0_hw1 => k0_hw1.2.2.2.1.2.2.2.2.2.2.2.2.2.2.2.2.2.2.2.2.2.2.2.2.2.2.2.2.2.2.2.2.2.1
theorem k0_dev259_lt : ∀ (v5 : BitVec 32) (k0_hw1 : k0_chk1 v5), (k0_dev259 v5) < nD := fun v5 k0_hw1 => k0_hw1.2.2.2.1.2.2.2.2.2.2.2.2.2.2.2.2.2.2.2.2.2.2.2.2.2.2.2.2.2.2.2.2.2.2.1
theorem k0_dev261_lt : ∀ (v5 : BitVec 32) (k0_hw1 : k0_chk1 v5), (k0_dev261 v5) < nD := fun v5 k0_hw1 => k0_hw1.2.2.2.1.2.2.2.2.2.2.2.2.2.2.2.2.2.2.2.2.2.2.2.2.2.2.2.2.2.2.2.2.2.2.2
theorem k0_dev262_lt : ∀ (v5 : BitVec 32) (k0_hw1 : k0_chk1 v5), (k0_dev262 v5) < nD := fun v5 k0_hw1 => k0_hw1.2.2.2.2.1.1
theorem k0_dev265_lt : ∀ (v5 : BitVec 32) (k0_hw1 : k0_chk1 v5), (k0_dev265 v5) < nD := fun v5 k0_hw1 => k0_hw1.2.2.2.2.1.2.1
theorem k0_dev267_lt : ∀ (v5 : BitVec 32) (k0_hw1 : k0_chk1 v5), (k0_dev267 v5) < nD := fun v5 k0_hw1 => k0_hw1.2.2.2.2.1.2.2.1
theorem k0_dev268_lt : ∀ (v5 : BitVec 32) (k0_hw1 : k0_chk1 v5), (k0_dev268 v5) < nD := fun v5 k0_hw1 => k0_hw1.2.2.2.2.1.2.2.2.1
theorem k0_dev271_lt : ∀ (v5 : BitVec 32) (k0_hw1 : k0_chk1 v5), (k0_dev271 v5) < nD := fun v5 k0_hw1 => k0_hw1.2.2.2.2.1.2.2.2.2.1
theorem k0_dev273_lt : ∀ (v5 : BitVec 32) (k0_hw1 : k0_chk1 v5), (k0_dev273 v5) < nD := fun v5 k0_hw1 => k0_hw1.2.2.2.2.1.2.2.2.2.2.1
theorem k0_dev274_lt : ∀ (v5 : BitVec 32) (k0_hw1 : k0_chk1 v5), (k0_dev274 v5) < nD := fun v5 k0_hw1 => k0_hw1.2.2.2.2.1.2.2.2.2.2.2.1
theorem k0_dev277_lt : ∀ (v5 : BitVec 32) (k0_hw1 : k0_chk1 v5), (k0_dev277 v5) < nD := fun v5 k0_hw1 => k0_hw1.2.2.2.2.1.2.2.2.2.2.2.2.1
theorem k0_dev279_lt : ∀ (v5 : BitVec 32) (k0_hw1 : k0_chk1 v5), (k0_dev279 v5) < nD := fun v5 k0_hw1 => k0_hw1.2.2.2.2.1.2.2.2.2.2.2.2.2.1
theorem k0_dev280_lt : ∀ (v5 : BitVec 32) (k0_hw1 : k0_chk1 v5), (k0_dev280 v5) < nD := fun v5 k0_hw1 => k0_hw1.2.2.2.2.1.2.2.2.2.2.2.2.2.2.1
theorem k0_dev283_lt : ∀ (v5 : BitVec 32) (k0_hw1 : k0_chk1 v5), (k0_dev283 v5) < nD := fun v5 k0_hw1 => k0_hw1.2.2.2.2.1.2.2.2.2.2.2.2.2.2.2.1
theorem k0_dev285_lt : ∀ (v5 : BitVec 32) (k0_hw1 : k0_chk1 v5), (k0_dev285 v5) < nD := fun v5 k0_hw1 => k0_hw1.2.2.2.2.1.2.2.2.2.2.2.2.2.2.2.2.1
theorem k0_dev286_lt : ∀ (v5 : BitVec 32) (k0_hw1 : k0_chk1 v5), (k0_dev286 v5) < nD := fun v5 k0_hw1 => k0_hw1.2.2.2.2.1.2.2.2.2.2.2.2.2.2.2.2.2.1
theorem k0_dev289_lt : ∀ (v5 : BitVec 32) (k0_hw1 : k0_chk1 v5), (k0_dev289 v5) < nD := fun v5 k0_hw1 => k0_hw1.2.2.2.2.1.2.2.2.2.2.2.2.2.2.2.2.2.2.1
theorem k0_dev291_lt : ∀ (v5 : BitVec 32) (k0_hw1 : k0_chk1 v5), (k0_dev291 v5) < nD := fun v5 k0_hw1 => k0_hw1.2.2.2.2.1.2.2.2.2.2.2.2.2.2.2.2.2.2.2.1
theorem k0_dev292_lt : ∀ (v5 : BitVec 32) (k0_hw1 : k0_chk1 v5), (k0_dev292 v5) < nD := fun v5 k0_hw1 => k0_hw1.2.2.2.2.1.2.2.2.2.2.2.2.2.2.2.2.2.2.2.2.1
theorem k0_dev295_lt : ∀ (v5 : BitVec 32) (k0_hw1 : k0_chk1 v5), (k0_dev295 v5) < nD := fun v5 k0_hw1 => k0_hw1.2.2.2.2.1.2.2.2.2.2.2.2.2.2.2.2.2.2.2.2.2.1
theorem k0_dev297_lt : ∀ (v5 : BitVec 32) (k0_hw1 : k0_chk1 v5), (k0_dev297 v5) < nD := fun v5 k0_hw1 => k0_hw1.2.2.2.2.1.2.2.2.2.2.2.2.2.2.2.2.2.2.2.2.2.2.1
theorem k0_dev298_lt : ∀ (v5 : BitVec 32) (k0_hw1 : k0_chk1 v5), (k0_dev298 v5) < nD := fun v5 k0_hw1 => k0_hw1.2.2.2.2.1.2.2.2.2.2.2.2.2.2.2.2.2.2.2.2.2.2.2.1
theorem k0_dev301_lt : ∀ (v5 : BitVec 32) (k0_hw1 : k0_chk1 v5), (k0_dev301 v5) < nD := fun v5 k0_hw1 => k0_hw1.2.2.2.2.1.2.2.2.2.2.2.2.2.2.2.2.2.2.2.2.2.2.2.2.1
theorem k0_dev303_lt : ∀ (v5 : BitVec 32) (k0_hw1 : k0_chk1 v5), (k0_dev303 v5) < nD := fun v5 k0_hw1 => k0_hw1.2.2.2.2.1.2.2.2.2.2.2.2.2.2.2.2.2.2.2.2.2.2.2.2.2.1
theorem k0_dev304_lt : ∀ (v5 : BitVec 32) (k0_hw1 : k0_chk1 v5), (k0_dev304 v5) < nD := fun v5 k0_hw1 => k0_hw1.2.2.2.2.1.2.2.2.2.2.2.2.2.2.2.2.2.2.2.2.2.2.2.2.2.2.1
theorem k0_dev307_lt : ∀ (v5 : BitVec 32) (k0_hw1 : k0_chk1 v5), (k0_dev307 v5) < nD := fun v5 k0_hw1 => k0_hw1.2.2.2.2.1.2.2.2.2.2.2.2.2.2.2.2.2.2.2.2.2.2.2.2.2.2.2.1
theorem k0_dev309_lt : ∀ (v5 : BitVec 32) (k0_hw1 : k0_chk1 v5), (k0_dev309 v5) < nD := fun v5 k0_hw1 => k0_hw1.2.2.2.2.1.2.2.2.2.2.2.2.2.2.2.2.2.2.2.2.2.2.2.2.2.2.2.2.1
theorem k0_dev310_lt : ∀ (v5 : BitVec 32) (k0_hw1 : k0_chk1 v5), (k0_dev310 v5) < nD := fun v5 k0_hw1 => k0_hw1.2.2.2.2.1.2.2.2.2.2.2.2.2.2.2.2.2.2.2.2.2.2.2.2.2.2.2.2.2.1
theorem k0_dev313_lt : ∀ (v5 : BitVec 32) (k0_hw1 : k0_chk1 v5), (k0_dev313 v5) < nD := fun v5 k0_hw1 => k0_hw1.2.2.2.2.1.2.2.2.2.2.2.2.2.2.2.2.2.2.2.2.2.2.2.2.2.2.2.2.2.2.1
theorem k0_dev315_lt : ∀ (v5 : BitVec 32) (k0_hw1 : k0_chk1 v5), (k0_dev315 v5) < nD := fun v5 k0_hw1 => k0_hw1.2.2.2.2.1.2.2.2.2.2.2.2.2.2.2.2.2.2.2.2.2.2.2.2.2.2.2.2.2.2.2.1
theorem k0_dev316_lt : ∀ (v5 : BitVec 32) (k0_hw1 : k0_chk1 v5), (k0_dev316 v5) < nD := fun v5 k0_hw1 => k0_hw1.2.2.2.2.1.2.2.2.2.2.2.2.2.2.2.2.2.2.2.2.2.2.2.2.2.2.2.2.2.2.2.2.1
theorem k0_dev319_lt : ∀ (v5 : BitVec 32) (k0_hw1 : k0_chk1 v5), (k0_dev319 v5) < nD := fun v5 k0_hw1 => k0_hw1.2.2.2.2.1.2.2.2.2.2.2.2.2.2.2.2.2.2.2.2.2.2.2.2.2.2.2.2.2.2.2.2.2.1
theorem k0_dev321_lt : ∀ (v5 : BitVec 32) (k0_hw1 : k0_chk1 v5), (k0_dev321 v5) < nD := fun v5 k0_hw1 => k0_hw1.2.2.2.2.1.2.2.2.2.2.2.2.2.2.2.2.2.2.2.2.2.2.2.2.2.2.2.2.2.2.2.2.2.2.1
theorem k0_dev322_lt : ∀ (v5 : BitVec 32) (k0_hw1 : k0_chk1 v5), (k0_dev322 v5) < nD := fun v5 k0_hw1 => k0_hw1.2.2.2.2.1.2.2.2.2.2.2.2.2.2.2.2.2.2.2.2.2.2.2.2.2.2.2.2.2.2.2.2.2.2.2.1
theorem k0_dev325_lt : ∀ (v5 : BitVec 32) (k0_hw1 : k0_chk1 v5), (k0_dev325 v5) < nD := fun v5 k0_hw1 => k0_hw1.2.2.2.2.1.2.2.2.2.2.2.2.2.2.2.2.2.2.2.2.2.2.2.2.2.2.2.2.2.2.2.2.2.2.2.2
theorem k0_dev327_lt : ∀ (v5 : BitVec 32) (k0_hw1 : k0_chk1 v5), (k0_dev327 v5) < nD := fun v5 k0_hw1 => k0_hw1.2.2.2.2.2.1
theorem k0_dev328_lt : ∀ (v5 : BitVec 32) (k0_hw1 : k0_chk1 v5), (k0_dev328 v5) < nD := fun v5 k0_hw1 => k0_hw1.2.2.2.2.2.2.1
theorem k0_dev331_lt : ∀ (v5 : BitVec 32) (k0_hw1 : k0_chk1 v5), (k0_dev331 v5) < nD := fun v5 k0_hw1 => k0_hw1.2.2.2.2.2.2.2.1
theorem k0_dev333_lt : ∀ (v5 : BitVec 32) (k0_hw1 : k0_chk1 v5), (k0_dev333 v5) < nD := fun v5 k0_hw1 => k0_hw1.2.2.2.2.2.2.2.2.1
theorem k0_dev334_lt : ∀ (v5 : BitVec 32) (k0_hw1 : k0_chk1 v5), (k0_dev334 v5) < nD := fun v5 k0_hw1 => k0_hw1.2.2.2.2.2.2.2.2.2.1
theorem k0_dev337_lt : ∀ (v5 : BitVec 32) (k0_hw1 : k0_chk1 v5), (k0_dev337 v5) < nD := fun v5 k0_hw1 => k0_hw1.2.2.2.2.2.2.2.2.2.2.1
theorem k0_dev339_lt : ∀ (v5 : BitVec 32) (k0_hw1 : k0_chk1 v5), (k0_dev339 v5) < nD := fun v5 k0_hw1 => k0_hw1.2.2.2.2.2.2.2.2.2.2.2.1
theorem k0_dev340_lt : ∀ (v5 : BitVec 32) (k0_hw1 : k0_chk1 v5), (k0_dev340 v5) < nD := fun v5 k0_hw1 => k0_hw1.2.2.2.2.2.2.2.2.2.2.2.2.1
theorem k0_dev343_lt : ∀ (v5 : BitVec 32) (k0_hw1 : k0_chk1 v5), (k0_dev343 v5) < nD := fun v5 k0_hw1 => k0_hw1.2.2.2.2.2.2.2.2.2.2.2.2.2.1
theorem k0_dev345_lt : ∀ (v5 : BitVec 32) (k0_hw1 : k0_chk1 v5), (k0_dev345 v5) < nD := fun v5 k0_hw1 => k0_hw1.2.2.2.2.2.2.2.2.2.2.2.2.2.2.1
theorem k0_dev346_lt : ∀ (v5 : BitVec 32) (k0_hw1 : k0_chk1 v5), (k0_dev346 v5) < nD := fun v5 k0_hw1 => k0_hw1.2.2.2.2.2.2.2.2.2.2.2.2.2.2.2.1
theorem k0_dev349_lt : ∀ (v5 : BitVec 32) (k0_hw1 : k0_chk1 v5), (k0_dev349 v5) < nD := fun v5 k0_hw1 => k0_hw1.2.2.2.2.2.2.2.2.2.2.2.2.2.2.2.2.1
theorem k0_dev351_lt : ∀ (v5 : BitVec 32) (k0_hw1 : k0_chk1 v5), (k0_dev351 v5) < nD := fun v5 k0_hw1 => k0_hw1.2.2.2.2.2.2.2.2.2.2.2.2.2.2.2.2.2.1
theorem k0_dev352_lt : ∀ (v5 : BitVec 32) (k0_hw1 : k0_chk1 v5), (k0_dev352 v5) < nD := fun v5 k0_hw1 => k0_hw1.2.2.2.2.2.2.2.2.2.2.2.2.2.2.2.2.2.2.1
theorem k0_dev355_lt : ∀ (v5 : BitVec 32) (k0_hw1 : k0_chk1 v5), (k0_dev355 v5) < nD := fun v5 k0_hw1 => k0_hw1.2.2.2.2.2.2.2.2.2.2.2.2.2.2.2.2.2.2.2.1
theorem k0_dev357_lt : ∀ (v5 : BitVec 32) (k0_hw1 : k0_chk1 v5), (k0_dev357 v5) < nD := fun v5 k0_hw1 => k0_hw1.2.2.2.2.2.2.2.2.2.2.2.2.2.2.2.2.2.2.2.2.1
theorem k0_dev358_lt : ∀ (v5 : BitVec 32) (k0_hw1 : k0_chk1 v5), (k0_dev358 v5) < nD := fun v5 k0_hw1 => k0_hw1.2.2.2.2.2.2.2.2.2.2.2.2.2.2.2.2.2.2.2.2.2.1
theorem k0_dev361_lt : ∀ (v5 : BitVec 32) (k0_hw1 : k0_chk1 v5), (k0_dev361 v5) < nD := fun v5 k0_hw1 => k0_hw1.2.2.2.2.2.2.2.2.2.2.2.2.2.2.2.2.2.2.2.2.2.2.1
theorem k0_dev363_lt : ∀ (v5 : BitVec 32) (k0_hw1 : k0_chk1 v5), (k0_dev363 v5) < nD := fun v5 k0_hw1 => k0_hw1.2.2.2.2.2.2.2.2.2.2.2.2.2.2.2.2.2.2.2.2.2.2.2.1
theorem k0_dev365_lt : ∀ (v5 : BitVec 32) (k0_hw1 : k0_chk1 v5), (k0_dev365 v5) < nD := fun v5 k0_hw1 => k0_hw1.2.2.2.2.2.2.2.2.2.2.2.2.2.2.2.2.2.2.2.2.2.2.2.2.1
theorem k0_dev367_lt : ∀ (v5 : BitVec 32) (k0_hw1 : k0_chk1 v5), (k0_dev367 v5) < nD := fun v5 k0_hw1 => k0_hw1.2.2.2.2.2.2.2.2.2.2.2.2.2.2.2.2.2.2.2.2.2.2.2.2.2

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Steps.lean ====
/- The kernel's body, written once per kind of step: the ring reduce-scatter's step `s`, the maximum exchange, the
   quantiser, and the ring all-gather's step `t`, each over a direction (`false` to the right, `true` to the left) and a
   sub-block (the first or the second 32 rows of a 64-row half). -/
module

public import proofs.«01_k».proof.Proof.Gen.KernelIdeal
public import Idealize.ShloMosaic.Lib.Pipeline.Regions

@[expose] public section

noncomputable section

namespace Cert.Ring

open Idealize.ShloMosaic Idealize.SL.Sem
open Cert.KernelIdeal Cert.KernelIdeal.Gen

variable {F : FTy → Type} [FloatOps F]

/-- A program of the kernel's, over its float values. -/
abbrev PG (F : FTy → Type) [FloatOps F] := Prog (TpuEff nD τ sig (Elt F) Λ₀ .tc)

/-! ## Buffers -/

def locM : Bool → Memref sig .tc .vmem S2x64x8192 .f32
  | false => Memref.whole cc0_scratch0
  | true => Memref.whole cc0_scratch1
def accM : Bool → Memref sig .tc .vmem S2x64x8192 .f32
  | false => Memref.whole cc0_scratch2
  | true => Memref.whole cc0_scratch3
def sbM : Bool → Memref sig .tc .vmem S3x64x8192 .bf16
  | false => Memref.whole cc0_scratch4
  | true => Memref.whole cc0_scratch5
def rvM : Bool → Memref sig .tc .vmem S3x64x8192 .bf16
  | false => Memref.whole cc0_scratch6
  | true => Memref.whole cc0_scratch7
def agM : Bool → Memref sig .tc .vmem S3x64x8192 .i8
  | false => Memref.whole cc0_scratch8
  | true => Memref.whole cc0_scratch9
def oqM : Bool → Memref sig .tc .vmem S64x8192 .i8
  | false => Memref.whole cc0_scratch10
  | true => Memref.whole cc0_scratch11
def dqM : Bool → Memref sig .tc .vmem S64x8192 .f32
  | false => Memref.whole cc0_scratch12
  | true => Memref.whole cc0_scratch13
abbrev avM : Memref sig .tc .vmem S6x128 .f32 := Memref.whole cc0_scratch14
abbrev aiM : Memref sig .tc .vmem S6x128 .f32 := Memref.whole cc0_scratch15
abbrev pM : Memref sig .tc .hbm S4096x8192 .f32 := Memref.whole main_v1
abbrev oM : Memref sig .tc .hbm S4096x8192 .f32 := Memref.whole main_v24

theorem sbM_whole (d : Bool) : (sbM d).IsWhole := by cases d <;> exact Memref.isWhole_whole _
theorem rvM_whole (d : Bool) : (rvM d).IsWhole := by cases d <;> exact Memref.isWhole_whole _
theorem agM_whole (d : Bool) : (agM d).IsWhole := by cases d <;> exact Memref.isWhole_whole _
theorem oqM_whole (d : Bool) : (oqM d).IsWhole := by cases d <;> exact Memref.isWhole_whole _
theorem dqM_whole (d : Bool) : (dqM d).IsWhole := by cases d <;> exact Memref.isWhole_whole _

/-! ## Semaphores -/

def bit : Bool → ℕ
  | false => 0
  | true => 1
theorem bit_lt (b : Bool) : bit b < 2 := by cases b <;> decide

/-- The index of the semaphore of sub-block `b` of slot `sl` among six. -/
def six (sl : Fin 3) (b : Bool) : ℕ := 2 * sl.val + bit b
theorem six_lt (sl : Fin 3) (b : Bool) : six sl b < 6 := by have := bit_lt b; have := sl.isLt; unfold six; omega

abbrev nDma : ℕ := 65
/-- The semaphores of a step's four copies: sending and receiving, in the reduce-scatter (`ph = false`) and the all-gather. -/
def sndSem (ph d : Bool) (sl : Fin 3) (b : Bool) : DmaSem sig :=
  ⟨3 + 24 * bit ph + 12 * bit d + six sl b, by
    have := six_lt sl b; have := bit_lt d; have := bit_lt ph; show _ < 65; omega⟩
def rcvSem (ph d : Bool) (sl : Fin 3) (b : Bool) : DmaSem sig :=
  ⟨9 + 24 * bit ph + 12 * bit d + six sl b, by
    have := six_lt sl b; have := bit_lt d; have := bit_lt ph; show _ < 65; omega⟩
def pfSem (d : Bool) : DmaSem sig := ⟨51 + bit d, by have := bit_lt d; show _ < 65; omega⟩
def stSem (d : Bool) : DmaSem sig := ⟨53 + bit d, by have := bit_lt d; show _ < 65; omega⟩
def amsSem (k : Fin 5) : DmaSem sig := ⟨55 + k.val, by have := k.isLt; show _ < 65; omega⟩
def amrSem (k : Fin 5) : DmaSem sig := ⟨60 + k.val, by have := k.isLt; show _ < 65; omega⟩
def crSem (ph d : Bool) : Sem sig := ⟨2 * bit ph + bit d, by have := bit_lt d; have := bit_lt ph; show _ < 5; omega⟩

/-! ## Pieces -/

def slot3 (s : ℕ) : Fin 3 := ⟨s % 3, Nat.mod_lt _ (by decide)⟩
def slot2 (s : ℕ) : Fin 2 := ⟨s % 2, Nat.mod_lt _ (by decide)⟩

theorem inb3 (sl : Fin 3) (b : Bool) :
    ∀ a, (![sl.val, 32 * bit b, 0] : Fin 3 → ℕ) a + S1x32x8192.size a ≤ S3x64x8192.size a := by
  revert sl b; decide
theorem inb2 (sl : Fin 2) (b : Bool) :
    ∀ a, (![sl.val, 32 * bit b, 0] : Fin 3 → ℕ) a + S1x32x8192.size a ≤ S2x64x8192.size a := by
  revert sl b; decide
theorem inb2w (sl : Fin 2) :
    ∀ a, (![sl.val, 0, 0] : Fin 3 → ℕ) a + S1x64x8192.size a ≤ S2x64x8192.size a := by
  revert sl; decide
theorem inbh (b : Bool) :
    ∀ a, (![32 * bit b, 0] : Fin 2 → ℕ) a + S32x8192.size a ≤ S64x8192.size a := by
  revert b; decide
theorem inba (k : Fin 6) :
    ∀ a, (![k.val, 0] : Fin 2 → ℕ) a + S1x128.size a ≤ S6x128.size a := by
  revert k; decide

abbrev r3 (sl : Fin 3) (b : Bool) : Rect S3x64x8192 := Rect.unit (s := S3x64x8192) ![sl.val, 32 * bit b, 0] S1x32x8192.size (inb3 sl b)
abbrev r2 (sl : Fin 2) (b : Bool) : Rect S2x64x8192 := Rect.unit (s := S2x64x8192) ![sl.val, 32 * bit b, 0] S1x32x8192.size (inb2 sl b)
abbrev r2w (sl : Fin 2) : Rect S2x64x8192 := Rect.unit (s := S2x64x8192) ![sl.val, 0, 0] S1x64x8192.size (inb2w sl)
abbrev rh (b : Bool) : Rect S64x8192 := Rect.unit (s := S64x8192) ![32 * bit b, 0] S32x8192.size (inbh b)
abbrev ra (k : Fin 6) : Rect S6x128 := Rect.unit (s := S6x128) ![k.val, 0] S1x128.size (inba k)

theorem words_bf16 (sl : Fin 3) (b : Bool) : (r3 sl b).WholeWords (EltTy.packing .bf16) := by
  fin_cases sl <;> cases b
  · exact wordsbf16_S3x64x8192_S1x32x8192_0_0_0
  · exact wordsbf16_S3x64x8192_S1x32x8192_0_32_0
  · exact wordsbf16_S3x64x8192_S1x32x8192_1_0_0
  · exact wordsbf16_S3x64x8192_S1x32x8192_1_32_0
  · exact wordsbf16_S3x64x8192_S1x32x8192_2_0_0
  · exact wordsbf16_S3x64x8192_S1x32x8192_2_32_0
theorem packed_bf16 (sl : Fin 3) (b : Bool) : (r3 sl b).PackedRows (EltTy.packing .bf16) := by
  fin_cases sl <;> cases b
  · exact packedbf16_S3x64x8192_S1x32x8192_0_0_0
  · exact packedbf16_S3x64x8192_S1x32x8192_0_32_0
  · exact packedbf16_S3x64x8192_S1x32x8192_1_0_0
  · exact packedbf16_S3x64x8192_S1x32x8192_1_32_0
  · exact packedbf16_S3x64x8192_S1x32x8192_2_0_0
  · exact packedbf16_S3x64x8192_S1x32x8192_2_32_0
theorem words_i8 (sl : Fin 3) (b : Bool) : (r3 sl b).WholeWords (EltTy.packing .i8) := by
  fin_cases sl <;> cases b
  · exact wordsi8_S3x64x8192_S1x32x8192_0_0_0
  · exact wordsi8_S3x64x8192_S1x32x8192_0_32_0
  · exact wordsi8_S3x64x8192_S1x32x8192_1_0_0
  · exact wordsi8_S3x64x8192_S1x32x8192_1_32_0
  · exact wordsi8_S3x64x8192_S1x32x8192_2_0_0
  · exact wordsi8_S3x64x8192_S1x32x8192_2_32_0
theorem words_i8h (b : Bool) : (rh b).WholeWords (EltTy.packing .i8) := by
  cases b
  · exact wordsi8_S64x8192_S32x8192_0_0
  · exact wordsi8_S64x8192_S32x8192_32_0

abbrev sbP (d : Bool) (sl : Fin 3) (b : Bool) : Memref sig .tc .vmem S32x8192 .bf16 :=
  ((sbM d).slice (r3 sl b) (fun _ => rfl)).squeeze S32x8192 squeezes_S1x32x8192_S32x8192
abbrev rvP (d : Bool) (sl : Fin 3) (b : Bool) : Memref sig .tc .vmem S32x8192 .bf16 :=
  ((rvM d).slice (r3 sl b) (fun _ => rfl)).squeeze S32x8192 squeezes_S1x32x8192_S32x8192
abbrev agP (d : Bool) (sl : Fin 3) (b : Bool) : Memref sig .tc .vmem S32x8192 .i8 :=
  ((agM d).slice (r3 sl b) (fun _ => rfl)).squeeze S32x8192 squeezes_S1x32x8192_S32x8192
abbrev oqP (d : Bool) (b : Bool) : Memref sig .tc .vmem S32x8192 .i8 := (oqM d).slice (rh b) (fun _ => rfl)
abbrev dqP (d : Bool) (b : Bool) : Memref sig .tc .vmem S32x8192 .f32 := (dqM d).slice (rh b) (fun _ => rfl)
abbrev locP (d : Bool) (sl : Fin 2) : Memref sig .tc .vmem S64x8192 .f32 :=
  ((locM d).slice (r2w sl) (fun _ => rfl)).squeeze S64x8192 squeezes_S1x64x8192_S64x8192
abbrev accP (d : Bool) (sl : Fin 2) : Memref sig .tc .vmem S64x8192 .f32 :=
  ((accM d).slice (r2w sl) (fun _ => rfl)).squeeze S64x8192 squeezes_S1x64x8192_S64x8192
abbrev avP (k : Fin 6) : Memref sig .tc .vmem S1x128 .f32 := avM.slice (ra k) (fun _ => rfl)
abbrev aiP (k : Fin 6) : Memref sig .tc .vmem S1x128 .f32 := aiM.slice (ra k) (fun _ => rfl)

theorem sbP_words (d : Bool) (sl : Fin 3) (b : Bool) : (sbP d sl b).view.WordExact :=
  ((sbM_whole d).wordExact_slice rfl _ (words_bf16 sl b)).reshape _ _
theorem rvP_words (d : Bool) (sl : Fin 3) (b : Bool) : (rvP d sl b).view.WordExact :=
  ((rvM_whole d).wordExact_slice rfl _ (words_bf16 sl b)).reshape _ _
theorem agP_words (d : Bool) (sl : Fin 3) (b : Bool) : (agP d sl b).view.WordExact :=
  ((agM_whole d).wordExact_slice rfl _ (words_i8 sl b)).reshape _ _
theorem oqP_words (d : Bool) (b : Bool) : (oqP d b).view.WordExact :=
  (oqM_whole d).wordExact_slice rfl _ (words_i8h b)

/-! ## Payloads -/

/-- What a step adds, rounded: the received block widened plus the local one, narrowed again. -/
def addV (v : Vec F S1x32x8192 .bf16) (w : Vec F S1x32x8192 .f32) : FVec F S32x8192 .f32 :=
  addf (extf .f32 (shapeCast S32x8192 v shapeCasts_S1x32x8192_S32x8192) bitsLt_bf16_f32)
    (shapeCast S32x8192 w shapeCasts_S1x32x8192_S32x8192)
def payAdd (v : Vec F S1x32x8192 .bf16) (w : Vec F S1x32x8192 .f32) : FVec F S1x32x8192 .bf16 :=
  shapeCast S1x32x8192 (truncf .bf16 (addV v w) bitsLt_bf16_f32) shapeCasts_S32x8192_S1x32x8192
def payLast (v : Vec F S1x32x8192 .bf16) (w : Vec F S1x32x8192 .f32) : FVec F S1x32x8192 .f32 :=
  shapeCast S1x32x8192 (addV v w) shapeCasts_S32x8192_S1x32x8192
def payInit (v : Vec F S1x64x8192 .f32) : FVec F S1x64x8192 .bf16 :=
  shapeCast S1x64x8192 (truncf .bf16 (shapeCast S64x8192 v shapeCasts_S1x64x8192_S64x8192) bitsLt_bf16_f32)
    shapeCasts_S64x8192_S1x64x8192
/-- The largest magnitude of a 64-row half. -/
def halfMax (v : Vec F S1x64x8192 .f32) : F .f32 :=
  extractAt ![0, 0, 0] (shapeCast S1x1x1 (multiReduction .maximumf [1, 2] S1
    (shapeCast S1x64x8192 (absf (shapeCast S64x8192 v shapeCasts_S1x64x8192_S64x8192)) shapeCasts_S64x8192_S1x64x8192)
    0xFF800000#32 reduces_S1x64x8192_S1 (.inl rfl) rfl) shapeCasts_S1_S1x1x1) inpos_S1x1x1_p0_0_0
def payMax0 (v w : Vec F S1x64x8192 .f32) : FVec F S1x128 .f32 :=
  shapeCast S1x128 (broadcast S1x128 (Scalar.maximumf (halfMax v) (halfMax w))) shapeCasts_S1x128_S1x128
def payMax (v w : Vec F S1x128 .f32) : FVec F S1x128 .f32 :=
  shapeCast S1x128 (maximumf v w) shapeCasts_S1x128_S1x128
/-- The scale: the largest magnitude over 127. -/
def scaleV (v : Vec F S1x128 .f32) : F .f32 :=
  Scalar.divf (extractAt ![0, 0, 0] (shapeCast S1x1x1 (multiReduction .maximumf [1, 2] S1
    (shapeCast S1x1x128 v shapeCasts_S1x128_S1x1x128)
    0xFF800000#32 reduces_S1x1x128_S1 (.inl rfl) rfl) shapeCasts_S1_S1x1x1) inpos_S1x1x1_p0_0_0)
    (Scalar.ofBits .f32 0x42FE0000#32)
def payQuant (sc : F .f32) (v : Vec F S1x64x8192 .f32) : IVec S64x8192 8 :=
  shapeCast S64x8192 (fptosi 8 (minimumf (broadcast S64x8192 (Scalar.ofBits .f32 0x42FE0000#32))
    (maximumf (broadcast S64x8192 (Scalar.ofBits .f32 0xC2FE0000#32))
      (roundeven (divf (shapeCast S64x8192 v shapeCasts_S1x64x8192_S64x8192) (broadcast S64x8192 sc))))))
    shapeCasts_S64x8192_S64x8192
def payDeq0 (sc : F .f32) (v : Vec F S64x8192 .i8) : FVec F S64x8192 .f32 :=
  shapeCast S64x8192 (mulf (sitofp .f32 v) (broadcast S64x8192 sc)) shapeCasts_S64x8192_S64x8192
def payDeq (sc : F .f32) (v : Vec F S1x32x8192 .i8) : FVec F S32x8192 .f32 :=
  shapeCast S32x8192 (mulf (sitofp .f32 (shapeCast S32x8192 v shapeCasts_S1x32x8192_S32x8192)) (broadcast S32x8192 sc))
    shapeCasts_S32x8192_S32x8192

/-! ## Steps -/

section steps

variable (v3 : BitVec 32) (h3 : k0_chk3 v3) (v4 : BitVec 32) (h2 : k0_chk2 v4) (v5 : BitVec 32) (h1 : k0_chk1 v5)

/-- The neighbour copies of direction `d` go to. -/
def nbr (d : Bool) : Dev nD := match d with
  | false => ⟨k0_dev3 v4, k0_dev3_lt v4 h2⟩
  | true => ⟨k0_dev4 v5, k0_dev4_lt v5 h1⟩

/-- A copy to a peer's buffer. -/
def send {e : EltTy} (src dst : Memref sig .tc .vmem S32x8192 e) (dev : Dev nD) (sS sR : DmaSem sig)
    (hs : src.view.WordExact) (hd : dst.view.WordExact) : PG F PUnit :=
  Prog.lift (.enqueueDma src (.remote (Dev.tc dev) dst (.dma sS)) (.dma sR) hs hd ⟨⟨rfl, Or.inl rfl⟩, trivial⟩)

def rsSend (s : ℕ) (d b : Bool) : PG F PUnit :=
  send (sbP d (slot3 s) b) (rvP d (slot3 s) b) (nbr v4 h2 v5 h1 d) (sndSem false d (slot3 s) b) (rcvSem false d (slot3 s) b)
    (sbP_words ..) (rvP_words ..)
def rsWaitSend (s : ℕ) (d b : Bool) : PG F PUnit :=
  Prog.lift (.waitDma2 (sndSem false d (slot3 s) b) (rvP d (slot3 s) b) (sbP d (slot3 s) b) (rvP_words ..) (sbP_words ..))

/-- The rows of the partial product the step adds. -/
def pRows (d : Bool) (s : Fin 31) : Memref sig .tc .hbm S64x8192 .f32 := match d with
  | false => pM.slice (Rect.unit (s := S4096x8192) (k0_off3 v3 (BitVec.ofNat 32 s.val)) S64x8192.size (k0_off3_inb v3 h3 s)) (fun _ => rfl)
  | true => pM.slice (Rect.unit (s := S4096x8192) (k0_off4 v3 (BitVec.ofNat 32 s.val)) S64x8192.size (k0_off4_inb v3 h3 s)) (fun _ => rfl)
def pRows0 (d : Bool) : Memref sig .tc .hbm S64x8192 .f32 := match d with
  | false => pM.slice (Rect.unit (s := S4096x8192) (k0_off1 v3) S64x8192.size (k0_off1_inb v3 h3)) (fun _ => rfl)
  | true => pM.slice (Rect.unit (s := S4096x8192) (k0_off2 v3) S64x8192.size (k0_off2_inb v3 h3)) (fun _ => rfl)

def fetch (src : Memref sig .tc .hbm S64x8192 .f32) (dst : Memref sig .tc .vmem S64x8192 .f32) (sem : DmaSem sig) : PG F PUnit :=
  Prog.lift (.enqueueDma src (.here dst) (.dma sem) (View.wordExact_bits rfl) (View.wordExact_bits rfl) ⟨Or.inl rfl, trivial⟩)
def fetchWait (src : Memref sig .tc .hbm S64x8192 .f32) (dst : Memref sig .tc .vmem S64x8192 .f32) (sem : DmaSem sig) : PG F PUnit :=
  Prog.lift (.waitDma2 sem src dst (View.wordExact_bits rfl) (View.wordExact_bits rfl))

def rsRecvWait (s : ℕ) (d b : Bool) : PG F PUnit :=
  Prog.lift (.waitDma2 (rcvSem false d (slot3 s) b) (sbP d (slot3 s) b) (rvP d (slot3 s) b) (sbP_words ..) (rvP_words ..))
def rsAdd (s : ℕ) (d b : Bool) : PG F PUnit := do
  let v ← Prog.lift (.load (rvM d) (r3 (slot3 s) b).toLoadRect (View.loadsAt_vmem h_S1x32x8192))
  let w ← Prog.lift (.load (locM d) (r2 (slot2 s) b).toLoadRect (View.loadsAt_vmem h_S1x32x8192))
  let _ ← Prog.lift (.load (sbM d) (r3 (slot3 (s + 1)) b).toLoadRect (View.loadsAt_vmem h_S1x32x8192))
  Prog.lift (.store (sbM d) (r3 (slot3 (s + 1)) b) (payAdd v w) Finset.univ
    (View.stores_vmem h_S1x32x8192 ((sbM_whole d).storeExact_slice rfl _ (packed_bf16 _ _)) (fun _ => rfl)) (.inl rfl))
def rsLast (s : ℕ) (d b : Bool) : PG F PUnit := do
  let v ← Prog.lift (.load (rvM d) (r3 (slot3 s) b).toLoadRect (View.loadsAt_vmem h_S1x32x8192))
  let w ← Prog.lift (.load (locM d) (r2 (slot2 s) b).toLoadRect (View.loadsAt_vmem h_S1x32x8192))
  let _ ← Prog.lift (.load (accM d) (r2 1 b).toLoadRect (View.loadsAt_vmem h_S1x32x8192))
  Prog.lift (.store (accM d) (r2 1 b) (payLast v w) Finset.univ (View.stores_vmem_bits_univ h_S1x32x8192 rfl) (.inl rfl))
def credWait (ph d : Bool) : PG F PUnit := semWaitWord (crSem ph d) 1#32
def credSignal (ph d : Bool) : PG F PUnit := semSignalWord (nbr v4 h2 v5 h1 (!d)) (crSem ph d) 1#32

/-- What a step stores: its sum, rounded, or in the last step the sum itself. -/
def rsStore (s : ℕ) (d b : Bool) : PG F PUnit := if s < 30 then rsAdd s d b else rsLast s d b

/-- The reduce-scatter's step `s`. -/
def rsItems (s : Fin 31) : List (PG F PUnit) :=
  (if 3 ≤ s.val then [credWait false false, credWait false true] else []) ++
  [rsSend v4 h2 v5 h1 s.val false false, rsSend v4 h2 v5 h1 s.val true false,
    rsSend v4 h2 v5 h1 s.val false true, rsSend v4 h2 v5 h1 s.val true true] ++
  (if 2 ≤ s.val then [rsWaitSend (s.val - 2) false false, rsWaitSend (s.val - 2) false true,
    rsWaitSend (s.val - 2) true false, rsWaitSend (s.val - 2) true true] else []) ++
  [fetch (pRows v3 h3 false s) (locP false (slot2 s.val)) (pfSem false), fetch (pRows v3 h3 true s) (locP true (slot2 s.val)) (pfSem true),
    fetchWait (pRows v3 h3 false s) (locP false (slot2 s.val)) (pfSem false), fetchWait (pRows v3 h3 true s) (locP true (slot2 s.val)) (pfSem true),
    rsRecvWait s.val false false, rsStore s.val false false, rsRecvWait s.val true false, rsStore s.val true false,
    rsRecvWait s.val false true, rsStore s.val false true, rsRecvWait s.val true true, rsStore s.val true true] ++
  (if s.val < 28 then [credSignal v4 h2 v5 h1 false false, credSignal v4 h2 v5 h1 false true] else [])

/-! ### Before the first step -/

def initStore (d : Bool) : PG F PUnit := do
  let v ← Prog.lift (.load (accM d) (r2w 0).toLoadRect (View.loadsAt_vmem h_S1x64x8192))
  let _ ← Prog.lift (.load (sbM d) (Rect.unit (s := S3x64x8192) ![0, 0, 0] S1x64x8192.size inb_S3x64x8192_S1x64x8192_0_0_0).toLoadRect (View.loadsAt_vmem h_S1x64x8192))
  Prog.lift (.store (sbM d) (Rect.unit (s := S3x64x8192) ![0, 0, 0] S1x64x8192.size inb_S3x64x8192_S1x64x8192_0_0_0) (payInit v) Finset.univ
    (View.stores_vmem h_S1x64x8192 ((sbM_whole d).storeExact_slice rfl _ packedbf16_S3x64x8192_S1x64x8192_0_0_0) (fun _ => rfl)) (.inl rfl))
def initItems : List (PG F PUnit) :=
  [semSignalWord (nbr v4 h2 v5 h1 true) barrier0 1#32, semSignalWord (nbr v4 h2 v5 h1 false) barrier0 1#32,
    semWaitWord barrier0 2#32,
    fetch (pRows0 v3 h3 false) (accP false 0) (pfSem false), fetch (pRows0 v3 h3 true) (accP true 0) (pfSem true),
    fetchWait (pRows0 v3 h3 false) (accP false 0) (pfSem false), fetchWait (pRows0 v3 h3 true) (accP true 0) (pfSem true),
    initStore false, initStore true]

/-! ### The maximum over the devices -/

def maxInit : PG F PUnit := do
  let v ← Prog.lift (.load (accM false) (r2w 1).toLoadRect (View.loadsAt_vmem h_S1x64x8192))
  let w ← Prog.lift (.load (accM true) (r2w 1).toLoadRect (View.loadsAt_vmem h_S1x64x8192))
  let _ ← Prog.lift (.load avM (ra 0).toLoadRect (View.loadsAt_vmem h_S1x128))
  Prog.lift (.store avM (ra 0) (payMax0 v w) Finset.univ (View.stores_vmem_bits_univ h_S1x128 rfl) (.inl rfl))

/-- The partner of round `k`. -/
def xDev (d0 : Dev nD) (k : Fin 5) : Dev nD := match k with
  | 0 => ⟨k0_dev183 d0, k0_dev183_lt d0⟩
  | 1 => ⟨k0_dev184 d0, k0_dev184_lt d0⟩
  | 2 => ⟨k0_dev185 d0, k0_dev185_lt d0⟩
  | 3 => ⟨k0_dev186 d0, k0_dev186_lt d0⟩
  | 4 => ⟨k0_dev187 d0, k0_dev187_lt d0⟩
def maxSend (d0 : Dev nD) (k : Fin 5) : PG F PUnit :=
  Prog.lift (.enqueueDma (avP k.castSucc) (.remote (Dev.tc (xDev d0 k)) (aiP k.castSucc) (.dma (amsSem k))) (.dma (amrSem k))
    (View.wordExact_bits rfl) (View.wordExact_bits rfl) ⟨⟨rfl, Or.inl rfl⟩, trivial⟩)
def maxWaitS (k : Fin 5) : PG F PUnit :=
  Prog.lift (.waitDma2 (amsSem k) (aiP k.castSucc) (avP k.castSucc) (View.wordExact_bits rfl) (View.wordExact_bits rfl))
def maxWaitR (k : Fin 5) : PG F PUnit :=
  Prog.lift (.waitDma2 (amrSem k) (avP k.castSucc) (aiP k.castSucc) (View.wordExact_bits rfl) (View.wordExact_bits rfl))
def maxStore (k : Fin 5) : PG F PUnit := do
  let v ← Prog.lift (.load avM (ra k.castSucc).toLoadRect (View.loadsAt_vmem h_S1x128))
  let w ← Prog.lift (.load aiM (ra k.castSucc).toLoadRect (View.loadsAt_vmem h_S1x128))
  let _ ← Prog.lift (.load avM (ra k.succ).toLoadRect (View.loadsAt_vmem h_S1x128))
  Prog.lift (.store avM (ra k.succ) (payMax v w) Finset.univ (View.stores_vmem_bits_univ h_S1x128 rfl) (.inl rfl))
def maxItems (d0 : Dev nD) (k : Fin 5) : List (PG F PUnit) := [maxSend d0 k, maxWaitS k, maxWaitR k, maxStore k]

/-! ### The quantiser -/

def scaleLoad : PG F (F .f32) := do
  let v ← Prog.lift (.load avM (ra 5).toLoadRect (View.loadsAt_vmem h_S1x128))
  pure (scaleV v)
abbrev rhw : Rect S64x8192 := Rect.unit (s := S64x8192) ![0, 0] S64x8192.size inb_S64x8192_S64x8192_0_0
def quant (sc : F .f32) (d : Bool) : PG F PUnit := do
  let v ← Prog.lift (.load (accM d) (r2w 1).toLoadRect (View.loadsAt_vmem h_S1x64x8192))
  let _ ← Prog.lift (.load (oqM d) rhw.toLoadRect (View.loadsAt_vmem h_S64x8192))
  Prog.lift (.store (oqM d) rhw (payQuant sc v) Finset.univ
    (View.stores_vmem h_S64x8192 ((oqM_whole d).storeExact_slice rfl _ packedi8_S64x8192_S64x8192_0_0) (fun _ => rfl)) (.inl rfl))
def deq0 (sc : F .f32) (d : Bool) : PG F PUnit := do
  let v ← Prog.lift (.load (oqM d) rhw.toLoadRect (View.loadsAt_vmem h_S64x8192))
  let _ ← Prog.lift (.load (dqM d) rhw.toLoadRect (View.loadsAt_vmem h_S64x8192))
  Prog.lift (.store (dqM d) rhw (payDeq0 sc v) Finset.univ (View.stores_vmem_bits_univ h_S64x8192 rfl) (.inl rfl))
def oRows0 (d : Bool) : Memref sig .tc .hbm S64x8192 .f32 := match d with
  | false => oM.slice (Rect.unit (s := S4096x8192) (k0_off5 v3) S64x8192.size (k0_off5_inb v3 h3)) (fun _ => rfl)
  | true => oM.slice (Rect.unit (s := S4096x8192) (k0_off6 v3) S64x8192.size (k0_off6_inb v3 h3)) (fun _ => rfl)
def put0 (d : Bool) : PG F PUnit :=
  Prog.lift (.enqueueDma (dqM d) (.here (oRows0 v3 h3 d)) (.dma (stSem d)) (dqM_whole d).wordExact (View.wordExact_bits rfl) ⟨Or.inl rfl, trivial⟩)
def put0Wait (d : Bool) : PG F PUnit :=
  Prog.lift (.waitDma2 (stSem d) (dqM d) (oRows0 v3 h3 d) (dqM_whole d).wordExact (View.wordExact_bits rfl))
def quantItems (sc : F .f32) : List (PG F PUnit) :=
  [quant sc false, quant sc true, deq0 sc false, deq0 sc true,
    put0 v3 h3 false, put0 v3 h3 true, put0Wait v3 h3 false, put0Wait v3 h3 true]

/-! ### The all-gather -/

/-- What step `t` passes on: the device's own block first, then what came the step before. -/
def agSrc (t : ℕ) (d b : Bool) : Memref sig .tc .vmem S32x8192 .i8 := match t with
  | 0 => oqP d b
  | t + 1 => agP d (slot3 t) b
theorem agSrc_words (t : ℕ) (d b : Bool) : (agSrc t d b).view.WordExact := by
  cases t
  · exact oqP_words d b
  · exact agP_words d _ b
def agSend (t : ℕ) (d b : Bool) : PG F PUnit :=
  send (agSrc t d b) (agP d (slot3 t) b) (nbr v4 h2 v5 h1 d) (sndSem true d (slot3 t) b) (rcvSem true d (slot3 t) b)
    (agSrc_words ..) (agP_words ..)
def agWaitSend (t : ℕ) (d b : Bool) : PG F PUnit :=
  Prog.lift (.waitDma2 (sndSem true d (slot3 t) b) (agP d (slot3 t) b) (agSrc t d b) (agP_words ..) (agSrc_words ..))
def agRecvWait (t : ℕ) (d b : Bool) : PG F PUnit :=
  Prog.lift (.waitDma2 (rcvSem true d (slot3 t) b) (agSrc t d b) (agP d (slot3 t) b) (agSrc_words ..) (agP_words ..))
def agDeq (sc : F .f32) (t : ℕ) (d b : Bool) : PG F PUnit := do
  let v ← Prog.lift (.load (agM d) (r3 (slot3 t) b).toLoadRect (View.loadsAt_vmem h_S1x32x8192))
  let _ ← Prog.lift (.load (dqM d) (rh b).toLoadRect (View.loadsAt_vmem h_S32x8192))
  Prog.lift (.store (dqM d) (rh b) (payDeq sc v) Finset.univ (View.stores_vmem_bits_univ h_S32x8192 rfl) (.inl rfl))
/-- The rows of the result step `t` fills. -/
def oRows (t : Fin 31) (d b : Bool) : Memref sig .tc .hbm S32x8192 .f32 := match d, b with
  | false, false => oM.slice (Rect.unit (s := S4096x8192) (k0_off7 v3 (BitVec.ofNat 32 t.val)) S32x8192.size (k0_off7_inb v3 h3 t)) (fun _ => rfl)
  | true, false => oM.slice (Rect.unit (s := S4096x8192) (k0_off8 v3 (BitVec.ofNat 32 t.val)) S32x8192.size (k0_off8_inb v3 h3 t)) (fun _ => rfl)
  | false, true => oM.slice (Rect.unit (s := S4096x8192) (k0_off9 v3 (BitVec.ofNat 32 t.val)) S32x8192.size (k0_off9_inb v3 h3 t)) (fun _ => rfl)
  | true, true => oM.slice (Rect.unit (s := S4096x8192) (k0_off10 v3 (BitVec.ofNat 32 t.val)) S32x8192.size (k0_off10_inb v3 h3 t)) (fun _ => rfl)
def put (t : Fin 31) (d b : Bool) : PG F PUnit :=
  Prog.lift (.enqueueDma (dqP d b) (.here (oRows v3 h3 t d b)) (.dma (stSem d)) (View.wordExact_bits rfl) (View.wordExact_bits rfl) ⟨Or.inl rfl, trivial⟩)
def putWait (t : Fin 31) (d b : Bool) : PG F PUnit :=
  Prog.lift (.waitDma2 (stSem d) (dqP d b) (oRows v3 h3 t d b) (View.wordExact_bits rfl) (View.wordExact_bits rfl))

/-- The all-gather's step `t`. -/
def agItems (sc : F .f32) (t : Fin 31) : List (PG F PUnit) :=
  (if 3 ≤ t.val then [credWait true false, credWait true true] else []) ++
  [agSend v4 h2 v5 h1 t.val false false, agSend v4 h2 v5 h1 t.val true false,
    agSend v4 h2 v5 h1 t.val false true, agSend v4 h2 v5 h1 t.val true true,
    agRecvWait t.val false false, agDeq sc t.val false false, agRecvWait t.val true false, agDeq sc t.val true false,
    put v3 h3 t false false, put v3 h3 t true false,
    agRecvWait t.val false true, agDeq sc t.val false true, agRecvWait t.val true true, agDeq sc t.val true true,
    putWait v3 h3 t false false, putWait v3 h3 t true false,
    put v3 h3 t false true, put v3 h3 t true true,
    agWaitSend t.val false false, agWaitSend t.val true false, agWaitSend t.val false true, agWaitSend t.val true true] ++
  (if 1 ≤ t.val ∧ t.val < 29 then [credSignal v4 h2 v5 h1 true false, credSignal v4 h2 v5 h1 true true] else []) ++
  [putWait v3 h3 t false true, putWait v3 h3 t true true]

/-! ### The whole body -/

/-- The body's items up to the scale. -/
def itemsA (d0 : Dev nD) : List (PG F PUnit) :=
  initItems v3 h3 v4 h2 v5 h1 ++ (List.finRange 31).flatMap (rsItems v3 h3 v4 h2 v5 h1) ++
  [rsWaitSend 29 false false, rsWaitSend 29 false true, rsWaitSend 29 true false, rsWaitSend 29 true true,
    rsWaitSend 30 false false, rsWaitSend 30 false true, rsWaitSend 30 true false, rsWaitSend 30 true true] ++
  [maxInit] ++ (List.finRange 5).flatMap (maxItems d0)
/-- The body's items after it. -/
def itemsB (sc : F .f32) : List (PG F PUnit) :=
  quantItems v3 h3 sc ++ (List.finRange 31).flatMap (agItems v3 h3 v4 h2 v5 h1 sc)

end steps

/-- The body on the three staged table words. -/
def body (m1 m2 m3 : Memref sig .tc .smem S1 .i32) : PG F PUnit := do
  let d0 : Dev nD ← Prog.lift .deviceId
  let v3 : Elt F .i32 ← smemLoad m1 (Rect.unit (s := S1) ![0] S1.size inb_S1_S1_0) numel1_S1 rfl
  have h3 : k0_chk3 v3 := (← Prog.lift (TpuEff.assume (k0_chk3 v3) (k0_chk3.dec v3))).down
  let v4 : Elt F .i32 ← smemLoad m2 (Rect.unit (s := S1) ![0] S1.size inb_S1_S1_0) numel1_S1 rfl
  have h2 : k0_chk2 v4 := (← Prog.lift (TpuEff.assume (k0_chk2 v4) (k0_chk2.dec v4))).down
  let v5 : Elt F .i32 ← smemLoad m3 (Rect.unit (s := S1) ![0] S1.size inb_S1_S1_0) numel1_S1 rfl
  have h1 : k0_chk1 v5 := (← Prog.lift (TpuEff.assume (k0_chk1 v5) (k0_chk1.dec v5))).down
  Pipeline.chain (itemsA v3 h3 v4 h2 v5 h1 d0)
  let sc ← scaleLoad
  Pipeline.chain (itemsB v3 h3 v4 h2 v5 h1 sc)

end Cert.Ring
-- ==== Proof.Pieces.lean ====
/-
  Pieces of a device's buffers: a view's elements held at contents not named (`Raw`) or reading to a named vector
  (`Piece`), and how a load, a store, a split and a join act on them.
-/
module

public import proofs.«01_k».proof.Proof.Steps
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk
public import Idealize.ShloMosaic.Lib.Pipeline.TalkSites
public import Idealize.ShloMosaic.Lib.Pipeline.SiteBlocks
public import Idealize.ShloMosaic.Lib.Writes
public import Idealize.ShloMosaic.Harness.Basic

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- A duty: the device that pays it and a number. -/
abbrev DD : Type := Dev nD × ℕ
abbrev UU : Type := UR sig nD τ × URounds (GSem nD τ sig) DD
abbrev MM (F : FTy → Type) : Type := MT nD τ sig ℕ (Elt F) ℕ UU ℕ
abbrev AP (F : FTy → Type) : Type := sProp (MM F)
abbrev EP {F : FTy → Type} : Emb (UR sig nD τ) (MM F) := embL
abbrev ER {F : FTy → Type} : Emb (URounds (GSem nD τ sig) DD) (MM F) := embR
abbrev VV : Variants := Variants.none

/-- A program of the body run by device `c` to the continuation `Φ`. -/
abbrev wpq (c : Dev nD) (q : PG F PUnit) (Φ : PUnit → AP F) : AP F :=
  wp frame (wpE (defs₀ (F := F)) VV (c : Thread nD τ) none) Set.univ q Φ

section view
variable {sp : Space} {s s' : Shape} {e : EltTy}

/-- The view's elements on device `c`, at some contents. -/
def Raw (v : View sig .tc sp s e) (c : Dev nD) : AP F :=
  iprop(∃ f : Buf (Elt F) (v.loc (c : Thread nD τ)), v.loc (c : Thread nD τ) ↦[v.set]{fullShare} f)
/-- The view's elements on device `c`, reading to `x`. -/
def Piece (v : View sig .tc sp s e) (c : Dev nD) (x : Vec F s e) : AP F :=
  iprop(∃ f : Buf (Elt F) (v.loc (c : Thread nD τ)), ⌜v.read (Elt F) f = x⌝ ∗ (v.loc (c : Thread nD τ) ↦[v.set]{fullShare} f))

instance (v : View sig .tc sp s e) (c : Dev nD) : BI.Storable (upEmb : UEmb _ (MM F)) (Raw (F := F) v c) := by
  unfold Raw; infer_instance
instance (v : View sig .tc sp s e) (c : Dev nD) (x : Vec F s e) : BI.Storable (upEmb : UEmb _ (MM F)) (Piece v c x) := by
  unfold Piece; infer_instance

theorem Piece.raw (v : View sig .tc sp s e) (c : Dev nD) (x : Vec F s e) : Piece v c x ⊢ Raw v c := by
  unfold Piece Raw
  iintro ⟨%f, -, H⟩
  iexists f; iexact H

theorem raw_reshape (v : View sig .tc sp s e) (h : s'.numel = s.numel) (c : Dev nD) :
    Raw (F := F) (v.reshape s' h) c = Raw v c := by
  unfold Raw
  simp only [View.set_reshape]

theorem piece_reshape (v : View sig .tc sp s e) (h : s.ShapeCasts s') (c : Dev nD) (x : Vec F s e) :
    Piece (v.reshape s' h) c (shapeCast s' x h) = Piece v c x := by
  unfold Piece
  simp only [View.set_reshape]
  refine congrArg (fun P : Buf (Elt F) (v.loc (c : Thread nD τ)) → AP F => (iprop(∃ f, P f) : AP F)) (funext fun f => ?_)
  refine congrArg (fun p : Prop => (iprop(⌜p⌝ ∗ (v.loc (c : Thread nD τ) ↦[v.set]{fullShare} f)) : AP F)) (propext ⟨fun H => ?_, fun H => ?_⟩)
  · funext i
    have := congrFun H ((Shape.reshapeEquiv (s := s) (s' := s') h).symm i)
    have e2 : shapeCast s' x h ((Shape.reshapeEquiv (s := s) (s' := s') h).symm i) = x i :=
      congrArg x (Equiv.apply_symm_apply (Shape.reshapeEquiv (s := s) (s' := s') h) i)
    rw [e2] at this
    rw [← this]
    exact (congrArg (v.read (Elt F) f) (Equiv.apply_symm_apply (Shape.reshapeEquiv (s := s) (s' := s') h) i)).symm
  · subst H; rfl

end view

/-! ## Rectangles of one view -/

section rects
variable {sp : Space} {s : Shape} {e : EltTy} (u : View sig .tc sp s e) (c : Dev nD)

theorem sub_set (R r : Rect s) (φ : r.shape.Idx → R.shape.Idx) (h : ∀ j, r.emb j = R.emb (φ j)) :
    (u.slice r).set ⊆ (u.slice R).set := by
  intro i hi
  obtain ⟨j, -, rfl⟩ := Finset.mem_map.mp hi
  refine Finset.mem_map.mpr ⟨φ j, Finset.mem_univ _, ?_⟩
  show u.emb (R.emb (φ j)) = u.emb (r.emb j)
  rw [h]

theorem sub_read (R r : Rect s) (φ : r.shape.Idx → R.shape.Idx) (h : ∀ j, r.emb j = R.emb (φ j))
    (f : u.ty.Contents (Elt F)) : (u.slice r).read (Elt F) f = fun j => (u.slice R).read (Elt F) f (φ j) := by
  funext j
  rw [View.read_apply, View.read_apply]
  show cast _ (f (u.emb (r.emb j))) = cast _ (f (u.emb (R.emb (φ j))))
  rw [h]

/-- A rectangle cut in two: the reads of each half. -/
structure Cut (R r₁ r₂ : Rect s) where
  φ₁ : r₁.shape.Idx → R.shape.Idx
  φ₂ : r₂.shape.Idx → R.shape.Idx
  h₁ : ∀ j, r₁.emb j = R.emb (φ₁ j)
  h₂ : ∀ j, r₂.emb j = R.emb (φ₂ j)
  cov : ∀ i, (∃ j, φ₁ j = i) ∨ ∃ j, φ₂ j = i
  dis : ∀ j k, φ₁ j ≠ φ₂ k

variable {R r₁ r₂ : Rect s} (K : Cut R r₁ r₂)
include K

theorem Cut.union : (u.slice R).set = (u.slice r₁).set ∪ (u.slice r₂).set := by
  apply Finset.Subset.antisymm
  · intro i hi
    obtain ⟨j, -, rfl⟩ := Finset.mem_map.mp hi
    rcases K.cov j with ⟨k, rfl⟩ | ⟨k, rfl⟩
    · refine Finset.mem_union_left _ (Finset.mem_map.mpr ⟨k, Finset.mem_univ _, ?_⟩)
      show u.emb (r₁.emb k) = u.emb (R.emb _); rw [K.h₁]
    · refine Finset.mem_union_right _ (Finset.mem_map.mpr ⟨k, Finset.mem_univ _, ?_⟩)
      show u.emb (r₂.emb k) = u.emb (R.emb _); rw [K.h₂]
  · exact Finset.union_subset (sub_set u R r₁ K.φ₁ K.h₁) (sub_set u R r₂ K.φ₂ K.h₂)

theorem Cut.disjoint : Disjoint (u.slice r₁).set (u.slice r₂).set := by
  rw [Finset.disjoint_left]
  intro i h1 h2
  obtain ⟨j, -, rfl⟩ := Finset.mem_map.mp h1
  obtain ⟨k, -, hk⟩ := Finset.mem_map.mp h2
  have : u.emb (r₂.emb k) = u.emb (r₁.emb j) := hk
  have := u.emb.injective this
  rw [K.h₁, K.h₂] at this
  exact K.dis j k (R.emb.injective this).symm

theorem Cut.split (x : Vec F R.shape e) :
    Piece (u.slice R) c x ⊢ iprop(Piece (u.slice r₁) c (fun j => x (K.φ₁ j)) ∗ Piece (u.slice r₂) c (fun j => x (K.φ₂ j))) := by
  unfold Piece
  iintro ⟨%f, %hf, H⟩
  rw [K.union u]
  ihave H := (pointsTo_union (K.disjoint u)).1 $$ H
  icases H with ⟨H1, H2⟩
  isplitl [H1]
  · iexists f
    isplitr; · ipureintro; rw [sub_read u R r₁ K.φ₁ K.h₁ f, hf]
    iexact H1
  · iexists f
    isplitr; · ipureintro; rw [sub_read u R r₂ K.φ₂ K.h₂ f, hf]
    iexact H2

theorem Cut.join (x₁ : Vec F r₁.shape e) (x₂ : Vec F r₂.shape e) (x : Vec F R.shape e)
    (e₁ : ∀ j, x (K.φ₁ j) = x₁ j) (e₂ : ∀ j, x (K.φ₂ j) = x₂ j) :
    iprop(Piece (u.slice r₁) c x₁ ∗ Piece (u.slice r₂) c x₂) ⊢ Piece (u.slice R) c x := by
  unfold Piece
  iintro ⟨⟨%f, %hf, H1⟩, ⟨%g, %hg, H2⟩⟩
  ihave H := (pointsTo_join (ℓ := u.loc (c : Thread nD τ)) (K.disjoint u)) $$ [H1 H2]
  · isplitl [H1]; · iexact H1
    iexact H2
  iexists ((u.slice r₂).set.piecewise g f)
  isplitr
  · ipureintro
    have E1 : (u.slice r₁).read (Elt F) ((u.slice r₂).set.piecewise g f) = x₁ := by
      rw [← hf]
      exact View.read_congr fun i hi => Finset.piecewise_eq_of_notMem _ _ _ (Finset.disjoint_left.mp (K.disjoint u) hi)
    have E2 : (u.slice r₂).read (Elt F) ((u.slice r₂).set.piecewise g f) = x₂ := by
      rw [← hg]
      exact View.read_congr fun i hi => Finset.piecewise_eq_of_mem _ _ _ hi
    rw [sub_read u R r₁ K.φ₁ K.h₁] at E1
    rw [sub_read u R r₂ K.φ₂ K.h₂] at E2
    funext i
    rcases K.cov i with ⟨k, rfl⟩ | ⟨k, rfl⟩
    · rw [e₁]; exact congrFun E1 k
    · rw [e₂]; exact congrFun E2 k
  rw [K.union u]
  iexact H

theorem Cut.rawSplit : Raw (F := F) (u.slice R) c ⊢ iprop(Raw (u.slice r₁) c ∗ Raw (u.slice r₂) c) := by
  unfold Raw
  iintro ⟨%f, H⟩
  rw [K.union u]
  ihave H := (pointsTo_union (K.disjoint u)).1 $$ H
  icases H with ⟨H1, H2⟩
  isplitl [H1]
  · iexists f; iexact H1
  · iexists f; iexact H2

theorem Cut.rawJoin : iprop(Raw (u.slice r₁) c ∗ Raw (u.slice r₂) c) ⊢ Raw (F := F) (u.slice R) c := by
  unfold Raw
  iintro ⟨⟨%f, H1⟩, ⟨%g, H2⟩⟩
  ihave H := (pointsTo_join (ℓ := u.loc (c : Thread nD τ)) (K.disjoint u)) $$ [H1 H2]
  · isplitl [H1]; · iexact H1
    iexact H2
  iexists ((u.slice r₂).set.piecewise g f)
  rw [K.union u]
  iexact H

end rects

/-! ## Loads and stores -/

section ops
variable {cs : CoreSpace} {s : Shape} {e : EltTy} {M : Memref sig .tc cs s e} {c : Dev nD} {Φ : PUnit → AP F}

/-- A load of a rectangle that lies in the held one. -/
theorem load_in {R r : Rect s} {hl : M.view.LoadsAt r.toLoadRect} {x : Vec F R.shape e}
    (φ : r.shape.Idx → R.shape.Idx) (h : ∀ j, r.emb j = R.emb (φ j)) {k : (r.shape.Idx → Elt F e) → PG F PUnit} :
    Piece (M.access R) c x ⊢ iprop((Piece (M.access R) c x -∗ wpq c (k fun j => x (φ j)) Φ)
      -∗ wpq c (.op (.load M r.toLoadRect hl) k) Φ) := by
  unfold Piece
  iintro ⟨%f, %hf, H⟩ Hk
  iapply (wp_load_rect VV (c : Thread nD τ) none Set.univ (m := M) (r := r) (S := (M.access R).set) (f := f)
    (sub_set M.view R r φ h)) $$ H
  iintro H
  have e1 : (M.access r).read (Elt F) f = fun j => x (φ j) := by
    rw [← hf]; exact sub_read M.view R r φ h f
  rw [e1]
  iapply Hk
  iexists f
  isplitr; · ipureintro; exact hf
  iexact H

/-- A load of the whole held rectangle. -/
theorem load_at {r : Rect s} {hl : M.view.LoadsAt r.toLoadRect} {x : Vec F r.shape e} {k : (r.shape.Idx → Elt F e) → PG F PUnit} :
    Piece (M.access r) c x ⊢ iprop((Piece (M.access r) c x -∗ wpq c (k x) Φ)
      -∗ wpq c (.op (.load M r.toLoadRect hl) k) Φ) :=
  load_in (fun j => j) (fun _ => rfl)

/-- A load whose value is not used. -/
theorem load_raw {r : Rect s} {hl : M.view.LoadsAt r.toLoadRect} {k : (r.shape.Idx → Elt F e) → PG F PUnit} {k' : PG F PUnit}
    (hk : ∀ x, k x = k') :
    Raw (F := F) (M.access r) c ⊢ iprop((Raw (F := F) (M.access r) c -∗ wpq c k' Φ)
      -∗ wpq c (.op (.load M r.toLoadRect hl) k) Φ) := by
  unfold Raw
  iintro ⟨%f, H⟩ Hk
  iapply (wp_load_rect VV (c : Thread nD τ) none Set.univ (m := M) (r := r) (S := (M.access r).set) (f := f)
    (Finset.Subset.refl _)) $$ H
  iintro H
  rw [hk]
  iapply Hk
  iexists f
  iexact H

/-- A store on the held rectangle. -/
theorem store_at {r : Rect s} {w : r.shape.Idx → Elt F e} {hx : (M.access r).Stores Finset.univ}
    {hm} {k : PUnit → PG F PUnit} :
    Raw (F := F) (M.access r) c ⊢ iprop((Piece (M.access r) c w -∗ wpq c (k ⟨⟩) Φ)
      -∗ wpq c (.op (.store M r w Finset.univ hx hm) k) Φ) := by
  unfold Raw Piece
  iintro ⟨%f, H⟩ Hk
  iapply (wp_store VV (c : Thread nD τ) none Set.univ (m := M) (r := r) (S := (M.access r).set) (f := f)
    (Finset.Subset.refl _)) $$ H
  iintro H
  iapply Hk
  iexists ((M.access r).write (Elt F) f w Finset.univ)
  isplitr; · ipureintro; exact View.read_write_univ _ _
  iexact H

end ops

end Cert.Ring
-- ==== Proof.Plan.lean ====
/-
  The ring's plan: which device is where, the values that travel, the kinds of cells, and what each cell's rounds deliver.
-/
module

public import proofs.«01_k».proof.Proof.Pieces

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ring -/

def posT : Fin 32 → ℕ := ![0,31,30,1,2,29,28,3,7,24,25,6,5,26,27,4,8,23,22,9,10,21,20,11,15,16,17,14,13,18,19,12]
def rgtT : Fin 32 → ℕ := ![3,0,1,4,7,2,5,15,16,10,13,8,11,14,6,12,19,9,17,20,23,18,21,31,25,26,29,24,27,30,22,28]
def lftT : Fin 32 → ℕ := ![1,2,5,0,3,6,14,4,11,17,9,12,15,10,13,7,8,18,21,16,19,22,30,20,27,24,25,28,31,26,29,23]
/-- The three table words a device reads. -/
def posW (c : Dev nD) : BitVec 32 := BitVec.ofNat 32 (posT c)
def rgtW (c : Dev nD) : BitVec 32 := BitVec.ofNat 32 (rgtT c)
def lftW (c : Dev nD) : BitVec 32 := BitVec.ofNat 32 (lftT c)

/-- The neighbour the copies of direction `d` go to. -/
def nb (d : Bool) (c : Dev nD) : Dev nD := match d with
  | false => Fin.ofNat 32 (rgtT c)
  | true => Fin.ofNat 32 (lftT c)

theorem nb_nb : ∀ (d : Bool) (c : Dev nD), nb (!d) (nb d c) = c := by decide +kernel
theorem nb_nb' : ∀ (d : Bool) (c : Dev nD), nb d (nb (!d) c) = c := by decide +kernel

instance (v : BitVec 32) : Decidable (k0_chk1 v) := k0_chk1.dec v
instance (v : BitVec 32) : Decidable (k0_chk2 v) := k0_chk2.dec v
instance (v : BitVec 32) : Decidable (k0_chk3 v) := k0_chk3.dec v
theorem hpos : ∀ c : Dev nD, k0_chk3 (posW c) := by decide +kernel
theorem hrgt : ∀ c : Dev nD, k0_chk2 (rgtW c) := by decide +kernel
theorem hlft : ∀ c : Dev nD, k0_chk1 (lftW c) := by decide +kernel
theorem nbr_eq (c : Dev nD) (d : Bool) : nbr (rgtW c) (hrgt c) (lftW c) (hlft c) d = nb d c := by
  cases d
  · exact (by decide +kernel : ∀ c : Dev nD, nbr (rgtW c) (hrgt c) (lftW c) (hlft c) false = nb false c) c
  · exact (by decide +kernel : ∀ c : Dev nD, nbr (rgtW c) (hrgt c) (lftW c) (hlft c) true = nb true c) c

/-- The partners of the five rounds, as numbers. -/
def xDv (k : Fin 5) (c : Dev nD) : Dev nD := Fin.ofNat 32 (c.val ^^^ (2 ^ k.val))
theorem xDev_eq : ∀ (k : Fin 5) (c : Dev nD), xDev c k = xDv k c := by decide +kernel
theorem xDv_xDv : ∀ (k : Fin 5) (c : Dev nD), xDv k (xDv k c) = c := by decide +kernel

/-- Where the device `s` places before `c` is. -/
def back (s : ℕ) (c : Dev nD) : Dev nD := (nb true)^[s] c
/-- How far along the ring the partner's row travels. -/
def hop (c : Dev nD) (k : Fin 5) : ℕ := (posT (xDv k c) + 32 - posT c) % 32

/-! ## Cells -/

inductive K
  | bar
  | snd (ph d : Bool) (sl : Fin 3) (b : Bool)
  | rcv (ph d : Bool) (sl : Fin 3) (b : Bool)
  | pf (d : Bool)
  | st (d : Bool)
  | ms (k : Fin 5)
  | mr (k : Fin 5)
  | crd (ph d : Bool)
deriving DecidableEq

def semOf : K → SemLoc sig
  | .bar => .reg barrier0
  | .snd ph d sl b => .dma (sndSem ph d sl b)
  | .rcv ph d sl b => .dma (rcvSem ph d sl b)
  | .pf d => .dma (pfSem d)
  | .st d => .dma (stSem d)
  | .ms k => .dma (amsSem k)
  | .mr k => .dma (amrSem k)
  | .crd ph d => .reg (crSem ph d)

def nb1 (n : ℕ) : Bool := n % 2 = 1
/-- The kind of a semaphore. -/
def kindOf : SemLoc sig → Option K
  | .reg s => if s.val = 4 then some .bar else some (.crd (nb1 (s.val / 2)) (nb1 s.val))
  | .dma s =>
    if s.val < 3 then none
    else if s.val < 51 then
      let m := s.val - 3
      let q := m % 12
      if q < 6 then some (.snd (nb1 (m / 24)) (nb1 (m / 12)) (Fin.ofNat 3 (q / 2)) (nb1 q))
      else some (.rcv (nb1 (m / 24)) (nb1 (m / 12)) (Fin.ofNat 3 ((q - 6) / 2)) (nb1 q))
    else if s.val < 53 then some (.pf (nb1 (s.val - 51)))
    else if s.val < 55 then some (.st (nb1 (s.val - 53)))
    else if s.val < 60 then some (.ms (Fin.ofNat 5 (s.val - 55)))
    else some (.mr (Fin.ofNat 5 (s.val - 60)))

theorem kindOf_semOf (k : K) : kindOf (semOf k) = some k := by
  cases k with
  | bar => decide
  | snd ph d sl b => revert ph d sl b; decide
  | rcv ph d sl b => revert ph d sl b; decide
  | pf d => revert d; decide
  | st d => revert d; decide
  | ms k => revert k; decide
  | mr k => revert k; decide
  | crd ph d => revert ph d; decide

theorem semOf_inj {k k' : K} (h : semOf k = semOf k') : k = k' := by
  have := congrArg kindOf h
  rw [kindOf_semOf, kindOf_semOf] at this
  exact Option.some.inj this

/-- Device `c`'s cell of kind `k`. -/
abbrev cel (c : Dev nD) (k : K) : GSem nD τ sig := ((c : Thread nD τ), semOf k)

/-- How many units a payment of the kind is. -/
def amt : K → ℕ
  | .bar => 1
  | .crd _ _ => 1
  | .snd false _ _ _ => (rvP false 0 false).view.dmaCredit
  | .rcv false _ _ _ => (rvP false 0 false).view.dmaCredit
  | .snd true _ _ _ => (agP false 0 false).view.dmaCredit
  | .rcv true _ _ _ => (agP false 0 false).view.dmaCredit
  | .pf _ => (locP false 0).view.dmaCredit
  | .st _ => (oM.slice (Rect.unit (s := S4096x8192) ![0, 0] S64x8192.size (by decide)) (fun _ => rfl)).view.dmaCredit
  | .ms _ => (aiP 0).view.dmaCredit
  | .mr _ => (aiP 0).view.dmaCredit

/-- The units of the `st` cell's round `r`: the first is twice as large as the others. -/
def amtR (k : K) (r : ℕ) : ℕ := match k with
  | .st _ => if r = 0 then amt k else (oM.slice (Rect.unit (s := S4096x8192) ![0, 0] S32x8192.size (by decide)) (fun _ => rfl)).view.dmaCredit
  | k => amt k

theorem amtR_pos (k : K) (r : ℕ) : 0 < amtR k r := by
  cases k with
  | bar => exact Nat.one_pos
  | crd ph d => exact Nat.one_pos
  | snd ph d sl b => cases ph <;> exact View.dmaCredit_pos _ (by decide)
  | rcv ph d sl b => cases ph <;> exact View.dmaCredit_pos _ (by decide)
  | pf d => exact View.dmaCredit_pos _ (by decide)
  | st d =>
    unfold amtR; dsimp only
    split <;> exact View.dmaCredit_pos _ (by decide)
  | ms k => exact View.dmaCredit_pos _ (by decide)
  | mr k => exact View.dmaCredit_pos _ (by decide)

theorem amt_rv (d : Bool) (sl : Fin 3) (b : Bool) (k : K) (hk : amt k = amt (.rcv false false 0 false)) :
    (rvP d sl b).view.dmaCredit = amt k := by rw [hk]; cases d <;> rfl
theorem amt_sb (d : Bool) (sl : Fin 3) (b : Bool) (k : K) (hk : amt k = amt (.rcv false false 0 false)) :
    (sbP d sl b).view.dmaCredit = amt k := by rw [hk]; cases d <;> rfl
theorem amt_ag (d : Bool) (sl : Fin 3) (b : Bool) : (agP d sl b).view.dmaCredit = amt (.rcv true false 0 false) := by cases d <;> rfl
theorem amt_agSrc (t : ℕ) (d b : Bool) : (agSrc t d b).view.dmaCredit = amt (.rcv true false 0 false) := by
  cases t <;> cases d <;> rfl

/-! ## Values -/

theorem inbq (b : Bool) : ∀ a, (![0, 32 * bit b, 0] : Fin 3 → ℕ) a + S1x32x8192.size a ≤ S1x64x8192.size a := by
  revert b; decide
/-- Row `j` of half `b` of 64 rows. -/
def hIx (b : Bool) (j : S1x32x8192.Idx) : S1x64x8192.Idx :=
  (Rect.unit (s := S1x64x8192) ![0, 32 * bit b, 0] S1x32x8192.size (inbq b)).emb j
def half {α : Type} (b : Bool) (w : S1x64x8192.Idx → α) : S1x32x8192.Idx → α := fun j => w (hIx b j)
def hhIx (b : Bool) (j : S32x8192.Idx) : S64x8192.Idx := (rh b).emb j
/-- The row of its half a row is. -/
def low (j : S1x64x8192.Idx) : S1x32x8192.Idx
  | ⟨0, _⟩ => ⟨0, Nat.one_pos⟩
  | ⟨1, _⟩ => ⟨(j 1).val % 32, Nat.mod_lt _ (Nat.succ_pos 31)⟩
  | ⟨2, _⟩ => ⟨(j 2).val, (j 2).isLt⟩
def glue {α : Type} (x y : S1x32x8192.Idx → α) : S1x64x8192.Idx → α := fun j => if (j 1).val < 32 then x (low j) else y (low j)
abbrev up64 {α : Type} (x : S64x8192.Idx → α) : S1x64x8192.Idx → α := shapeCast (s := S64x8192) S1x64x8192 x shapeCasts_S64x8192_S1x64x8192
abbrev dn64 {α : Type} (x : S1x64x8192.Idx → α) : S64x8192.Idx → α := shapeCast (s := S1x64x8192) S64x8192 x shapeCasts_S1x64x8192_S64x8192
abbrev up32 {α : Type} (x : S32x8192.Idx → α) : S1x32x8192.Idx → α := shapeCast (s := S32x8192) S1x32x8192 x shapeCasts_S32x8192_S1x32x8192
abbrev dn32 {α : Type} (x : S1x32x8192.Idx → α) : S32x8192.Idx → α := shapeCast (s := S1x32x8192) S32x8192 x shapeCasts_S1x32x8192_S32x8192

section val
variable (P : Dev nD → pM.view.ty.Contents (Elt F))

abbrev pR (c : Dev nD) (d : Bool) (s : ℕ) : Memref sig .tc .hbm S64x8192 .f32 := pRows (posW c) (hpos c) d (Fin.ofNat 31 s)
abbrev pR0 (c : Dev nD) (d : Bool) : Memref sig .tc .hbm S64x8192 .f32 := pRows0 (posW c) (hpos c) d
abbrev oR (c : Dev nD) (t : ℕ) (d b : Bool) : Memref sig .tc .hbm S32x8192 .f32 := oRows (posW c) (hpos c) (Fin.ofNat 31 t) d b
abbrev oR0 (c : Dev nD) (d : Bool) : Memref sig .tc .hbm S64x8192 .f32 := oRows0 (posW c) (hpos c) d

theorem pR_buf (c : Dev nD) (d : Bool) (s : ℕ) : (pR c d s).view.ref = pM.view.ref := by cases d <;> rfl

/-- What the device's step `s` adds. -/
def Pin (d : Bool) (s : ℕ) (c : Dev nD) : Vec F S64x8192 .f32 := match d with
  | false => (pR c false s).view.read (Elt F) (P c)
  | true => (pR c true s).view.read (Elt F) (P c)
def Pin0 (d : Bool) (c : Dev nD) : Vec F S64x8192 .f32 := match d with
  | false => (pR0 c false).view.read (Elt F) (P c)
  | true => (pR0 c true).view.read (Elt F) (P c)
/-- What step `s` sends. -/
def Av (d : Bool) : ℕ → Dev nD → Bool → Vec F S1x32x8192 .bf16
  | 0, c, b => half b (payInit (up64 (Pin0 P d c)))
  | s + 1, c, b => payAdd (Av d s (nb (!d) c) b) (half b (up64 (Pin P d s c)))
/-- What the last step leaves. -/
def Lastv (d : Bool) (c : Dev nD) (b : Bool) : Vec F S1x32x8192 .f32 :=
  payLast (Av P d 30 (nb (!d) c) b) (half b (up64 (Pin P d 30 c)))
def Acc (d : Bool) (c : Dev nD) : Vec F S1x64x8192 .f32 := glue (Lastv P d c false) (Lastv P d c true)
/-- The largest magnitude after `k` exchanges. -/
def Mx : ℕ → Dev nD → Vec F S1x128 .f32
  | 0, c => payMax0 (Acc P false c) (Acc P true c)
  | k + 1, c => payMax (Mx k c) (Mx k (xDv (Fin.ofNat 5 k) c))
def Sc (c : Dev nD) : F .f32 := scaleV (Mx P 5 c)
def Qv (d : Bool) (c : Dev nD) : Vec F S64x8192 .i8 := payQuant (Sc P c) (Acc P d c)
/-- What step `t` of the all-gather passes on. -/
def Gv (d : Bool) : ℕ → Dev nD → Bool → Vec F S32x8192 .i8
  | 0, c, b => fun j => Qv P d c (hhIx b j)
  | t + 1, c, b => Gv d t (nb (!d) c) b
def Ov (d : Bool) (t : ℕ) (c : Dev nD) (b : Bool) : Vec F S32x8192 .f32 := payDeq (Sc P c) (up32 (Gv P d (t + 1) c b))
def Ov0 (d : Bool) (c : Dev nD) : Vec F S64x8192 .f32 := payDeq0 (Sc P c) (Qv P d c)

end val

/-! ## What a message carries -/

/-- A device's own receive piece, at some contents. -/
def DstRaw (ph d : Bool) (sl : Fin 3) (b : Bool) (c : Dev nD) : AP F := match ph with
  | false => Raw (rvP d sl b).view c
  | true => Raw (agP d sl b).view c
instance (ph d : Bool) (sl : Fin 3) (b : Bool) (c : Dev nD) : BI.Storable (upEmb : UEmb _ (MM F)) (DstRaw (F := F) ph d sl b c) := by
  cases ph <;> (unfold DstRaw; infer_instance)

/-- The right to write device `c`'s receive piece of direction `d` and sub-block `b` in step `w`. -/
def Grant (ph d b : Bool) (c : Dev nD) (w : ℕ) : AP F :=
  if w ≤ 30 then iprop(DstRaw ph d (slot3 w) b c ∗ reached ER (cel c (.rcv ph d (slot3 w) b)) (w / 3)) else iprop(emp)
instance (ph d b : Bool) (c : Dev nD) (w : ℕ) : BI.Storable (upEmb : UEmb _ (MM F)) (Grant (F := F) ph d b c w) := by
  unfold Grant; split <;> infer_instance

/-- The row of device `q`'s inbox the partner of round `k` writes. -/
def Row (q : Dev nD) (k : Fin 5) : AP F := iprop(Raw (aiP k.castSucc).view q ∗ reached ER (cel q (.mr k)) 0)
instance (q : Dev nD) (k : Fin 5) : BI.Storable (upEmb : UEmb _ (MM F)) (Row (F := F) q k) := by unfold Row; infer_instance

def CarryK (c : Dev nD) (s : ℕ) (k : Fin 5) : AP F := if s < hop (back s c) k then Row (back s c) k else iprop(emp)
instance (c : Dev nD) (s : ℕ) (k : Fin 5) : BI.Storable (upEmb : UEmb _ (MM F)) (CarryK (F := F) c s k) := by
  unfold CarryK; split <;> infer_instance
/-- The rows device `c` passes on in step `s`. -/
def Carry (c : Dev nD) (s : ℕ) : AP F :=
  iprop(CarryK c s 0 ∗ CarryK c s 1 ∗ CarryK c s 2 ∗ CarryK c s 3 ∗ CarryK c s 4)
instance (c : Dev nD) (s : ℕ) : BI.Storable (upEmb : UEmb _ (MM F)) (Carry (F := F) c s) := by unfold Carry; infer_instance

def GathK (c : Dev nD) (s : ℕ) (k : Fin 5) : AP F := if hop (xDv k c) k ≤ s then Row (xDv k c) k else iprop(emp)
/-- The rows that have arrived at device `c` after `s` steps. -/
def Gath (c : Dev nD) (s : ℕ) : AP F := iprop(GathK c s 0 ∗ GathK c s 1 ∗ GathK c s 2 ∗ GathK c s 3 ∗ GathK c s 4)

/-- What rides with a message. -/
def Extra (ph d b : Bool) (x : Dev nD) (w : ℕ) : AP F :=
  if ph = false ∧ d = false ∧ b = false then Carry x w else iprop(emp)
instance (ph d b : Bool) (c : Dev nD) (w : ℕ) : BI.Storable (upEmb : UEmb _ (MM F)) (Extra (F := F) ph d b c w) := by
  unfold Extra; split <;> infer_instance

def gap : Bool → ℕ
  | false => 2
  | true => 1

section sched
variable (P : Dev nD → pM.view.ty.Contents (Elt F))

/-- The share of the partial product each direction reads with. -/
def psh : Bool → PosShare TreeShare
  | false => fullShare.left
  | true => fullShare.right

/-- The rows read, lent to a copy. -/
def Lent (M : Memref sig .tc .hbm S64x8192 .f32) (c : Dev nD) (q : PosShare TreeShare) (x : Vec F S64x8192 .f32) : AP F :=
  iprop(∃ f : Buf (Elt F) (M.view.loc (c : Thread nD τ)), ⌜M.view.read (Elt F) f = x⌝ ∗ (M.view.loc (c : Thread nD τ) ↦[M.view.set]{q} f))
instance (M : Memref sig .tc .hbm S64x8192 .f32) (c : Dev nD) (q : PosShare TreeShare) (x : Vec F S64x8192 .f32) :
    BI.Storable (upEmb : UEmb _ (MM F)) (Lent M c q x) := by unfold Lent; infer_instance

/-- The piece a message leaves. -/
def Msg (ph d : Bool) (sl : Fin 3) (b : Bool) (c x : Dev nD) (w : ℕ) : AP F := match ph with
  | false => Piece (rvP d sl b).view c (dn32 (Av P d w x b))
  | true => Piece (agP d sl b).view c (Gv P d w x b)
instance (ph d : Bool) (sl : Fin 3) (b : Bool) (c x : Dev nD) (w : ℕ) : BI.Storable (upEmb : UEmb _ (MM F)) (Msg P ph d sl b c x w) := by
  cases ph <;> (unfold Msg; infer_instance)
/-- The piece a message was sent from. -/
def Src (ph d : Bool) (sl : Fin 3) (b : Bool) (c : Dev nD) (w : ℕ) : AP F := match ph with
  | false => Raw (sbP d sl b).view c
  | true => Raw (agSrc w d b).view c
instance (ph d : Bool) (sl : Fin 3) (b : Bool) (c : Dev nD) (w : ℕ) : BI.Storable (upEmb : UEmb _ (MM F)) (Src (F := F) ph d sl b c w) := by
  cases ph <;> (unfold Src; infer_instance)

def PfPay (d : Bool) (c : Dev nD) : ℕ → AP F
  | 0 => iprop(Piece (accP d 0).view c (Pin0 P d c) ∗ Lent (pR0 c d) c (psh d) (Pin0 P d c))
  | s + 1 => iprop(Piece (locP d (slot2 s)).view c (Pin P d s c) ∗ Lent (pR c d s) c (psh d) (Pin P d s c))
instance (d : Bool) (c : Dev nD) (r : ℕ) : BI.Storable (upEmb : UEmb _ (MM F)) (PfPay P d c r) := by
  cases r <;> (unfold PfPay; infer_instance)
def StPay (d : Bool) (c : Dev nD) : ℕ → AP F
  | 0 => iprop(Piece (oR0 c d).view c (Ov0 P d c) ∗ Raw (dqM d).view c)
  | r + 1 => iprop(Piece (oR c (r / 2) d (nb1 r)).view c (Ov P d (r / 2) c (nb1 r)) ∗ Raw (dqP d (nb1 r)).view c)
instance (d : Bool) (c : Dev nD) (r : ℕ) : BI.Storable (upEmb : UEmb _ (MM F)) (StPay P d c r) := by
  cases r <;> (unfold StPay; infer_instance)

/-- What a neighbour grants before the first step. -/
def BarPay (d : Bool) (x : Dev nD) : AP F :=
  iprop((Grant false d false x 0 ∗ Grant false d true x 0) ∗ (Grant false d false x 1 ∗ Grant false d true x 1)
    ∗ (Grant true d false x 0 ∗ Grant true d true x 0)
    ∗ reached ER (cel x (.crd false (!d))) 0 ∗ reached ER (cel x (.crd true (!d))) 0)
instance (d : Bool) (x : Dev nD) : BI.Storable (upEmb : UEmb _ (MM F)) (BarPay (F := F) d x) := by unfold BarPay; infer_instance

def payer (k : K) (n : ℕ) (c : Dev nD) : Dev nD := match k with
  | .bar => nb (nb1 n) c
  | .rcv _ d _ _ => nb (!d) c
  | .mr k => xDv k c
  | .crd _ d => nb d c
  | _ => c

/-- The numbers of the payments of a round. -/
def nums (k : K) (r : ℕ) : Finset ℕ := match k with
  | .bar => if r = 0 then {0, 1} else ∅
  | .snd _ _ sl _ => if 3 * r + sl.val ≤ 30 then {0} else ∅
  | .rcv _ _ sl _ => if 3 * r + sl.val ≤ 30 then {0} else ∅
  | .pf _ => if r < 32 then {0} else ∅
  | .st _ => if r < 63 then {0} else ∅
  | .ms _ => if r = 0 then {0} else ∅
  | .mr _ => if r = 0 then {0} else ∅
  | .crd _ _ => if r = 0 then Finset.range 28 else ∅

def payOf (c : Dev nD) (r n : ℕ) : K → AP F
  | .bar => BarPay (nb1 n) (nb (nb1 n) c)
  | .snd ph d sl b => Src ph d sl b c (3 * r + sl.val)
  | .rcv ph d sl b => iprop(Msg P ph d sl b c (nb (!d) c) (3 * r + sl.val)
      ∗ Grant ph (!d) b (nb (!d) c) (3 * r + sl.val + gap ph) ∗ Extra ph d b (nb (!d) c) (3 * r + sl.val))
  | .pf d => PfPay P d c r
  | .st d => StPay P d c r
  | .ms k => Piece (avP k.castSucc).view c (Mx P k.val c)
  | .mr k => Piece (aiP k.castSucc).view c (Mx P k.val (xDv k c))
  | .crd _ _ => iprop(emp)
instance (c : Dev nD) (r n : ℕ) (k : K) : BI.Storable (upEmb : UEmb _ (MM F)) (payOf P c r n k) := by
  cases k <;> (unfold payOf; infer_instance)

def dutiesOf (c : Dev nD) (r : ℕ) (k : K) : Finset DD := (nums k r).image fun n => (payer k n c, n)

def Rd : Rounds.Schedule (GSem nD τ sig) DD (MM F) where
  duties g r := if g.1.2 = .tc then (match kindOf g.2 with | none => ∅ | some k => dutiesOf g.1.1 r k) else ∅
  unitless _ := False
  amount g r _ := match kindOf g.2 with | none => 1 | some k => amtR k r
  payload g r x := match kindOf g.2 with | none => iprop(emp) | some k => payOf P g.1.1 r x.2 k
  amount_pos g r _ _ := by
    split
    · exact Nat.one_pos
    · exact amtR_pos _ _

instance (g : GSem nD τ sig) (r : ℕ) (x : DD) : BI.Storable (upEmb : UEmb _ (MM F)) ((Rd P).payload g r x) := by
  show BI.Storable (upEmb : UEmb _ (MM F)) (match kindOf g.2 with | none => iprop(emp) | some k => payOf P g.1.1 r x.2 k)
  split <;> infer_instance

theorem duties_cel (c : Dev nD) (k : K) (r : ℕ) : (Rd P).duties (cel c k) r = dutiesOf c r k := by
  show (if (c : Thread nD τ).2 = .tc then (match kindOf (semOf k) with | none => ∅ | some k => dutiesOf c r k) else ∅) = _
  rw [if_pos rfl, kindOf_semOf]
theorem amount_cel (c : Dev nD) (k : K) (r : ℕ) (x : DD) : (Rd P).amount (cel c k) r x = amtR k r := by
  show (match kindOf (semOf k) with | none => 1 | some k => amtR k r) = _
  rw [kindOf_semOf]
theorem payload_cel (c : Dev nD) (k : K) (r : ℕ) (x : DD) : (Rd P).payload (cel c k) r x = payOf P c r x.2 k := by
  show (match kindOf (semOf k) with | none => iprop(emp) | some k => payOf P c r x.2 k) = _
  rw [kindOf_semOf]

theorem duty_mem {c : Dev nD} {k : K} {r n : ℕ} (h : n ∈ nums k r) : (payer k n c, n) ∈ (Rd P).duties (cel c k) r := by
  rw [duties_cel]; exact Finset.mem_image_of_mem _ h

theorem expect_one {c : Dev nD} {k : K} {r : ℕ} (h : nums k r = {0}) : (Rd P).expect (cel c k) r = amtR k r := by
  unfold Schedule.expect Schedule.amountOf
  rw [duties_cel, dutiesOf, h, Finset.image_singleton, Finset.sum_singleton, amount_cel]
theorem rest_one {c : Dev nD} {k : K} {r : ℕ} (h : nums k r = {0}) :
    bigSep ((Rd P).duties (cel c k) r \ ∅) (fun x => (Rd P).payload (cel c k) r x) = payOf P c r 0 k := by
  rw [Finset.sdiff_empty, duties_cel, dutiesOf, h, Finset.image_singleton, bigSep_singleton, payload_cel]

/-- A cell whose rounds are over has no more duties. -/
theorem over {c : Dev nD} {k : K} {r : ℕ} (h : nums k r = ∅) : (Rd P).duties (cel c k) r = ∅ := by
  rw [duties_cel, dutiesOf, h, Finset.image_empty]

end sched

end Cert.Ring
-- ==== Proof.Ops.lean ====
/-
  The steps of the ring's protocol: a copy to a peer, a copy at home, a wait, a signal, each as a rule over the plan's cells.
-/
module

public import proofs.«01_k».proof.Proof.Plan

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]
variable (P : Dev nD → pM.view.ty.Contents (Elt F))

/-- The levels there are. -/
abbrev NL : ℕ := 300

/-- What every device may open and compare: the cells' invariants and the levels. -/
def Ctx (κ : GSem nD τ sig → ℕ) : AP F :=
  iprop((∀ c : Dev nD, ∀ k : K, cellInv ER (Rd P) (κ (cel c k)) (cel c k))
    ∗ levAts (SiteBlocks.L NL) SiteBlocks.lv)
instance (κ : GSem nD τ sig → ℕ) : BI.Persistent (Ctx P κ) := by unfold Ctx; infer_instance

/-- What the device still owes. -/
def Owe (c : Dev nD) (l : List (Pay nD τ sig)) : AP F := iprop(∃ W, owes (c : Thread nD τ) (tallyL l) W)

/-- One payment of kind `k` to device `x`, at its level. -/
abbrev due (x : Dev nD) (k : K) (lvl : ℕ) (r : ℕ) : Pay nD τ sig := (cel x k, lvl, amtR k r)

/-- The owner's place at the start of a round. -/
def At (c : Dev nD) (k : K) (r : ℕ) : AP F := iprop(atPos ER (cel c k) r ∅ 0 ∗ reached ER (cel c k) r)

/-- The right to pay number `n` of a round. -/
abbrev Tok (c : Dev nD) (k : K) (r n : ℕ) : AP F := dutyTok ER (cel c k) r ((payer k n c, n) : DD)

def Above (i : ℕ) (l : List (Pay nD τ sig)) : Prop := ∀ x ∈ l, x.1.1.2 = .tc ∧ i < x.2.1 ∧ x.2.1 < NL

theorem mayWait (κ : GSem nD τ sig → ℕ) {i : ℕ} (hi : i < NL) (c : Dev nD) (s : SemLoc sig) {l : List (Pay nD τ sig)} (h : Above i l) :
    Ctx P κ ⊢ MayWait (c : Thread nD τ) s i (tallyL l) := by
  unfold Ctx
  iintro ⟨-, H⟩
  iapply (SiteBlocks.mayWait_of hi c s (tallyL l) (fun g k hg => by
    obtain ⟨x, hx, rfl, rfl⟩ := TalkSites.tallyL_pos hg
    obtain ⟨h1, h2, h3⟩ := h x hx
    exact ⟨SiteBlocks.mem_L' h1 h3, h2⟩))
  iexact H

theorem ctx_inv (κ : GSem nD τ sig → ℕ) (c : Dev nD) (k : K) : Ctx P κ ⊢ cellInv ER (Rd P) (κ (cel c k)) (cel c k) := by
  unfold Ctx
  iintro ⟨H, -⟩
  iapply H

variable {κ : GSem nD τ sig → ℕ} {c : Dev nD} {Φ : PUnit → AP F} {kk : PUnit → PG F PUnit} {l : List (Pay nD τ sig)}

/-- A wait of a transfer, for the one payment of a round. -/
theorem dma_wait {sp sp' : Space} {s : Shape} {e : EltTy} {s' : Shape} {e' : EltTy} {src : Memref sig .tc sp s e} {dst : Memref sig .tc sp' s' e'}
    {sem : DmaSem sig} {h1 h2} (k : K) (r lvl : ℕ) (hk : semOf k = .dma sem) (hn : nums k r = {0}) (hN : dst.view.dmaCredit = amtR k r)
    (hl : lvl < NL) (hA : Above lvl l) :
    iprop(Ctx P κ ∗ cred (tallyAt (cel c k) lvl (amtR k r)) ∗ Owe c l ∗ At c k r)
      ⊢ iprop(((Owe c l ∗ At c k (r + 1) ∗ payOf P c r 0 k) -∗ wpq c (kk ⟨⟩) Φ)
          -∗ wpq c (.op (.waitDma2 sem src dst h1 h2) kk) Φ) := by
  unfold Owe At
  iintro ⟨#HC, Hc, ⟨%W, HO⟩, Hat, -⟩ Hk
  have e1 : cel c k = ((c : Thread nD τ), SemLoc.dma sem) := Prod.ext rfl hk
  have hm : 0 + dst.view.dmaCredit = (Rd P).expect ((c : Thread nD τ), SemLoc.dma sem) r := by
    rw [← e1, expect_one P hn, Nat.zero_add, hN]
  have hr : bigSep ((Rd P).duties (((c : Thread nD τ), SemLoc.dma sem) : GSem nD τ sig) r \ ∅)
      (fun x => (Rd P).payload (((c : Thread nD τ), SemLoc.dma sem) : GSem nD τ sig) r x) = payOf P c r 0 k := by
    rw [← e1]; exact rest_one P hn
  iapply (Rounds.wp_wait_rest_token VV ER (Rd P) (c : Thread nD τ) none (κ := κ (cel c k))
      (wpE_waitDma2_eq (src := src) (dst := dst) VV (c : Thread nD τ) none Set.univ) (Set.mem_univ _) lvl (O := tallyL l) (W := W) (R := r) (m := 0) (T := ∅)
      hm) $$ [Hc HO Hat]
  · isplitr
    · rw [← e1]; iapply (ctx_inv P κ c k); iexact HC
    isplitl [Hc]
    · rw [← e1, hN]; iexact Hc
    isplitl [HO]; · iexact HO
    isplitr; · iapply (mayWait P κ hl c _ hA); iexact HC
    rw [← e1]; iexact Hat
  iintro ⟨HO, Hat, #Hr, Hp⟩
  ihave Hp := (Entails.of_eq hr) $$ Hp
  iapply Hk
  isplitl [HO]; · iexists _; iexact HO
  isplitl [Hat]
  · rw [e1]
    isplitl [Hat]; · iexact Hat
    iexact Hr
  iexact Hp

/-- A copy to a peer: pays the sender's own cell with the source and the peer's with the piece written and what rides along. -/
theorem dma_send {s : Shape} {e : EltTy} {src dst : Memref sig .tc .vmem s e} {c' : Dev nD} {sS sR : DmaSem sig} {h1 h2 h3}
    {X : AP F} {x : Vec F s e} (k1 k2 : K) (r1 r2 lvl : ℕ)
    (e1 : semOf k1 = .dma sS) (e2 : semOf k2 = .dma sR) (n1 : 0 ∈ nums k1 r1) (n2 : 0 ∈ nums k2 r2)
    (p1 : payer k1 0 c = c) (p2 : payer k2 0 c' = c)
    (a1 : dst.view.dmaCredit = amtR k1 r1) (a2 : dst.view.dmaCredit = amtR k2 r2)
    (hp1 : Piece src.view c x ⊢ payOf P c r1 0 k1) (hp2 : iprop(Piece dst.view c' x ∗ X) ⊢ payOf P c' r2 0 k2) :
    iprop(Ctx P κ ∗ Piece src.view c x ∗ Raw (F := F) dst.view c' ∗ X ∗ Owe c (due c' k2 lvl r2 :: l) ∗ Tok c k1 r1 0 ∗ reached ER (cel c k1) r1
        ∗ Tok c' k2 r2 0 ∗ reached ER (cel c' k2) r2)
      ⊢ iprop(((cred (tallyAt (cel c k1) 0 (amtR k1 r1)) ∗ Owe c l) -∗ wpq c (kk ⟨⟩) Φ)
          -∗ wpq c (.op (.enqueueDma src (.remote (c' : Thread nD τ) dst (.dma sS)) (.dma sR) h1 h2 h3) kk) Φ) := by
  unfold Owe
  have E1 : cel c k1 = ((c : Thread nD τ), SemLoc.dma sS) := Prod.ext rfl e1
  have E2 : cel c' k2 = ((c' : Thread nD τ), SemLoc.dma sR) := Prod.ext rfl e2
  unfold Piece Raw Tok
  iintro ⟨#HC, ⟨%fs, %hfs, Hs⟩, ⟨%fd, Hd⟩, HX, ⟨%W, HO⟩, Ht1, #Hr1, Ht2, #Hr2⟩ Hk
  rw [p1, p2]
  have d1 : ((c, 0) : DD) ∈ (Rd P).duties ((c : Thread nD τ), SemLoc.dma sS) r1 := by
    rw [← E1]; have := duty_mem P (c := c) n1; rwa [p1] at this
  have d2 : ((c, 0) : DD) ∈ (Rd P).duties ((c' : Thread nD τ), SemLoc.dma sR) r2 := by
    rw [← E2]; have := duty_mem P (c := c') n2; rwa [p2] at this
  iapply (Rounds.wp_send_pointsTo_with VV ER (Rd P) (c : Thread nD τ) none (c' := (c' : Thread nD τ)) (src := src) (dst := dst)
      (sS := .dma sS) (sem := .dma sR) (q := fullShare) (fs := fs) (fd := fd) (F := X) (κ₁ := κ (cel c k1)) (κ₂ := κ (cel c' k2))
      (r₁ := r1) (r₂ := r2) (d₁ := (c, 0)) (d₂ := (c, 0)) d1 d2 lvl 0 (amtR k1 r1) (by rw [View.amount_dma]; exact a1)
      (by rw [← E1]; exact amount_cel P c k1 r1 _) (by rw [← E2, amount_cel, ← a1, a2]) (tallyL l)
      (O₀ := tallyL (due c' k2 lvl r2 :: l)) (W := W)
      (by rw [← E2, ← a1, a2]; exact add_comm _ _)
      (by
        rw [← E1, payload_cel]
        refine BIBase.Entails.trans ?_ hp1
        unfold Piece
        iintro H; iexists fs
        isplitr; · ipureintro; exact hfs
        iexact H)
      (by
        rw [← E2, payload_cel]
        refine BIBase.Entails.trans ?_ hp2
        unfold Piece
        iintro ⟨H, HX⟩
        isplitr [HX]
        · iexists (dst.view.write (Elt F) fd (src.view.read (Elt F) fs) Finset.univ)
          isplitr; · ipureintro; rw [View.read_write_univ]; exact hfs
          iexact H
        iexact HX)) $$ [Hs Hd HX HO Ht1 Ht2]
  · rw [← E1, ← E2]
    isplitr; · iapply (ctx_inv P κ c k1); iexact HC
    isplitr; · iapply (ctx_inv P κ c' k2); iexact HC
    isplitl [Hs]; · iexact Hs
    isplitl [Hd HX]
    · isplitl [Hd]; · iexact Hd
      iexact HX
    isplitl [HO]; · iexact HO
    isplitl [Ht1]; · iexact Ht1
    isplitr; · iexact Hr1
    isplitl [Ht2]; · iexact Ht2
    iexact Hr2
  iintro ⟨Hc, HO⟩
  iapply Hk
  isplitl [Hc]; · rw [← E1]; iexact Hc
  iexists W; iexact HO

/-- A copy at home. -/
theorem dma_copy {sp sp' : Space} {s : Shape} {e : EltTy} {src : Memref sig .tc sp s e} {dst : Memref sig .tc sp' s e} {sem : DmaSem sig} {h1 h2 h3}
    {q : PosShare TreeShare} {x : Vec F s e} (k : K) (r lvl : ℕ)
    (e1 : semOf k = .dma sem) (n1 : 0 ∈ nums k r) (p1 : payer k 0 c = c) (a1 : dst.view.dmaCredit = amtR k r)
    (hp : iprop(Piece dst.view c x ∗ ∃ f : Buf (Elt F) (src.view.loc (c : Thread nD τ)), ⌜src.view.read (Elt F) f = x⌝
        ∗ (src.view.loc (c : Thread nD τ) ↦[src.view.set]{q} f)) ⊢ payOf P c r 0 k) :
    iprop(Ctx P κ ∗ (∃ f : Buf (Elt F) (src.view.loc (c : Thread nD τ)), ⌜src.view.read (Elt F) f = x⌝
        ∗ (src.view.loc (c : Thread nD τ) ↦[src.view.set]{q} f)) ∗ Raw (F := F) dst.view c ∗ Tok c k r 0 ∗ reached ER (cel c k) r)
      ⊢ iprop((cred (tallyAt (cel c k) lvl (amtR k r)) -∗ wpq c (kk ⟨⟩) Φ)
          -∗ wpq c (.op (.enqueueDma src (.here dst) (.dma sem) h1 h2 h3) kk) Φ) := by
  have E1 : cel c k = ((c : Thread nD τ), SemLoc.dma sem) := Prod.ext rfl e1
  unfold Raw Tok
  iintro ⟨#HC, ⟨%fs, %hfs, Hs⟩, ⟨%fd, Hd⟩, Ht1, #Hr1⟩ Hk
  rw [p1]
  have d1 : ((c, 0) : DD) ∈ (Rd P).duties ((c : Thread nD τ), SemLoc.dma sem) r := by
    rw [← E1]; have := duty_mem P (c := c) n1; rwa [p1] at this
  iapply (Rounds.wp_copy_pointsTo VV ER (Rd P) (c : Thread nD τ) none (src := src) (dst := dst)
      (sem := .dma sem) (q := q) (fs := fs) (fd := fd) (κ := κ (cel c k)) (r := r) (d := (c, 0)) d1 lvl (amtR k r)
      (by rw [View.amount_dma]; exact a1) (by rw [← E1]; exact amount_cel P c k r _)
      (by
        rw [← E1, payload_cel]
        refine BIBase.Entails.trans ?_ hp
        unfold Piece
        iintro ⟨H, Hs⟩
        isplitl [H]
        · iexists (dst.view.write (Elt F) fd (src.view.read (Elt F) fs) Finset.univ)
          isplitr; · ipureintro; rw [View.read_write_univ]; exact hfs
          iexact H
        iexists fs
        isplitr; · ipureintro; exact hfs
        iexact Hs)) $$ [Hs Hd Ht1]
  · rw [← E1]
    isplitr; · iapply (ctx_inv P κ c k); iexact HC
    isplitl [Hs]; · iexact Hs
    isplitl [Hd]; · iexact Hd
    isplitl [Ht1]; · iexact Ht1
    iexact Hr1
  iintro Hc
  iapply Hk
  rw [← E1]; iexact Hc

/-- A signal of one unit. -/
theorem sig_one {c' : Dev nD} {sem : Sem sig} (k : K) (n lvl : ℕ) (hn : n ∈ nums k 0) (e1 : semOf k = .reg sem) (p1 : payer k n c' = c)
    (a1 : amtR k 0 = 1) {X : AP F} (hX : X ⊢ payOf P c' 0 n k) :
    iprop(Ctx P κ ∗ Owe c (due c' k lvl 0 :: l) ∗ Tok c' k 0 n ∗ X ∗ reached ER (cel c' k) 0)
      ⊢ iprop((Owe c l -∗ wpq c (kk ⟨⟩) Φ)
          -∗ wpq c (.op (.semSignal (c' : Thread nD τ) sem (1#32 : BitVec 32).toInt) kk) Φ) := by
  have E1 : cel c' k = ((c' : Thread nD τ), SemLoc.reg sem) := Prod.ext rfl e1
  unfold Owe Tok
  iintro ⟨#HC, ⟨%W, HO⟩, Ht, HX, #Hr⟩ Hk
  rw [p1]
  have d1 : ((c, n) : DD) ∈ (Rd P).duties ((c' : Thread nD τ), SemLoc.reg sem) 0 := by
    rw [← E1]; have := duty_mem P (c := c') hn; rwa [p1] at this
  rw [show (1#32 : BitVec 32).toInt = ((1 : ℕ) : ℤ) by decide]
  iapply (Rounds.wp_signal VV ER (Rd P) (c : Thread nD τ) none (dst := (c' : Thread nD τ)) (sem := sem) (r := 0) (d := (c, n)) (κ := κ (cel c' k))
      d1 (k' := 1) (by rw [← E1, amount_cel, a1]) lvl (O₀ := tallyL (due c' k lvl 0 :: l)) (tallyL l) (by rw [← E1, ← a1]; exact add_comm _ _) (W := W)) $$ [HO Ht HX]
  · rw [← E1]
    isplitr; · iapply (ctx_inv P κ c' k); iexact HC
    isplitl [HO]; · iexact HO
    isplitl [Ht]; · iexact Ht
    isplitl [HX]
    · rw [payload_cel]; iapply hX; iexact HX
    iexact Hr
  iintro HO
  iapply Hk
  iexists W; iexact HO

/-- The owner's place on a credit cell: `n` units taken. -/
def CrdAt (c : Dev nD) (ph d : Bool) (n : ℕ) : AP F :=
  iprop(∃ T : Finset DD, ⌜n + (dutiesOf c 0 (.crd ph d) \ T).card ≤ 28⌝ ∗ atPos ER (cel c (.crd ph d)) 0 T n)

theorem crd_expect (ph d : Bool) : (Rd P).expect (cel c (.crd ph d)) 0 = 28 := by
  unfold Schedule.expect Schedule.amountOf
  rw [duties_cel, Finset.sum_congr rfl (fun x _ => amount_cel P c (.crd ph d) 0 x)]
  rw [dutiesOf, Finset.sum_const, Finset.card_image_of_injective _ (fun a b h => congrArg Prod.snd h)]
  rfl

/-- A wait of one unit of credit. -/
theorem crd_wait (ph d : Bool) (n lvl : ℕ) (hl : lvl < NL) (hA : Above lvl l) :
    iprop(Ctx P κ ∗ cred (tallyAt (cel c (.crd ph d)) lvl 1) ∗ Owe c l ∗ CrdAt c ph d n)
      ⊢ iprop(((Owe c l ∗ CrdAt c ph d (n + 1)) -∗ wpq c (kk ⟨⟩) Φ)
          -∗ wpq c (.op (.semWait (crSem ph d) (1#32 : BitVec 32).toInt) kk) Φ) := by
  unfold Owe CrdAt
  iintro ⟨#HC, Hc, ⟨%W, HO⟩, ⟨%T, %hT, Hat⟩⟩ Hk
  rw [show (1#32 : BitVec 32).toInt = ((1 : ℕ) : ℤ) by decide]
  iapply (Rounds.wp_wait VV ER (Rd P) (c : Thread nD τ) none (κ := κ (cel c (.crd ph d))) (sm := .reg (crSem ph d)) (k' := 1)
      (wpE_semWait_eq VV (c : Thread nD τ) none Set.univ) (Set.mem_univ _) (cr := Finsupp.single lvl 1) (O := tallyL l) (W := W)
      {(.reg (crSem ph d), lvl)} (R := 0) (m := n) (T := T) (by rw [Util.total_single]) (image_single_subset _ _ _)) $$ [Hc HO Hat]
  · isplitr; · iapply (ctx_inv P κ c (.crd ph d)); iexact HC
    isplitl [Hc]; · iexact Hc
    isplitl [HO]; · iexact HO
    isplitr; · iapply (mayWait P κ hl c _ hA); iexact HC
    iexact Hat
  iintro %S ⟨%hS, HO, Hat, -⟩
  iapply Hk
  isplitl [HO]; · iexists _; iexact HO
  iexists S
  isplitr
  · ipureintro
    have h3 := hS.2.2
    rw [show (((c : Thread nD τ), SemLoc.reg (crSem ph d)) : GSem nD τ sig) = cel c (.crd ph d) from rfl, crd_expect, duties_cel] at h3
    exact h3
  iexact Hat

/-- The last unit taken, the round is over. -/
theorem crd_done (ph d : Bool) : iprop(Ctx P κ ∗ CrdAt c ph d 28) ⊢ (|={Set.univ}=> At c (.crd ph d) 1 : AP F) := by
  unfold CrdAt At
  iintro ⟨#HC, ⟨%T, %hT, Hat⟩⟩
  have h0 : dutiesOf c 0 (.crd ph d) ⊆ T := by
    rw [← Finset.sdiff_eq_empty_iff_subset, ← Finset.card_eq_zero]; omega
  iapply (Rounds.fupd_skip ER (Rd P) (κ := κ (cel c (.crd ph d))) (g := cel c (.crd ph d)) (R := 0) (m := 28) (T := T)
    (by rw [duties_cel]; exact h0) (crd_expect P ph d).symm (Set.mem_univ _))
  isplitr; · iapply (ctx_inv P κ c (.crd ph d)); iexact HC
  iexact Hat

/-- The wait for both neighbours. -/
theorem bar_wait (hA : Above 1 l) :
    iprop(Ctx P κ ∗ cred (tallyAt (cel c .bar) 1 2) ∗ Owe c l ∗ At c .bar 0)
      ⊢ iprop(((Owe c l ∗ At c .bar 1 ∗ BarPay false (nb false c) ∗ BarPay true (nb true c)) -∗ wpq c (kk ⟨⟩) Φ)
          -∗ wpq c (.op (.semWait barrier0 (2#32 : BitVec 32).toInt) kk) Φ) := by
  unfold Owe At
  iintro ⟨#HC, Hc, ⟨%W, HO⟩, Hat, -⟩ Hk
  rw [show (2#32 : BitVec 32).toInt = ((2 : ℕ) : ℤ) by decide]
  have hd : dutiesOf c 0 .bar = {((nb false c, 0) : DD), ((nb true c, 1) : DD)} := by
    unfold dutiesOf; rw [show nums .bar 0 = {0, 1} from rfl, Finset.image_insert, Finset.image_singleton]; rfl
  have hne : ((nb false c, 0) : DD) ≠ (nb true c, 1) := fun h => absurd (congrArg Prod.snd h) (show (0 : ℕ) ≠ 1 by decide)
  have he : (Rd P).expect (cel c .bar) 0 = 2 := by
    unfold Schedule.expect Schedule.amountOf
    rw [duties_cel, Finset.sum_congr rfl (fun x _ => amount_cel P c .bar 0 x), hd, Finset.sum_pair hne]; rfl
  have hr : bigSep ((Rd P).duties (((c : Thread nD τ), SemLoc.reg barrier0) : GSem nD τ sig) 0 \ ∅)
      (fun x => (Rd P).payload (((c : Thread nD τ), SemLoc.reg barrier0) : GSem nD τ sig) 0 x)
      = iprop(BarPay false (nb false c) ∗ BarPay true (nb true c)) := by
    show bigSep ((Rd P).duties (cel c .bar) 0 \ ∅) (fun x => (Rd P).payload (cel c .bar) 0 x) = _
    rw [Finset.sdiff_empty, duties_cel, hd, bigSep_insert (by rw [Finset.mem_singleton]; exact hne), bigSep_singleton, payload_cel, payload_cel]; rfl
  iapply (Rounds.wp_wait_rest_token VV ER (Rd P) (c : Thread nD τ) none (κ := κ (cel c .bar))
      (wpE_semWait_eq VV (c : Thread nD τ) none Set.univ) (Set.mem_univ _) 1 (O := tallyL l) (W := W) (R := 0) (m := 0) (T := ∅)
      (sm := .reg barrier0) (k' := 2) ((Nat.zero_add 2).trans he.symm)) $$ [Hc HO Hat]
  · isplitr; · iapply (ctx_inv P κ c .bar); iexact HC
    isplitl [Hc]; · iexact Hc
    isplitl [HO]; · iexact HO
    isplitr; · iapply (mayWait P κ (by decide) c _ hA); iexact HC
    iexact Hat
  iintro ⟨HO, Hat, #Hr, Hp⟩
  ihave Hp := (Entails.of_eq hr) $$ Hp
  iapply Hk
  isplitl [HO]; · iexists _; iexact HO
  isplitl [Hat]
  · isplitl [Hat]; · iexact Hat
    iexact Hr
  iexact Hp

/-- A cell whose rounds are over gives back its counter at zero. -/
theorem cell_end (k : K) (r : ℕ) (h : ∀ r', r ≤ r' → nums k r' = ∅) : iprop(Ctx P κ ∗ At c k r) ⊢ (|={Set.univ}=> semVal (cel c k) 0 : AP F) := by
  unfold At
  iintro ⟨#HC, Hat, -⟩
  iapply (Rounds.cell_close ER (Rd P) (κ := κ (cel c k)) (g := cel c k) (R := r) (Set.mem_univ _) id (fun r' hr => over P (h r' hr)))
  isplitr; · iapply (ctx_inv P κ c k); iexact HC
  iexact Hat

end Cert.Ring
-- ==== Proof.Geo.lean ====
/-
  Where the pieces lie in their buffers, and the pieces of a message as loads and stores see them.
-/
module

public import proofs.«01_k».proof.Proof.Ops
public import Idealize.ShloMosaic.Lib.Pipeline.Value

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

/-! ## Where the pieces lie -/

theorem bit_false : bit false = 0 := rfl
theorem bit_true : bit true = 1 := rfl

theorem r2_hIx (sl : Fin 2) (b : Bool) (j : S1x32x8192.Idx) : (r2 sl b).emb j = (r2w sl).emb (hIx b j) := by
  funext a
  apply Fin.ext
  fin_cases a <;> simp [hIx, Rect.emb, Rect.unit]

theorem low_hIx (b : Bool) (j : S1x32x8192.Idx) : low (hIx b j) = j := by
  funext a
  apply Fin.ext
  fin_cases a
  · have h : (j 0).val < 1 := (j 0).isLt
    show 0 = (j 0).val
    omega
  · have h : (j 1).val < 32 := (j 1).isLt
    show (hIx b j 1).val % 32 = (j 1).val
    have : (hIx b j 1).val = 32 * bit b + (j 1).val := by simp [hIx, Rect.emb, Rect.unit]
    rw [this]; omega
  · simp [low, hIx, Rect.emb, Rect.unit]

theorem hIx_row (b : Bool) (j : S1x32x8192.Idx) : (hIx b j 1).val = 32 * bit b + (j 1).val := by simp [hIx, Rect.emb, Rect.unit]

theorem glue_false {α : Type} (x y : S1x32x8192.Idx → α) (j : S1x32x8192.Idx) : glue x y (hIx false j) = x j := by
  have h : (j 1).val < 32 := (j 1).isLt
  unfold glue
  rw [if_pos (by rw [hIx_row]; simp only [bit_false, bit_true]; omega), low_hIx]
theorem glue_true {α : Type} (x y : S1x32x8192.Idx → α) (j : S1x32x8192.Idx) : glue x y (hIx true j) = y j := by
  unfold glue
  rw [if_neg (by rw [hIx_row]; simp only [bit_false, bit_true]; omega), low_hIx]

theorem hIx_cov (i : S1x64x8192.Idx) : (∃ j, hIx false j = i) ∨ ∃ j, hIx true j = i := by
  have h0 : (i 0).val < 1 := (i 0).isLt
  have h1 : (i 1).val < 64 := (i 1).isLt
  by_cases h : (i 1).val < 32
  · refine .inl ⟨low i, funext fun a => Fin.ext ?_⟩
    fin_cases a
    · simp [low, hIx, Rect.emb, Rect.unit, Fin.ext_iff]; omega
    · rw [show (⟨1, by decide⟩ : Fin 3) = 1 from rfl]
      show (hIx false (low i) 1).val = (i 1).val
      rw [hIx_row]; show 32 * bit false + (i 1).val % 32 = _; simp only [bit_false, bit_true]; omega
    · simp [low, hIx, Rect.emb, Rect.unit]
  · refine .inr ⟨low i, funext fun a => Fin.ext ?_⟩
    fin_cases a
    · simp [low, hIx, Rect.emb, Rect.unit, Fin.ext_iff]; omega
    · rw [show (⟨1, by decide⟩ : Fin 3) = 1 from rfl]
      show (hIx true (low i) 1).val = (i 1).val
      rw [hIx_row]; show 32 * bit true + (i 1).val % 32 = _; simp only [bit_false, bit_true]; omega
    · simp [low, hIx, Rect.emb, Rect.unit]
theorem hIx_dis (j k : S1x32x8192.Idx) : hIx false j ≠ hIx true k := fun h => by
  have h1 := congrArg (fun i : S1x64x8192.Idx => (i 1).val) h
  simp only [hIx_row] at h1
  have : (j 1).val < 32 := (j 1).isLt
  simp only [bit_false, bit_true] at h1; omega

/-- Sixty-four rows of an accumulator slot are two halves. -/
def cut2 (sl : Fin 2) : Cut (r2w sl) (r2 sl false) (r2 sl true) where
  φ₁ := hIx false
  φ₂ := hIx true
  h₁ := r2_hIx sl false
  h₂ := r2_hIx sl true
  cov := hIx_cov
  dis := hIx_dis

/-- Slot `sl` of three, whole. -/
abbrev r3w (sl : Fin 3) : Rect S3x64x8192 := Rect.unit (s := S3x64x8192) ![sl.val, 0, 0] S1x64x8192.size (by revert sl; decide)
theorem r3_hIx (sl : Fin 3) (b : Bool) (j : S1x32x8192.Idx) : (r3 sl b).emb j = (r3w sl).emb (hIx b j) := by
  funext a
  apply Fin.ext
  fin_cases a <;> simp [hIx, Rect.emb, Rect.unit]
def cut3 (sl : Fin 3) : Cut (r3w sl) (r3 sl false) (r3 sl true) where
  φ₁ := hIx false
  φ₂ := hIx true
  h₁ := r3_hIx sl false
  h₂ := r3_hIx sl true
  cov := hIx_cov
  dis := hIx_dis

theorem rhw_emb (j : S64x8192.Idx) : rhw.emb j = j := by
  funext a
  apply Fin.ext
  fin_cases a <;> simp [Rect.emb, Rect.unit]

theorem hhIx_row (b : Bool) (j : S32x8192.Idx) : (hhIx b j 0).val = 32 * bit b + (j 0).val := by simp [hhIx, Rect.emb, Rect.unit]
theorem hhIx_col (b : Bool) (j : S32x8192.Idx) : (hhIx b j 1).val = (j 1).val := by simp [hhIx, Rect.emb, Rect.unit]

def lowh (j : S64x8192.Idx) : S32x8192.Idx
  | ⟨0, _⟩ => ⟨(j 0).val % 32, Nat.mod_lt _ (Nat.succ_pos 31)⟩
  | ⟨1, _⟩ => ⟨(j 1).val, (j 1).isLt⟩

theorem hhIx_cov (i : S64x8192.Idx) : (∃ j, hhIx false j = i) ∨ ∃ j, hhIx true j = i := by
  have h1 : (i 0).val < 64 := (i 0).isLt
  by_cases h : (i 0).val < 32
  · refine .inl ⟨lowh i, funext fun a => Fin.ext ?_⟩
    fin_cases a
    · show (hhIx false (lowh i) 0).val = (i 0).val
      rw [hhIx_row]; show 32 * bit false + (i 0).val % 32 = _; simp only [bit_false, bit_true]; omega
    · show (hhIx false (lowh i) 1).val = (i 1).val
      rw [hhIx_col]; rfl
  · refine .inr ⟨lowh i, funext fun a => Fin.ext ?_⟩
    fin_cases a
    · show (hhIx true (lowh i) 0).val = (i 0).val
      rw [hhIx_row]; show 32 * bit true + (i 0).val % 32 = _; simp only [bit_false, bit_true]; omega
    · show (hhIx true (lowh i) 1).val = (i 1).val
      rw [hhIx_col]; rfl
theorem hhIx_dis (j k : S32x8192.Idx) : hhIx false j ≠ hhIx true k := fun h => by
  have h1 := congrArg (fun i : S64x8192.Idx => (i 0).val) h
  simp only [hhIx_row] at h1
  have : (j 0).val < 32 := (j 0).isLt
  simp only [bit_false, bit_true] at h1; omega
def cuth : Cut rhw (rh false) (rh true) where
  φ₁ := hhIx false
  φ₂ := hhIx true
  h₁ j := (rhw_emb _).symm
  h₂ j := (rhw_emb _).symm
  cov := hhIx_cov
  dis := hhIx_dis

/-- The whole rectangle of a buffer of sixty-four rows is the buffer. -/
theorem piece_rhw {sp : Space} {e : EltTy} (u : View sig .tc sp S64x8192 e) (c : Dev nD) (x : Vec F S64x8192 e) :
    Piece (u.slice rhw) c x = Piece u c x := by
  have hs : (u.slice rhw).set = u.set := by
    unfold View.set
    refine Finset.ext fun i => ⟨fun hi => ?_, fun hi => ?_⟩
    · obtain ⟨j, -, rfl⟩ := Finset.mem_map.mp hi
      exact Finset.mem_map.mpr ⟨rhw.emb j, Finset.mem_univ _, rfl⟩
    · obtain ⟨j, -, rfl⟩ := Finset.mem_map.mp hi
      refine Finset.mem_map.mpr ⟨j, Finset.mem_univ _, ?_⟩
      show u.emb (rhw.emb j) = u.emb j
      rw [rhw_emb]
  have hr (f : Buf (Elt F) (u.loc (c : Thread nD τ))) : (u.slice rhw).read (Elt F) f = u.read (Elt F) f := by
    funext j
    rw [View.read_apply, View.read_apply]
    show cast _ (f (u.emb (rhw.emb j))) = cast _ (f (u.emb j))
    rw [rhw_emb]
  unfold Piece
  show (iprop(∃ f : Buf (Elt F) (u.loc (c : Thread nD τ)), ⌜(u.slice rhw).read (Elt F) f = x⌝ ∗ (u.loc (c : Thread nD τ) ↦[(u.slice rhw).set]{fullShare} f)) : AP F) = _
  simp only [hr]
  rw [hs]
theorem raw_rhw {sp : Space} {e : EltTy} (u : View sig .tc sp S64x8192 e) (c : Dev nD) :
    Raw (F := F) (u.slice rhw) c = Raw u c := by
  have hs : (u.slice rhw).set = u.set := by
    unfold View.set
    refine Finset.ext fun i => ⟨fun hi => ?_, fun hi => ?_⟩
    · obtain ⟨j, -, rfl⟩ := Finset.mem_map.mp hi
      exact Finset.mem_map.mpr ⟨rhw.emb j, Finset.mem_univ _, rfl⟩
    · obtain ⟨j, -, rfl⟩ := Finset.mem_map.mp hi
      refine Finset.mem_map.mpr ⟨j, Finset.mem_univ _, ?_⟩
      show u.emb (rhw.emb j) = u.emb j
      rw [rhw_emb]
  unfold Raw
  show (iprop(∃ f : Buf (Elt F) (u.loc (c : Thread nD τ)), (u.loc (c : Thread nD τ) ↦[(u.slice rhw).set]{fullShare} f)) : AP F) = _
  rw [hs]

/-! ## A message's piece as the rectangle loads and stores see it -/

theorem rv_piece (d : Bool) (sl : Fin 3) (b : Bool) (c : Dev nD) (x : Vec F S1x32x8192 .bf16) :
    Piece (rvP d sl b).view c (dn32 x) = Piece ((rvM d).access (r3 sl b)) c x :=
  piece_reshape (v := (rvM d).access (r3 sl b)) shapeCasts_S1x32x8192_S32x8192 c x
theorem sb_piece (d : Bool) (sl : Fin 3) (b : Bool) (c : Dev nD) (x : Vec F S1x32x8192 .bf16) :
    Piece (sbP d sl b).view c (dn32 x) = Piece ((sbM d).access (r3 sl b)) c x :=
  piece_reshape (v := (sbM d).access (r3 sl b)) shapeCasts_S1x32x8192_S32x8192 c x
theorem ag_piece (d : Bool) (sl : Fin 3) (b : Bool) (c : Dev nD) (x : Vec F S32x8192 .i8) :
    Piece (agP d sl b).view c x = Piece ((agM d).access (r3 sl b)) c (up32 x) := by
  have h := piece_reshape (F := F) (v := (agM d).access (r3 sl b)) shapeCasts_S1x32x8192_S32x8192 c (up32 x)
  rw [show shapeCast S32x8192 (up32 x) shapeCasts_S1x32x8192_S32x8192 = x from shapeCast_shapeCast _ _ _] at h
  exact h
theorem loc_piece (d : Bool) (sl : Fin 2) (c : Dev nD) (x : Vec F S64x8192 .f32) :
    Piece (locP d sl).view c x = Piece ((locM d).access (r2w sl)) c (up64 x) := by
  have h := piece_reshape (F := F) (v := (locM d).access (r2w sl)) shapeCasts_S1x64x8192_S64x8192 c (up64 x)
  rw [show shapeCast S64x8192 (up64 x) shapeCasts_S1x64x8192_S64x8192 = x from shapeCast_shapeCast _ _ _] at h
  exact h
theorem acc_piece (d : Bool) (sl : Fin 2) (c : Dev nD) (x : Vec F S64x8192 .f32) :
    Piece (accP d sl).view c x = Piece ((accM d).access (r2w sl)) c (up64 x) := by
  have h := piece_reshape (F := F) (v := (accM d).access (r2w sl)) shapeCasts_S1x64x8192_S64x8192 c (up64 x)
  rw [show shapeCast S64x8192 (up64 x) shapeCasts_S1x64x8192_S64x8192 = x from shapeCast_shapeCast _ _ _] at h
  exact h
theorem rv_raw (d : Bool) (sl : Fin 3) (b : Bool) (c : Dev nD) : Raw (F := F) (rvP d sl b).view c = Raw ((rvM d).access (r3 sl b)) c :=
  raw_reshape (v := (rvM d).access (r3 sl b)) _ c
theorem sb_raw (d : Bool) (sl : Fin 3) (b : Bool) (c : Dev nD) : Raw (F := F) (sbP d sl b).view c = Raw ((sbM d).access (r3 sl b)) c :=
  raw_reshape (v := (sbM d).access (r3 sl b)) _ c
theorem ag_raw (d : Bool) (sl : Fin 3) (b : Bool) (c : Dev nD) : Raw (F := F) (agP d sl b).view c = Raw ((agM d).access (r3 sl b)) c :=
  raw_reshape (v := (agM d).access (r3 sl b)) _ c
theorem loc_raw (d : Bool) (sl : Fin 2) (c : Dev nD) : Raw (F := F) (locP d sl).view c = Raw ((locM d).access (r2w sl)) c :=
  raw_reshape (v := (locM d).access (r2w sl)) _ c
theorem acc_raw (d : Bool) (sl : Fin 2) (c : Dev nD) : Raw (F := F) (accP d sl).view c = Raw ((accM d).access (r2w sl)) c :=
  raw_reshape (v := (accM d).access (r2w sl)) _ c

/-! ## The partial product, read through lent rows -/

variable (P : Dev nD → pM.view.ty.Contents (Elt F))

/-- The direction's share of the whole partial product. -/
def PW (d : Bool) (c : Dev nD) : AP F := iprop(pM.view.loc (c : Thread nD τ) ↦[Finset.univ]{psh d} (P c))

theorem lend_view (v : View sig .tc .hbm S4096x8192 .f32) (r : Rect S4096x8192) (c : Dev nD) (q : PosShare TreeShare)
    (f : Buf (Elt F) (v.loc (c : Thread nD τ))) :
    (v.loc (c : Thread nD τ) ↦[Finset.univ]{q} f : AP F) ⊢
      iprop((∃ g : Buf (Elt F) (v.loc (c : Thread nD τ)), ⌜(v.slice r).read (Elt F) g = (v.slice r).read (Elt F) f⌝
          ∗ (v.loc (c : Thread nD τ) ↦[(v.slice r).set]{q} g))
        ∗ ((∃ g : Buf (Elt F) (v.loc (c : Thread nD τ)), ⌜(v.slice r).read (Elt F) g = (v.slice r).read (Elt F) f⌝
          ∗ (v.loc (c : Thread nD τ) ↦[(v.slice r).set]{q} g)) -∗ (v.loc (c : Thread nD τ) ↦[Finset.univ]{q} f))) := by
  iintro H
  ihave H := (pointsTo_split_subset (Finset.subset_univ (v.slice r).set)).1 $$ H
  icases H with ⟨H1, H2⟩
  isplitl [H1]
  · iexists f
    isplitr; · ipureintro; rfl
    iexact H1
  iintro ⟨%g, %hg, H1⟩
  have e : (v.loc (c : Thread nD τ) ↦[(v.slice r).set]{q} g : AP F) = (v.loc (c : Thread nD τ) ↦[(v.slice r).set]{q} f) :=
    pointsTo_congr fun i hi => by
      obtain ⟨x, -, rfl⟩ := Finset.mem_map.mp hi
      have := congrFun hg x
      rw [View.read_apply, View.read_apply] at this
      exact (cast_inj _).mp this
  ihave H1 := (Entails.of_eq e) $$ H1
  iapply (pointsTo_split_subset (Finset.subset_univ (v.slice r).set)).2
  isplitl [H1]; · iexact H1
  iexact H2

theorem lend (d : Bool) (s : ℕ) (c : Dev nD) :
    PW P d c ⊢ iprop(Lent (pR c d s) c (psh d) (Pin P d s c) ∗ (Lent (pR c d s) c (psh d) (Pin P d s c) -∗ PW P d c)) := by
  cases d
  · exact lend_view pM.view _ c (psh false) (P c)
  · exact lend_view pM.view _ c (psh true) (P c)
theorem lend0 (d : Bool) (c : Dev nD) :
    PW P d c ⊢ iprop(Lent (pR0 c d) c (psh d) (Pin0 P d c) ∗ (Lent (pR0 c d) c (psh d) (Pin0 P d c) -∗ PW P d c)) := by
  cases d
  · exact lend_view pM.view _ c (psh false) (P c)
  · exact lend_view pM.view _ c (psh true) (P c)

end Cert.Ring
-- ==== Proof.Rs.lean ====
/-
  Runs of steps as triples, and what the reduce-scatter's lanes hold: a lane is a direction and a sub-block.
-/
module

public import proofs.«01_k».proof.Proof.Geo

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable (P : Dev nD → pM.view.ty.Contents (Elt F)) (κ : GSem nD τ sig → ℕ)

/-! ## Runs of items -/

/-- The items take `A` to `B`, whatever follows. -/
def Tr (c : Dev nD) (is : List (PG F PUnit)) (A B : AP F) : Prop :=
  ∀ (Φ : PUnit → AP F) (rest : List (PG F PUnit)),
    iprop(Ctx P κ ∗ A) ⊢ iprop((B -∗ wpq c (Pipeline.chain rest) Φ) -∗ wpq c (Pipeline.chain (is ++ rest)) Φ)

variable {P κ} {c : Dev nD}

theorem Tr.nil {A B : AP F} (h : A ⊢ B) : Tr P κ c [] A B := by
  intro Φ rest
  iintro ⟨-, H⟩ Hk
  iapply Hk
  iapply h; iexact H

theorem Tr.seq {is js : List (PG F PUnit)} {A B C : AP F} (h1 : Tr P κ c is A B) (h2 : Tr P κ c js B C) : Tr P κ c (is ++ js) A C := by
  intro Φ rest
  rw [List.append_assoc]
  iintro ⟨#HC, H⟩ Hk
  iapply (h1 Φ (js ++ rest)) $$ [H]
  · isplitr; · iexact HC
    iexact H
  iintro H
  iapply (h2 Φ rest) $$ [H]
  · isplitr; · iexact HC
    iexact H
  iexact Hk

theorem Tr.mono {is : List (PG F PUnit)} {A A' B B' : AP F} (h : Tr P κ c is A B) (hA : A' ⊢ A) (hB : B ⊢ B') : Tr P κ c is A' B' := by
  intro Φ rest
  iintro ⟨#HC, H⟩ Hk
  iapply (h Φ rest) $$ [H]
  · isplitr; · iexact HC
    iapply hA; iexact H
  iintro H
  iapply Hk
  iapply hB; iexact H

theorem Tr.op {op : TpuEff nD τ sig (Elt F) Λ₀ .tc PUnit} {A B : AP F}
    (h : ∀ (Φ : PUnit → AP F) (kk : PUnit → PG F PUnit), iprop(Ctx P κ ∗ A) ⊢ iprop((B -∗ wpq c (kk ⟨⟩) Φ) -∗ wpq c (.op op kk) Φ)) :
    Tr P κ c [Prog.lift op] A B := fun Φ rest => h Φ fun _ => Pipeline.chain rest

/-- A run of one item, before a list. -/
theorem Tr.cons {a : PG F PUnit} {A B : AP F} (h : Tr P κ c [a] A B) (Φ : PUnit → AP F) (rest : List (PG F PUnit)) :
    iprop(Ctx P κ ∗ A) ⊢ iprop((B -∗ wpq c (Pipeline.chain rest) Φ) -∗ wpq c (Pipeline.chain (a :: rest)) Φ) := h Φ rest
theorem Tr.cons2 {a a' : PG F PUnit} {A B : AP F} (h : Tr P κ c [a, a'] A B) (Φ : PUnit → AP F) (rest : List (PG F PUnit)) :
    iprop(Ctx P κ ∗ A) ⊢ iprop((B -∗ wpq c (Pipeline.chain rest) Φ) -∗ wpq c (Pipeline.chain (a :: a' :: rest)) Φ) := h Φ rest

/-- A loop of runs. -/
theorem Tr.loop {n : ℕ} (f : Fin n → List (PG F PUnit)) (I : ℕ → AP F)
    (h : ∀ i : Fin n, Tr P κ c (f i) (I i.val) (I (i.val + 1))) : Tr P κ c ((List.finRange n).flatMap f) (I 0) (I n) := by
  induction n with
  | zero => exact Tr.nil (Entails.refl _)
  | succ n ih =>
    rw [List.finRange_succ_last, List.flatMap_append, List.flatMap_map]
    refine Tr.seq (ih (fun i => f i.castSucc) (fun i => h i.castSucc)) ?_
    rw [List.flatMap_singleton]
    exact h (Fin.last n)

/-! ## Slots and levels -/

theorem slot3_add (w : ℕ) : slot3 (w + 3) = slot3 w := Fin.ext (Nat.add_mod_right w 3)
theorem slot2_add (w : ℕ) : slot2 (w + 2) = slot2 w := Fin.ext (Nat.add_mod_right w 2)
theorem div3_add (w : ℕ) : (w + 3) / 3 = w / 3 + 1 := by omega
theorem slot_round (w : ℕ) : 3 * (w / 3) + (slot3 w).val = w := by show 3 * (w / 3) + w % 3 = w; omega

theorem Above.mono {i j : ℕ} {l : List (Pay nD τ sig)} (h : Above j l) (hij : i ≤ j) : Above i l :=
  fun x hx => ⟨(h x hx).1, Nat.lt_of_le_of_lt hij (h x hx).2.1, (h x hx).2.2⟩
theorem Above.cons {i : ℕ} {l : List (Pay nD τ sig)} (h : Above i l) (x : Dev nD) (k : K) (lvl r : ℕ) (h1 : i < lvl) (h2 : lvl < NL) :
    Above i (due x k lvl r :: l) := by
  intro y hy
  rcases List.mem_cons.mp hy with rfl | hy
  · exact ⟨rfl, h1, h2⟩
  · exact h y hy
theorem Above.append {i : ℕ} {l l' : List (Pay nD τ sig)} (h : Above i l) (h' : Above i l') : Above i (l ++ l') :=
  fun x hx => (List.mem_append.mp hx).elim (h x) (h' x)

theorem peel {s n : ℕ} (hs : s < n) (f : ℕ → AP F) : bigSep (Finset.Ico s n) f = iprop(f s ∗ bigSep (Finset.Ico (s + 1) n) f) := by
  rw [show Finset.Ico s n = insert s (Finset.Ico (s + 1) n) by ext i; simp only [Finset.mem_insert, Finset.mem_Ico]; omega]
  exact bigSep_insert (by simp)

/-! ## Receiving cells -/

/-- The level of a receive. -/
def lvR (ph : Bool) (w : ℕ) : ℕ := match ph with
  | false => 2 * w + 2
  | true => 100 + 2 * w + 2

/-- The owner's place on the receive cell the message `w` comes to. -/
def AtR (ph d b : Bool) (c : Dev nD) (w : ℕ) : AP F := At c (.rcv ph d (slot3 w) b) (w / 3)
def AtS (ph d b : Bool) (c : Dev nD) (w : ℕ) : AP F := At c (.snd ph d (slot3 w) b) (w / 3)
/-- A receive piece that no message comes to any more. -/
def Rest (ph d b : Bool) (c : Dev nD) (w : ℕ) : AP F := if w ≤ 30 then iprop(emp) else DstRaw ph d (slot3 w) b c

/-- A step's tokens and the credit of its receive. -/
def Sup1 (ph d b : Bool) (c : Dev nD) (w : ℕ) : AP F :=
  iprop(Tok c (.snd ph d (slot3 w) b) (w / 3) 0 ∗ Tok (nb d c) (.rcv ph d (slot3 w) b) (w / 3) 0
    ∗ cred (tallyAt (cel c (.rcv ph d (slot3 w) b)) (lvR ph w) (amtR (.rcv ph d (slot3 w) b) (w / 3))))
def Sup (ph d b : Bool) (c : Dev nD) (s : ℕ) : AP F := bigSep (Finset.Ico s 31) (Sup1 (F := F) ph d b c)

theorem num_rcv (ph d b : Bool) {w : ℕ} (hw : w ≤ 30) : nums (.rcv ph d (slot3 w) b) (w / 3) = {0} := by
  show (if 3 * (w / 3) + (slot3 w).val ≤ 30 then ({0} : Finset ℕ) else ∅) = {0}
  rw [slot_round, if_pos hw]
theorem num_snd (ph d b : Bool) {w : ℕ} (hw : w ≤ 30) : nums (.snd ph d (slot3 w) b) (w / 3) = {0} := by
  show (if 3 * (w / 3) + (slot3 w).val ≤ 30 then ({0} : Finset ℕ) else ∅) = {0}
  rw [slot_round, if_pos hw]
theorem amtR_rcv (ph d b : Bool) (sl : Fin 3) (r : ℕ) : amtR (.rcv ph d sl b) r = amt (.rcv ph false 0 false) := by cases ph <;> rfl
theorem amtR_snd (ph d b : Bool) (sl : Fin 3) (r : ℕ) : amtR (.snd ph d sl b) r = amt (.rcv ph false 0 false) := by cases ph <;> rfl

theorem pay_rcv (ph d b : Bool) (c : Dev nD) (w : ℕ) : payOf P c (w / 3) 0 (.rcv ph d (slot3 w) b)
    = iprop(Msg P ph d (slot3 w) b c (nb (!d) c) w ∗ Grant ph (!d) b (nb (!d) c) (w + gap ph) ∗ Extra ph d b (nb (!d) c) w) := by
  show (iprop(Msg P ph d (slot3 w) b c (nb (!d) c) (3 * (w / 3) + (slot3 w).val)
      ∗ Grant ph (!d) b (nb (!d) c) (3 * (w / 3) + (slot3 w).val + gap ph) ∗ Extra ph d b (nb (!d) c) (3 * (w / 3) + (slot3 w).val)) : AP F) = _
  rw [slot_round]
theorem pay_rcv' (ph d b : Bool) (c : Dev nD) (w : ℕ) : payOf P (nb d c) (w / 3) 0 (.rcv ph d (slot3 w) b)
    = iprop(Msg P ph d (slot3 w) b (nb d c) c w ∗ Grant ph (!d) b c (w + gap ph) ∗ Extra ph d b c w) := by
  rw [pay_rcv, nb_nb]
theorem pay_snd (ph d b : Bool) (c : Dev nD) (w : ℕ) : payOf P c (w / 3) 0 (.snd ph d (slot3 w) b) = Src ph d (slot3 w) b c w := by
  show Src (F := F) ph d (slot3 w) b c (3 * (w / 3) + (slot3 w).val) = _
  rw [slot_round]

/-- A read piece is granted for its next message, or rests. -/
theorem regrant (ph d b : Bool) (c : Dev nD) (w : ℕ) :
    iprop(DstRaw ph d (slot3 w) b c ∗ At c (.rcv ph d (slot3 w) b) (w / 3))
      ⊢ iprop(Grant (F := F) ph d b c w ∗ Rest ph d b c w ∗ AtR ph d b c w) := by
  unfold Grant Rest AtR At
  iintro ⟨H, Ha, #Hr⟩
  by_cases h : w ≤ 30
  · rw [if_pos h, if_pos h]
    iframe # ∗
  · rw [if_neg h, if_neg h]
    iframe # ∗

/-! ## A reduce-scatter lane -/

section lane
variable (P) (d b : Bool) (c : Dev nD)

def Fly (w : ℕ) : AP F := iprop(At c (.snd false d (slot3 w) b) (w / 3)
  ∗ cred (tallyAt (cel c (.snd false d (slot3 w) b)) 0 (amtR (.snd false d (slot3 w) b) (w / 3))))
def Free (w : ℕ) : AP F := iprop(At c (.snd false d (slot3 w) b) (w / 3) ∗ Raw (sbP d (slot3 w) b).view c)
def Cur (w : ℕ) : AP F := iprop(At c (.snd false d (slot3 w) b) (w / 3) ∗ Piece (sbP d (slot3 w) b).view c (dn32 (Av P d w c b)))
/-- The slot the message `w` will leave from. -/
def FF (w : ℕ) : AP F := if w < 3 then Free d b c w else Fly d b c (w - 3)
theorem FF_add (w : ℕ) : FF (F := F) d b c (w + 3) = Fly d b c w := by
  unfold FF; rw [if_neg (by omega), Nat.add_sub_cancel]

/-- The slot filled for step `s`, and the place of the last sums. -/
def CurX (s : ℕ) : AP F := if s ≤ 30 then iprop(Cur P d b c s ∗ Raw ((accM d).access (r2 1 b)) c)
  else iprop(Free d b c s ∗ Piece ((accM d).access (r2 1 b)) c (Lastv P d c b))

/-- What stays as it is while a step sends and waits. -/
def Base (s : ℕ) : AP F :=
  iprop((Rest false d b c s ∗ Rest false d b c (s + 1) ∗ Rest false d b c (s + 2)) ∗ (AtR false d b c s ∗ AtR false d b c (s + 1) ∗ AtR false d b c (s + 2)))

/-- A lane at the start of step `s`. -/
def Lane (s : ℕ) : AP F :=
  iprop((CurX P d b c s ∗ FF d b c (s + 1) ∗ FF d b c (s + 2)) ∗ (Grant false d b (nb d c) s ∗ Grant false d b (nb d c) (s + 1))
    ∗ Grant false (!d) b c (s + 2) ∗ Base d b c s ∗ Sup false d b c s)
/-- The credit of the step's receive. -/
def CrR (s : ℕ) : AP F := cred (tallyAt (cel c (.rcv false d (slot3 s) b)) (lvR false s) (amtR (.rcv false d (slot3 s) b) (s / 3)))
/-- A lane that has sent. -/
def LaneA (s : ℕ) : AP F :=
  iprop((FF d b c (s + 3) ∗ FF d b c (s + 1) ∗ FF d b c (s + 2)) ∗ Raw ((accM d).access (r2 1 b)) c ∗ Grant false d b (nb d c) (s + 1)
    ∗ Base d b c s ∗ CrR d b c s ∗ Sup false d b c (s + 1))
/-- A lane whose next slot is free. -/
def LaneB (s : ℕ) : AP F :=
  iprop((FF d b c (s + 3) ∗ Free d b c (s + 1) ∗ FF d b c (s + 2)) ∗ Raw ((accM d).access (r2 1 b)) c ∗ Grant false d b (nb d c) (s + 1)
    ∗ Base d b c s ∗ CrR d b c s ∗ Sup false d b c (s + 1))
/-- A lane that has its message. -/
def LaneR (s : ℕ) : AP F :=
  iprop((FF d b c (s + 3) ∗ Free d b c (s + 1) ∗ FF d b c (s + 2)) ∗ Raw ((accM d).access (r2 1 b)) c ∗ Grant false d b (nb d c) (s + 1)
    ∗ (Rest false d b c (s + 1) ∗ Rest false d b c (s + 2)) ∗ (AtR false d b c (s + 1) ∗ AtR false d b c (s + 2))
    ∗ At c (.rcv false d (slot3 s) b) (s / 3 + 1) ∗ Piece (rvP d (slot3 s) b).view c (dn32 (Av P d s (nb (!d) c) b)) ∗ Sup false d b c (s + 1))
/-- A lane that has stored its sum. -/
def LaneC (s : ℕ) : AP F :=
  iprop((CurX P d b c (s + 1) ∗ FF d b c (s + 2) ∗ FF d b c (s + 3)) ∗ Grant false d b (nb d c) (s + 1) ∗ Base d b c (s + 1) ∗ Sup false d b c (s + 1))
/-- What a lane's receive gives the lane of the other direction. -/
def Out (s : ℕ) : AP F := iprop(Grant false (!d) b (nb (!d) c) (s + 2) ∗ Grant false d b c (s + 3))

theorem laneC_lane (s : ℕ) : iprop(LaneC P d b c s ∗ Out (!d) b c s) ⊢ Lane P d b c (s + 1) := by
  unfold LaneC Out Lane
  rw [Bool.not_not]
  iintro ⟨⟨H1, H2, H3, H4⟩, H5, H6⟩
  iframe H1 H2 H3 H4 H5 H6

theorem laneA_laneB {s : ℕ} (hs : s < 2) : LaneA (F := F) d b c s ⊢ LaneB d b c s := by
  unfold LaneA LaneB
  rw [show FF (F := F) d b c (s + 1) = Free d b c (s + 1) by unfold FF; rw [if_pos (by omega)]]

end lane

variable (d b : Bool)

theorem rsSend_T {s : ℕ} (hs : s ≤ 30) (l : List (Pay nD τ sig)) :
    Tr P κ c [rsSend (rgtW c) (hrgt c) (lftW c) (hlft c) s d b]
      iprop(Lane P d b c s ∗ Extra false d b c s ∗ Owe c (due (nb d c) (.rcv false d (slot3 s) b) (2 * s + 2) (s / 3) :: l))
      iprop(LaneA d b c s ∗ Owe c l) := by
  unfold rsSend send
  rw [nbr_eq]
  refine Tr.op fun Φ kk => ?_
  unfold Lane LaneA
  rw [show CurX P d b c s = iprop(Cur P d b c s ∗ Raw ((accM d).access (r2 1 b)) c) by unfold CurX; rw [if_pos hs], FF_add]
  unfold Cur Sup
  rw [peel (by omega : s < 31)]
  rw [show Grant (F := F) false d b (nb d c) s = iprop(DstRaw false d (slot3 s) b (nb d c) ∗ reached ER (cel (nb d c) (.rcv false d (slot3 s) b)) (s / 3)) by
    unfold Grant; rw [if_pos hs]]
  unfold Sup1 At Fly CrR
  iintro ⟨#HC, ⟨⟨⟨⟨⟨Hat, #Hr1⟩, Hp⟩, Hacc⟩, Hf1, Hf2⟩, ⟨⟨Hd, #Hr2⟩, Hg⟩, Hgn, Hb, ⟨Ht1, Ht2, Hcr⟩, Hsup⟩, Hx, HO⟩ Hk
  iapply (dma_send P (.snd false d (slot3 s) b) (.rcv false d (slot3 s) b) (s / 3) (s / 3) (2 * s + 2) rfl rfl
    (by rw [num_snd _ _ _ hs]; exact Finset.mem_singleton_self _) (by rw [num_rcv _ _ _ hs]; exact Finset.mem_singleton_self _)
    rfl (nb_nb d c) (by rw [amtR_snd]; exact amt_rv d _ b _ rfl) (by rw [amtR_rcv]; exact amt_rv d _ b _ rfl)
    (by rw [pay_snd]; exact Piece.raw _ _ _) (x := dn32 (Av P d s c b)) (X := iprop(Grant false (!d) b c (s + 2) ∗ Extra false d b c s))
    (by rw [pay_rcv']; exact Entails.refl _)) $$ [Hp Hd Hgn Hx HO Ht1 Ht2]
  · iframe # ∗
    unfold DstRaw; iexact Hd
  iintro ⟨Hc, HO⟩
  iapply Hk
  unfold At
  iframe # ∗

/-- A send's wait gives its slot back. -/
theorem fly_wait (w : ℕ) (hw : w ≤ 30) (l : List (Pay nD τ sig)) (hA : Above 0 l) :
    Tr P κ c [rsWaitSend w d b] iprop(Fly d b c w ∗ Owe c l) iprop(Free d b c (w + 3) ∗ Owe c l) := by
  unfold rsWaitSend
  refine Tr.op fun Φ kk => ?_
  unfold Fly Free
  iintro ⟨#HC, ⟨Hat, Hc⟩, HO⟩ Hk
  iapply (dma_wait P (.snd false d (slot3 w) b) (w / 3) 0 rfl (num_snd _ _ _ hw) (by rw [amtR_snd]; exact amt_sb d _ b _ rfl) (by decide) hA) $$ [Hat Hc HO]
  · iframe # ∗
  iintro ⟨HO, Hat, Hp⟩
  ihave Hp := (Entails.of_eq (pay_snd (P := P) false d b c w)) $$ Hp
  iapply Hk
  rw [slot3_add, div3_add]
  unfold Src
  iframe # ∗

theorem rsWaitSend_T {s : ℕ} (h2 : 2 ≤ s) (hs : s ≤ 30) (l : List (Pay nD τ sig)) (hA : Above 0 l) :
    Tr P κ c [rsWaitSend (s - 2) d b] iprop(LaneA d b c s ∗ Owe c l) iprop(LaneB d b c s ∗ Owe c l) := by
  intro Φ rest
  unfold LaneA LaneB
  obtain ⟨w, rfl⟩ : ∃ w, s = w + 2 := ⟨s - 2, by omega⟩
  rw [Nat.add_sub_cancel, show w + 2 + 1 = w + 3 from rfl, FF_add d b c w]
  iintro ⟨#HC, ⟨⟨H1, H2, H3⟩, H4⟩, HO⟩ Hk
  iapply (fly_wait d b w (by omega) l hA Φ rest) $$ [H2 HO]
  · iframe # ∗
  iintro ⟨H2, HO⟩
  iapply Hk
  iframe # ∗

theorem rsRecv_T {s : ℕ} (hs : s ≤ 30) (l : List (Pay nD τ sig)) (hA : Above (2 * s + 2) l) :
    Tr P κ c [rsRecvWait s d b] iprop(LaneB d b c s ∗ Owe c l)
      iprop(LaneR P d b c s ∗ Grant false (!d) b (nb (!d) c) (s + 2) ∗ Extra false d b (nb (!d) c) s ∗ Owe c l) := by
  unfold rsRecvWait
  refine Tr.op fun Φ kk => ?_
  unfold LaneB LaneR Base
  rw [show Rest (F := F) false d b c s = iprop(emp) by unfold Rest; rw [if_pos hs]]
  unfold CrR AtR
  iintro ⟨#HC, ⟨H1, H2, H3, ⟨⟨-, H4⟩, Hat, H5⟩, Hc, H6⟩, HO⟩ Hk
  iapply (dma_wait P (.rcv false d (slot3 s) b) (s / 3) (lvR false s) rfl (num_rcv _ _ _ hs) (by rw [amtR_rcv]; exact amt_rv d _ b _ rfl)
    (by show 2 * s + 2 < 300; omega) hA) $$ [Hat Hc HO]
  · iframe # ∗
  iintro ⟨HO, Hat, Hp⟩
  ihave Hp := (Entails.of_eq (pay_rcv (P := P) false d b c s)) $$ Hp
  icases Hp with ⟨Hm, Hg, He⟩
  iapply Hk
  unfold Msg
  iframe H1 H2 H3 H4 H5 H6 HO Hat Hm He
  iexact Hg

theorem rsAdd_chain (s : ℕ) (rest : List (PG F PUnit)) : Pipeline.chain (rsAdd (F := F) s d b :: rest)
    = .op (.load (rvM d) (r3 (slot3 s) b).toLoadRect (View.loadsAt_vmem h_S1x32x8192)) fun v =>
      .op (.load (locM d) (r2 (slot2 s) b).toLoadRect (View.loadsAt_vmem h_S1x32x8192)) fun w =>
      .op (.load (sbM d) (r3 (slot3 (s + 1)) b).toLoadRect (View.loadsAt_vmem h_S1x32x8192)) fun _ =>
      .op (.store (sbM d) (r3 (slot3 (s + 1)) b) (payAdd v w) Finset.univ
        (View.stores_vmem h_S1x32x8192 ((sbM_whole d).storeExact_slice rfl _ (packed_bf16 _ _)) (fun _ => rfl)) (.inl rfl)) fun _ => Pipeline.chain rest := rfl
theorem rsLast_chain (s : ℕ) (rest : List (PG F PUnit)) : Pipeline.chain (rsLast (F := F) s d b :: rest)
    = .op (.load (rvM d) (r3 (slot3 s) b).toLoadRect (View.loadsAt_vmem h_S1x32x8192)) fun v =>
      .op (.load (locM d) (r2 (slot2 s) b).toLoadRect (View.loadsAt_vmem h_S1x32x8192)) fun w =>
      .op (.load (accM d) (r2 1 b).toLoadRect (View.loadsAt_vmem h_S1x32x8192)) fun _ =>
      .op (.store (accM d) (r2 1 b) (payLast v w) Finset.univ (View.stores_vmem_bits_univ h_S1x32x8192 rfl) (.inl rfl)) fun _ => Pipeline.chain rest := rfl

/-- The local block of the step, fetched. -/
def LocP (P : Dev nD → pM.view.ty.Contents (Elt F)) (d : Bool) (c : Dev nD) (s : ℕ) : AP F := Piece (locP d (slot2 s)).view c (Pin P d s c)

theorem store_T {s : ℕ} (hs : s ≤ 30) :
    Tr P κ c [rsStore s d b]
      iprop(Piece (rvP d (slot3 s) b).view c (dn32 (Av P d s (nb (!d) c) b)) ∗ LocP P d c s ∗ Free d b c (s + 1) ∗ Raw ((accM d).access (r2 1 b)) c)
      iprop(Raw (rvP d (slot3 s) b).view c ∗ LocP P d c s ∗ CurX P d b c (s + 1)) := by
  intro Φ rest
  unfold CurX Free Cur LocP
  rw [rv_piece, loc_piece, rv_raw, sb_raw, sb_piece]
  by_cases h : s < 30
  · rw [show rsStore (F := F) s d b = rsAdd s d b by unfold rsStore; rw [if_pos h], if_pos (by omega : s + 1 ≤ 30)]
    show _ ⊢ iprop(_ -∗ wpq c (Pipeline.chain (rsAdd (F := F) s d b :: rest)) Φ)
    rw [rsAdd_chain]
    iintro ⟨#HC, Hv, Hl, ⟨Hat, Hs⟩, Ha⟩ Hk
    iapply load_at $$ Hv
    iintro Hv
    iapply (load_in (hIx b) (r2_hIx (slot2 s) b)) $$ Hl
    iintro Hl
    iapply (load_raw (fun _ => rfl)) $$ Hs
    iintro Hs
    iapply store_at $$ Hs
    iintro Hs
    iapply Hk
    ihave Hv := (Piece.raw _ _ _) $$ Hv
    iframe Hv Hl Hat Ha
    iexact Hs
  · obtain rfl : s = 30 := by omega
    rw [show rsStore (F := F) 30 d b = rsLast 30 d b from rfl, if_neg (by decide : ¬ 30 + 1 ≤ 30)]
    show _ ⊢ iprop(_ -∗ wpq c (Pipeline.chain (rsLast (F := F) 30 d b :: rest)) Φ)
    rw [rsLast_chain]
    iintro ⟨#HC, Hv, Hl, ⟨Hat, Hs⟩, Ha⟩ Hk
    iapply load_at $$ Hv
    iintro Hv
    iapply (load_in (hIx b) (r2_hIx (slot2 30) b)) $$ Hl
    iintro Hl
    iapply (load_raw (fun _ => rfl)) $$ Ha
    iintro Ha
    iapply store_at $$ Ha
    iintro Ha
    iapply Hk
    ihave Hv := (Piece.raw _ _ _) $$ Hv
    iframe Hv Hl Hat Hs
    iexact Ha

theorem rsStore_T {s : ℕ} (hs : s ≤ 30) :
    Tr P κ c [rsStore s d b] iprop(LaneR P d b c s ∗ LocP P d c s)
      iprop(LaneC P d b c s ∗ Grant false d b c (s + 3) ∗ LocP P d c s) := by
  intro Φ rest
  unfold LaneR LaneC Base
  iintro ⟨#HC, ⟨⟨H1, H2, H3⟩, H4, H5, H6, H7, Hat, Hp, H8⟩, HL⟩ Hk
  iapply (store_T d b hs Φ rest) $$ [Hp HL H2 H4]
  · iframe # ∗
  iintro ⟨Hv, HL, H2⟩
  ihave H := (regrant false d b c (s + 3)) $$ [Hv Hat]
  · rw [slot3_add, div3_add]; unfold DstRaw; iframe # ∗
  icases H with ⟨Hg, Hr, Ha⟩
  iapply Hk
  icases H6 with ⟨H61, H62⟩
  icases H7 with ⟨H71, H72⟩
  iframe # ∗

end Cert.Ring
-- ==== Proof.RsStep.lean ====
/-
  The reduce-scatter's step: the four lanes together, the fetched blocks, the credits and the rows that travel along.
-/
module

public import proofs.«01_k».proof.Proof.Rs

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-! ## Fetches -/

section fetch
variable (P) (d : Bool) (c : Dev nD)

def SupP (s : ℕ) : AP F := bigSep (Finset.Ico s 31) fun w => Tok (F := F) c (.pf d) (w + 1) 0
/-- A direction's fetches at the start of step `s`. -/
def PF (s : ℕ) : AP F :=
  iprop(At c (.pf d) (s + 1) ∗ Raw (locP d (slot2 s)).view c ∗ Raw (locP d (slot2 (s + 1))).view c ∗ PW P d c ∗ SupP d c s)
def PFA (s : ℕ) : AP F :=
  iprop(At c (.pf d) (s + 1) ∗ cred (tallyAt (cel c (.pf d)) 0 (amtR (.pf d) (s + 1))) ∗ Raw (locP d (slot2 (s + 1))).view c
    ∗ (Lent (pR c d s) c (psh d) (Pin P d s c) -∗ PW P d c) ∗ SupP d c (s + 1))
def PFB (s : ℕ) : AP F := iprop(At c (.pf d) (s + 2) ∗ Raw (locP d (slot2 (s + 1))).view c ∗ PW P d c ∗ SupP d c (s + 1))

theorem pf_next (s : ℕ) : iprop(PFB P d c s ∗ LocP P d c s) ⊢ PF P d c (s + 1) := by
  unfold PFB PF LocP
  iintro ⟨⟨H1, H2, H3, H4⟩, H5⟩
  ihave H5 := (Piece.raw _ _ _) $$ H5
  rw [show s + 1 + 1 = s + 2 from rfl, slot2_add]
  iframe # ∗

end fetch

variable (d b : Bool)

theorem num_pf (d : Bool) {r : ℕ} (h : r < 32) : nums (.pf d) r = {0} := by
  show (if r < 32 then ({0} : Finset ℕ) else ∅) = {0}
  rw [if_pos h]
theorem amt_loc (d : Bool) (sl : Fin 2) (r : ℕ) : (locP d sl).view.dmaCredit = amtR (.pf d) r := by cases d <;> rfl
theorem amt_acc (d : Bool) (sl : Fin 2) (r : ℕ) : (accP d sl).view.dmaCredit = amtR (.pf d) r := by cases d <;> rfl

theorem fetch_T {s : ℕ} (hs : s ≤ 30) :
    Tr P κ c [fetch (pR c d s) (locP d (slot2 s)) (pfSem d)] (PF P d c s) (PFA P d c s) := by
  unfold fetch
  refine Tr.op fun Φ kk => ?_
  unfold PF PFA SupP At
  rw [peel (by omega : s < 31)]
  iintro ⟨#HC, ⟨Hat, #Hr⟩, Hd, Hd', HP, Ht, Hs⟩ Hk
  ihave HP := (lend P d s c) $$ HP
  icases HP with ⟨HL, HP⟩
  iapply (dma_copy P (.pf d) (s + 1) 0 rfl (by rw [num_pf d (by omega)]; exact Finset.mem_singleton_self _) rfl (amt_loc d _ _)
    (q := psh d) (x := Pin P d s c) (Entails.refl _)) $$ [HL Hd Ht]
  · unfold Lent
    iframe # ∗
  iintro Hc
  iapply Hk
  iframe # ∗

theorem fetchWait_T {s : ℕ} (hs : s ≤ 30) (l : List (Pay nD τ sig)) (hA : Above 0 l) :
    Tr P κ c [fetchWait (pR c d s) (locP d (slot2 s)) (pfSem d)] iprop(PFA P d c s ∗ Owe c l) iprop(PFB P d c s ∗ LocP P d c s ∗ Owe c l) := by
  unfold fetchWait
  refine Tr.op fun Φ kk => ?_
  unfold PFA PFB LocP
  iintro ⟨#HC, ⟨Hat, Hc, Hd', HP, Hs⟩, HO⟩ Hk
  iapply (dma_wait P (.pf d) (s + 1) 0 rfl (num_pf d (by omega)) (amt_loc d _ _) (by decide) hA) $$ [Hat Hc HO]
  · iframe # ∗
  iintro ⟨HO, Hat, Hp⟩
  ihave Hp := (show payOf P c (s + 1) 0 (.pf d) ⊢ iprop(Piece (locP d (slot2 s)).view c (Pin P d s c) ∗ Lent (pR c d s) c (psh d) (Pin P d s c))
    from Entails.refl _) $$ Hp
  icases Hp with ⟨Hp, HL⟩
  ihave HP := HP $$ HL
  iapply Hk
  iframe # ∗

/-! ## Credits -/

theorem crdW_T (ph d : Bool) (n lvl : ℕ) (l : List (Pay nD τ sig)) (hl : lvl < NL) (hA : Above lvl l) :
    Tr P κ c [credWait ph d] iprop(CrdAt c ph d n ∗ cred (tallyAt (cel c (.crd ph d)) lvl 1) ∗ Owe c l) iprop(CrdAt c ph d (n + 1) ∗ Owe c l) := by
  show Tr P κ c [Prog.lift (.semWait (crSem ph d) (1#32 : BitVec 32).toInt)] _ _
  refine Tr.op fun Φ kk => ?_
  iintro ⟨#HC, Ha, Hc, HO⟩ Hk
  iapply (crd_wait P ph d n lvl hl hA) $$ [Ha Hc HO]
  · iframe # ∗
  iintro ⟨HO, Ha⟩
  iapply Hk
  iframe # ∗

theorem crdS_T (ph d : Bool) {n : ℕ} (hn : n < 28) (lvl : ℕ) (l : List (Pay nD τ sig)) :
    Tr P κ c [credSignal (rgtW c) (hrgt c) (lftW c) (hlft c) ph d]
      iprop(Tok (nb (!d) c) (.crd ph d) 0 n ∗ reached ER (cel (nb (!d) c) (.crd ph d)) 0 ∗ Owe c (due (nb (!d) c) (.crd ph d) lvl 0 :: l))
      (Owe c l) := by
  unfold credSignal
  rw [nbr_eq]
  show Tr P κ c [Prog.lift (.semSignal (nb (!d) c : Thread nD τ) (crSem ph d) (1#32 : BitVec 32).toInt)] _ _
  refine Tr.op fun Φ kk => ?_
  iintro ⟨#HC, Ht, #Hr, HO⟩ Hk
  iapply (sig_one P (.crd ph d) n lvl (by show n ∈ Finset.range 28; exact Finset.mem_range.mpr hn) rfl
    (by show nb d (nb (!d) c) = c; exact nb_nb' d c) rfl (X := iprop(emp)) (Entails.refl _)) $$ [Ht HO]
  · iframe # ∗
  iexact Hk

section crd
variable (d : Bool) (c : Dev nD)

def SupC1 (w : ℕ) : AP F :=
  iprop((if 3 ≤ w then cred (tallyAt (cel c (.crd false d)) (2 * (w - 3) + 3) 1) else emp)
    ∗ (if w < 28 then Tok (nb (!d) c) (.crd false d) 0 w else emp))
def SupC (s : ℕ) : AP F := bigSep (Finset.Ico s 31) (SupC1 (F := F) d c)
/-- A direction's credits at the start of step `s`. -/
def CR (s : ℕ) : AP F :=
  iprop(reached ER (cel (nb (!d) c) (.crd false d)) 0 ∗ CrdAt c false d (s - 3) ∗ SupC d c s)
def CRW (s : ℕ) : AP F :=
  iprop(reached ER (cel (nb (!d) c) (.crd false d)) 0 ∗ CrdAt c false d (s + 1 - 3) ∗ (if s < 28 then Tok (nb (!d) c) (.crd false d) 0 s else emp) ∗ SupC d c (s + 1))

theorem cr_skip {s : ℕ} (hs : s < 3) : CR (F := F) d c s ⊢ CRW d c s := by
  unfold CR CRW SupC
  rw [peel (by omega : s < 31)]
  unfold SupC1
  rw [if_neg (by omega : ¬ 3 ≤ s), show s - 3 = s + 1 - 3 by omega]
  iintro ⟨#H1, H2, ⟨-, H3⟩, H4⟩
  iframe # ∗
theorem cr_skip' {s : ℕ} (hs : ¬ s < 28) : CRW (F := F) d c s ⊢ CR d c (s + 1) := by
  unfold CR CRW
  rw [if_neg hs]
  iintro ⟨#H1, H2, -, H4⟩
  iframe # ∗

end crd

theorem cr_wait {s : ℕ} (h3 : 3 ≤ s) (hs : s ≤ 30) (l : List (Pay nD τ sig)) (hA : Above (2 * s) l) :
    Tr P κ c [credWait false d] iprop(CR d c s ∗ Owe c l) iprop(CRW d c s ∗ Owe c l) := by
  intro Φ rest
  simp only [List.cons_append, List.nil_append]
  unfold CR CRW SupC
  rw [peel (by omega : s < 31)]
  unfold SupC1
  rw [if_pos h3]
  iintro ⟨#HC, ⟨#H1, H2, ⟨Hc, H3⟩, H4⟩, HO⟩ Hk
  iapply ((crdW_T (P := P) false d (s - 3) (2 * (s - 3) + 3) l (by show 2 * (s - 3) + 3 < 300; omega) (hA.mono (by omega))).cons Φ _) $$ [H2 Hc HO]
  · iframe # ∗
  iintro ⟨H2, HO⟩
  iapply Hk
  rw [show s - 3 + 1 = s + 1 - 3 by omega]
  iframe # ∗

theorem cr_signal {s : ℕ} (hs : s < 28) (l : List (Pay nD τ sig)) :
    Tr P κ c [credSignal (rgtW c) (hrgt c) (lftW c) (hlft c) false d]
      iprop(CRW d c s ∗ Owe c (due (nb (!d) c) (.crd false d) (2 * s + 3) 0 :: l)) iprop(CR d c (s + 1) ∗ Owe c l) := by
  intro Φ rest
  simp only [List.cons_append, List.nil_append]
  unfold CR CRW
  rw [if_pos hs]
  iintro ⟨#HC, ⟨#H1, H2, Ht, H4⟩, HO⟩ Hk
  iapply ((crdS_T (P := P) false d hs (2 * s + 3) l).cons Φ _) $$ [Ht HO]
  · iframe # ∗
  iintro HO
  iapply Hk
  iframe # ∗

/-! ## The rows that travel along -/

theorem hop_a : ∀ (c : Dev nD) (k : Fin 5) (s : Fin 31), hop (back (s.val + 1) c) k = s.val + 1 → back (s.val + 1) c = xDv k c := by decide +kernel
theorem hop_b : ∀ (c : Dev nD) (k : Fin 5) (s : Fin 31), hop (xDv k c) k = s.val + 1 → back (s.val + 1) c = xDv k c := by decide +kernel
theorem hop_pos : ∀ (c : Dev nD) (k : Fin 5), 0 < hop c k := by decide +kernel
theorem hop_le : ∀ (c : Dev nD) (k : Fin 5), hop c k ≤ 31 := by decide +kernel

theorem carry_one (c : Dev nD) {s : ℕ} (hs : s ≤ 30) (k : Fin 5) :
    iprop(GathK c s k ∗ CarryK (nb true c) s k) ⊢ iprop(GathK (F := F) c (s + 1) k ∗ CarryK c (s + 1) k) := by
  unfold GathK CarryK
  rw [show back s (nb true c) = back (s + 1) c from rfl]
  have ha := hop_a c k ⟨s, by omega⟩
  have hb := hop_b c k ⟨s, by omega⟩
  by_cases h : hop (back (s + 1) c) k = s + 1
  · have e := ha h
    rw [e] at h ⊢
    rw [if_neg (by omega), if_pos (by omega), if_pos (by omega), if_neg (by omega)]
    iintro ⟨-, H⟩
    iframe # ∗
  · have h' : hop (xDv k c) k ≠ s + 1 := fun h' => by
      have e := hb h'
      exact h ((congrArg (fun q => hop q k) e).trans h')
    have e1 : (hop (xDv k c) k ≤ s + 1) = (hop (xDv k c) k ≤ s) := propext (by omega)
    have e2 : (s + 1 < hop (back (s + 1) c) k) = (s < hop (back (s + 1) c) k) := propext (by omega)
    simp only [e1, e2]
    exact Entails.refl _

theorem carry_step (c : Dev nD) {s : ℕ} (hs : s ≤ 30) :
    iprop(Gath c s ∗ Carry (nb true c) s) ⊢ iprop(Gath (F := F) c (s + 1) ∗ Carry c (s + 1)) := by
  unfold Gath Carry
  iintro ⟨⟨A0, A1, A2, A3, A4⟩, B0, B1, B2, B3, B4⟩
  ihave H0 := (carry_one c hs 0) $$ [A0 B0]; · iframe A0 B0
  ihave H1 := (carry_one c hs 1) $$ [A1 B1]; · iframe A1 B1
  ihave H2 := (carry_one c hs 2) $$ [A2 B2]; · iframe A2 B2
  ihave H3 := (carry_one c hs 3) $$ [A3 B3]; · iframe A3 B3
  ihave H4 := (carry_one c hs 4) $$ [A4 B4]; · iframe A4 B4
  icases H0 with ⟨A0, B0⟩
  icases H1 with ⟨A1, B1⟩
  icases H2 with ⟨A2, B2⟩
  icases H3 with ⟨A3, B3⟩
  icases H4 with ⟨A4, B4⟩
  isplitl [A0 A1 A2 A3 A4]
  · iframe A0 A1 A2 A3 A4
  · iframe B0 B1 B2 B3 B4

/-! ## The step -/

attribute [local irreducible] Lane LaneA LaneB LaneR LaneC Out Owe PF PFA PFB CR CRW Carry Gath LocP Ctx Grant Extra

def rsSends (c : Dev nD) (s : ℕ) : List (Pay nD τ sig) :=
  [due (nb false c) (.rcv false false (slot3 s) false) (2 * s + 2) (s / 3), due (nb true c) (.rcv false true (slot3 s) false) (2 * s + 2) (s / 3),
    due (nb false c) (.rcv false false (slot3 s) true) (2 * s + 2) (s / 3), due (nb true c) (.rcv false true (slot3 s) true) (2 * s + 2) (s / 3)]
def rsCrds (c : Dev nD) (s : ℕ) : List (Pay nD τ sig) :=
  if s < 28 then [due (nb true c) (.crd false false) (2 * s + 3) 0, due (nb false c) (.crd false true) (2 * s + 3) 0] else []

theorem above_rsCrds (c : Dev nD) {s : ℕ} : Above (2 * s + 2) (rsCrds c s) := by
  unfold rsCrds
  split
  · intro x hx
    simp only [List.mem_cons, List.not_mem_nil, or_false] at hx
    rcases hx with rfl | rfl
    · exact ⟨rfl, by show 2 * s + 2 < 2 * s + 3; omega, by show 2 * s + 3 < 300; omega⟩
    · exact ⟨rfl, by show 2 * s + 2 < 2 * s + 3; omega, by show 2 * s + 3 < 300; omega⟩
  · intro x hx; exact absurd hx List.not_mem_nil
theorem above_rsSends (c : Dev nD) {s : ℕ} (hs : s ≤ 30) : Above (2 * s + 1) (rsSends c s) := by
  intro x hx
  unfold rsSends at hx
  simp only [List.mem_cons, List.not_mem_nil, or_false] at hx
  rcases hx with rfl | rfl | rfl | rfl <;>
    exact ⟨rfl, by show 2 * s + 1 < 2 * s + 2; omega, by show 2 * s + 2 < 300; omega⟩

section step
variable (P) (c : Dev nD)
/-- The four lanes, in the order of the sends. -/
def Lanes (L : Bool → Bool → AP F) : AP F := iprop(L false false ∗ L true false ∗ L false true ∗ L true true)
/-- A device at the start of step `s`. -/
def St (s : ℕ) : AP F :=
  iprop(Lanes (fun d b => Lane P d b c s) ∗ (PF P false c s ∗ PF P true c s) ∗ (CR false c s ∗ CR true c s) ∗ Gath c s ∗ Carry c s)
end step

theorem extra_ff (c : Dev nD) (s : ℕ) : Extra (F := F) false false false c s = Carry c s := by unfold Extra; rw [if_pos ⟨rfl, rfl, rfl⟩]
theorem extra_no (ph d b : Bool) (h : ¬(ph = false ∧ d = false ∧ b = false)) (c : Dev nD) (s : ℕ) : Extra (F := F) ph d b c s = iprop(emp) := by
  unfold Extra; rw [if_neg h]

/-- The step's waits for credit. -/
theorem crds_T {s : ℕ} (hs : s ≤ 30) (l : List (Pay nD τ sig)) (hA : Above (2 * s) l) :
    Tr P κ c (if 3 ≤ s then [credWait false false, credWait false true] else [])
      iprop((CR false c s ∗ CR true c s) ∗ Owe c l) iprop((CRW false c s ∗ CRW true c s) ∗ Owe c l) := by
  split
  · rename_i h
    intro Φ rest
    simp only [List.cons_append, List.nil_append]
    iintro ⟨#HC, ⟨H1, H2⟩, HO⟩ Hk
    iapply ((cr_wait (P := P) false h hs l hA).cons Φ _) $$ [H1 HO]
    · iframe # ∗
    iintro ⟨H1, HO⟩
    iapply ((cr_wait (P := P) true h hs l hA).cons Φ _) $$ [H2 HO]
    · iframe # ∗
    iintro ⟨H2, HO⟩
    iapply Hk
    iframe # ∗
  · rename_i h
    refine Tr.nil ?_
    iintro ⟨⟨H1, H2⟩, HO⟩
    ihave H1 := (cr_skip false c (by omega : s < 3)) $$ H1
    ihave H2 := (cr_skip true c (by omega : s < 3)) $$ H2
    iframe # ∗

/-- The step's sends. -/
theorem sends_T {s : ℕ} (hs : s ≤ 30) (l : List (Pay nD τ sig)) :
    Tr P κ c [rsSend (rgtW c) (hrgt c) (lftW c) (hlft c) s false false, rsSend (rgtW c) (hrgt c) (lftW c) (hlft c) s true false,
        rsSend (rgtW c) (hrgt c) (lftW c) (hlft c) s false true, rsSend (rgtW c) (hrgt c) (lftW c) (hlft c) s true true]
      iprop(Lanes (fun d b => Lane P d b c s) ∗ Carry c s ∗ Owe c (rsSends c s ++ l)) iprop(Lanes (fun d b => LaneA d b c s) ∗ Owe c l) := by
  intro Φ rest
  simp only [List.cons_append, List.nil_append]
  simp only [Lanes, rsSends]
  have e1 := extra_no (F := F) false true false (by decide) c s
  have e2 := extra_no (F := F) false false true (by decide) c s
  have e3 := extra_no (F := F) false true true (by decide) c s
  have h1 := fun l => rsSend_T (P := P) (κ := κ) (c := c) false false hs l
  have h2 := fun l => rsSend_T (P := P) (κ := κ) (c := c) true false hs l
  have h3 := fun l => rsSend_T (P := P) (κ := κ) (c := c) false true hs l
  have h4 := fun l => rsSend_T (P := P) (κ := κ) (c := c) true true hs l
  rw [extra_ff] at h1
  rw [e1] at h2
  rw [e2] at h3
  rw [e3] at h4
  iintro ⟨#HC, ⟨H1, H2, H3, H4⟩, HX, HO⟩ Hk
  iapply ((h1 (due (nb true c) (.rcv false true (slot3 s) false) (2 * s + 2) (s / 3) :: due (nb false c) (.rcv false false (slot3 s) true) (2 * s + 2) (s / 3) :: due (nb true c) (.rcv false true (slot3 s) true) (2 * s + 2) (s / 3) :: l)).cons Φ _) $$ [H1 HX HO]
  · isplitr; · iexact HC
    isplitl [H1]; · iexact H1
    isplitl [HX]; · iexact HX
    iexact HO
  iintro ⟨H1, HO⟩
  iapply ((h2 (due (nb false c) (.rcv false false (slot3 s) true) (2 * s + 2) (s / 3) :: due (nb true c) (.rcv false true (slot3 s) true) (2 * s + 2) (s / 3) :: l)).cons Φ _) $$ [H2 HO]
  · iframe # ∗
  iintro ⟨H2, HO⟩
  iapply ((h3 (due (nb true c) (.rcv false true (slot3 s) true) (2 * s + 2) (s / 3) :: l)).cons Φ _) $$ [H3 HO]
  · iframe # ∗
  iintro ⟨H3, HO⟩
  iapply ((h4 l).cons Φ _) $$ [H4 HO]
  · iframe # ∗
  iintro ⟨H4, HO⟩
  iapply Hk
  iframe # ∗

/-- The step's waits for the sends of two steps before. -/
theorem waits_T {s : ℕ} (hs : s ≤ 30) (l : List (Pay nD τ sig)) (hA : Above 0 l) :
    Tr P κ c (if 2 ≤ s then [rsWaitSend (s - 2) false false, rsWaitSend (s - 2) false true, rsWaitSend (s - 2) true false, rsWaitSend (s - 2) true true] else [])
      iprop(Lanes (fun d b => LaneA d b c s) ∗ Owe c l) iprop(Lanes (fun d b => LaneB d b c s) ∗ Owe c l) := by
  simp only [Lanes]
  split
  · rename_i h
    intro Φ rest
    simp only [List.cons_append, List.nil_append]
    iintro ⟨#HC, ⟨H1, H2, H3, H4⟩, HO⟩ Hk
    iapply ((rsWaitSend_T (P := P) false false h hs l hA).cons Φ _) $$ [H1 HO]
    · iframe # ∗
    iintro ⟨H1, HO⟩
    iapply ((rsWaitSend_T (P := P) false true h hs l hA).cons Φ _) $$ [H3 HO]
    · iframe # ∗
    iintro ⟨H3, HO⟩
    iapply ((rsWaitSend_T (P := P) true false h hs l hA).cons Φ _) $$ [H2 HO]
    · iframe # ∗
    iintro ⟨H2, HO⟩
    iapply ((rsWaitSend_T (P := P) true true h hs l hA).cons Φ _) $$ [H4 HO]
    · iframe # ∗
    iintro ⟨H4, HO⟩
    iapply Hk
    iframe # ∗
  · rename_i h
    refine Tr.nil ?_
    iintro ⟨⟨H1, H2, H3, H4⟩, HO⟩
    ihave H1 := (laneA_laneB false false c (by omega : s < 2)) $$ H1
    ihave H2 := (laneA_laneB true false c (by omega : s < 2)) $$ H2
    ihave H3 := (laneA_laneB false true c (by omega : s < 2)) $$ H3
    ihave H4 := (laneA_laneB true true c (by omega : s < 2)) $$ H4
    iframe # ∗

/-- A lane's receive and its sum. -/
theorem recvStore_T {s : ℕ} (hs : s ≤ 30) (l : List (Pay nD τ sig)) (hA : Above (2 * s + 2) l) :
    Tr P κ c [rsRecvWait s d b, rsStore s d b] iprop(LaneB d b c s ∗ LocP P d c s ∗ Owe c l)
      iprop(LaneC P d b c s ∗ Out d b c s ∗ Extra false d b (nb (!d) c) s ∗ LocP P d c s ∗ Owe c l) := by
  intro Φ rest
  simp only [List.cons_append, List.nil_append]
  unfold Out
  iintro ⟨#HC, H1, HL, HO⟩ Hk
  iapply ((rsRecv_T (P := P) d b hs l hA).cons Φ _) $$ [H1 HO]
  · iframe # ∗
  iintro ⟨H1, Hg, He, HO⟩
  iapply ((rsStore_T (P := P) d b hs).cons Φ _) $$ [H1 HL]
  · iframe # ∗
  iintro ⟨H1, Hg', HL⟩
  iapply Hk
  iframe # ∗

/-- The step's fetches, receives and sums. -/
theorem mid_T {s : ℕ} (hs : s ≤ 30) (l : List (Pay nD τ sig)) (hA : Above (2 * s + 2) l) :
    Tr P κ c [fetch (pR c false s) (locP false (slot2 s)) (pfSem false), fetch (pR c true s) (locP true (slot2 s)) (pfSem true),
        fetchWait (pR c false s) (locP false (slot2 s)) (pfSem false), fetchWait (pR c true s) (locP true (slot2 s)) (pfSem true),
        rsRecvWait s false false, rsStore s false false, rsRecvWait s true false, rsStore s true false,
        rsRecvWait s false true, rsStore s false true, rsRecvWait s true true, rsStore s true true]
      iprop(Lanes (fun d b => LaneB d b c s) ∗ (PF P false c s ∗ PF P true c s) ∗ Owe c l)
      iprop(Lanes (fun d b => Lane P d b c (s + 1)) ∗ (PF P false c (s + 1) ∗ PF P true c (s + 1)) ∗ Carry (nb true c) s ∗ Owe c l) := by
  intro Φ rest
  simp only [List.cons_append, List.nil_append]
  simp only [Lanes]
  have e1 := extra_no (F := F) false true false (by decide) (nb (!true) c) s
  have e2 := extra_no (F := F) false false true (by decide) (nb (!false) c) s
  have e3 := extra_no (F := F) false true true (by decide) (nb (!true) c) s
  have h1 := recvStore_T (P := P) (κ := κ) (c := c) false false hs l hA
  have h2 := recvStore_T (P := P) (κ := κ) (c := c) true false hs l hA
  have h3 := recvStore_T (P := P) (κ := κ) (c := c) false true hs l hA
  have h4 := recvStore_T (P := P) (κ := κ) (c := c) true true hs l hA
  rw [extra_ff] at h1
  rw [e1] at h2
  rw [e2] at h3
  rw [e3] at h4
  iintro ⟨#HC, ⟨H1, H2, H3, H4⟩, ⟨F1, F2⟩, HO⟩ Hk
  iapply ((fetch_T (P := P) (c := c) false hs).cons Φ _) $$ [F1]
  · iframe # ∗
  iintro F1
  iapply ((fetch_T (P := P) (c := c) true hs).cons Φ _) $$ [F2]
  · iframe # ∗
  iintro F2
  iapply ((fetchWait_T (P := P) (c := c) false hs l (hA.mono (Nat.zero_le _))).cons Φ _) $$ [F1 HO]
  · iframe # ∗
  iintro ⟨F1, L1, HO⟩
  iapply ((fetchWait_T (P := P) (c := c) true hs l (hA.mono (Nat.zero_le _))).cons Φ _) $$ [F2 HO]
  · iframe # ∗
  iintro ⟨F2, L2, HO⟩
  iapply ((h1).cons2 Φ _) $$ [H1 L1 HO]
  · iframe # ∗
  iintro ⟨H1, O1, HX, L1, HO⟩
  iapply ((h2).cons2 Φ _) $$ [H2 L2 HO]
  · iframe # ∗
  iintro ⟨H2, O2, -, L2, HO⟩
  iapply ((h3).cons2 Φ _) $$ [H3 L1 HO]
  · iframe # ∗
  iintro ⟨H3, O3, -, L1, HO⟩
  iapply ((h4).cons2 Φ _) $$ [H4 L2 HO]
  · iframe # ∗
  iintro ⟨H4, O4, -, L2, HO⟩
  iapply Hk
  ihave H1 := (laneC_lane P false false c s) $$ [H1 O2]; · iframe H1; iexact O2
  ihave H2 := (laneC_lane P true false c s) $$ [H2 O1]; · iframe H2; iexact O1
  ihave H3 := (laneC_lane P false true c s) $$ [H3 O4]; · iframe H3; iexact O4
  ihave H4 := (laneC_lane P true true c s) $$ [H4 O3]; · iframe H4; iexact O3
  ihave F1 := (pf_next P false c s) $$ [F1 L1]; · iframe F1 L1
  ihave F2 := (pf_next P true c s) $$ [F2 L2]; · iframe F2 L2
  iframe H1 H2 H3 H4 F1 F2 HO
  iexact HX

/-- The step's signals of credit. -/
theorem sigs_T {s : ℕ} (l : List (Pay nD τ sig)) :
    Tr P κ c (if s < 28 then [credSignal (rgtW c) (hrgt c) (lftW c) (hlft c) false false, credSignal (rgtW c) (hrgt c) (lftW c) (hlft c) false true] else [])
      iprop((CRW false c s ∗ CRW true c s) ∗ Owe c (rsCrds c s ++ l)) iprop((CR false c (s + 1) ∗ CR true c (s + 1)) ∗ Owe c l) := by
  unfold rsCrds
  by_cases h : s < 28
  · rw [if_pos h, if_pos h]
    intro Φ rest
    simp only [List.cons_append, List.nil_append]
    iintro ⟨#HC, ⟨H1, H2⟩, HO⟩ Hk
    iapply ((cr_signal (P := P) (c := c) false h (due (nb false c) (.crd false true) (2 * s + 3) 0 :: l)).cons Φ _) $$ [H1 HO]
    · isplitr; · iexact HC
      isplitl [H1]; · iexact H1
      iexact HO
    iintro ⟨H1, HO⟩
    iapply ((cr_signal (P := P) (c := c) true h l).cons Φ _) $$ [H2 HO]
    · isplitr; · iexact HC
      isplitl [H2]; · iexact H2
      iexact HO
    iintro ⟨H2, HO⟩
    iapply Hk
    iframe # ∗
  · rw [if_neg h, if_neg h, List.nil_append]
    refine Tr.nil ?_
    iintro ⟨⟨H1, H2⟩, HO⟩
    ihave H1 := (cr_skip' false c h) $$ H1
    ihave H2 := (cr_skip' true c h) $$ H2
    iframe # ∗

theorem fin31 (s : Fin 31) : Fin.ofNat 31 s.val = s := Fin.ext (Nat.mod_eq_of_lt s.isLt)
theorem pR_fin (c : Dev nD) (d : Bool) (s : Fin 31) : pR c d s.val = pRows (posW c) (hpos c) d s := by unfold pR; rw [fin31]

theorem rsStep_T (s : Fin 31) (l : List (Pay nD τ sig)) (hA : Above (2 * s.val + 2) l) :
    Tr P κ c (rsItems (posW c) (hpos c) (rgtW c) (hrgt c) (lftW c) (hlft c) s)
      iprop(St P c s.val ∗ Owe c (rsSends c s.val ++ (rsCrds c s.val ++ l))) iprop(St P c (s.val + 1) ∗ Owe c l) := by
  have hs : s.val ≤ 30 := by omega
  have hA' : Above (2 * s.val + 2) (rsCrds c s.val ++ l) := Above.append (above_rsCrds c) hA
  unfold rsItems St
  rw [← pR_fin, ← pR_fin]
  intro Φ rest
  iintro ⟨#HC, ⟨HL, HF, HR, HG, HX⟩, HO⟩ Hk
  rw [List.append_assoc, List.append_assoc, List.append_assoc, List.append_assoc]
  iapply (crds_T (P := P) hs _ (Above.append ((above_rsSends c hs).mono (by omega)) (hA'.mono (by omega))) Φ _) $$ [HR HO]
  · iframe # ∗
  iintro ⟨HR, HO⟩
  iapply (sends_T (P := P) hs _ Φ _) $$ [HL HX HO]
  · iframe # ∗
  iintro ⟨HL, HO⟩
  iapply (waits_T (P := P) hs _ (hA'.mono (by omega)) Φ _) $$ [HL HO]
  · iframe # ∗
  iintro ⟨HL, HO⟩
  iapply (mid_T (P := P) hs _ hA' Φ _) $$ [HL HF HO]
  · iframe # ∗
  iintro ⟨HL, HF, HX, HO⟩
  ihave HG := (carry_step c hs) $$ [HG HX]; · iframe HG HX
  icases HG with ⟨HG, HX⟩
  iapply (sigs_T (P := P) l Φ rest) $$ [HR HO]
  · iframe # ∗
  iintro ⟨HR, HO⟩
  iapply Hk
  iframe # ∗

/-! ## The loop -/

/-- What the device owes from step `s` on. -/
def owedRS (c : Dev nD) (tl : List (Pay nD τ sig)) : ℕ → List (Pay nD τ sig)
  | 0 => tl
  | n + 1 => rsSends c (30 - n) ++ (rsCrds c (30 - n) ++ owedRS c tl n)

theorem above_owedRS (c : Dev nD) (tl : List (Pay nD τ sig)) (h : Above 63 tl) (n : ℕ) (hn : n ≤ 31) : Above (2 * (31 - n) + 1) (owedRS c tl n) := by
  induction n with
  | zero => exact h.mono (by omega)
  | succ n ih =>
    unfold owedRS
    have e : 31 - (n + 1) = 30 - n := by omega
    rw [e]
    exact Above.append (above_rsSends c (by omega)) (Above.append ((above_rsCrds c).mono (by omega)) ((ih (by omega)).mono (by omega)))

theorem rsLoop_T (tl : List (Pay nD τ sig)) (h : Above 63 tl) :
    Tr P κ c ((List.finRange 31).flatMap (rsItems (posW c) (hpos c) (rgtW c) (hrgt c) (lftW c) (hlft c)))
      iprop(St P c 0 ∗ Owe c (owedRS c tl 31)) iprop(St P c 31 ∗ Owe c tl) := by
  have H := Tr.loop (P := P) (κ := κ) (c := c) (rsItems (posW c) (hpos c) (rgtW c) (hrgt c) (lftW c) (hlft c))
    (fun s => iprop(St P c s ∗ Owe c (owedRS c tl (31 - s)))) (fun s => by
      have hs := s.isLt
      have e : 31 - s.val = (31 - (s.val + 1)) + 1 := by omega
      have e2 : 30 - (31 - (s.val + 1)) = s.val := by omega
      show Tr P κ c _ iprop(St P c s.val ∗ Owe c (owedRS c tl (31 - s.val))) iprop(St P c (s.val + 1) ∗ Owe c (owedRS c tl (31 - (s.val + 1))))
      rw [e, owedRS, e2]
      exact rsStep_T s _ ((above_owedRS c tl h _ (by omega)).mono (by omega)))
  exact H

end Cert.Ring
-- ==== Proof.Init.lean ====
/-
  What comes before the reduce-scatter's first step, and what comes after its last: the barrier, the first fetch, the first
  message, the last sends' waits, and the maximum over the devices.
-/
module

public import proofs.«01_k».proof.Proof.RsStep

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-! ## The barrier -/

theorem barS_T (e : Bool) (l : List (Pay nD τ sig)) :
    Tr P κ c [semSignalWord (nbr (rgtW c) (hrgt c) (lftW c) (hlft c) e) barrier0 1#32]
      iprop(Tok (nb e c) .bar 0 (bit (!e)) ∗ BarPay (!e) c ∗ reached ER (cel (nb e c) .bar) 0 ∗ Owe c (due (nb e c) .bar 1 0 :: l)) (Owe c l) := by
  rw [nbr_eq]
  show Tr P κ c [Prog.lift (.semSignal (nb e c : Thread nD τ) barrier0 (1#32 : BitVec 32).toInt)] _ _
  refine Tr.op fun Φ kk => ?_
  have hp : payer .bar (bit (!e)) (nb e c) = c := by
    cases e
    · exact nb_nb false c
    · exact nb_nb true c
  have hX : BarPay (!e) c ⊢ payOf P (nb e c) 0 (bit (!e)) .bar := by
    cases e
    · show BarPay true c ⊢ BarPay (F := F) true (nb true (nb false c))
      rw [show nb true (nb false c) = c from nb_nb false c]
    · show BarPay false c ⊢ BarPay (F := F) false (nb false (nb true c))
      rw [show nb false (nb true c) = c from nb_nb true c]
  iintro ⟨#HC, Ht, HB, #Hr, HO⟩ Hk
  iapply (sig_one P .bar (bit (!e)) 1 (by cases e <;> decide) rfl hp rfl (X := BarPay (!e) c) hX) $$ [Ht HB HO]
  · iframe # ∗
  iexact Hk

theorem barW_T (l : List (Pay nD τ sig)) (hA : Above 1 l) :
    Tr P κ c [semWaitWord barrier0 2#32] iprop(cred (tallyAt (cel c .bar) 1 2) ∗ At c .bar 0 ∗ Owe c l)
      iprop(At c .bar 1 ∗ BarPay false (nb false c) ∗ BarPay true (nb true c) ∗ Owe c l) := by
  show Tr P κ c [Prog.lift (.semWait barrier0 (2#32 : BitVec 32).toInt)] _ _
  refine Tr.op fun Φ kk => ?_
  iintro ⟨#HC, Hc, Ha, HO⟩ Hk
  iapply (bar_wait P hA) $$ [Hc Ha HO]
  · iframe # ∗
  iintro ⟨HO, Ha, H1, H2⟩
  iapply Hk
  iframe # ∗

/-! ## The first fetch and the first message -/

section fetch0
variable (P) (d : Bool) (c : Dev nD)
def F0 : AP F := iprop(At c (.pf d) 0 ∗ Raw (accP d 0).view c ∗ PW P d c ∗ Tok c (.pf d) 0 0)
def F0A : AP F := iprop(At c (.pf d) 0 ∗ cred (tallyAt (cel c (.pf d)) 0 (amtR (.pf d) 0)) ∗ (Lent (pR0 c d) c (psh d) (Pin0 P d c) -∗ PW P d c))
def F0B : AP F := iprop(At c (.pf d) 1 ∗ Piece (accP d 0).view c (Pin0 P d c) ∗ PW P d c)
end fetch0

variable (d b : Bool)

theorem fetch0_T : Tr P κ c [fetch (pR0 c d) (accP d 0) (pfSem d)] (F0 P d c) (F0A P d c) := by
  unfold fetch
  refine Tr.op fun Φ kk => ?_
  unfold F0 F0A At
  iintro ⟨#HC, ⟨Hat, #Hr⟩, Hd, HP, Ht⟩ Hk
  ihave HP := (lend0 P d c) $$ HP
  icases HP with ⟨HL, HP⟩
  iapply (dma_copy P (.pf d) 0 0 rfl (by rw [num_pf d (by omega)]; exact Finset.mem_singleton_self _) rfl (amt_acc d _ _)
    (q := psh d) (x := Pin0 P d c) (Entails.refl _)) $$ [HL Hd Ht]
  · unfold Lent
    iframe # ∗
  iintro Hc
  iapply Hk
  iframe # ∗

theorem fetch0Wait_T (l : List (Pay nD τ sig)) (hA : Above 0 l) :
    Tr P κ c [fetchWait (pR0 c d) (accP d 0) (pfSem d)] iprop(F0A P d c ∗ Owe c l) iprop(F0B P d c ∗ Owe c l) := by
  unfold fetchWait
  refine Tr.op fun Φ kk => ?_
  unfold F0A F0B
  iintro ⟨#HC, ⟨Hat, Hc, HP⟩, HO⟩ Hk
  iapply (dma_wait P (.pf d) 0 0 rfl (num_pf d (by omega)) (amt_acc d _ _) (by decide) hA) $$ [Hat Hc HO]
  · iframe # ∗
  iintro ⟨HO, Hat, Hp⟩
  ihave Hp := (show payOf P c 0 0 (.pf d) ⊢ iprop(Piece (accP d 0).view c (Pin0 P d c) ∗ Lent (pR0 c d) c (psh d) (Pin0 P d c))
    from Entails.refl _) $$ Hp
  icases Hp with ⟨Hp, HL⟩
  ihave HP := HP $$ HL
  iapply Hk
  iframe # ∗

theorem initStore_chain (rest : List (PG F PUnit)) : Pipeline.chain (initStore (F := F) d :: rest)
    = .op (.load (accM d) (r2w 0).toLoadRect (View.loadsAt_vmem h_S1x64x8192)) fun v =>
      .op (.load (sbM d) (r3w 0).toLoadRect (View.loadsAt_vmem h_S1x64x8192)) fun _ =>
      .op (.store (sbM d) (r3w 0) (payInit v) Finset.univ
        (View.stores_vmem h_S1x64x8192 ((sbM_whole d).storeExact_slice rfl _ packedbf16_S3x64x8192_S1x64x8192_0_0_0) (fun _ => rfl)) (.inl rfl)) fun _ =>
      Pipeline.chain rest := rfl

theorem initStore_T : Tr P κ c [initStore d] iprop(F0B P d c ∗ Raw (sbP d 0 false).view c ∗ Raw (sbP d 0 true).view c)
    iprop(F0B P d c ∗ Piece (sbP d 0 false).view c (dn32 (Av P d 0 c false)) ∗ Piece (sbP d 0 true).view c (dn32 (Av P d 0 c true))) := by
  intro Φ rest
  show _ ⊢ iprop(_ -∗ wpq c (Pipeline.chain (initStore (F := F) d :: rest)) Φ)
  rw [initStore_chain]
  unfold F0B
  rw [sb_raw, sb_raw, sb_piece, sb_piece, acc_piece]
  iintro ⟨#HC, ⟨Hat, Hp, HP⟩, H1, H2⟩ Hk
  ihave Hs := ((cut3 0).rawJoin (F := F) (sbM d).view c) $$ [H1 H2]
  · iframe H1 H2
  iapply load_at $$ Hp
  iintro Hp
  iapply (load_raw (fun _ => rfl)) $$ Hs
  iintro Hs
  iapply store_at $$ Hs
  iintro Hs
  ihave Hs := ((cut3 0).split (F := F) (sbM d).view c _) $$ Hs
  icases Hs with ⟨H1, H2⟩
  iapply Hk
  iframe Hat Hp HP
  isplitl [H1]
  · iexact H1
  · iexact H2

/-- A direction's last sums. -/
def AccF (P : Dev nD → pM.view.ty.Contents (Elt F)) (d : Bool) (c : Dev nD) : AP F := Piece ((accM d).access (r2w 1)) c (Acc P d c)
/-- An exchange still to come. -/
def MxTodo (c : Dev nD) (k : Fin 5) : AP F :=
  iprop(At c (.ms k) 0 ∗ At c (.mr k) 0 ∗ Tok c (.ms k) 0 0 ∗ Tok (xDv k c) (.mr k) 0 0 ∗ cred (tallyAt (cel c (.mr k)) (70 + k.val) (amtR (.mr k) 0))
    ∗ Row (xDv k c) k ∗ Raw (avM.access (ra k.succ)) c)
/-- An exchange that is over. -/
def MxDone (c : Dev nD) (k : Fin 5) : AP F :=
  iprop(At c (.ms k) 1 ∗ At c (.mr k) 1 ∗ Raw (avM.access (ra k.castSucc)) c ∗ Raw (aiM.access (ra k.castSucc)) c)

/-! ## From the start to the first step -/

section start
variable (P) (c : Dev nD)

/-- A lane's cells and buffers at the start. -/
def Lane0 (d b : Bool) : AP F :=
  iprop((AtS false d b c 0 ∗ AtS false d b c 1 ∗ AtS false d b c 2) ∗ (AtR false d b c 0 ∗ AtR false d b c 1 ∗ AtR false d b c 2)
    ∗ (Raw (sbP d 0 b).view c ∗ Raw (sbP d 1 b).view c ∗ Raw (sbP d 2 b).view c) ∗ Raw ((accM d).access (r2 1 b)) c
    ∗ Grant false (!d) b c 2 ∗ Sup false d b c 0)
/-- What a device gives its neighbours and gets from them, and its first payments. -/
def Bar0 : AP F :=
  iprop((Tok (nb true c) .bar 0 0 ∗ Tok (nb false c) .bar 0 1) ∗ (BarPay false c ∗ BarPay true c)
    ∗ (reached ER (cel (nb true c) .bar) 0 ∗ reached ER (cel (nb false c) .bar) 0) ∗ cred (tallyAt (cel c .bar) 1 2) ∗ At c .bar 0)
/-- A direction's fetches and credits at the start. -/
def Dir0 (d : Bool) : AP F :=
  iprop(F0 P d c ∗ Raw (locP d 0).view c ∗ Raw (locP d 1).view c ∗ SupP d c 0 ∗ CrdAt c false d 0 ∗ SupC d c 0)

def St0 : AP F := iprop(Lanes (fun d b => Lane0 c d b) ∗ Bar0 c ∗ (Dir0 P c false ∗ Dir0 P c true) ∗ Carry c 0)
/-- What the neighbours' grants leave for the all-gather. -/
def Ag0 : AP F :=
  iprop(Lanes (fun d b => Grant true d b (nb d c) 0) ∗ reached ER (cel (nb true c) (.crd true false)) 0 ∗ reached ER (cel (nb false c) (.crd true true)) 0)
end start

theorem gath0 (c : Dev nD) : (iprop(emp) : AP F) ⊢ Gath c 0 := by
  unfold Gath GathK
  rw [if_neg (by have := hop_pos (xDv 0 c) 0; omega), if_neg (by have := hop_pos (xDv 1 c) 1; omega), if_neg (by have := hop_pos (xDv 2 c) 2; omega),
    if_neg (by have := hop_pos (xDv 3 c) 3; omega), if_neg (by have := hop_pos (xDv 4 c) 4; omega)]
  iintro -
  repeat (isplitl; · iempintro)
  iempintro

theorem lane_start (c : Dev nD) (d b : Bool) :
    iprop((AtS false d b c 0 ∗ AtS false d b c 1 ∗ AtS false d b c 2) ∗ (AtR false d b c 0 ∗ AtR false d b c 1 ∗ AtR false d b c 2)
    ∗ (Piece (sbP d 0 b).view c (dn32 (Av P d 0 c b)) ∗ Raw (sbP d 1 b).view c ∗ Raw (sbP d 2 b).view c) ∗ Raw ((accM d).access (r2 1 b)) c
    ∗ Grant false (!d) b c 2 ∗ Sup false d b c 0 ∗ Grant false d b (nb d c) 0 ∗ Grant false d b (nb d c) 1) ⊢ Lane P d b c 0 := by
  unfold Lane CurX FF Base Rest AtS
  rw [if_pos (by decide : 0 ≤ 30), if_pos (by decide : 0 + 1 < 3), if_pos (by decide : 0 + 2 < 3), if_pos (by decide : 0 ≤ 30), if_pos (by decide : 0 + 1 ≤ 30),
    if_pos (by decide : 0 + 2 ≤ 30)]
  unfold Cur Free
  iintro ⟨⟨A0, A1, A2⟩, ⟨B0, B1, B2⟩, ⟨S0, S1, S2⟩, Ha, Hg, Hs, G0, G1⟩
  isplitl [A0 A1 A2 S0 S1 S2 Ha]
  · isplitl [A0 S0 Ha]
    · iframe A0 Ha
      iexact S0
    · isplitl [A1 S1]
      · iframe A1
        iexact S1
      · iframe A2
        iexact S2
  iframe G0 G1 Hg B0 B1 B2 Hs
  repeat (isplitl; · iempintro)
  iempintro

attribute [local irreducible] Lane Owe PF CR Carry Gath Ctx Grant F0 F0A F0B SupP SupC CrdAt At AtS AtR Sup Free Fly Base AccF MxTodo MxDone Piece Raw

theorem init_T (l : List (Pay nD τ sig)) (hA : Above 1 l) :
    Tr P κ c (initItems (posW c) (hpos c) (rgtW c) (hrgt c) (lftW c) (hlft c))
      iprop(St0 P c ∗ Owe c (due (nb true c) .bar 1 0 :: due (nb false c) .bar 1 0 :: l))
      iprop(St P c 0 ∗ Ag0 c ∗ (Raw (accP false 0).view c ∗ Raw (accP true 0).view c) ∗ At c .bar 1 ∗ Owe c l) := by
  have b1 : Tr P κ c [semSignalWord (nbr (rgtW c) (hrgt c) (lftW c) (hlft c) true) barrier0 1#32]
      iprop(Tok (nb true c) .bar 0 0 ∗ BarPay false c ∗ reached ER (cel (nb true c) .bar) 0 ∗ Owe c (due (nb true c) .bar 1 0 :: due (nb false c) .bar 1 0 :: l))
      (Owe c (due (nb false c) .bar 1 0 :: l)) := barS_T true _
  have b2 : Tr P κ c [semSignalWord (nbr (rgtW c) (hrgt c) (lftW c) (hlft c) false) barrier0 1#32]
      iprop(Tok (nb false c) .bar 0 1 ∗ BarPay true c ∗ reached ER (cel (nb false c) .bar) 0 ∗ Owe c (due (nb false c) .bar 1 0 :: l))
      (Owe c l) := barS_T false _
  intro Φ rest
  simp only [initItems, St0, Lanes, Lane0, Bar0, Dir0, List.cons_append, List.nil_append]
  iintro ⟨#HC, ⟨⟨⟨S1, R1, B1, A1, G1, U1⟩, ⟨S2, R2, B2, A2, G2, U2⟩, ⟨S3, R3, B3, A3, G3, U3⟩, ⟨S4, R4, B4, A4, G4, U4⟩⟩,
    ⟨⟨T1, T2⟩, ⟨Y1, Y2⟩, ⟨#Hr1, #Hr2⟩, Hcr, Hbar⟩, ⟨⟨F1, V1, W1, Q1, C1, D1⟩, F2, V2, W2, Q2, C2, D2⟩, HX⟩, HO⟩ Hk
  iapply (b1.cons Φ _) $$ [T1 Y1 HO]
  · iframe # ∗
  iintro HO
  iapply (b2.cons Φ _) $$ [T2 Y2 HO]
  · iframe # ∗
  iintro HO
  iapply ((barW_T (P := P) l hA).cons Φ _) $$ [Hcr Hbar HO]
  · iframe # ∗
  iintro ⟨Hbar, N1, N2, HO⟩
  iapply ((fetch0_T (P := P) false).cons Φ _) $$ [F1]
  · iframe # ∗
  iintro F1
  iapply ((fetch0_T (P := P) true).cons Φ _) $$ [F2]
  · iframe # ∗
  iintro F2
  iapply ((fetch0Wait_T (P := P) false l (hA.mono (Nat.zero_le _))).cons Φ _) $$ [F1 HO]
  · iframe # ∗
  iintro ⟨F1, HO⟩
  iapply ((fetch0Wait_T (P := P) true l (hA.mono (Nat.zero_le _))).cons Φ _) $$ [F2 HO]
  · iframe # ∗
  iintro ⟨F2, HO⟩
  icases B1 with ⟨B10, B11, B12⟩
  icases B2 with ⟨B20, B21, B22⟩
  icases B3 with ⟨B30, B31, B32⟩
  icases B4 with ⟨B40, B41, B42⟩
  iapply ((initStore_T (P := P) false).cons Φ _) $$ [F1 B10 B30]
  · iframe HC F1 B10 B30
  iintro ⟨F1, B10, B30⟩
  iapply ((initStore_T (P := P) true).cons Φ _) $$ [F2 B20 B40]
  · iframe HC F2 B20 B40
  iintro ⟨F2, B20, B40⟩
  iapply Hk
  simp only [BarPay, Bool.not_false, Bool.not_true]
  icases N1 with ⟨⟨N11, N12⟩, ⟨N13, N14⟩, ⟨N15, N16⟩, #M1, #M2⟩
  icases N2 with ⟨⟨N21, N22⟩, ⟨N23, N24⟩, ⟨N25, N26⟩, #M3, #M4⟩
  ihave H1 := (lane_start c false false) $$ [S1 R1 B10 B11 B12 A1 G1 U1 N11 N13]
  · isplitl [S1]; · iexact S1
    isplitl [R1]; · iexact R1
    isplitl [B10 B11 B12]; · iframe B10 B11 B12
    isplitl [A1]; · iexact A1
    isplitl [G1]; · iexact G1
    isplitl [U1]; · iexact U1
    iframe N11 N13
  ihave H2 := (lane_start c true false) $$ [S2 R2 B20 B21 B22 A2 G2 U2 N21 N23]
  · isplitl [S2]; · iexact S2
    isplitl [R2]; · iexact R2
    isplitl [B20 B21 B22]; · iframe B20 B21 B22
    isplitl [A2]; · iexact A2
    isplitl [G2]; · iexact G2
    isplitl [U2]; · iexact U2
    iframe N21 N23
  ihave H3 := (lane_start c false true) $$ [S3 R3 B30 B31 B32 A3 G3 U3 N12 N14]
  · isplitl [S3]; · iexact S3
    isplitl [R3]; · iexact R3
    isplitl [B30 B31 B32]; · iframe B30 B31 B32
    isplitl [A3]; · iexact A3
    isplitl [G3]; · iexact G3
    isplitl [U3]; · iexact U3
    iframe N12 N14
  ihave H4 := (lane_start c true true) $$ [S4 R4 B40 B41 B42 A4 G4 U4 N22 N24]
  · isplitl [S4]; · iexact S4
    isplitl [R4]; · iexact R4
    isplitl [B40 B41 B42]; · iframe B40 B41 B42
    isplitl [A4]; · iexact A4
    isplitl [G4]; · iexact G4
    isplitl [U4]; · iexact U4
    iframe N22 N24
  ihave HG := (gath0 c) $$ []; · iempintro
  simp only [F0B]
  icases F1 with ⟨F11, F12, F13⟩
  icases F2 with ⟨F21, F22, F23⟩
  ihave F12 := (Piece.raw _ _ _) $$ F12
  ihave F22 := (Piece.raw _ _ _) $$ F22
  simp only [St, Lanes, Ag0]
  iframe HO Hbar F12 F22 N15 N16 N25 N26 M2 M4 HX HG
  isplitl [H1 H2 H3 H4]
  · iframe H1 H2 H3 H4
  isplitl [F11 F13 F21 F23 V1 W1 V2 W2 Q1 Q2]
  · unfold PF
    isplitl [F11 F13 V1 W1 Q1]
    · isplitl [F11]; · iexact F11
      isplitl [V1]; · iexact V1
      isplitl [W1]; · iexact W1
      iframe F13 Q1
    · isplitl [F21]; · iexact F21
      isplitl [V2]; · iexact V2
      isplitl [W2]; · iexact W2
      iframe F23 Q2
  · unfold CR
    isplitl [C1 D1]
    · isplitr; · iexact M3
      iframe C1 D1
    · isplitr; · iexact M1
      iframe C2 D2

/-! ## After the last step -/

theorem lane_end (c : Dev nD) (d b : Bool) : Lane P d b c 31 ⊢ iprop(Fly d b c 29 ∗ Fly d b c 30 ∗ Free d b c 31
    ∗ Piece ((accM d).access (r2 1 b)) c (Lastv P d c b) ∗ Base d b c 31) := by
  unfold Lane CurX
  rw [if_neg (by decide : ¬ 31 ≤ 30), show 31 + 1 = 29 + 3 from rfl, show 31 + 2 = 30 + 3 from rfl, FF_add, FF_add]
  iintro ⟨⟨⟨H1, H2⟩, H3, H4⟩, -, -, H5, -⟩
  iframe # ∗

/-- A lane when all is sent: its slots are free, its cells past their last round. -/
def LaneE (d b : Bool) (c : Dev nD) : AP F := iprop((Free d b c 31 ∗ Free d b c 32 ∗ Free d b c 33) ∗ Base d b c 31)

theorem acc_join (P : Dev nD → pM.view.ty.Contents (Elt F)) (c : Dev nD) (d : Bool) :
    iprop(Piece ((accM d).access (r2 1 false)) c (Lastv P d c false) ∗ Piece ((accM d).access (r2 1 true)) c (Lastv P d c true)) ⊢ AccF P d c := by
  unfold AccF
  exact (cut2 1).join (accM d).view c _ _ _ (glue_false _ _) (glue_true _ _)

theorem tail_T (l : List (Pay nD τ sig)) (hA : Above 0 l) :
    Tr P κ c [rsWaitSend 29 false false, rsWaitSend 29 false true, rsWaitSend 29 true false, rsWaitSend 29 true true,
      rsWaitSend 30 false false, rsWaitSend 30 false true, rsWaitSend 30 true false, rsWaitSend 30 true true]
      iprop(Lanes (fun d b => Lane P d b c 31) ∗ Owe c l)
      iprop(Lanes (fun d b => LaneE d b c) ∗ (AccF P false c ∗ AccF P true c) ∗ Owe c l) := by
  intro Φ rest
  simp only [Lanes, List.cons_append, List.nil_append]
  iintro ⟨#HC, ⟨H1, H2, H3, H4⟩, HO⟩ Hk
  ihave H1 := (lane_end c false false) $$ H1
  ihave H2 := (lane_end c true false) $$ H2
  ihave H3 := (lane_end c false true) $$ H3
  ihave H4 := (lane_end c true true) $$ H4
  icases H1 with ⟨A1, B1, C1, P1, D1⟩
  icases H2 with ⟨A2, B2, C2, P2, D2⟩
  icases H3 with ⟨A3, B3, C3, P3, D3⟩
  icases H4 with ⟨A4, B4, C4, P4, D4⟩
  iapply ((fly_wait (P := P) false false 29 (by decide) l hA).cons Φ _) $$ [A1 HO]
  · iframe HC A1 HO
  iintro ⟨A1, HO⟩
  iapply ((fly_wait (P := P) false true 29 (by decide) l hA).cons Φ _) $$ [A3 HO]
  · iframe HC A3 HO
  iintro ⟨A3, HO⟩
  iapply ((fly_wait (P := P) true false 29 (by decide) l hA).cons Φ _) $$ [A2 HO]
  · iframe HC A2 HO
  iintro ⟨A2, HO⟩
  iapply ((fly_wait (P := P) true true 29 (by decide) l hA).cons Φ _) $$ [A4 HO]
  · iframe HC A4 HO
  iintro ⟨A4, HO⟩
  iapply ((fly_wait (P := P) false false 30 (by decide) l hA).cons Φ _) $$ [B1 HO]
  · iframe HC B1 HO
  iintro ⟨B1, HO⟩
  iapply ((fly_wait (P := P) false true 30 (by decide) l hA).cons Φ _) $$ [B3 HO]
  · iframe HC B3 HO
  iintro ⟨B3, HO⟩
  iapply ((fly_wait (P := P) true false 30 (by decide) l hA).cons Φ _) $$ [B2 HO]
  · iframe HC B2 HO
  iintro ⟨B2, HO⟩
  iapply ((fly_wait (P := P) true true 30 (by decide) l hA).cons Φ _) $$ [B4 HO]
  · iframe HC B4 HO
  iintro ⟨B4, HO⟩
  iapply Hk
  ihave Q1 := (acc_join P c false) $$ [P1 P3]; · iframe P1 P3
  ihave Q2 := (acc_join P c true) $$ [P2 P4]; · iframe P2 P4
  unfold LaneE
  iframe A1 A2 A3 A4 B1 B2 B3 B4 C1 C2 C3 C4 D1 D2 D3 D4 Q1 Q2 HO

/-! ## The maximum -/

theorem maxInit_chain (rest : List (PG F PUnit)) : Pipeline.chain (maxInit (F := F) :: rest)
    = .op (.load (accM false) (r2w 1).toLoadRect (View.loadsAt_vmem h_S1x64x8192)) fun v =>
      .op (.load (accM true) (r2w 1).toLoadRect (View.loadsAt_vmem h_S1x64x8192)) fun w =>
      .op (.load avM (ra 0).toLoadRect (View.loadsAt_vmem h_S1x128)) fun _ =>
      .op (.store avM (ra 0) (payMax0 v w) Finset.univ (View.stores_vmem_bits_univ h_S1x128 rfl) (.inl rfl)) fun _ => Pipeline.chain rest := rfl
theorem maxStore_chain (k : Fin 5) (rest : List (PG F PUnit)) : Pipeline.chain (maxStore (F := F) k :: rest)
    = .op (.load avM (ra k.castSucc).toLoadRect (View.loadsAt_vmem h_S1x128)) fun v =>
      .op (.load aiM (ra k.castSucc).toLoadRect (View.loadsAt_vmem h_S1x128)) fun w =>
      .op (.load avM (ra k.succ).toLoadRect (View.loadsAt_vmem h_S1x128)) fun _ =>
      .op (.store avM (ra k.succ) (payMax v w) Finset.univ (View.stores_vmem_bits_univ h_S1x128 rfl) (.inl rfl)) fun _ => Pipeline.chain rest := rfl

theorem maxInit_T : Tr P κ c [maxInit] iprop((AccF P false c ∗ AccF P true c) ∗ Raw (avM.access (ra 0)) c)
    iprop((AccF P false c ∗ AccF P true c) ∗ Piece (avM.access (ra 0)) c (Mx P 0 c)) := by
  intro Φ rest
  show _ ⊢ iprop(_ -∗ wpq c (Pipeline.chain (maxInit (F := F) :: rest)) Φ)
  rw [maxInit_chain]
  unfold AccF
  iintro ⟨#HC, ⟨H1, H2⟩, Ha⟩ Hk
  iapply load_at $$ H1
  iintro H1
  iapply load_at $$ H2
  iintro H2
  iapply (load_raw (fun _ => rfl)) $$ Ha
  iintro Ha
  iapply store_at $$ Ha
  iintro Ha
  iapply Hk
  iframe H1 H2
  iexact Ha

theorem amt_av (k : Fin 6) (j : Fin 5) : (avP k).view.dmaCredit = amtR (.ms j) 0 := rfl
theorem amt_ai (k j : Fin 5) : (aiP k.castSucc).view.dmaCredit = amtR (.mr j) 0 := rfl
theorem num_ms (k : Fin 5) : nums (.ms k) 0 = {0} := rfl
theorem num_mr (k : Fin 5) : nums (.mr k) 0 = {0} := rfl

theorem maxRound_T (k : Fin 5) (l : List (Pay nD τ sig)) (hA : Above (70 + k.val) l) :
    Tr P κ c (maxItems c k) iprop(Piece (avM.access (ra k.castSucc)) c (Mx P k.val c) ∗ MxTodo c k ∗ Owe c (due (xDv k c) (.mr k) (70 + k.val) 0 :: l))
      iprop(Piece (avM.access (ra k.succ)) c (Mx P (k.val + 1) c) ∗ MxDone c k ∗ Owe c l) := by
  have hk := k.isLt
  have h1 : Tr P κ c [maxSend c k] iprop(Piece (avP k.castSucc).view c (Mx P k.val c) ∗ (At c (.ms k) 0 ∗ Tok c (.ms k) 0 0 ∗ Tok (xDv k c) (.mr k) 0 0 ∗ Row (xDv k c) k)
        ∗ Owe c (due (xDv k c) (.mr k) (70 + k.val) 0 :: l))
      iprop((At c (.ms k) 0 ∗ cred (tallyAt (cel c (.ms k)) 0 (amtR (.ms k) 0))) ∗ Owe c l) := by
    have hinv : xDv k (xDev c k) = c := by rw [xDev_eq, xDv_xDv]
    unfold maxSend
    rw [← xDev_eq]
    refine Tr.op fun Φ kk => ?_
    unfold Row At
    iintro ⟨#HC, Hp, ⟨⟨Hat, #Hr⟩, T1, T2, Hd, #Hr2⟩, HO⟩ Hk
    iapply (dma_send P (.ms k) (.mr k) 0 0 (70 + k.val) rfl rfl (by rw [num_ms]; exact Finset.mem_singleton_self _) (by rw [num_mr]; exact Finset.mem_singleton_self _) rfl hinv
      (by exact amt_av k.castSucc k) (by exact amt_ai k k) (x := Mx P k.val c) (X := iprop(emp)) (Entails.refl _) (by
        show iprop(Piece (aiP k.castSucc).view (xDev c k) (Mx P k.val c) ∗ emp) ⊢ Piece (aiP k.castSucc).view (xDev c k) (Mx P k.val (xDv k (xDev c k)))
        rw [hinv]
        iintro ⟨H, -⟩
        iexact H)) $$ [Hp T1 T2 Hd HO]
    · iframe # ∗
    iintro ⟨Hc, HO⟩
    iapply Hk
    iframe # ∗
  have h2 : Tr P κ c [maxWaitS k] iprop((At c (.ms k) 0 ∗ cred (tallyAt (cel c (.ms k)) 0 (amtR (.ms k) 0))) ∗ Owe c l)
      iprop(At c (.ms k) 1 ∗ Piece (avP k.castSucc).view c (Mx P k.val c) ∗ Owe c l) := by
    unfold maxWaitS
    refine Tr.op fun Φ kk => ?_
    iintro ⟨#HC, ⟨Hat, Hc⟩, HO⟩ Hk
    iapply (dma_wait P (.ms k) 0 0 rfl (num_ms k) (by exact amt_av k.castSucc k) (by decide) (hA.mono (Nat.zero_le _))) $$ [Hat Hc HO]
    · iframe # ∗
    iintro ⟨HO, Hat, Hp⟩
    ihave Hp := (Entails.of_eq (show payOf P c 0 0 (.ms k) = Piece (avP k.castSucc).view c (Mx P k.val c) from rfl)) $$ Hp
    iapply Hk
    iframe HO Hat
    iexact Hp
  have h3 : Tr P κ c [maxWaitR k] iprop((At c (.mr k) 0 ∗ cred (tallyAt (cel c (.mr k)) (70 + k.val) (amtR (.mr k) 0))) ∗ Owe c l)
      iprop(At c (.mr k) 1 ∗ Piece (aiP k.castSucc).view c (Mx P k.val (xDv k c)) ∗ Owe c l) := by
    unfold maxWaitR
    refine Tr.op fun Φ kk => ?_
    iintro ⟨#HC, ⟨Hat, Hc⟩, HO⟩ Hk
    iapply (dma_wait P (.mr k) 0 (70 + k.val) rfl (num_mr k) (by exact amt_ai k k) (by show 70 + k.val < 300; omega) hA) $$ [Hat Hc HO]
    · iframe # ∗
    iintro ⟨HO, Hat, Hp⟩
    ihave Hp := (Entails.of_eq (show payOf P c 0 0 (.mr k) = Piece (aiP k.castSucc).view c (Mx P k.val (xDv k c)) from rfl)) $$ Hp
    iapply Hk
    iframe HO Hat
    iexact Hp
  have h4 : Tr P κ c [maxStore k] iprop(Piece (avM.access (ra k.castSucc)) c (Mx P k.val c) ∗ Piece (aiM.access (ra k.castSucc)) c (Mx P k.val (xDv k c)) ∗ Raw (avM.access (ra k.succ)) c)
      iprop(Piece (avM.access (ra k.castSucc)) c (Mx P k.val c) ∗ Piece (aiM.access (ra k.castSucc)) c (Mx P k.val (xDv k c)) ∗ Piece (avM.access (ra k.succ)) c (Mx P (k.val + 1) c)) := by
    have e : payMax (Mx P k.val c) (Mx P k.val (xDv k c)) = Mx P (k.val + 1) c := by
      show _ = payMax (Mx P k.val c) (Mx P k.val (xDv (Fin.ofNat 5 k.val) c))
      rw [show Fin.ofNat 5 k.val = k from Fin.ext (Nat.mod_eq_of_lt k.isLt)]
    intro Φ rest
    show _ ⊢ iprop(_ -∗ wpq c (Pipeline.chain (maxStore (F := F) k :: rest)) Φ)
    rw [maxStore_chain]
    iintro ⟨#HC, H1, H2, Ha⟩ Hk
    iapply load_at $$ H1
    iintro H1
    iapply load_at $$ H2
    iintro H2
    iapply (load_raw (fun _ => rfl)) $$ Ha
    iintro Ha
    iapply store_at $$ Ha
    iintro Ha
    rw [e]
    iapply Hk
    iframe H1 H2
    iexact Ha
  intro Φ rest
  simp only [maxItems, MxTodo, MxDone, List.cons_append, List.nil_append]
  iintro ⟨#HC, Hp, ⟨A1, A2, T1, T2, Hc, HR, Ha⟩, HO⟩ Hk
  iapply (h1.cons Φ _) $$ [Hp A1 T1 T2 HR HO]
  · isplitr; · iexact HC
    isplitl [Hp]; · iexact Hp
    iframe # ∗
  iintro ⟨A1, HO⟩
  iapply (h2.cons Φ _) $$ [A1 HO]
  · iframe # ∗
  iintro ⟨A1, Hp, HO⟩
  iapply (h3.cons Φ _) $$ [A2 Hc HO]
  · iframe # ∗
  iintro ⟨A2, Hq, HO⟩
  iapply (h4.cons Φ _) $$ [Hp Hq Ha]
  · isplitr; · iexact HC
    isplitl [Hp]; · iexact Hp
    isplitl [Hq]; · iexact Hq
    iexact Ha
  iintro ⟨Hp, Hq, Ha⟩
  iapply Hk
  ihave Hp := (Piece.raw _ _ _) $$ Hp
  ihave Hq := (Piece.raw _ _ _) $$ Hq
  iframe Ha HO A1 A2
  isplitl [Hp]; · iexact Hp
  iexact Hq

end Cert.Ring
-- ==== Proof.Mid.lean ====
/-
  The exchanges of the maximum and the quantiser.
-/
module

public import proofs.«01_k».proof.Proof.Init

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-! ## The five exchanges -/

section max
attribute [local irreducible] MxTodo MxDone Owe Ctx Piece Mx

def owedMx (c : Dev nD) : List (Pay nD τ sig) :=
  [due (xDv 0 c) (.mr 0) 70 0, due (xDv 1 c) (.mr 1) 71 0, due (xDv 2 c) (.mr 2) 72 0, due (xDv 3 c) (.mr 3) 73 0, due (xDv 4 c) (.mr 4) 74 0]

theorem max_T (l : List (Pay nD τ sig)) (hA : Above 74 l) :
    Tr P κ c ((List.finRange 5).flatMap (maxItems c))
      iprop(Piece (avM.access (ra 0)) c (Mx P 0 c) ∗ (MxTodo c 0 ∗ MxTodo c 1 ∗ MxTodo c 2 ∗ MxTodo c 3 ∗ MxTodo c 4) ∗ Owe c (owedMx c ++ l))
      iprop(Piece (avM.access (ra 5)) c (Mx P 5 c) ∗ (MxDone c 0 ∗ MxDone c 1 ∗ MxDone c 2 ∗ MxDone c 3 ∗ MxDone c 4) ∗ Owe c l) := by
  have h0 (l) (hA : Above 70 l) : Tr P κ c (maxItems c 0) iprop(Piece (avM.access (ra 0)) c (Mx P 0 c) ∗ MxTodo c 0 ∗ Owe c (due (xDv 0 c) (.mr 0) 70 0 :: l))
      iprop(Piece (avM.access (ra 1)) c (Mx P 1 c) ∗ MxDone c 0 ∗ Owe c l) := maxRound_T 0 l hA
  have h1 (l) (hA : Above 71 l) : Tr P κ c (maxItems c 1) iprop(Piece (avM.access (ra 1)) c (Mx P 1 c) ∗ MxTodo c 1 ∗ Owe c (due (xDv 1 c) (.mr 1) 71 0 :: l))
      iprop(Piece (avM.access (ra 2)) c (Mx P 2 c) ∗ MxDone c 1 ∗ Owe c l) := maxRound_T 1 l hA
  have h2 (l) (hA : Above 72 l) : Tr P κ c (maxItems c 2) iprop(Piece (avM.access (ra 2)) c (Mx P 2 c) ∗ MxTodo c 2 ∗ Owe c (due (xDv 2 c) (.mr 2) 72 0 :: l))
      iprop(Piece (avM.access (ra 3)) c (Mx P 3 c) ∗ MxDone c 2 ∗ Owe c l) := maxRound_T 2 l hA
  have h3 (l) (hA : Above 73 l) : Tr P κ c (maxItems c 3) iprop(Piece (avM.access (ra 3)) c (Mx P 3 c) ∗ MxTodo c 3 ∗ Owe c (due (xDv 3 c) (.mr 3) 73 0 :: l))
      iprop(Piece (avM.access (ra 4)) c (Mx P 4 c) ∗ MxDone c 3 ∗ Owe c l) := maxRound_T 3 l hA
  have h4 (l) (hA : Above 74 l) : Tr P κ c (maxItems c 4) iprop(Piece (avM.access (ra 4)) c (Mx P 4 c) ∗ MxTodo c 4 ∗ Owe c (due (xDv 4 c) (.mr 4) 74 0 :: l))
      iprop(Piece (avM.access (ra 5)) c (Mx P 5 c) ∗ MxDone c 4 ∗ Owe c l) := maxRound_T 4 l hA
  have a3 := (hA.mono (by decide : 73 ≤ 74)).cons (xDv 4 c) (.mr 4) 74 0 (by decide) (by decide)
  have a2 := (a3.mono (by decide : 72 ≤ 73)).cons (xDv 3 c) (.mr 3) 73 0 (by decide) (by decide)
  have a1 := (a2.mono (by decide : 71 ≤ 72)).cons (xDv 2 c) (.mr 2) 72 0 (by decide) (by decide)
  have a0 := (a1.mono (by decide : 70 ≤ 71)).cons (xDv 1 c) (.mr 1) 71 0 (by decide) (by decide)
  rw [show (List.finRange 5).flatMap (maxItems (F := F) c)
    = maxItems c 0 ++ (maxItems c 1 ++ (maxItems c 2 ++ (maxItems c 3 ++ maxItems c 4))) from rfl]
  intro Φ rest
  rw [List.append_assoc, List.append_assoc, List.append_assoc, List.append_assoc]
  simp only [owedMx, List.cons_append, List.nil_append]
  iintro ⟨#HC, Hp, ⟨T0, T1, T2, T3, T4⟩, HO⟩ Hk
  iapply (h0 _ a0 Φ _) $$ [Hp T0 HO]
  · iframe HC Hp T0 HO
  iintro ⟨Hp, T0, HO⟩
  iapply (h1 _ a1 Φ _) $$ [Hp T1 HO]
  · iframe HC Hp T1 HO
  iintro ⟨Hp, T1, HO⟩
  iapply (h2 _ a2 Φ _) $$ [Hp T2 HO]
  · iframe HC Hp T2 HO
  iintro ⟨Hp, T2, HO⟩
  iapply (h3 _ a3 Φ _) $$ [Hp T3 HO]
  · iframe HC Hp T3 HO
  iintro ⟨Hp, T3, HO⟩
  iapply (h4 _ hA Φ _) $$ [Hp T4 HO]
  · iframe HC Hp T4 HO
  iintro ⟨Hp, T4, HO⟩
  iapply Hk
  iframe Hp T0 T1 T2 T3 T4 HO
end max

section scale
attribute [local irreducible] scaleV Mx
theorem scale_bind (k : F .f32 → PG F PUnit) : (scaleLoad >>= k)
    = .op (.load avM (ra 5).toLoadRect (View.loadsAt_vmem h_S1x128)) fun v => k (scaleV v) := rfl
theorem scale_T {Φ : PUnit → AP F} (k : F .f32 → PG F PUnit) :
    Piece (avM.access (ra 5)) c (Mx P 5 c) ⊢ iprop((Piece (avM.access (ra 5)) c (Mx P 5 c) -∗ wpq c (k (Sc P c)) Φ) -∗ wpq c (scaleLoad >>= k) Φ) := by
  rw [scale_bind]
  exact load_at (M := avM) (r := ra 5) (x := Mx P 5 c) (k := fun v => k (scaleV v))

end scale

/-! ## The quantiser -/

section quant
variable (P) (d : Bool) (c : Dev nD)

/-- A direction before the quantiser. -/
def Q0 : AP F := iprop(AccF P d c ∗ Raw ((oqM d).access rhw) c ∗ Raw ((dqM d).access rhw) c ∗ Raw (oR0 c d).view c ∗ At c (.st d) 0 ∗ Tok c (.st d) 0 0)
def Q1 : AP F := iprop(AccF P d c ∗ Piece ((oqM d).access rhw) c (Qv P d c) ∗ Raw ((dqM d).access rhw) c ∗ Raw (oR0 c d).view c ∗ At c (.st d) 0 ∗ Tok c (.st d) 0 0)
def Q2 : AP F := iprop(AccF P d c ∗ Piece ((oqM d).access rhw) c (Qv P d c) ∗ Piece ((dqM d).access rhw) c (Ov0 P d c) ∗ Raw (oR0 c d).view c ∗ At c (.st d) 0 ∗ Tok c (.st d) 0 0)
def Q3 : AP F := iprop(AccF P d c ∗ Piece ((oqM d).access rhw) c (Qv P d c) ∗ At c (.st d) 0 ∗ cred (tallyAt (cel c (.st d)) 0 (amtR (.st d) 0)))
/-- A direction after it: its own rows stand in the result. -/
def Q4 : AP F := iprop(AccF P d c ∗ (Piece (oqP d false).view c (Gv P d 0 c false) ∗ Piece (oqP d true).view c (Gv P d 0 c true))
  ∗ (Raw (dqP d false).view c ∗ Raw (dqP d true).view c) ∗ Piece (oR0 c d).view c (Ov0 P d c) ∗ At c (.st d) 1)
end quant

variable (d b : Bool)

theorem quant_chain (sc : F .f32) (rest : List (PG F PUnit)) : Pipeline.chain (quant (F := F) sc d :: rest)
    = .op (.load (accM d) (r2w 1).toLoadRect (View.loadsAt_vmem h_S1x64x8192)) fun v =>
      .op (.load (oqM d) rhw.toLoadRect (View.loadsAt_vmem h_S64x8192)) fun _ =>
      .op (.store (oqM d) rhw (payQuant sc v) Finset.univ
    (View.stores_vmem h_S64x8192 ((oqM_whole d).storeExact_slice rfl _ packedi8_S64x8192_S64x8192_0_0) (fun _ => rfl)) (.inl rfl)) fun _ => Pipeline.chain rest := rfl
theorem deq0_chain (sc : F .f32) (rest : List (PG F PUnit)) : Pipeline.chain (deq0 (F := F) sc d :: rest)
    = .op (.load (oqM d) rhw.toLoadRect (View.loadsAt_vmem h_S64x8192)) fun v =>
      .op (.load (dqM d) rhw.toLoadRect (View.loadsAt_vmem h_S64x8192)) fun _ =>
      .op (.store (dqM d) rhw (payDeq0 sc v) Finset.univ (View.stores_vmem_bits_univ h_S64x8192 rfl) (.inl rfl)) fun _ => Pipeline.chain rest := rfl
theorem agDeq_chain (sc : F .f32) (t : ℕ) (rest : List (PG F PUnit)) : Pipeline.chain (agDeq (F := F) sc t d b :: rest)
    = .op (.load (agM d) (r3 (slot3 t) b).toLoadRect (View.loadsAt_vmem h_S1x32x8192)) fun v =>
      .op (.load (dqM d) (rh b).toLoadRect (View.loadsAt_vmem h_S32x8192)) fun _ =>
      .op (.store (dqM d) (rh b) (payDeq sc v) Finset.univ (View.stores_vmem_bits_univ h_S32x8192 rfl) (.inl rfl)) fun _ => Pipeline.chain rest := rfl

theorem quant_T : Tr P κ c [quant (Sc P c) d] (Q0 P d c) (Q1 P d c) := by
  intro Φ rest
  show _ ⊢ iprop(_ -∗ wpq c (Pipeline.chain (quant (F := F) (Sc P c) d :: rest)) Φ)
  rw [quant_chain]
  unfold Q0 Q1 AccF
  iintro ⟨#HC, Ha, Hq, Hd, Ho, Hs, Ht⟩ Hk
  iapply load_at $$ Ha
  iintro Ha
  iapply (load_raw (fun _ => rfl)) $$ Hq
  iintro Hq
  iapply store_at $$ Hq
  iintro Hq
  iapply Hk
  iframe Ha Hd Ho Hs Ht
  iexact Hq

theorem deq0_T : Tr P κ c [deq0 (Sc P c) d] (Q1 P d c) (Q2 P d c) := by
  intro Φ rest
  show _ ⊢ iprop(_ -∗ wpq c (Pipeline.chain (deq0 (F := F) (Sc P c) d :: rest)) Φ)
  rw [deq0_chain]
  unfold Q1 Q2
  iintro ⟨#HC, Ha, Hq, Hd, Ho, Hs, Ht⟩ Hk
  iapply load_at $$ Hq
  iintro Hq
  iapply (load_raw (fun _ => rfl)) $$ Hd
  iintro Hd
  iapply store_at $$ Hd
  iintro Hd
  iapply Hk
  iframe Ha Hq Ho Hs Ht
  iexact Hd

theorem amt_o0 (c : Dev nD) (d : Bool) : (oR0 c d).view.dmaCredit = amtR (.st d) 0 := by cases d <;> rfl
theorem num_st {r : ℕ} (h : r < 63) : nums (.st d) r = {0} := by
  show (if r < 63 then ({0} : Finset ℕ) else ∅) = {0}
  rw [if_pos h]

theorem put0_T : Tr P κ c [put0 (posW c) (hpos c) d] (Q2 P d c) (Q3 P d c) := by
  unfold put0
  refine Tr.op fun Φ kk => ?_
  unfold Q2 Q3 At
  rw [show (Piece ((dqM d).access rhw) c (Ov0 P d c) : AP F) = Piece (dqM d).view c (Ov0 P d c) from piece_rhw _ _ _]
  iintro ⟨#HC, Ha, Hq, Hd, Ho, ⟨Hat, #Hr⟩, Ht⟩ Hk
  iapply (dma_copy P (.st d) 0 0 rfl (by rw [num_st d (by omega)]; exact Finset.mem_singleton_self _) rfl (amt_o0 c d)
    (q := fullShare) (x := Ov0 P d c) (by
      show iprop(Piece (oR0 c d).view c (Ov0 P d c) ∗ Piece (dqM d).view c (Ov0 P d c)) ⊢ iprop(Piece (oR0 c d).view c (Ov0 P d c) ∗ Raw (dqM d).view c)
      iintro ⟨H1, H2⟩
      ihave H2 := (Piece.raw _ _ _) $$ H2
      iframe H1 H2)) $$ [Hd Ho Ht]
  · isplitr; · iexact HC
    isplitl [Hd]; · unfold Piece; iexact Hd
    isplitl [Ho]; · iexact Ho
    isplitl [Ht]; · iexact Ht
    iexact Hr
  iintro Hc
  iapply Hk
  iframe # ∗

theorem put0Wait_T (l : List (Pay nD τ sig)) (hA : Above 0 l) :
    Tr P κ c [put0Wait (posW c) (hpos c) d] iprop(Q3 P d c ∗ Owe c l) iprop(Q4 P d c ∗ Owe c l) := by
  unfold put0Wait
  refine Tr.op fun Φ kk => ?_
  unfold Q3 Q4
  iintro ⟨#HC, ⟨Ha, Hq, Hat, Hc⟩, HO⟩ Hk
  iapply (dma_wait P (.st d) 0 0 rfl (num_st d (by omega)) (amt_o0 c d) (by decide) hA) $$ [Hat Hc HO]
  · iframe # ∗
  iintro ⟨HO, Hat, Hp⟩
  ihave Hp := (show payOf P c 0 0 (.st d) ⊢ iprop(Piece (oR0 c d).view c (Ov0 P d c) ∗ Raw (dqM d).view c) from Entails.refl _) $$ Hp
  icases Hp with ⟨Hp, Hd⟩
  ihave Hd := (Entails.of_eq (raw_rhw (F := F) (dqM d).view c).symm) $$ Hd
  ihave Hd := (cuth.rawSplit (F := F) (dqM d).view c) $$ Hd
  ihave Hq := (cuth.split (F := F) (oqM d).view c _) $$ Hq
  iapply Hk
  icases Hd with ⟨D1, D2⟩
  icases Hq with ⟨E1, E2⟩
  iframe Ha Hp Hat HO
  isplitl [E1 E2]
  · isplitl [E1]; · iexact E1
    iexact E2
  isplitl [D1]; · iexact D1
  iexact D2

section quantAll
attribute [local irreducible] Q0 Q1 Q2 Q3 Q4 Owe Ctx

theorem quantAll_T (l : List (Pay nD τ sig)) (hA : Above 0 l) :
    Tr P κ c (quantItems (posW c) (hpos c) (Sc P c)) iprop((Q0 P false c ∗ Q0 P true c) ∗ Owe c l) iprop((Q4 P false c ∗ Q4 P true c) ∗ Owe c l) := by
  intro Φ rest
  simp only [quantItems, List.cons_append, List.nil_append]
  iintro ⟨#HC, ⟨H1, H2⟩, HO⟩ Hk
  iapply ((quant_T (P := P) false).cons Φ _) $$ [H1]
  · iframe HC H1
  iintro H1
  iapply ((quant_T (P := P) true).cons Φ _) $$ [H2]
  · iframe HC H2
  iintro H2
  iapply ((deq0_T (P := P) false).cons Φ _) $$ [H1]
  · iframe HC H1
  iintro H1
  iapply ((deq0_T (P := P) true).cons Φ _) $$ [H2]
  · iframe HC H2
  iintro H2
  iapply ((put0_T (P := P) false).cons Φ _) $$ [H1]
  · iframe HC H1
  iintro H1
  iapply ((put0_T (P := P) true).cons Φ _) $$ [H2]
  · iframe HC H2
  iintro H2
  iapply ((put0Wait_T (P := P) false l hA).cons Φ _) $$ [H1 HO]
  · iframe HC H1 HO
  iintro ⟨H1, HO⟩
  iapply ((put0Wait_T (P := P) true l hA).cons Φ _) $$ [H2 HO]
  · iframe HC H2 HO
  iintro ⟨H2, HO⟩
  iapply Hk
  iframe H1 H2 HO
end quantAll

end Cert.Ring
-- ==== Proof.Ag.lean ====
/-
  The all-gather: a lane is a direction and a sub-block, and each direction writes its rows of the result.
-/
module

public import proofs.«01_k».proof.Proof.Mid

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

theorem unpeel (t : ℕ) (f : ℕ → AP F) : bigSep (Finset.range (t + 1)) f = iprop(f t ∗ bigSep (Finset.range t) f) := by
  rw [Finset.range_add_one]
  exact bigSep_insert (by simp)

/-! ## A lane -/

section lane
variable (P) (d b : Bool) (c : Dev nD)

/-- The piece that is out of the ring's use. -/
def Oth : ℕ → AP F
  | 0 => Grant true d b c 2
  | _ + 1 => Raw (oqP d b).view c
/-- What the sends and receives of a lane's step leave alone. -/
def AgBase (t : ℕ) : AP F :=
  iprop(Oth d b c t ∗ Rest true d b c (t + 1) ∗ (AtR true d b c (t + 1) ∗ AtR true d b c (t + 2)) ∗ (AtS true d b c (t + 1) ∗ AtS true d b c (t + 2)))
/-- A lane at the start of step `t`. -/
def AgL (t : ℕ) : AP F :=
  iprop(Piece (agSrc t d b).view c (Gv P d t c b) ∗ AgBase d b c t ∗ Rest true d b c t ∗ AtR true d b c t ∗ AtS true d b c t
    ∗ Grant true d b (nb d c) t ∗ Grant true (!d) b c (t + 1) ∗ Sup true d b c t)
def AgFly (t : ℕ) : AP F := iprop(At c (.snd true d (slot3 t) b) (t / 3)
  ∗ cred (tallyAt (cel c (.snd true d (slot3 t) b)) 0 (amtR (.snd true d (slot3 t) b) (t / 3))))
/-- A lane that has sent. -/
def AgA (t : ℕ) : AP F :=
  iprop(AgFly d b c t ∗ AgBase d b c t ∗ AtR true d b c t
    ∗ cred (tallyAt (cel c (.rcv true d (slot3 t) b)) (lvR true t) (amtR (.rcv true d (slot3 t) b) (t / 3))) ∗ Sup true d b c (t + 1))
/-- A lane that has received. -/
def AgB (t : ℕ) : AP F :=
  iprop(AgFly d b c t ∗ AgBase d b c t ∗ AtR true d b c (t + 3) ∗ Piece (agP d (slot3 t) b).view c (Gv P d (t + 1) c b) ∗ Sup true d b c (t + 1))
/-- A lane whose send is over. -/
def AgC (t : ℕ) : AP F :=
  iprop(Piece (agP d (slot3 t) b).view c (Gv P d (t + 1) c b) ∗ AgBase d b c (t + 1) ∗ Rest true d b c (t + 1) ∗ AtR true d b c (t + 1) ∗ AtS true d b c (t + 1)
    ∗ Sup true d b c (t + 1))
def AgOut1 (t : ℕ) : AP F := Grant true (!d) b (nb (!d) c) (t + 1)
def AgOut2 (t : ℕ) : AP F := Grant true d b c (t + 2)

theorem agNext (t : ℕ) : iprop(AgC P d b c t ∗ AgOut1 (!d) b c t ∗ AgOut2 (!d) b c t) ⊢ AgL P d b c (t + 1) := by
  unfold AgC AgOut1 AgOut2 AgL
  rw [Bool.not_not]
  iintro ⟨⟨H1, H2, H3, H4, H5, H6⟩, H7, H8⟩
  isplitl [H1]; · iexact H1
  iframe H2 H3 H4 H5 H7 H6
  iexact H8

/-- The rows of the result a lane fills: those to come, and those done. -/
def OT (t : ℕ) : AP F := bigSep (Finset.Ico t 31) fun u => Raw (F := F) (oR c u d b).view c
def OD (t : ℕ) : AP F := bigSep (Finset.range t) fun u => Piece (oR c u d b).view c (Ov P d u c b)
/-- The place of the dequantised rows, and the rows of the result. -/
def OA (t : ℕ) : AP F := iprop(Raw (dqP d b).view c ∗ OT d b c t ∗ OD P d b c t)
def OB (t : ℕ) : AP F := iprop(Piece (dqP d b).view c (Ov P d t c b) ∗ OT d b c t ∗ OD P d b c t)
def OC (t : ℕ) : AP F := iprop(OT d b c (t + 1) ∗ OD P d b c t)
def SupSt (r : ℕ) : AP F := bigSep (Finset.Ico r 63) fun w => Tok (F := F) c (.st d) w 0
def SA (r : ℕ) : AP F := iprop(At c (.st d) r ∗ SupSt d c r)
def SF (r : ℕ) : AP F := iprop(At c (.st d) r ∗ cred (tallyAt (cel c (.st d)) 0 (amtR (.st d) r)) ∗ SupSt d c (r + 1))

end lane

variable (d b : Bool)

theorem agSend_T {t : ℕ} (ht : t ≤ 30) (l : List (Pay nD τ sig)) :
    Tr P κ c [agSend (rgtW c) (hrgt c) (lftW c) (hlft c) t d b]
      iprop(AgL P d b c t ∗ Owe c (due (nb d c) (.rcv true d (slot3 t) b) (100 + 2 * t + 2) (t / 3) :: l))
      iprop(AgA d b c t ∗ Owe c l) := by
  unfold agSend send
  rw [nbr_eq]
  refine Tr.op fun Φ kk => ?_
  unfold AgL AgA AgFly AtS AtR Sup
  rw [peel (by omega : t < 31)]
  rw [show Grant (F := F) true d b (nb d c) t = iprop(DstRaw true d (slot3 t) b (nb d c) ∗ reached ER (cel (nb d c) (.rcv true d (slot3 t) b)) (t / 3) ) by
    unfold Grant; rw [if_pos ht]]
  unfold Sup1 At
  iintro ⟨#HC, ⟨Hp, Hb, -, Hr, ⟨Hat, #Hr1⟩, ⟨Hd, #Hr2⟩, Hg, ⟨Ht1, Ht2, Hcr⟩, Hsup⟩, HO⟩ Hk
  iapply (dma_send P (.snd true d (slot3 t) b) (.rcv true d (slot3 t) b) (t / 3) (t / 3) (100 + 2 * t + 2) rfl rfl
    (by rw [num_snd _ _ _ ht]; exact Finset.mem_singleton_self _) (by rw [num_rcv _ _ _ ht]; exact Finset.mem_singleton_self _)
    rfl (nb_nb d c) (by rw [amtR_snd]; exact amt_ag d _ b) (by rw [amtR_rcv]; exact amt_ag d _ b)
    (by rw [pay_snd]; exact Piece.raw _ _ _) (x := Gv P d t c b) (X := iprop(Grant true (!d) b c (t + 1) ∗ Extra true d b c t))
    (by rw [pay_rcv']; exact Entails.refl _)) $$ [Hp Hd Hg HO Ht1 Ht2]
  · rw [show Extra (F := F) true d b c t = iprop(emp) by unfold Extra; rw [if_neg (by simp)]]
    isplitr; · iexact HC
    isplitl [Hp]; · iexact Hp
    isplitl [Hd]; · unfold DstRaw; iexact Hd
    isplitl [Hg]
    · isplitl [Hg]; · iexact Hg
      iempintro
    isplitl [HO]; · iexact HO
    isplitl [Ht1]; · iexact Ht1
    isplitr; · iexact Hr1
    isplitl [Ht2]; · iexact Ht2
    iexact Hr2
  iintro ⟨Hc, HO⟩
  iapply Hk
  iframe # ∗

theorem agDeq_T {t : ℕ} : Tr P κ c [agDeq (Sc P c) t d b]
    iprop(Piece (agP d (slot3 t) b).view c (Gv P d (t + 1) c b) ∗ OA P d b c t)
    iprop(Piece (agP d (slot3 t) b).view c (Gv P d (t + 1) c b) ∗ OB P d b c t) := by
  intro Φ rest
  show _ ⊢ iprop(_ -∗ wpq c (Pipeline.chain (agDeq (F := F) (Sc P c) t d b :: rest)) Φ)
  rw [agDeq_chain]
  unfold OA OB
  rw [ag_piece]
  iintro ⟨#HC, Hp, Hd, Ho⟩ Hk
  iapply load_at $$ Hp
  iintro Hp
  iapply (load_raw (M := dqM d) (r := rh b) (fun _ => rfl)) $$ [Hd]; · iexact Hd
  iintro Hd
  iapply store_at $$ Hd
  iintro Hd
  iapply Hk
  iframe Hp Ho
  iexact Hd

theorem agRecv_T {t : ℕ} (ht : t ≤ 30) (l : List (Pay nD τ sig)) (hA : Above (100 + 2 * t + 2) l) :
    Tr P κ c [agRecvWait t d b] iprop(AgA d b c t ∗ Owe c l) iprop(AgB P d b c t ∗ AgOut1 d b c t ∗ Owe c l) := by
  unfold agRecvWait
  refine Tr.op fun Φ kk => ?_
  unfold AgA AgB AgOut1 AtR
  iintro ⟨#HC, ⟨H1, H2, Hat, Hc, H3⟩, HO⟩ Hk
  iapply (dma_wait P (.rcv true d (slot3 t) b) (t / 3) (lvR true t) rfl (num_rcv _ _ _ ht) (by rw [amtR_rcv]; exact amt_ag d _ b)
    (by show 100 + 2 * t + 2 < 300; omega) hA) $$ [Hat Hc HO]
  · iframe # ∗
  iintro ⟨HO, Hat, Hp⟩
  ihave Hp := (Entails.of_eq (pay_rcv (P := P) true d b c t)) $$ Hp
  icases Hp with ⟨Hm, Hg, -⟩
  iapply Hk
  rw [slot3_add, div3_add]
  unfold Msg
  iframe H1 H2 H3 HO Hat
  isplitl [Hm]; · iexact Hm
  iexact Hg

theorem agRecvDeq_T {t : ℕ} (ht : t ≤ 30) (l : List (Pay nD τ sig)) (hA : Above (100 + 2 * t + 2) l) :
    Tr P κ c [agRecvWait t d b, agDeq (Sc P c) t d b] iprop(AgA d b c t ∗ OA P d b c t ∗ Owe c l)
      iprop(AgB P d b c t ∗ AgOut1 d b c t ∗ OB P d b c t ∗ Owe c l) := by
  intro Φ rest
  simp only [List.cons_append, List.nil_append]
  iintro ⟨#HC, H1, H2, HO⟩ Hk
  iapply ((agRecv_T (P := P) d b ht l hA).cons Φ _) $$ [H1 HO]
  · iframe HC H1 HO
  iintro ⟨H1, Hg, HO⟩
  unfold AgB
  icases H1 with ⟨A1, A2, A3, Hp, A4⟩
  iapply ((agDeq_T (P := P) d b).cons Φ _) $$ [Hp H2]
  · iframe HC Hp H2
  iintro ⟨Hp, H2⟩
  iapply Hk
  iframe A1 A2 A3 Hp A4 Hg H2 HO

theorem agWaitSend_T {t : ℕ} (ht : t ≤ 30) (l : List (Pay nD τ sig)) (hA : Above 0 l) :
    Tr P κ c [agWaitSend t d b] iprop(AgB P d b c t ∗ Owe c l) iprop(AgC P d b c t ∗ AgOut2 d b c t ∗ Owe c l) := by
  unfold agWaitSend
  refine Tr.op fun Φ kk => ?_
  unfold AgB AgC AgFly AgBase AgOut2
  iintro ⟨#HC, ⟨⟨Hat, Hc⟩, ⟨Ho, Hr, ⟨R1, R2⟩, S1, S2⟩, R3, Hp, Hs⟩, HO⟩ Hk
  iapply (dma_wait P (.snd true d (slot3 t) b) (t / 3) 0 rfl (num_snd _ _ _ ht) (by rw [amtR_snd]; exact amt_agSrc t d b) (by decide) hA) $$ [Hat Hc HO]
  · iframe # ∗
  iintro ⟨HO, Hat, Hq⟩
  ihave Hq := (Entails.of_eq (pay_snd (P := P) true d b c t)) $$ Hq
  have eS : (At c (.snd true d (slot3 t) b) (t / 3 + 1) : AP F) = AtS true d b c (t + 3) := by unfold AtS; rw [slot3_add, div3_add]
  ihave Hat := (Entails.of_eq eS) $$ Hat
  iapply Hk
  rw [show t + 1 + 1 = t + 2 from rfl, show t + 1 + 2 = t + 3 from rfl]
  cases t with
  | zero =>
    rw [show Rest (F := F) true d b c (0 + 2) = iprop(emp) by unfold Rest; rw [if_pos (by decide)],
      show Oth (F := F) d b c (0 + 1) = Raw (oqP d b).view c from rfl]
    unfold Src
    ihave Ho := (Entails.of_eq (show Oth (F := F) d b c 0 = Grant true d b c 2 from rfl)) $$ Ho
    iframe HO Hp S1 S2 Hat R1 R2 R3 Hr Hs
    isplitl [Hq]; · iexact Hq
    iexact Ho
  | succ u =>
    have e1 : slot3 (u + 1 + 2) = slot3 u := slot3_add u
    have e2 : (u + 1 + 2) / 3 = u / 3 + 1 := div3_add u
    ihave H := (regrant true d b c (u + 1 + 2)) $$ [Hq R2]
    · isplitl [Hq]
      · rw [e1]; unfold Src DstRaw; iexact Hq
      · unfold AtR; iexact R2
    icases H with ⟨Hg, H1, R2⟩
    unfold Oth
    iframe HO Hp S1 S2 Hat R1 R2 R3 Hr Hs Ho H1 Hg

/-! ## The rows of the result -/

theorem amt_oR (c : Dev nD) (t : ℕ) (d b : Bool) (r : ℕ) : (oR c t d b).view.dmaCredit = amtR (.st d) (r + 1) := by
  cases d <;> cases b <;> rfl
theorem pay_st (t : ℕ) : payOf P c (2 * t + bit b + 1) 0 (.st d) = iprop(Piece (oR c t d b).view c (Ov P d t c b) ∗ Raw (dqP d b).view c) := by
  show iprop(Piece (oR c ((2 * t + bit b) / 2) d (nb1 (2 * t + bit b))).view c (Ov P d ((2 * t + bit b) / 2) c (nb1 (2 * t + bit b)))
    ∗ Raw (dqP d (nb1 (2 * t + bit b))).view c) = _
  have e1 : (2 * t + bit b) / 2 = t := by cases b <;> simp only [bit_false, bit_true] <;> omega
  have e2 : nb1 (2 * t + bit b) = b := by cases b <;> simp only [bit_false, bit_true, nb1] <;> simp <;> omega
  rw [e1, e2]

theorem put_T {t : ℕ} (ht : t ≤ 30) {r : ℕ} (hr : r = 2 * t + bit b + 1) :
    Tr P κ c [put (posW c) (hpos c) (Fin.ofNat 31 t) d b] iprop(SA d c r ∗ OB P d b c t) iprop(SF d c r ∗ OC P d b c t) := by
  subst hr
  have hb := bit_lt b
  unfold put
  refine Tr.op fun Φ kk => ?_
  unfold SA SF OB OC OT SupSt At
  rw [peel (by omega : 2 * t + bit b + 1 < 63), peel (by omega : t < 31)]
  iintro ⟨#HC, ⟨⟨Hat, #Hr⟩, Ht, Hs⟩, Hd, ⟨Ho, HT⟩, HD⟩ Hk
  iapply (dma_copy P (.st d) (2 * t + bit b + 1) 0 rfl (by rw [num_st d (by omega)]; exact Finset.mem_singleton_self _) rfl (amt_oR c t d b _)
    (q := fullShare) (x := Ov P d t c b) (by
      rw [pay_st]
      show iprop(Piece (oR c t d b).view c (Ov P d t c b) ∗ Piece (dqP d b).view c (Ov P d t c b)) ⊢ _
      iintro ⟨H1, H2⟩
      ihave H2 := (Piece.raw _ _ _) $$ H2
      iframe H1 H2)) $$ [Hd Ho Ht]
  · isplitr; · iexact HC
    isplitl [Hd]; · unfold Piece; iexact Hd
    isplitl [Ho]; · iexact Ho
    isplitl [Ht]; · iexact Ht
    iexact Hr
  iintro Hc
  iapply Hk
  iframe # ∗

theorem putWait_T {t : ℕ} (ht : t ≤ 30) {r : ℕ} (hr : r = 2 * t + bit b + 1) (l : List (Pay nD τ sig)) (hA : Above 0 l) :
    Tr P κ c [putWait (posW c) (hpos c) (Fin.ofNat 31 t) d b] iprop(SF d c r ∗ OC P d b c t ∗ Owe c l)
      iprop(SA d c (r + 1) ∗ OA P d b c (t + 1) ∗ Owe c l) := by
  subst hr
  have hb := bit_lt b
  unfold putWait
  refine Tr.op fun Φ kk => ?_
  unfold SA SF OA OC OD
  rw [unpeel]
  iintro ⟨#HC, ⟨Hat, Hc, Hs⟩, ⟨HT, HD⟩, HO⟩ Hk
  iapply (dma_wait P (.st d) (2 * t + bit b + 1) 0 rfl (num_st d (by omega)) (amt_oR c t d b _) (by decide) hA) $$ [Hat Hc HO]
  · iframe # ∗
  iintro ⟨HO, Hat, Hp⟩
  ihave Hp := (Entails.of_eq (pay_st (P := P) d b t)) $$ Hp
  icases Hp with ⟨Hp, Hd⟩
  iapply Hk
  iframe # ∗

/-! ## Credits -/

section crd
variable (d : Bool) (c : Dev nD)

def SupA1 (t : ℕ) : AP F :=
  iprop((if 3 ≤ t then cred (tallyAt (cel c (.crd true d)) (100 + 2 * (t - 3) + 5) 1) else emp)
    ∗ (if 1 ≤ t ∧ t < 29 then Tok (nb (!d) c) (.crd true d) 0 (t - 1) else emp))
def SupA (t : ℕ) : AP F := bigSep (Finset.Ico t 31) (SupA1 (F := F) d c)
/-- A direction's credits at the start of step `t`. -/
def AR (t : ℕ) : AP F := iprop(reached ER (cel (nb (!d) c) (.crd true d)) 0 ∗ CrdAt c true d (t - 3) ∗ SupA d c t)
def ARW (t : ℕ) : AP F :=
  iprop(reached ER (cel (nb (!d) c) (.crd true d)) 0 ∗ CrdAt c true d (t + 1 - 3)
    ∗ (if 1 ≤ t ∧ t < 29 then Tok (nb (!d) c) (.crd true d) 0 (t - 1) else emp) ∗ SupA d c (t + 1))

theorem ar_skip {t : ℕ} (ht : t < 3) : AR (F := F) d c t ⊢ ARW d c t := by
  unfold AR ARW SupA
  rw [peel (by omega : t < 31)]
  unfold SupA1
  rw [if_neg (by omega : ¬ 3 ≤ t), show t - 3 = t + 1 - 3 by omega]
  iintro ⟨#H1, H2, ⟨-, H3⟩, H4⟩
  iframe # ∗
theorem ar_skip' {t : ℕ} (ht : ¬ (1 ≤ t ∧ t < 29)) : ARW (F := F) d c t ⊢ AR d c (t + 1) := by
  unfold AR ARW
  rw [if_neg ht]
  iintro ⟨#H1, H2, -, H4⟩
  iframe # ∗

end crd

theorem ar_wait {t : ℕ} (h3 : 3 ≤ t) (ht : t ≤ 30) (l : List (Pay nD τ sig)) (hA : Above (100 + 2 * t) l) :
    Tr P κ c [credWait true d] iprop(AR d c t ∗ Owe c l) iprop(ARW d c t ∗ Owe c l) := by
  intro Φ rest
  simp only [List.cons_append, List.nil_append]
  unfold AR ARW SupA
  rw [peel (by omega : t < 31)]
  unfold SupA1
  rw [if_pos h3]
  iintro ⟨#HC, ⟨#H1, H2, ⟨Hc, H3⟩, H4⟩, HO⟩ Hk
  iapply ((crdW_T (P := P) true d (t - 3) (100 + 2 * (t - 3) + 5) l (by show 100 + 2 * (t - 3) + 5 < 300; omega) (hA.mono (by omega))).cons Φ _) $$ [H2 Hc HO]
  · iframe # ∗
  iintro ⟨H2, HO⟩
  iapply Hk
  rw [show t - 3 + 1 = t + 1 - 3 by omega]
  iframe # ∗

theorem ar_signal {t : ℕ} (ht : 1 ≤ t ∧ t < 29) (l : List (Pay nD τ sig)) :
    Tr P κ c [credSignal (rgtW c) (hrgt c) (lftW c) (hlft c) true d]
      iprop(ARW d c t ∗ Owe c (due (nb (!d) c) (.crd true d) (100 + 2 * t + 3) 0 :: l)) iprop(AR d c (t + 1) ∗ Owe c l) := by
  intro Φ rest
  simp only [List.cons_append, List.nil_append]
  unfold AR ARW
  rw [if_pos ht]
  iintro ⟨#HC, ⟨#H1, H2, Ht, H4⟩, HO⟩ Hk
  iapply ((crdS_T (P := P) true d (by omega : t - 1 < 28) (100 + 2 * t + 3) l).cons Φ _) $$ [Ht HO]
  · iframe # ∗
  iintro HO
  iapply Hk
  iframe # ∗

/-! ## The step -/

attribute [local irreducible] AgL AgA AgB AgC AgOut1 AgOut2 OA OB OC SA SF AR ARW Owe Ctx

def agSends (c : Dev nD) (t : ℕ) : List (Pay nD τ sig) :=
  [due (nb false c) (.rcv true false (slot3 t) false) (100 + 2 * t + 2) (t / 3), due (nb true c) (.rcv true true (slot3 t) false) (100 + 2 * t + 2) (t / 3),
    due (nb false c) (.rcv true false (slot3 t) true) (100 + 2 * t + 2) (t / 3), due (nb true c) (.rcv true true (slot3 t) true) (100 + 2 * t + 2) (t / 3)]
def agCrds (c : Dev nD) (t : ℕ) : List (Pay nD τ sig) :=
  if 1 ≤ t ∧ t < 29 then [due (nb true c) (.crd true false) (100 + 2 * t + 3) 0, due (nb false c) (.crd true true) (100 + 2 * t + 3) 0] else []

theorem above_agCrds (c : Dev nD) {t : ℕ} : Above (100 + 2 * t + 2) (agCrds c t) := by
  unfold agCrds
  split
  · intro x hx
    simp only [List.mem_cons, List.not_mem_nil, or_false] at hx
    rcases hx with rfl | rfl
    · exact ⟨rfl, by show 100 + 2 * t + 2 < 100 + 2 * t + 3; omega, by show 100 + 2 * t + 3 < 300; omega⟩
    · exact ⟨rfl, by show 100 + 2 * t + 2 < 100 + 2 * t + 3; omega, by show 100 + 2 * t + 3 < 300; omega⟩
  · intro x hx; exact absurd hx List.not_mem_nil
theorem above_agSends (c : Dev nD) {t : ℕ} (ht : t ≤ 30) : Above (100 + 2 * t + 1) (agSends c t) := by
  intro x hx
  unfold agSends at hx
  simp only [List.mem_cons, List.not_mem_nil, or_false] at hx
  rcases hx with rfl | rfl | rfl | rfl <;>
    exact ⟨rfl, by show 100 + 2 * t + 1 < 100 + 2 * t + 2; omega, by show 100 + 2 * t + 2 < 300; omega⟩

section step
variable (P) (c : Dev nD)
/-- A device at the start of step `t` of the all-gather. -/
def SG (t : ℕ) : AP F :=
  iprop(Lanes (fun d b => AgL P d b c t) ∗ Lanes (fun d b => OA P d b c t) ∗ (SA false c (2 * t + 1) ∗ SA true c (2 * t + 1)) ∗ (AR false c t ∗ AR true c t))
end step

theorem agCrds_T {t : ℕ} (ht : t ≤ 30) (l : List (Pay nD τ sig)) (hA : Above (100 + 2 * t) l) :
    Tr P κ c (if 3 ≤ t then [credWait true false, credWait true true] else [])
      iprop((AR false c t ∗ AR true c t) ∗ Owe c l) iprop((ARW false c t ∗ ARW true c t) ∗ Owe c l) := by
  split
  · rename_i h
    intro Φ rest
    simp only [List.cons_append, List.nil_append]
    iintro ⟨#HC, ⟨H1, H2⟩, HO⟩ Hk
    iapply ((ar_wait (P := P) false h ht l hA).cons Φ _) $$ [H1 HO]
    · iframe HC H1 HO
    iintro ⟨H1, HO⟩
    iapply ((ar_wait (P := P) true h ht l hA).cons Φ _) $$ [H2 HO]
    · iframe HC H2 HO
    iintro ⟨H2, HO⟩
    iapply Hk
    iframe H1 H2 HO
  · rename_i h
    refine Tr.nil ?_
    iintro ⟨⟨H1, H2⟩, HO⟩
    ihave H1 := (ar_skip false c (by omega : t < 3)) $$ H1
    ihave H2 := (ar_skip true c (by omega : t < 3)) $$ H2
    iframe H1 H2 HO

theorem agSends_T {t : ℕ} (ht : t ≤ 30) (l : List (Pay nD τ sig)) :
    Tr P κ c [agSend (rgtW c) (hrgt c) (lftW c) (hlft c) t false false, agSend (rgtW c) (hrgt c) (lftW c) (hlft c) t true false,
        agSend (rgtW c) (hrgt c) (lftW c) (hlft c) t false true, agSend (rgtW c) (hrgt c) (lftW c) (hlft c) t true true]
      iprop(Lanes (fun d b => AgL P d b c t) ∗ Owe c (agSends c t ++ l)) iprop(Lanes (fun d b => AgA d b c t) ∗ Owe c l) := by
  intro Φ rest
  simp only [List.cons_append, List.nil_append]
  simp only [Lanes, agSends]
  have h1 := fun l => agSend_T (P := P) (κ := κ) (c := c) false false ht l
  have h2 := fun l => agSend_T (P := P) (κ := κ) (c := c) true false ht l
  have h3 := fun l => agSend_T (P := P) (κ := κ) (c := c) false true ht l
  have h4 := fun l => agSend_T (P := P) (κ := κ) (c := c) true true ht l
  iintro ⟨#HC, ⟨H1, H2, H3, H4⟩, HO⟩ Hk
  iapply ((h1 (due (nb true c) (.rcv true true (slot3 t) false) (100 + 2 * t + 2) (t / 3) :: due (nb false c) (.rcv true false (slot3 t) true) (100 + 2 * t + 2) (t / 3) :: due (nb true c) (.rcv true true (slot3 t) true) (100 + 2 * t + 2) (t / 3) :: l)).cons Φ _) $$ [H1 HO]
  · isplitr; · iexact HC
    isplitl [H1]; · iexact H1
    iexact HO
  iintro ⟨H1, HO⟩
  iapply ((h2 (due (nb false c) (.rcv true false (slot3 t) true) (100 + 2 * t + 2) (t / 3) :: due (nb true c) (.rcv true true (slot3 t) true) (100 + 2 * t + 2) (t / 3) :: l)).cons Φ _) $$ [H2 HO]
  · iframe HC H2 HO
  iintro ⟨H2, HO⟩
  iapply ((h3 (due (nb true c) (.rcv true true (slot3 t) true) (100 + 2 * t + 2) (t / 3) :: l)).cons Φ _) $$ [H3 HO]
  · iframe HC H3 HO
  iintro ⟨H3, HO⟩
  iapply ((h4 l).cons Φ _) $$ [H4 HO]
  · iframe HC H4 HO
  iintro ⟨H4, HO⟩
  iapply Hk
  iframe H1 H2 H3 H4 HO

theorem agMid_T {t : ℕ} (ht : t ≤ 30) (l : List (Pay nD τ sig)) (hA : Above (100 + 2 * t + 2) l) :
    Tr P κ c [agRecvWait t false false, agDeq (Sc P c) t false false, agRecvWait t true false, agDeq (Sc P c) t true false,
        put (posW c) (hpos c) (Fin.ofNat 31 t) false false, put (posW c) (hpos c) (Fin.ofNat 31 t) true false,
        agRecvWait t false true, agDeq (Sc P c) t false true, agRecvWait t true true, agDeq (Sc P c) t true true,
        putWait (posW c) (hpos c) (Fin.ofNat 31 t) false false, putWait (posW c) (hpos c) (Fin.ofNat 31 t) true false,
        put (posW c) (hpos c) (Fin.ofNat 31 t) false true, put (posW c) (hpos c) (Fin.ofNat 31 t) true true,
        agWaitSend t false false, agWaitSend t true false, agWaitSend t false true, agWaitSend t true true]
      iprop(Lanes (fun d b => AgA d b c t) ∗ Lanes (fun d b => OA P d b c t) ∗ (SA false c (2 * t + 1) ∗ SA true c (2 * t + 1)) ∗ Owe c l)
      iprop(Lanes (fun d b => AgL P d b c (t + 1)) ∗ ((OA P false false c (t + 1) ∗ OA P true false c (t + 1)) ∗ OC P false true c t ∗ OC P true true c t)
        ∗ (SF false c (2 * t + 2) ∗ SF true c (2 * t + 2)) ∗ Owe c l) := by
  have hA0 : Above 0 l := hA.mono (Nat.zero_le _)
  intro Φ rest
  simp only [List.cons_append, List.nil_append]
  simp only [Lanes]
  iintro ⟨#HC, ⟨H1, H2, H3, H4⟩, ⟨O1, O2, O3, O4⟩, ⟨S1, S2⟩, HO⟩ Hk
  iapply ((agRecvDeq_T (P := P) false false ht l hA).cons2 Φ _) $$ [H1 O1 HO]
  · iframe HC H1 O1 HO
  iintro ⟨H1, G1, O1, HO⟩
  iapply ((agRecvDeq_T (P := P) true false ht l hA).cons2 Φ _) $$ [H2 O2 HO]
  · iframe HC H2 O2 HO
  iintro ⟨H2, G2, O2, HO⟩
  iapply ((put_T (P := P) false false ht rfl).cons Φ _) $$ [S1 O1]
  · isplitr; · iexact HC
    isplitl [S1]; · iexact S1
    iexact O1
  iintro ⟨S1, O1⟩
  iapply ((put_T (P := P) true false ht rfl).cons Φ _) $$ [S2 O2]
  · isplitr; · iexact HC
    isplitl [S2]; · iexact S2
    iexact O2
  iintro ⟨S2, O2⟩
  iapply ((agRecvDeq_T (P := P) false true ht l hA).cons2 Φ _) $$ [H3 O3 HO]
  · iframe HC H3 O3 HO
  iintro ⟨H3, G3, O3, HO⟩
  iapply ((agRecvDeq_T (P := P) true true ht l hA).cons2 Φ _) $$ [H4 O4 HO]
  · iframe HC H4 O4 HO
  iintro ⟨H4, G4, O4, HO⟩
  iapply ((putWait_T (P := P) false false ht rfl l hA0).cons Φ _) $$ [S1 O1 HO]
  · iframe HC S1 O1 HO
  iintro ⟨S1, O1, HO⟩
  iapply ((putWait_T (P := P) true false ht rfl l hA0).cons Φ _) $$ [S2 O2 HO]
  · iframe HC S2 O2 HO
  iintro ⟨S2, O2, HO⟩
  iapply ((put_T (P := P) false true ht rfl).cons Φ _) $$ [S1 O3]
  · isplitr; · iexact HC
    isplitl [S1]; · iexact S1
    iexact O3
  iintro ⟨S1, O3⟩
  iapply ((put_T (P := P) true true ht rfl).cons Φ _) $$ [S2 O4]
  · isplitr; · iexact HC
    isplitl [S2]; · iexact S2
    iexact O4
  iintro ⟨S2, O4⟩
  iapply ((agWaitSend_T (P := P) false false ht l hA0).cons Φ _) $$ [H1 HO]
  · iframe HC H1 HO
  iintro ⟨H1, K1, HO⟩
  iapply ((agWaitSend_T (P := P) true false ht l hA0).cons Φ _) $$ [H2 HO]
  · iframe HC H2 HO
  iintro ⟨H2, K2, HO⟩
  iapply ((agWaitSend_T (P := P) false true ht l hA0).cons Φ _) $$ [H3 HO]
  · iframe HC H3 HO
  iintro ⟨H3, K3, HO⟩
  iapply ((agWaitSend_T (P := P) true true ht l hA0).cons Φ _) $$ [H4 HO]
  · iframe HC H4 HO
  iintro ⟨H4, K4, HO⟩
  iapply Hk
  ihave H1 := (agNext P false false c t) $$ [H1 G2 K2]; · iframe H1; isplitl [G2]; · iexact G2
                                                          iexact K2
  ihave H2 := (agNext P true false c t) $$ [H2 G1 K1]; · iframe H2; isplitl [G1]; · iexact G1
                                                         iexact K1
  ihave H3 := (agNext P false true c t) $$ [H3 G4 K4]; · iframe H3; isplitl [G4]; · iexact G4
                                                         iexact K4
  ihave H4 := (agNext P true true c t) $$ [H4 G3 K3]; · iframe H4; isplitl [G3]; · iexact G3
                                                        iexact K3
  iframe H1 H2 H3 H4 O1 O2 O3 O4 HO
  isplitl [S1]; · iexact S1
  iexact S2

theorem agSigs_T {t : ℕ} (l : List (Pay nD τ sig)) :
    Tr P κ c (if 1 ≤ t ∧ t < 29 then [credSignal (rgtW c) (hrgt c) (lftW c) (hlft c) true false, credSignal (rgtW c) (hrgt c) (lftW c) (hlft c) true true] else [])
      iprop((ARW false c t ∗ ARW true c t) ∗ Owe c (agCrds c t ++ l)) iprop((AR false c (t + 1) ∗ AR true c (t + 1)) ∗ Owe c l) := by
  unfold agCrds
  by_cases h : 1 ≤ t ∧ t < 29
  · rw [if_pos h, if_pos h]
    intro Φ rest
    simp only [List.cons_append, List.nil_append]
    iintro ⟨#HC, ⟨H1, H2⟩, HO⟩ Hk
    iapply ((ar_signal (P := P) (c := c) false h (due (nb false c) (.crd true true) (100 + 2 * t + 3) 0 :: l)).cons Φ _) $$ [H1 HO]
    · isplitr; · iexact HC
      isplitl [H1]; · iexact H1
      iexact HO
    iintro ⟨H1, HO⟩
    iapply ((ar_signal (P := P) (c := c) true h l).cons Φ _) $$ [H2 HO]
    · isplitr; · iexact HC
      isplitl [H2]; · iexact H2
      iexact HO
    iintro ⟨H2, HO⟩
    iapply Hk
    iframe H1 H2 HO
  · rw [if_neg h, if_neg h, List.nil_append]
    refine Tr.nil ?_
    iintro ⟨⟨H1, H2⟩, HO⟩
    ihave H1 := (ar_skip' false c h) $$ H1
    ihave H2 := (ar_skip' true c h) $$ H2
    iframe H1 H2 HO

theorem agStep_T (t : Fin 31) (l : List (Pay nD τ sig)) (hA : Above (100 + 2 * t.val + 2) l) :
    Tr P κ c (agItems (posW c) (hpos c) (rgtW c) (hrgt c) (lftW c) (hlft c) (Sc P c) t)
      iprop(SG P c t.val ∗ Owe c (agSends c t.val ++ (agCrds c t.val ++ l))) iprop(SG P c (t.val + 1) ∗ Owe c l) := by
  have ht : t.val ≤ 30 := by omega
  have hA' : Above (100 + 2 * t.val + 2) (agCrds c t.val ++ l) := Above.append (above_agCrds c) hA
  have hm := agMid_T (P := P) (κ := κ) (c := c) ht _ hA'
  have hw1 := putWait_T (P := P) (κ := κ) (c := c) false true ht (r := 2 * t.val + 2) rfl l (hA.mono (Nat.zero_le _))
  have hw2 := putWait_T (P := P) (κ := κ) (c := c) true true ht (r := 2 * t.val + 2) rfl l (hA.mono (Nat.zero_le _))
  rw [fin31] at hm hw1 hw2
  have hcr := agCrds_T (P := P) (κ := κ) (c := c) ht _ (Above.append ((above_agSends c ht).mono (by omega)) (hA'.mono (by omega)))
  have hse := agSends_T (P := P) (κ := κ) (c := c) ht (agCrds c t.val ++ l)
  have hsi := agSigs_T (P := P) (κ := κ) (c := c) (t := t.val) l
  intro Φ rest
  have e : agItems (posW c) (hpos c) (rgtW c) (hrgt c) (lftW c) (hlft c) (Sc P c) t ++ rest
    = (if 3 ≤ t.val then [credWait true false, credWait true true] else []) ++
      ([agSend (rgtW c) (hrgt c) (lftW c) (hlft c) t.val false false, agSend (rgtW c) (hrgt c) (lftW c) (hlft c) t.val true false,
        agSend (rgtW c) (hrgt c) (lftW c) (hlft c) t.val false true, agSend (rgtW c) (hrgt c) (lftW c) (hlft c) t.val true true] ++
      ([agRecvWait t.val false false, agDeq (Sc P c) t.val false false, agRecvWait t.val true false, agDeq (Sc P c) t.val true false,
        put (posW c) (hpos c) t false false, put (posW c) (hpos c) t true false,
        agRecvWait t.val false true, agDeq (Sc P c) t.val false true, agRecvWait t.val true true, agDeq (Sc P c) t.val true true,
        putWait (posW c) (hpos c) t false false, putWait (posW c) (hpos c) t true false,
        put (posW c) (hpos c) t false true, put (posW c) (hpos c) t true true,
        agWaitSend t.val false false, agWaitSend t.val true false, agWaitSend t.val false true, agWaitSend t.val true true] ++
      ((if 1 ≤ t.val ∧ t.val < 29 then [credSignal (rgtW c) (hrgt c) (lftW c) (hlft c) true false, credSignal (rgtW c) (hrgt c) (lftW c) (hlft c) true true] else []) ++
      (putWait (posW c) (hpos c) t false true :: putWait (posW c) (hpos c) t true true :: rest)))) := by
    unfold agItems
    rw [List.append_assoc, List.append_assoc, List.append_assoc]
    rfl
  rw [e]
  unfold SG
  iintro ⟨#HC, ⟨HL, HX, HS, HR⟩, HO⟩ Hk
  iapply (hcr Φ _) $$ [HR HO]
  · iframe HC HR HO
  iintro ⟨HR, HO⟩
  iapply (hse Φ _) $$ [HL HO]
  · iframe HC HL HO
  iintro ⟨HL, HO⟩
  iapply (hm Φ _) $$ [HL HX HS HO]
  · iframe HC HL HX HS HO
  iintro ⟨HL, ⟨⟨O1, O2⟩, O3, O4⟩, ⟨S1, S2⟩, HO⟩
  iapply (hsi Φ _) $$ [HR HO]
  · iframe HC HR HO
  iintro ⟨HR, HO⟩
  iapply (hw1.cons Φ _) $$ [S1 O3 HO]
  · iframe HC S1 O3 HO
  iintro ⟨S1, O3, HO⟩
  iapply (hw2.cons Φ _) $$ [S2 O4 HO]
  · iframe HC S2 O4 HO
  iintro ⟨S2, O4, HO⟩
  iapply Hk
  rw [show 2 * (t.val + 1) + 1 = 2 * t.val + 2 + 1 by omega]
  simp only [Lanes]
  iframe HL O1 O2 O3 O4 S1 S2 HR HO

/-! ## The loop -/

/-- What the device owes from step `t` on. -/
def owedAG (c : Dev nD) : ℕ → List (Pay nD τ sig)
  | 0 => []
  | n + 1 => agSends c (30 - n) ++ (agCrds c (30 - n) ++ owedAG c n)

theorem above_owedAG (c : Dev nD) (n : ℕ) (hn : n ≤ 31) : Above (100 + 2 * (31 - n) + 1) (owedAG c n) := by
  induction n with
  | zero => intro x hx; exact absurd hx List.not_mem_nil
  | succ n ih =>
    unfold owedAG
    have e : 31 - (n + 1) = 30 - n := by omega
    rw [e]
    exact Above.append (above_agSends c (by omega)) (Above.append ((above_agCrds c).mono (by omega)) ((ih (by omega)).mono (by omega)))

theorem agLoop_T :
    Tr P κ c ((List.finRange 31).flatMap (agItems (posW c) (hpos c) (rgtW c) (hrgt c) (lftW c) (hlft c) (Sc P c)))
      iprop(SG P c 0 ∗ Owe c (owedAG c 31)) iprop(SG P c 31 ∗ Owe c []) := by
  have H := Tr.loop (P := P) (κ := κ) (c := c) (agItems (posW c) (hpos c) (rgtW c) (hrgt c) (lftW c) (hlft c) (Sc P c))
    (fun t => iprop(SG P c t ∗ Owe c (owedAG c (31 - t)))) (fun t => by
      have ht := t.isLt
      have e : 31 - t.val = (31 - (t.val + 1)) + 1 := by omega
      have e2 : 30 - (31 - (t.val + 1)) = t.val := by omega
      show Tr P κ c _ iprop(SG P c t.val ∗ Owe c (owedAG c (31 - t.val))) iprop(SG P c (t.val + 1) ∗ Owe c (owedAG c (31 - (t.val + 1))))
      rw [e, owedAG, e2]
      exact agStep_T t _ ((above_owedAG c _ (by omega)).mono (by omega)))
  exact H

end Cert.Ring
-- ==== Proof.Body.lean ====
/- The printed body is the body by steps. -/
module

public import proofs.«01_k».proof.Proof.Steps

@[expose] public section

noncomputable section

namespace Cert.Ring

open Idealize.ShloMosaic Idealize.SL.Sem
open Cert.KernelIdeal Cert.KernelIdeal.Gen

variable {F : FTy → Type} [FloatOps F]

section
variable (m1 m2 m3 : Memref sig .tc .smem S1 .i32) (w1 : m1.IsWhole) (w2 : m2.IsWhole) (w3 : m3.IsWhole)
  (v3 : BitVec 32) (h3 : k0_chk3 v3) (v4 : BitVec 32) (h2 : k0_chk2 v4) (v5 : BitVec 32) (h1 : k0_chk1 v5) (sc : F .f32) (d0 : Dev nD) (u : BitVec 32)

theorem win420 : (k0_part420 (Memref.whole main_v1) (Memref.isWhole_whole _) m1 w1 m2 w2 m3 w3 (Memref.whole main_v24) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 : PG F _)
    = (do
  let d0 : Dev nD ← Prog.lift .deviceId
  let v3 : Elt F .i32 ← smemLoad m1 (Rect.unit (s := S1) ![0] S1.size inb_S1_S1_0) numel1_S1 rfl
  have h3 : k0_chk3 v3 := (← Prog.lift (TpuEff.assume (k0_chk3 v3) (k0_chk3.dec v3))).down
  let v4 : Elt F .i32 ← smemLoad m2 (Rect.unit (s := S1) ![0] S1.size inb_S1_S1_0) numel1_S1 rfl
  have h2 : k0_chk2 v4 := (← Prog.lift (TpuEff.assume (k0_chk2 v4) (k0_chk2.dec v4))).down
  let v5 : Elt F .i32 ← smemLoad m3 (Rect.unit (s := S1) ![0] S1.size inb_S1_S1_0) numel1_S1 rfl
  have h1 : k0_chk1 v5 := (← Prog.lift (TpuEff.assume (k0_chk1 v5) (k0_chk1.dec v5))).down
  Pipeline.chain ((itemsA v3 h3 v4 h2 v5 h1 d0).take 215)
  pure ⟨d0, Scalar.remsi (Scalar.divsi (Dev.word d0) 1#32) 32#32, v3, h3, v4, h2, v5, h1⟩) := by
  chain_rfl

theorem win421 : (k0_part421 (Memref.whole main_v1) (Memref.isWhole_whole _) m1 w1 m2 w2 m3 w3 (Memref.whole main_v24) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 v3 h3 v4 h2 v5 h1  : PG F PUnit)
    = Pipeline.chain (((itemsA v3 h3 v4 h2 v5 h1 d0).drop 215).take 216) := by
  chain_rfl

theorem win422 : (k0_part422 (Memref.whole main_v1) (Memref.isWhole_whole _) m1 w1 m2 w2 m3 w3 (Memref.whole main_v24) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 v3 h3 v4 h2 v5 h1  : PG F PUnit)
    = Pipeline.chain (((itemsA v3 h3 v4 h2 v5 h1 d0).drop 431).take 216) := by
  chain_rfl

theorem win424 : (k0_part424 (Memref.whole main_v1) (Memref.isWhole_whole _) m1 w1 m2 w2 m3 w3 (Memref.whole main_v24) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 v3 h3 v4 h2 v5 h1 sc : PG F PUnit)
    = Pipeline.chain (((itemsB v3 h3 v4 h2 v5 h1 sc).drop 107).take 255) := by
  chain_rfl

theorem win425 : (k0_part425 (Memref.whole main_v1) (Memref.isWhole_whole _) m1 w1 m2 w2 m3 w3 (Memref.whole main_v24) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 v3 h3 v4 h2 v5 h1 sc : PG F PUnit)
    = Pipeline.chain (((itemsB v3 h3 v4 h2 v5 h1 sc).drop 362).take 256) := by
  chain_rfl

theorem win426 : (k0_part426 (Memref.whole main_v1) (Memref.isWhole_whole _) m1 w1 m2 w2 m3 w3 (Memref.whole main_v24) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 v3 h3 v4 h2 v5 h1 sc : PG F PUnit)
    = Pipeline.chain (((itemsB v3 h3 v4 h2 v5 h1 sc).drop 618).take 244) := by
  chain_rfl

theorem win423 : (k0_part423 (Memref.whole main_v1) (Memref.isWhole_whole _) m1 w1 m2 w2 m3 w3 (Memref.whole main_v24) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 d0 u v3 h3 v4 h2 v5 h1 : PG F (F .f32))
    = (do
  Pipeline.chain ((itemsA v3 h3 v4 h2 v5 h1 d0).drop 647)
  let sc ← scaleLoad
  Pipeline.chain ((itemsB v3 h3 v4 h2 v5 h1 sc).take 107)
  pure sc) := by
  chain_rfl

end

theorem chain_append (xs ys : List (PG F PUnit)) :
    Pipeline.chain (xs ++ ys) = (Pipeline.chain xs >>= fun _ => Pipeline.chain ys) := by
  induction xs with
  | nil => rfl
  | cons x xs ih => simp only [List.cons_append, Pipeline.chain_cons, ih, bind_assoc]

/-- The chain of some items, cut after the first `n`. -/
theorem chain_cut (l : List (PG F PUnit)) (n : ℕ) :
    Pipeline.chain l = (Pipeline.chain (l.take n) >>= fun _ => Pipeline.chain (l.drop n)) := by
  rw [← chain_append, List.take_append_drop]

theorem chainA (v3 : BitVec 32) (h3 : k0_chk3 v3) (v4 : BitVec 32) (h2 : k0_chk2 v4) (v5 : BitVec 32) (h1 : k0_chk1 v5) (d0 : Dev nD) :
    Pipeline.chain (itemsA v3 h3 v4 h2 v5 h1 d0 : List (PG F PUnit)) = (do
      Pipeline.chain ((itemsA v3 h3 v4 h2 v5 h1 d0).take 215)
      Pipeline.chain (((itemsA v3 h3 v4 h2 v5 h1 d0).drop 215).take 216)
      Pipeline.chain (((itemsA v3 h3 v4 h2 v5 h1 d0).drop 431).take 216)
      Pipeline.chain ((itemsA v3 h3 v4 h2 v5 h1 d0).drop 647)) := by
  generalize (itemsA v3 h3 v4 h2 v5 h1 d0 : List (PG F PUnit)) = l
  rw [chain_cut l 215, chain_cut (l.drop 215) 216, List.drop_drop, chain_cut (l.drop 431) 216, List.drop_drop]

theorem chainB (v3 : BitVec 32) (h3 : k0_chk3 v3) (v4 : BitVec 32) (h2 : k0_chk2 v4) (v5 : BitVec 32) (h1 : k0_chk1 v5) (sc : F .f32) :
    Pipeline.chain (itemsB v3 h3 v4 h2 v5 h1 sc : List (PG F PUnit)) = (do
      Pipeline.chain ((itemsB v3 h3 v4 h2 v5 h1 sc).take 107)
      Pipeline.chain (((itemsB v3 h3 v4 h2 v5 h1 sc).drop 107).take 255)
      Pipeline.chain (((itemsB v3 h3 v4 h2 v5 h1 sc).drop 362).take 256)
      Pipeline.chain (((itemsB v3 h3 v4 h2 v5 h1 sc).drop 618).take 244)
      Pipeline.chain ((itemsB v3 h3 v4 h2 v5 h1 sc).drop 862)) := by
  generalize (itemsB v3 h3 v4 h2 v5 h1 sc : List (PG F PUnit)) = l
  rw [chain_cut l 107, chain_cut (l.drop 107) 255, List.drop_drop, chain_cut (l.drop 362) 256, List.drop_drop,
    chain_cut (l.drop 618) 244, List.drop_drop]

theorem lastB (v3 : BitVec 32) (h3 : k0_chk3 v3) (v4 : BitVec 32) (h2 : k0_chk2 v4) (v5 : BitVec 32) (h1 : k0_chk1 v5) (sc : F .f32) :
    Pipeline.chain ((itemsB v3 h3 v4 h2 v5 h1 sc : List (PG F PUnit)).drop 862) = (do
      putWait v3 h3 30 false true
      putWait v3 h3 30 true true) := by
  chain_rfl

theorem body_eq (m1 m2 m3 : Memref sig .tc .smem S1 .i32) (w1 : m1.IsWhole) (w2 : m2.IsWhole) (w3 : m3.IsWhole) :
    (cc0_body (Memref.whole main_v1) (Memref.isWhole_whole _) m1 w1 m2 w2 m3 w3 (Memref.whole main_v24) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32 cc0_scratch33 : PG F PUnit) = body m1 m2 m3 := by
  unfold cc0_body body
  simp only [chainA, chainB, lastB, win420, bind_assoc, pure_bind, win421 (d0 := (0 : Dev nD))]
  refine congrArg _ (funext fun d0 => ?_)
  refine congrArg _ (funext fun v3 => ?_)
  refine congrArg _ (funext fun h3 => ?_)
  refine congrArg _ (funext fun v4 => ?_)
  refine congrArg _ (funext fun h2 => ?_)
  refine congrArg _ (funext fun v5 => ?_)
  refine congrArg _ (funext fun h1 => ?_)
  simp only [win421 (d0 := d0), win422 (d0 := d0), win423, win424, win425, win426, bind_assoc, pure_bind]
  rfl

end Cert.Ring
-- ==== Proof.Whole.lean ====
/-
  The whole body on one device: its loops one after another, from the first barrier to the last rows of the result.
-/
module

public import proofs.«01_k».proof.Proof.Ag
public import proofs.«01_k».proof.Proof.Body

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-! ## What the later loops wait for from the start -/

section start
variable (P) (c : Dev nD)

def AgIn (d b : Bool) : AP F :=
  iprop(Grant true d b c 2 ∗ (AtR true d b c 0 ∗ AtR true d b c 1 ∗ AtR true d b c 2) ∗ (AtS true d b c 0 ∗ AtS true d b c 1 ∗ AtS true d b c 2)
    ∗ Grant true (!d) b c 1 ∗ Sup true d b c 0 ∗ OT d b c 0)
def DirIn (d : Bool) : AP F :=
  iprop((Raw ((oqM d).access rhw) c ∗ Raw ((dqM d).access rhw) c ∗ Raw (oR0 c d).view c) ∗ (At c (.st d) 0 ∗ Tok c (.st d) 0 0 ∗ SupSt d c 1)
    ∗ CrdAt c true d 0 ∗ SupA d c 0)
def MxIn (k : Fin 5) : AP F :=
  iprop(At c (.ms k) 0 ∗ At c (.mr k) 0 ∗ Tok c (.ms k) 0 0 ∗ Tok (xDv k c) (.mr k) 0 0 ∗ cred (tallyAt (cel c (.mr k)) (70 + k.val) (amtR (.mr k) 0))
    ∗ Raw (avM.access (ra k.succ)) c)
def BodyIn : AP F :=
  iprop(St0 P c ∗ Lanes (fun d b => AgIn c d b) ∗ (DirIn c false ∗ DirIn c true)
    ∗ (Raw (avM.access (ra 0)) c ∗ MxIn c 0 ∗ MxIn c 1 ∗ MxIn c 2 ∗ MxIn c 3 ∗ MxIn c 4))
/-- Every payment a device makes, in its order. -/
def owedAll : List (Pay nD τ sig) :=
  due (nb true c) .bar 1 0 :: due (nb false c) .bar 1 0 :: owedRS c (owedMx c ++ owedAG c 31) 31
/-- What stands when the body is over. -/
def BodyEnd : AP F :=
  iprop(Lanes (fun d b => LaneE d b c) ∗ (PF P false c 31 ∗ PF P true c 31) ∗ (CR false c 31 ∗ CR true c 31) ∗ At c .bar 1
    ∗ (Raw (accP false 0).view c ∗ Raw (accP true 0).view c) ∗ (AccF P false c ∗ AccF P true c)
    ∗ (Piece (avM.access (ra 5)) c (Mx P 5 c) ∗ MxDone c 0 ∗ MxDone c 1 ∗ MxDone c 2 ∗ MxDone c 3 ∗ MxDone c 4)
    ∗ (Piece (oR0 c false).view c (Ov0 P false c) ∗ Piece (oR0 c true).view c (Ov0 P true c)) ∗ SG P c 31)
end start

theorem gath_row (k : Fin 5) : GathK c 31 k ⊢ (Row (xDv k c) k : AP F) := by
  unfold GathK; rw [if_pos (hop_le _ k)]
theorem carry_row (k : Fin 5) : (Row c k : AP F) ⊢ CarryK c 0 k := by
  unfold CarryK; rw [if_pos (hop_pos _ k)]; exact BI.Entails.refl _

theorem mx_in (k : Fin 5) : iprop(MxIn c k ∗ Row (xDv k c) k) ⊢ (MxTodo c k : AP F) := by
  unfold MxIn MxTodo
  iintro ⟨⟨A, B, C, D, E, G⟩, R⟩
  iframe A B C D E R G

theorem ag_in (d b : Bool) :
    iprop(AgIn c d b ∗ Piece (oqP d b).view c (Gv P d 0 c b) ∗ Grant true d b (nb d c) 0)
      ⊢ iprop(AgL P d b c 0 ∗ OT d b c 0) := by
  unfold AgIn AgL AgBase Rest
  rw [if_pos (by decide : 0 ≤ 30), if_pos (by decide : 0 + 1 ≤ 30)]
  iintro ⟨⟨A, ⟨B0, B1, B2⟩, ⟨C0, C1, C2⟩, D, E, O⟩, Hp, G⟩
  isplitr [O]
  · isplitl [Hp]; · iexact Hp
    isplitl [A B1 B2 C1 C2]
    · isplitl [A]; · iapply (Entails.of_eq (show Grant (F := F) true d b c 2 = Oth d b c 0 from rfl)); iexact A
      isplitr; · iempintro
      iframe B1 B2 C1 C2
    isplitr; · iempintro
    iframe B0 C0 G D E
  iexact O

theorem oa_in (d b : Bool) : iprop(Raw (dqP d b).view c ∗ OT d b c 0) ⊢ (OA P d b c 0 : AP F) := by
  unfold OA OD
  iintro ⟨H, O⟩
  iframe H O
  rw [Finset.range_zero, bigSep_empty]
  iempintro

theorem above_mx (l : List (Pay nD τ sig)) (hA : Above 74 l) : Above 69 (owedMx c ++ l) := by
  have a4 := (hA.mono (by decide : 73 ≤ 74)).cons (xDv 4 c) (.mr 4) 74 0 (by decide) (by decide)
  have a3 := (a4.mono (by decide : 72 ≤ 73)).cons (xDv 3 c) (.mr 3) 73 0 (by decide) (by decide)
  have a2 := (a3.mono (by decide : 71 ≤ 72)).cons (xDv 2 c) (.mr 2) 72 0 (by decide) (by decide)
  have a1 := (a2.mono (by decide : 70 ≤ 71)).cons (xDv 1 c) (.mr 1) 71 0 (by decide) (by decide)
  exact (a1.mono (by decide : 69 ≤ 70)).cons (xDv 0 c) (.mr 0) 70 0 (by decide) (by decide)

theorem chain_one (q : PG F PUnit) : Pipeline.chain [q] = q := by
  rw [Pipeline.chain_cons, Pipeline.chain_nil]
  exact bind_pure q
theorem wp_done (Φ : PUnit → AP F) : Φ ⟨⟩ ⊢ wpq c (Pipeline.chain []) Φ := by
  show Φ ⟨⟩ ⊢ iprop(|={Set.univ}[frame]=> Φ ⟨⟩)
  iintro H
  imodintro
  iexact H

section run
attribute [local irreducible] St0 AgIn DirIn MxIn MxTodo MxDone AccF Owe Ctx Piece Mx Q0 Q4 Gath Carry LaneE Lane PF CR Ag0 SG At Raw Grant owedRS owedMx owedAG AgL OA OT SA AR CrdAt SupA SupSt Sc

theorem toMx : iprop(Gath c 31 ∗ (MxIn c 0 ∗ MxIn c 1 ∗ MxIn c 2 ∗ MxIn c 3 ∗ MxIn c 4))
    ⊢ iprop(MxTodo c 0 ∗ MxTodo c 1 ∗ MxTodo c 2 ∗ MxTodo c 3 ∗ (MxTodo c 4 : AP F)) := by
  unfold Gath
  iintro ⟨⟨G0, G1, G2, G3, G4⟩, M0, M1, M2, M3, M4⟩
  ihave G0 := (gath_row 0) $$ G0
  ihave G1 := (gath_row 1) $$ G1
  ihave G2 := (gath_row 2) $$ G2
  ihave G3 := (gath_row 3) $$ G3
  ihave G4 := (gath_row 4) $$ G4
  isplitl [M0 G0]; · iapply (mx_in 0); iframe M0 G0
  isplitl [M1 G1]; · iapply (mx_in 1); iframe M1 G1
  isplitl [M2 G2]; · iapply (mx_in 2); iframe M2 G2
  isplitl [M3 G3]; · iapply (mx_in 3); iframe M3 G3
  iapply (mx_in 4); iframe M4 G4

/-- A direction at the quantiser, and what it keeps for the all-gather. -/
theorem toQ (d : Bool) : iprop(DirIn c d ∗ AccF P d c) ⊢ iprop(Q0 P d c ∗ SupSt d c 1 ∗ CrdAt c true d 0 ∗ SupA d c 0) := by
  unfold DirIn Q0
  iintro ⟨⟨⟨A, B, C⟩, ⟨D, E, G⟩, H, I⟩, Q⟩
  iframe Q A B C D E G H I

theorem toSG : iprop(Lanes (fun d b => AgIn c d b) ∗ Ag0 c ∗ (Q4 P false c ∗ Q4 P true c)
      ∗ (SupSt false c 1 ∗ CrdAt c true false 0 ∗ SupA false c 0) ∗ (SupSt true c 1 ∗ CrdAt c true true 0 ∗ SupA true c 0))
    ⊢ iprop(SG P c 0 ∗ (AccF P false c ∗ AccF P true c) ∗ (Piece (oR0 c false).view c (Ov0 P false c) ∗ Piece (oR0 c true).view c (Ov0 P true c))) := by
  simp only [Lanes]
  unfold Ag0 Q4 SG Lanes SA AR
  iintro ⟨⟨I1, I2, I3, I4⟩, ⟨⟨G1, G2, G3, G4⟩, #R1, #R2⟩, ⟨⟨A1, ⟨P1, P3⟩, ⟨D1, D3⟩, O1, S1⟩, ⟨A2, ⟨P2, P4⟩, ⟨D2, D4⟩, O2, S2⟩⟩, ⟨T1, C1, U1⟩, T2, C2, U2⟩
  ihave I1 := (ag_in (P := P) false false) $$ [I1 P1 G1]; · iframe I1 P1 G1
  ihave I2 := (ag_in (P := P) true false) $$ [I2 P2 G2]; · iframe I2 P2 G2
  ihave I3 := (ag_in (P := P) false true) $$ [I3 P3 G3]; · iframe I3 P3 G3
  ihave I4 := (ag_in (P := P) true true) $$ [I4 P4 G4]; · iframe I4 P4 G4
  icases I1 with ⟨I1, X1⟩
  icases I2 with ⟨I2, X2⟩
  icases I3 with ⟨I3, X3⟩
  icases I4 with ⟨I4, X4⟩
  ihave X1 := (oa_in (P := P) false false) $$ [X1 D1]; · iframe D1 X1
  ihave X2 := (oa_in (P := P) true false) $$ [X2 D2]; · iframe D2 X2
  ihave X3 := (oa_in (P := P) false true) $$ [X3 D3]; · iframe D3 X3
  ihave X4 := (oa_in (P := P) true true) $$ [X4 D4]; · iframe D4 X4
  isplitr [A1 A2 O1 O2]
  · isplitl [I1 I2 I3 I4]; · iframe I1 I2 I3 I4
    isplitl [X1 X2 X3 X4]; · iframe X1 X2 X3 X4
    isplitl [S1 T1 S2 T2]; · iframe S1 T1 S2 T2
    isplitl [C1 U1]
    · isplitr; · iexact R1
      iframe C1 U1
    isplitr; · iexact R2
    iframe C2 U2
  iframe A1 A2 O1 O2

theorem itemsA_eq : itemsA (F := F) (posW c) (hpos c) (rgtW c) (hrgt c) (lftW c) (hlft c) c
    = initItems (posW c) (hpos c) (rgtW c) (hrgt c) (lftW c) (hlft c) ++ ((List.finRange 31).flatMap (rsItems (posW c) (hpos c) (rgtW c) (hrgt c) (lftW c) (hlft c)) ++
      ([rsWaitSend 29 false false, rsWaitSend 29 false true, rsWaitSend 29 true false, rsWaitSend 29 true true,
        rsWaitSend 30 false false, rsWaitSend 30 false true, rsWaitSend 30 true false, rsWaitSend 30 true true] ++
      ([maxInit] ++ (List.finRange 5).flatMap (maxItems c)))) := by
  unfold itemsA
  simp only [List.append_assoc]

theorem partA (l : List (Pay nD τ sig)) (hl : l = owedAG c 31) : Tr P κ c (itemsA (posW c) (hpos c) (rgtW c) (hrgt c) (lftW c) (hlft c) c)
    iprop(BodyIn P c ∗ Owe c (owedAll c))
    iprop((Lanes (fun d b => LaneE d b c) ∗ (PF P false c 31 ∗ PF P true c 31) ∗ (CR false c 31 ∗ CR true c 31) ∗ At c .bar 1
      ∗ (Raw (accP false 0).view c ∗ Raw (accP true 0).view c) ∗ (AccF P false c ∗ AccF P true c)
      ∗ (Piece (avM.access (ra 5)) c (Mx P 5 c) ∗ MxDone c 0 ∗ MxDone c 1 ∗ MxDone c 2 ∗ MxDone c 3 ∗ MxDone c 4))
      ∗ Ag0 c ∗ Lanes (fun d b => AgIn c d b) ∗ (DirIn c false ∗ DirIn c true) ∗ Owe c l) := by
  have hg : Above 101 l := by rw [hl]; exact above_owedAG c 31 (by decide)
  have hm : Above 69 (owedMx c ++ l) := above_mx l (hg.mono (by decide))
  intro Φ rest
  rw [itemsA_eq, List.append_assoc, List.append_assoc, List.append_assoc, List.append_assoc]
  unfold BodyIn owedAll
  rw [← hl]
  have e1 := init_T (P := P) (κ := κ) (c := c) (owedRS c (owedMx c ++ l) 31)
    ((above_owedRS c _ (hm.mono (by decide)) 31 (by decide)).mono (by decide))
  have e2 := rsLoop_T (P := P) (κ := κ) (c := c) (owedMx c ++ l) (hm.mono (by decide))
  have e3 := tail_T (P := P) (κ := κ) (c := c) (owedMx c ++ l) (hm.mono (by decide))
  have e4 := maxInit_T (P := P) (κ := κ) (c := c)
  have e5 := max_T (P := P) (κ := κ) (c := c) l (hg.mono (by decide))
  iintro ⟨#HC, ⟨H0, HA, HD, Ha, HM⟩, HO⟩ Hk
  iapply (e1 Φ _) $$ [H0 HO]
  · iframe HC H0 HO
  iintro ⟨HS, HG, Hacc, Hb, HO⟩
  iapply (e2 Φ _) $$ [HS HO]
  · iframe HC HS HO
  iintro ⟨HS, HO⟩
  unfold St
  icases HS with ⟨HL, HP, HR, HGa, -⟩
  iapply (e3 Φ _) $$ [HL HO]
  · iframe HC HL HO
  iintro ⟨HL, HF, HO⟩
  iapply (e4 Φ _) $$ [HF Ha]
  · iframe HC HF Ha
  iintro ⟨HF, Hm⟩
  ihave HM := toMx $$ [HGa HM]; · iframe HGa HM
  iapply (e5 Φ _) $$ [Hm HM HO]
  · iframe HC Hm HM HO
  iintro ⟨Hm, HM, HO⟩
  iapply Hk
  isplitr [HG HA HD HO]
  · isplitl [HL]; · iexact HL
    iframe HP HR Hb Hacc HF Hm HM
  iframe HG HA HD HO

/-- The body's loops. -/
theorem run_T (Φ : PUnit → AP F) : iprop(Ctx P κ ∗ BodyIn P c ∗ Owe c (owedAll c))
    ⊢ iprop((BodyEnd P c ∗ Owe c [] -∗ Φ ⟨⟩)
      -∗ wpq c (Pipeline.chain (itemsA (posW c) (hpos c) (rgtW c) (hrgt c) (lftW c) (hlft c) c) >>= fun _ => scaleLoad >>= fun sc =>
        Pipeline.chain (itemsB (posW c) (hpos c) (rgtW c) (hrgt c) (lftW c) (hlft c) sc)) Φ) := by
  have hq : (Pipeline.chain (itemsA (posW c) (hpos c) (rgtW c) (hrgt c) (lftW c) (hlft c) c) >>= fun _ => scaleLoad >>= fun sc =>
        Pipeline.chain (itemsB (F := F) (posW c) (hpos c) (rgtW c) (hrgt c) (lftW c) (hlft c) sc))
      = Pipeline.chain (itemsA (posW c) (hpos c) (rgtW c) (hrgt c) (lftW c) (hlft c) c ++ [scaleLoad >>= fun sc =>
        Pipeline.chain (itemsB (F := F) (posW c) (hpos c) (rgtW c) (hrgt c) (lftW c) (hlft c) sc)]) := by
    rw [chain_append, chain_one]
  have hq2 : Pipeline.chain [scaleLoad >>= fun sc => Pipeline.chain (itemsB (F := F) (posW c) (hpos c) (rgtW c) (hrgt c) (lftW c) (hlft c) sc)]
      = (scaleLoad >>= fun sc => Pipeline.chain (itemsB (F := F) (posW c) (hpos c) (rgtW c) (hrgt c) (lftW c) (hlft c) sc)) := chain_one _
  have hq3 : Pipeline.chain (itemsB (F := F) (posW c) (hpos c) (rgtW c) (hrgt c) (lftW c) (hlft c) (Sc P c))
      = Pipeline.chain (quantItems (posW c) (hpos c) (Sc P c) ++ ((List.finRange 31).flatMap (agItems (posW c) (hpos c) (rgtW c) (hrgt c) (lftW c) (hlft c) (Sc P c)) ++ [])) := by
    rw [List.append_nil]; rfl
  have hA := partA (P := P) (κ := κ) (c := c) (owedAG c 31) rfl Φ
    [scaleLoad >>= fun sc => Pipeline.chain (itemsB (F := F) (posW c) (hpos c) (rgtW c) (hrgt c) (lftW c) (hlft c) sc)]
  have hB := quantAll_T (P := P) (κ := κ) (c := c) (owedAG c 31) ((above_owedAG c 31 (by decide)).mono (by decide)) Φ
    ((List.finRange 31).flatMap (agItems (posW c) (hpos c) (rgtW c) (hrgt c) (lftW c) (hlft c) (Sc P c)) ++ [])
  have hD := agLoop_T (P := P) (κ := κ) (c := c) Φ []
  rw [hq]
  iintro ⟨#HC, HI, HO⟩ Hk
  iapply hA $$ [HI HO]
  · iframe HC HI HO
  iintro ⟨⟨HL, HP, HR, Hb, Hacc, HF, Hm, HM⟩, HG, HA, ⟨D1, D2⟩, HO⟩
  icases HF with ⟨F1, F2⟩
  ihave D1 := (toQ (P := P) false) $$ [D1 F1]; · iframe D1 F1
  ihave D2 := (toQ (P := P) true) $$ [D2 F2]; · iframe D2 F2
  icases D1 with ⟨Q1, D1⟩
  icases D2 with ⟨Q2, D2⟩
  rw [hq2]
  iapply (scale_T (P := P)) $$ Hm
  iintro Hm
  rw [hq3]
  iapply hB $$ [Q1 Q2 HO]
  · iframe HC Q1 Q2 HO
  iintro ⟨HQ, HO⟩
  ihave HS := (toSG (P := P)) $$ [HA HG HQ D1 D2]; · iframe HA HG HQ D1 D2
  icases HS with ⟨HS, HF, Ho⟩
  iapply hD $$ [HS HO]
  · iframe HC HS HO
  iintro ⟨HS, HO⟩
  iapply (wp_done Φ)
  iapply Hk
  isplitr [HO]
  · unfold BodyEnd
    isplitl [HL]; · iexact HL
    iframe HP HR Hb Hacc HF Hm HM Ho HS
  iexact HO
end run

end Cert.Ring
-- ==== Proof.Ends.lean ====
/-
  What a device holds before the body and after it: its cells, its buffers in pieces, its payments; and how the body's two ends
  meet them.
-/
module

public import proofs.«01_k».proof.Proof.Whole

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-! ## The cells -/

section cells
variable (Φ : K → AP F)
def LaneCel (ph d b : Bool) : AP F :=
  iprop((Φ (.snd ph d 0 b) ∗ Φ (.snd ph d 1 b) ∗ Φ (.snd ph d 2 b)) ∗ (Φ (.rcv ph d 0 b) ∗ Φ (.rcv ph d 1 b) ∗ Φ (.rcv ph d 2 b)))
def DirCel (d : Bool) : AP F := iprop((Φ (.pf d) ∗ Φ (.st d)) ∗ (Φ (.crd false d) ∗ Φ (.crd true d)))
def MxCel (k : Fin 5) : AP F := iprop(Φ (.ms k) ∗ Φ (.mr k))
/-- A resource of every cell but the barrier's. -/
def Every : AP F :=
  iprop(Lanes (fun d b => iprop(LaneCel Φ false d b ∗ LaneCel Φ true d b)) ∗ (DirCel Φ false ∗ DirCel Φ true)
    ∗ (MxCel Φ 0 ∗ MxCel Φ 1 ∗ MxCel Φ 2 ∗ MxCel Φ 3 ∗ MxCel Φ 4))
end cells

/-! ## The buffers -/

section scr
variable (c : Dev nD)
def LaneScr (d b : Bool) : AP F :=
  iprop((Raw (sbP d 0 b).view c ∗ Raw (sbP d 1 b).view c ∗ Raw (sbP d 2 b).view c)
    ∗ (Raw (rvP d 0 b).view c ∗ Raw (rvP d 1 b).view c ∗ Raw (rvP d 2 b).view c)
    ∗ (Raw (agP d 0 b).view c ∗ Raw (agP d 1 b).view c ∗ Raw (agP d 2 b).view c))
def DirScr (d : Bool) : AP F :=
  iprop((Raw (locP d 0).view c ∗ Raw (locP d 1).view c) ∗ (Raw (accP d 0).view c ∗ Raw ((accM d).access (r2w 1)) c)
    ∗ Raw ((oqM d).access rhw) c ∗ Raw ((dqM d).access rhw) c)
def Six (M : Memref sig .tc .vmem S6x128 .f32) : AP F :=
  iprop(Raw (M.access (ra 0)) c ∗ Raw (M.access (ra 1)) c ∗ Raw (M.access (ra 2)) c ∗ Raw (M.access (ra 3)) c ∗ Raw (M.access (ra 4)) c
    ∗ Raw (M.access (ra 5)) c)
/-- A device's scratch buffers, in pieces. -/
def Scr : AP F := iprop(Lanes (fun d b => LaneScr c d b) ∗ (DirScr c false ∗ DirScr c true) ∗ Six c avM ∗ Six c aiM)
/-- The result's rows, before and after. -/
def OIn : AP F := iprop((Raw (oR0 c false).view c ∗ Raw (oR0 c true).view c) ∗ Lanes (fun d b => OT d b c 0))
def OOut (P : Dev nD → pM.view.ty.Contents (Elt F)) (c : Dev nD) : AP F :=
  iprop((Piece (oR0 c false).view c (Ov0 P false c) ∗ Piece (oR0 c true).view c (Ov0 P true c)) ∗ Lanes (fun d b => OD P d b c 31))
end scr

/-! ## The payments -/

section pay
variable (c : Dev nD)
def DirPay (d : Bool) : AP F :=
  iprop((Tok c (.pf d) 0 0 ∗ SupP d c 0) ∗ (Tok c (.st d) 0 0 ∗ SupSt d c 1) ∗ SupC d c 0 ∗ SupA d c 0)
def MxPay (k : Fin 5) : AP F :=
  iprop(Tok c (.ms k) 0 0 ∗ Tok (xDv k c) (.mr k) 0 0 ∗ cred (tallyAt (cel c (.mr k)) (70 + k.val) (amtR (.mr k) 0)))
def BarTok : AP F := iprop((Tok (nb true c) .bar 0 0 ∗ Tok (nb false c) .bar 0 1) ∗ cred (tallyAt (cel c .bar) 1 2))
/-- A device's rights to pay and the credits of its receives. -/
def Pay0 : AP F :=
  iprop(BarTok c ∗ Lanes (fun d b => iprop(Sup false d b c 0 ∗ Sup true d b c 0)) ∗ (DirPay c false ∗ DirPay c true)
    ∗ (MxPay c 0 ∗ MxPay c 1 ∗ MxPay c 2 ∗ MxPay c 3 ∗ MxPay c 4))
end pay

/-! ## The start -/

theorem at_reached (k : K) : At c k 0 ⊢ iprop(At c k 0 ∗ (reached ER (cel c k) 0 : AP F)) := by
  unfold At
  iintro ⟨H, #R⟩
  isplitl
  · isplitl [H]; · iexact H
    iexact R
  iexact R

theorem crd_at (ph d : Bool) : At c (.crd ph d) 0 ⊢ iprop(CrdAt c ph d 0 ∗ (reached ER (cel c (.crd ph d)) 0 : AP F)) := by
  unfold At CrdAt
  iintro ⟨H, #R⟩
  isplitl
  · iexists (∅ : Finset DD)
    isplitr
    · ipureintro
      rw [Finset.sdiff_empty, dutiesOf]
      exact Nat.le_trans (Nat.le_of_eq (Nat.zero_add _)) (Finset.card_image_le.trans (by rw [show nums (.crd ph d) 0 = Finset.range 28 from rfl, Finset.card_range]))
    iexact H
  iexact R

/-- A receive cell and its piece: the owner's place, and the grant. -/
theorem grant_in (ph d b : Bool) (w : ℕ) (hw : w ≤ 30) (h3 : w / 3 = 0) :
    iprop(At c (.rcv ph d (slot3 w) b) 0 ∗ DstRaw ph d (slot3 w) b c) ⊢ iprop(AtR ph d b c w ∗ (Grant ph d b c w : AP F)) := by
  unfold AtR Grant
  rw [if_pos hw, h3]
  iintro ⟨H, D⟩
  ihave H := (at_reached _) $$ H
  icases H with ⟨H, #R⟩
  isplitl [H]; · iexact H
  isplitl [D]; · iexact D
  iexact R

/-- A lane's part of a phase: its cells' places and the grants of its pieces. -/
theorem lane_cells (ph d b : Bool) :
    iprop(LaneCel (fun k => At c k 0) ph d b ∗ DstRaw ph d 0 b c ∗ DstRaw ph d 1 b c ∗ DstRaw ph d 2 b c)
      ⊢ iprop((AtS ph d b c 0 ∗ AtS ph d b c 1 ∗ AtS ph d b c 2) ∗ (AtR ph d b c 0 ∗ AtR ph d b c 1 ∗ AtR ph d b c 2)
        ∗ Grant ph d b c 0 ∗ Grant ph d b c 1 ∗ (Grant ph d b c 2 : AP F)) := by
  unfold LaneCel
  iintro ⟨⟨⟨S0, S1, S2⟩, R0, R1, R2⟩, D0, D1, D2⟩
  ihave G0 := (grant_in ph d b 0 (by decide) (by decide)) $$ [R0 D0]
  · isplitl [R0]; · iexact R0
    iexact D0
  ihave G1 := (grant_in ph d b 1 (by decide) (by decide)) $$ [R1 D1]
  · isplitl [R1]; · iexact R1
    iexact D1
  ihave G2 := (grant_in ph d b 2 (by decide) (by decide)) $$ [R2 D2]
  · isplitl [R2]; · iexact R2
    iexact D2
  icases G0 with ⟨R0, G0⟩
  icases G1 with ⟨R1, G1⟩
  icases G2 with ⟨R2, G2⟩
  isplitl [S0 S1 S2]
  · isplitl [S0]; · iapply (Entails.of_eq (show At (F := F) c (.snd ph d 0 b) 0 = AtS ph d b c 0 from rfl)); iexact S0
    isplitl [S1]; · iapply (Entails.of_eq (show At (F := F) c (.snd ph d 1 b) 0 = AtS ph d b c 1 from rfl)); iexact S1
    iapply (Entails.of_eq (show At (F := F) c (.snd ph d 2 b) 0 = AtS ph d b c 2 from rfl)); iexact S2
  iframe R0 R1 R2 G0 G1 G2

/-- What a lane's cells and pieces give at the start. -/
def LaneGo (c : Dev nD) (d b : Bool) : AP F :=
  iprop(((AtS false d b c 0 ∗ AtS false d b c 1 ∗ AtS false d b c 2) ∗ (AtR false d b c 0 ∗ AtR false d b c 1 ∗ AtR false d b c 2)
      ∗ (Raw (sbP d 0 b).view c ∗ Raw (sbP d 1 b).view c ∗ Raw (sbP d 2 b).view c))
    ∗ ((AtR true d b c 0 ∗ AtR true d b c 1 ∗ AtR true d b c 2) ∗ (AtS true d b c 0 ∗ AtS true d b c 1 ∗ AtS true d b c 2))
    ∗ (Grant false d b c 0 ∗ Grant false d b c 1 ∗ Grant false d b c 2) ∗ (Grant true d b c 0 ∗ Grant true d b c 1 ∗ Grant true d b c 2))

section lanes
attribute [local irreducible] AtS AtR Grant Raw At DstRaw Sup
theorem lane_go (d b : Bool) :
    iprop((LaneCel (fun k => At c k 0) false d b ∗ LaneCel (fun k => At c k 0) true d b) ∗ LaneScr c d b) ⊢ (LaneGo c d b : AP F) := by
  unfold LaneScr LaneGo
  iintro ⟨⟨C1, C2⟩, S, ⟨R0, R1, R2⟩, ⟨A0, A1, A2⟩⟩
  ihave H1 := (lane_cells false d b) $$ [C1 R0 R1 R2]
  · isplitl [C1]; · iexact C1
    isplitl [R0]; · iapply (Entails.of_eq (show Raw (F := F) (rvP d 0 b).view c = DstRaw false d 0 b c from by unfold DstRaw; rfl)); iexact R0
    isplitl [R1]; · iapply (Entails.of_eq (show Raw (F := F) (rvP d 1 b).view c = DstRaw false d 1 b c from by unfold DstRaw; rfl)); iexact R1
    iapply (Entails.of_eq (show Raw (F := F) (rvP d 2 b).view c = DstRaw false d 2 b c from by unfold DstRaw; rfl)); iexact R2
  ihave H2 := (lane_cells true d b) $$ [C2 A0 A1 A2]
  · isplitl [C2]; · iexact C2
    isplitl [A0]; · iapply (Entails.of_eq (show Raw (F := F) (agP d 0 b).view c = DstRaw true d 0 b c from by unfold DstRaw; rfl)); iexact A0
    isplitl [A1]; · iapply (Entails.of_eq (show Raw (F := F) (agP d 1 b).view c = DstRaw true d 1 b c from by unfold DstRaw; rfl)); iexact A1
    iapply (Entails.of_eq (show Raw (F := F) (agP d 2 b).view c = DstRaw true d 2 b c from by unfold DstRaw; rfl)); iexact A2
  icases H1 with ⟨S1, R1, G1⟩
  icases H2 with ⟨S2, R2, G2⟩
  iframe S S1 R1 G1 S2 R2 G2

/-- One sub-block's two lanes at the start: what they need, and the grants for the neighbours. -/
def BPart (c : Dev nD) (d b : Bool) : AP F := iprop(Grant false d b c 0 ∗ Grant false d b c 1 ∗ Grant true d b c 0)

theorem pair_go (b : Bool) :
    iprop((LaneGo c false b ∗ LaneGo c true b) ∗ ((Sup false false b c 0 ∗ Sup true false b c 0) ∗ (Sup false true b c 0 ∗ Sup true true b c 0))
        ∗ (Raw ((accM false).access (r2 1 b)) c ∗ Raw ((accM true).access (r2 1 b)) c) ∗ (OT false b c 0 ∗ OT true b c 0))
      ⊢ iprop((Lane0 c false b ∗ Lane0 c true b) ∗ (AgIn c false b ∗ AgIn c true b) ∗ (BPart c false b ∗ (BPart c true b : AP F))) := by
  unfold LaneGo Lane0 AgIn BPart
  iintro ⟨⟨⟨X1, Y1, ⟨F0, F1, F2⟩, ⟨T0, T1, T2⟩⟩, ⟨X2, Y2, ⟨f0, f1, f2⟩, ⟨t0, t1, t2⟩⟩⟩, ⟨⟨U1, U2⟩, ⟨U3, U4⟩⟩, ⟨Z1, Z2⟩, ⟨O1, O2⟩⟩
  icases X1 with ⟨X11, X12, X13⟩
  icases X2 with ⟨X21, X22, X23⟩
  icases Y1 with ⟨Y11, Y12⟩
  icases Y2 with ⟨Y21, Y22⟩
  isplitl [X11 X12 X13 X21 X22 X23 f2 F2 Z1 Z2 U1 U3]
  · isplitl [X11 X12 X13 f2 Z1 U1]
    · iframe X11 X12 X13 f2 Z1 U1
    iframe X21 X22 X23 F2 Z2 U3
  isplitl [Y11 Y12 Y21 Y22 T2 t2 T1 t1 U2 U4 O1 O2]
  · isplitl [Y11 Y12 T2 t1 U2 O1]
    · iframe Y11 Y12 T2 t1 U2 O1
    iframe Y21 Y22 t2 T1 U4 O2
  iframe F0 F1 T0 f0 f1 t0

theorem barpay_in (d : Bool) : iprop((BPart c d false ∗ BPart c d true) ∗ reached ER (cel c (.crd false (!d))) 0 ∗ reached ER (cel c (.crd true (!d))) 0)
    ⊢ (BarPay d c : AP F) := by
  unfold BPart BarPay
  iintro ⟨⟨⟨A, B, C⟩, ⟨D, E, G⟩⟩, R1, R2⟩
  iframe A B C D E G R1 R2
end lanes

theorem acc_cut (d : Bool) : Raw ((accM d).access (r2w 1)) c
    ⊢ iprop(Raw ((accM d).access (r2 1 false)) c ∗ (Raw ((accM d).access (r2 1 true)) c : AP F)) := (cut2 1).rawSplit (accM d).view c

section dirs
attribute [local irreducible] Raw At CrdAt SupP SupSt SupC SupA PW
/-- A direction's parts at the start. -/
theorem dir_go (d : Bool) :
    iprop(DirCel (fun k => At c k 0) d ∗ DirScr c d ∗ DirPay c d ∗ PW P d c ∗ Raw (oR0 c d).view c)
      ⊢ iprop(Dir0 P c d ∗ DirIn c d ∗ (Raw ((accM d).access (r2 1 false)) c ∗ Raw ((accM d).access (r2 1 true)) c)
        ∗ reached ER (cel c (.crd false d)) 0 ∗ reached ER (cel c (.crd true d)) 0) := by
  unfold DirCel DirScr DirPay Dir0 F0 DirIn
  iintro ⟨⟨⟨Cp, Cs⟩, ⟨C1, C2⟩⟩, ⟨⟨L0, L1⟩, ⟨A0, A1⟩, Oq, Dq⟩, ⟨⟨T1, T2⟩, ⟨T3, T4⟩, T5, T6⟩, Hp, Ho⟩
  ihave C1 := (crd_at false d) $$ C1
  ihave C2 := (crd_at true d) $$ C2
  icases C1 with ⟨C1, R1⟩
  icases C2 with ⟨C2, R2⟩
  ihave A1 := (acc_cut d) $$ A1
  isplitl [Cp A0 Hp T1 L0 L1 T2 C1 T5]
  · iframe Cp A0 Hp T1 L0 L1 T2 C1 T5
  isplitl [Oq Dq Ho Cs T3 T4 C2 T6]
  · iframe Oq Dq Ho Cs T3 T4 C2 T6
  iframe A1 R1 R2
end dirs

section maxs
attribute [local irreducible] Raw At
/-- An exchange's parts at the start. -/
theorem mx_go (k : Fin 5) : iprop(MxCel (fun k => At c k 0) k ∗ MxPay c k ∗ Raw (avM.access (ra k.succ)) c ∗ Raw (aiM.access (ra k.castSucc)) c)
    ⊢ iprop(MxIn c k ∗ (CarryK c 0 k : AP F)) := by
  unfold MxCel MxPay MxIn
  iintro ⟨⟨A, B⟩, ⟨T1, T2, T3⟩, V, I⟩
  ihave B := (at_reached _) $$ B
  icases B with ⟨B, R⟩
  isplitr [I R]
  · iframe A B T1 T2 T3 V
  iapply (carry_row k)
  unfold Row
  isplitl [I]; · iexact I
  iexact R

theorem mxs_go : iprop((MxCel (fun k => At c k 0) 0 ∗ MxCel (fun k => At c k 0) 1 ∗ MxCel (fun k => At c k 0) 2 ∗ MxCel (fun k => At c k 0) 3 ∗ MxCel (fun k => At c k 0) 4)
      ∗ (MxPay c 0 ∗ MxPay c 1 ∗ MxPay c 2 ∗ MxPay c 3 ∗ MxPay c 4) ∗ Six c avM ∗ Six c aiM)
    ⊢ iprop((Raw (avM.access (ra 0)) c ∗ MxIn c 0 ∗ MxIn c 1 ∗ MxIn c 2 ∗ MxIn c 3 ∗ MxIn c 4) ∗ Carry c 0 ∗ (Raw (aiM.access (ra 5)) c : AP F)) := by
  unfold Six Carry
  iintro ⟨⟨C0, C1, C2, C3, C4⟩, ⟨P0, P1, P2, P3, P4⟩, ⟨V0, V1, V2, V3, V4, V5⟩, ⟨I0, I1, I2, I3, I4, I5⟩⟩
  ihave H0 := (mx_go 0) $$ [C0 P0 V1 I0]
  · isplitl [C0]; · iexact C0
    isplitl [P0]; · iexact P0
    isplitl [V1]; · iexact V1
    iexact I0
  ihave H1 := (mx_go 1) $$ [C1 P1 V2 I1]
  · isplitl [C1]; · iexact C1
    isplitl [P1]; · iexact P1
    isplitl [V2]; · iexact V2
    iexact I1
  ihave H2 := (mx_go 2) $$ [C2 P2 V3 I2]
  · isplitl [C2]; · iexact C2
    isplitl [P2]; · iexact P2
    isplitl [V3]; · iexact V3
    iexact I2
  ihave H3 := (mx_go 3) $$ [C3 P3 V4 I3]
  · isplitl [C3]; · iexact C3
    isplitl [P3]; · iexact P3
    isplitl [V4]; · iexact V4
    iexact I3
  ihave H4 := (mx_go 4) $$ [C4 P4 V5 I4]
  · isplitl [C4]; · iexact C4
    isplitl [P4]; · iexact P4
    isplitl [V5]; · iexact V5
    iexact I4
  icases H0 with ⟨M0, R0⟩
  icases H1 with ⟨M1, R1⟩
  icases H2 with ⟨M2, R2⟩
  icases H3 with ⟨M3, R3⟩
  icases H4 with ⟨M4, R4⟩
  isplitl [V0 M0 M1 M2 M3 M4]; · iframe V0 M0 M1 M2 M3 M4
  isplitr [I5]; · iframe R0 R1 R2 R3 R4
  iexact I5
end maxs

section body
attribute [local irreducible] LaneGo LaneCel LaneScr Sup OT Lane0 AgIn BPart DirCel DirScr DirPay Dir0 DirIn Raw MxCel MxPay MxIn Six Carry BarPay PW At

/-- From what a device holds at its start to what its loops start from; its inbox's last row stays. -/
theorem body_pre :
    iprop((Every (fun k => At c k 0) ∗ At c .bar 0) ∗ Scr c ∗ (PW P false c ∗ PW P true c) ∗ OIn c ∗ Pay0 c
        ∗ (reached ER (cel (nb true c) .bar) 0 ∗ reached ER (cel (nb false c) .bar) 0))
      ⊢ iprop(BodyIn P c ∗ Raw (aiM.access (ra 5)) c) := by
  unfold Every Scr OIn Pay0 BodyIn St0 Bar0 BarTok Lanes
  iintro ⟨⟨⟨⟨C1, C2, C3, C4⟩, ⟨D1, D2⟩, M⟩, Cb⟩, ⟨⟨S1, S2, S3, S4⟩, ⟨E1, E2⟩, V, I⟩, ⟨P1, P2⟩, ⟨⟨O1, O2⟩, ⟨T1, T2, T3, T4⟩⟩, ⟨⟨B1, B2⟩, ⟨U1, U2, U3, U4⟩, ⟨Y1, Y2⟩, Y⟩, HR⟩
  ihave L1 := (lane_go false false) $$ [C1 S1]; · iframe C1 S1
  ihave L2 := (lane_go true false) $$ [C2 S2]; · iframe C2 S2
  ihave L3 := (lane_go false true) $$ [C3 S3]; · iframe C3 S3
  ihave L4 := (lane_go true true) $$ [C4 S4]; · iframe C4 S4
  ihave D1 := (dir_go (P := P) false) $$ [D1 E1 Y1 P1 O1]; · iframe D1 E1 Y1 P1 O1
  ihave D2 := (dir_go (P := P) true) $$ [D2 E2 Y2 P2 O2]; · iframe D2 E2 Y2 P2 O2
  icases D1 with ⟨D1, Q1, ⟨A1, A3⟩, K1, K3⟩
  icases D2 with ⟨D2, Q2, ⟨A2, A4⟩, K2, K4⟩
  ihave M := mxs_go $$ [M Y V I]; · iframe M Y V I
  icases M with ⟨M, R, I⟩
  ihave X1 := (pair_go false) $$ [L1 L2 U1 U2 A1 A2 T1 T2]; · iframe L1 L2 U1 U2 A1 A2 T1 T2
  ihave X2 := (pair_go true) $$ [L3 L4 U3 U4 A3 A4 T3 T4]; · iframe L3 L4 U3 U4 A3 A4 T3 T4
  icases X1 with ⟨⟨L1, L2⟩, ⟨G1, G2⟩, ⟨J1, J2⟩⟩
  icases X2 with ⟨⟨L3, L4⟩, ⟨G3, G4⟩, ⟨J3, J4⟩⟩
  ihave N1 := (barpay_in false) $$ [J1 J3 K2 K4]
  · iframe J1 J3
    isplitl [K2]; · iexact K2
    iexact K4
  ihave N2 := (barpay_in true) $$ [J2 J4 K1 K3]
  · iframe J2 J4
    isplitl [K1]; · iexact K1
    iexact K3
  isplitr [I]
  · isplitl [L1 L2 L3 L4 B1 B2 N1 N2 HR Cb D1 D2 R]
    · iframe L1 L2 L3 L4 B1 N1 N2 HR B2 Cb D1 D2 R
    iframe G1 G2 G3 G4 Q1 Q2 M
  iexact I
end body

/-! ## The end -/

theorem end_snd (ph d b : Bool) (w : ℕ) (hw : 31 ≤ w) : iprop(Ctx P κ ∗ AtS ph d b c w) ⊢ iprop(|={Set.univ}=> (semVal (cel c (.snd ph d (slot3 w) b)) 0)) := by
  unfold AtS
  refine cell_end P (.snd ph d (slot3 w) b) (w / 3) fun r' hr => ?_
  have := slot_round w
  show (if 3 * r' + (slot3 w).val ≤ 30 then ({0} : Finset ℕ) else ∅) = ∅
  rw [if_neg (by omega)]
theorem end_rcv (ph d b : Bool) (w : ℕ) (hw : 31 ≤ w) : iprop(Ctx P κ ∗ AtR ph d b c w) ⊢ iprop(|={Set.univ}=> (semVal (cel c (.rcv ph d (slot3 w) b)) 0)) := by
  unfold AtR
  refine cell_end P (.rcv ph d (slot3 w) b) (w / 3) fun r' hr => ?_
  have := slot_round w
  show (if 3 * r' + (slot3 w).val ≤ 30 then ({0} : Finset ℕ) else ∅) = ∅
  rw [if_neg (by omega)]
theorem end_pf (d : Bool) : iprop(Ctx P κ ∗ At c (.pf d) 32) ⊢ (|={Set.univ}=> semVal (cel c (.pf d)) 0 : AP F) :=
  cell_end P (.pf d) 32 fun r' hr => if_neg (by omega)
theorem end_st (d : Bool) : iprop(Ctx P κ ∗ At c (.st d) 63) ⊢ (|={Set.univ}=> semVal (cel c (.st d)) 0 : AP F) :=
  cell_end P (.st d) 63 fun r' hr => if_neg (by omega)
theorem end_ms (k : Fin 5) : iprop(Ctx P κ ∗ At c (.ms k) 1) ⊢ (|={Set.univ}=> semVal (cel c (.ms k)) 0 : AP F) :=
  cell_end P (.ms k) 1 fun r' hr => if_neg (by omega)
theorem end_mr (k : Fin 5) : iprop(Ctx P κ ∗ At c (.mr k) 1) ⊢ (|={Set.univ}=> semVal (cel c (.mr k)) 0 : AP F) :=
  cell_end P (.mr k) 1 fun r' hr => if_neg (by omega)
theorem end_bar : iprop(Ctx P κ ∗ At c .bar 1) ⊢ (|={Set.univ}=> semVal (cel c .bar) 0 : AP F) :=
  cell_end P .bar 1 fun r' hr => if_neg (by omega)
theorem end_crd (ph d : Bool) : iprop(Ctx P κ ∗ CrdAt c ph d 28) ⊢ iprop(|={Set.univ}=> (semVal (cel c (.crd ph d)) 0)) := by
  iintro ⟨#HC, H⟩
  imod (crd_done P (κ := κ) ph d) $$ [H] with H
  · isplitr; · iexact HC
    iexact H
  iapply (cell_end P (.crd ph d) 1 fun r' hr => if_neg (by omega))
  isplitr; · iexact HC
  iexact H

/-- The counter of a cell, at zero. -/
abbrev Zr (c : Dev nD) (k : K) : AP F := semVal (cel c k) 0

section ends
attribute [local irreducible] AtS AtR At CrdAt Ctx Raw Piece
theorem lane_cells_end (ph d b : Bool) :
    iprop(Ctx P κ ∗ (AtS ph d b c 31 ∗ AtS ph d b c 32 ∗ AtS ph d b c 33) ∗ (AtR ph d b c 31 ∗ AtR ph d b c 32 ∗ AtR ph d b c 33))
      ⊢ iprop(|={Set.univ}=> (LaneCel (Zr c) ph d b)) := by
  iintro ⟨#HC, ⟨S1, S2, S0⟩, ⟨R1, R2, R0⟩⟩
  imod (end_snd (P := P) (κ := κ) (c := c) ph d b 31 (by decide)) $$ [S1] with S1
  · iframe HC S1
  imod (end_snd (P := P) (κ := κ) (c := c) ph d b 32 (by decide)) $$ [S2] with S2
  · iframe HC S2
  imod (end_snd (P := P) (κ := κ) (c := c) ph d b 33 (by decide)) $$ [S0] with S0
  · iframe HC S0
  imod (end_rcv (P := P) (κ := κ) (c := c) ph d b 31 (by decide)) $$ [R1] with R1
  · iframe HC R1
  imod (end_rcv (P := P) (κ := κ) (c := c) ph d b 32 (by decide)) $$ [R2] with R2
  · iframe HC R2
  imod (end_rcv (P := P) (κ := κ) (c := c) ph d b 33 (by decide)) $$ [R0] with R0
  · iframe HC R0
  imodintro
  unfold LaneCel
  isplitl [S0 S1 S2]
  · isplitl [S0]; · iexact S0
    isplitl [S1]; · iexact S1
    iexact S2
  isplitl [R0]; · iexact R0
  isplitl [R1]; · iexact R1
  iexact R2

theorem rest_raw (d b : Bool) (w : ℕ) (hw : ¬ w ≤ 30) : Rest false d b c w ⊢ (Raw (rvP d (slot3 w) b).view c : AP F) := by
  unfold Rest DstRaw; rw [if_neg hw]
theorem rest_raw' (d b : Bool) (w : ℕ) (hw : ¬ w ≤ 30) : Rest true d b c w ⊢ (Raw (agP d (slot3 w) b).view c : AP F) := by
  unfold Rest DstRaw; rw [if_neg hw]

theorem lane_end_T (d b : Bool) : iprop(Ctx P κ ∗ LaneE d b c ∗ AgL P d b c 31)
    ⊢ iprop(|={Set.univ}=> ((LaneCel (Zr c) false d b ∗ LaneCel (Zr c) true d b) ∗ LaneScr c d b ∗ Raw (oqP d b).view c)) := by
  unfold LaneE Base Free AgL AgBase
  iintro ⟨#HC, ⟨⟨⟨S1, B1⟩, ⟨S2, B2⟩, ⟨S0, B0⟩⟩, ⟨V1, V2, V0⟩, R⟩, G, ⟨Q, G2, ⟨T2, T0⟩, ⟨U2, U0⟩⟩, G1, T1, U1, -⟩
  imod (lane_cells_end (P := P) (κ := κ) (c := c) false d b) $$ [S1 S2 S0 R] with H1
  · isplitr; · iexact HC
    isplitl [S1 S2 S0]
    · isplitl [S1]; · iapply (Entails.of_eq (show At (F := F) c (.snd false d (slot3 31) b) (31 / 3) = AtS false d b c 31 from by unfold AtS; exact rfl)); iexact S1
      isplitl [S2]; · iapply (Entails.of_eq (show At (F := F) c (.snd false d (slot3 32) b) (32 / 3) = AtS false d b c 32 from by unfold AtS; exact rfl)); iexact S2
      iapply (Entails.of_eq (show At (F := F) c (.snd false d (slot3 33) b) (33 / 3) = AtS false d b c 33 from by unfold AtS; rfl)); iexact S0
    iexact R
  imod (lane_cells_end (P := P) (κ := κ) (c := c) true d b) $$ [U1 U2 U0 T1 T2 T0] with H2
  · isplitr; · iexact HC
    isplitl [U1 U2 U0]; · iframe U1 U2 U0
    iframe T1 T2 T0
  imodintro
  isplitl [H1 H2]; · iframe H1 H2
  isplitr [Q]
  · unfold LaneScr
    isplitl [B1 B2 B0]
    · isplitl [B0]; · iexact B0
      isplitl [B1]; · iexact B1
      iexact B2
    isplitl [V1 V2 V0]
    · isplitl [V0]; · iapply (rest_raw d b 33 (by decide)); iexact V0
      isplitl [V1]; · iapply (rest_raw d b 31 (by decide)); iexact V1
      iapply (rest_raw d b 32 (by decide)); iexact V2
    isplitl [G]
    · ihave G := (Piece.raw _ _ _) $$ G
      iapply (Entails.of_eq (show Raw (F := F) (agSrc 31 d b).view c = Raw (agP d 0 b).view c from rfl)); iexact G
    isplitl [G1]; · iapply (rest_raw' d b 31 (by decide)); iexact G1
    iapply (rest_raw' d b 32 (by decide)); iexact G2
  iapply (Entails.of_eq (show Oth (F := F) d b c 31 = Raw (oqP d b).view c from rfl)); iexact Q

theorem dir_end_T (d : Bool) : iprop(Ctx P κ ∗ PF P d c 31 ∗ CR d c 31 ∗ SA d c 63 ∗ AR d c 31 ∗ Raw (accP d 0).view c ∗ AccF P d c
      ∗ (Raw (oqP d false).view c ∗ Raw (oqP d true).view c) ∗ (Raw (dqP d false).view c ∗ Raw (dqP d true).view c))
    ⊢ iprop(|={Set.univ}=> (DirCel (Zr c) d ∗ DirScr c d ∗ PW P d c)) := by
  unfold PF CR SA AR AccF
  iintro ⟨#HC, ⟨Hp, L1, L0, W, -⟩, ⟨-, C1, -⟩, ⟨Hs, -⟩, ⟨-, C2, -⟩, A0, A1, Q, D⟩
  imod (end_pf (P := P) (κ := κ) (c := c) d) $$ [Hp] with Hp
  · isplitr; · iexact HC
    iexact Hp
  imod (end_st (P := P) (κ := κ) (c := c) d) $$ [Hs] with Hs
  · isplitr; · iexact HC
    iexact Hs
  imod (end_crd (P := P) (κ := κ) (c := c) false d) $$ [C1] with C1
  · isplitr; · iexact HC
    iexact C1
  imod (end_crd (P := P) (κ := κ) (c := c) true d) $$ [C2] with C2
  · isplitr; · iexact HC
    iexact C2
  imodintro
  isplitl [Hp Hs C1 C2]
  · unfold DirCel
    isplitl [Hp Hs]
    · isplitl [Hp]; · iexact Hp
      iexact Hs
    isplitl [C1]; · iexact C1
    iexact C2
  isplitr [W]
  · unfold DirScr
    isplitl [L1 L0]
    · isplitl [L0]; · iexact L0
      iexact L1
    isplitl [A0 A1]
    · isplitl [A0]; · iexact A0
      iapply (Piece.raw _ _ _); iexact A1
    isplitl [Q]
    · iapply (cuth.rawJoin (oqM d).view c); iexact Q
    iapply (cuth.rawJoin (dqM d).view c); iexact D
  iexact W

theorem mx_end_T (k : Fin 5) : iprop(Ctx P κ ∗ MxDone c k)
    ⊢ iprop(|={Set.univ}=> (MxCel (Zr c) k ∗ Raw (avM.access (ra k.castSucc)) c ∗ Raw (aiM.access (ra k.castSucc)) c)) := by
  unfold MxDone
  iintro ⟨#HC, Hs, Hr, V, I⟩
  imod (end_ms (P := P) (κ := κ) (c := c) k) $$ [Hs] with Hs
  · isplitr; · iexact HC
    iexact Hs
  imod (end_mr (P := P) (κ := κ) (c := c) k) $$ [Hr] with Hr
  · isplitr; · iexact HC
    iexact Hr
  imodintro
  isplitl [Hs Hr]
  · unfold MxCel
    isplitl [Hs]; · iexact Hs
    iexact Hr
  isplitl [V]; · iexact V
  iexact I

end ends

section ends2
attribute [local irreducible] LaneE PF CR AccF MxDone AgL SA AR Ctx At Raw Piece LaneCel LaneScr DirCel DirScr MxCel OD PW
theorem mxs_end : iprop(Ctx P κ ∗ (Piece (avM.access (ra 5)) c (Mx P 5 c) ∗ MxDone c 0 ∗ MxDone c 1 ∗ MxDone c 2 ∗ MxDone c 3 ∗ MxDone c 4)
      ∗ Raw (aiM.access (ra 5)) c)
    ⊢ iprop(|={Set.univ}=> ((MxCel (Zr c) 0 ∗ MxCel (Zr c) 1 ∗ MxCel (Zr c) 2 ∗ MxCel (Zr c) 3 ∗ MxCel (Zr c) 4) ∗ Six c avM ∗ Six c aiM)) := by
  iintro ⟨#HC, ⟨V5, M0, M1, M2, M3, M4⟩, I5⟩
  imod (mx_end_T (P := P) (κ := κ) (c := c) 0) $$ [M0] with ⟨M0, V0, I0⟩
  · iframe HC M0
  imod (mx_end_T (P := P) (κ := κ) (c := c) 1) $$ [M1] with ⟨M1, V1, I1⟩
  · iframe HC M1
  imod (mx_end_T (P := P) (κ := κ) (c := c) 2) $$ [M2] with ⟨M2, V2, I2⟩
  · iframe HC M2
  imod (mx_end_T (P := P) (κ := κ) (c := c) 3) $$ [M3] with ⟨M3, V3, I3⟩
  · iframe HC M3
  imod (mx_end_T (P := P) (κ := κ) (c := c) 4) $$ [M4] with ⟨M4, V4, I4⟩
  · iframe HC M4
  imodintro
  ihave V5 := (Piece.raw _ _ _) $$ V5
  isplitl [M0 M1 M2 M3 M4]; · iframe M0 M1 M2 M3 M4
  unfold Six
  isplitl [V0 V1 V2 V3 V4 V5]
  · isplitl [V0]; · iexact V0
    isplitl [V1]; · iexact V1
    isplitl [V2]; · iexact V2
    isplitl [V3]; · iexact V3
    isplitl [V4]; · iexact V4
    iexact V5
  isplitl [I0]; · iexact I0
  isplitl [I1]; · iexact I1
  isplitl [I2]; · iexact I2
  isplitl [I3]; · iexact I3
  isplitl [I4]; · iexact I4
  iexact I5

/-- From where the loops stop to the counters at zero, the buffers whole in pieces, and the result. -/
theorem body_post : iprop(Ctx P κ ∗ BodyEnd P c ∗ Raw (aiM.access (ra 5)) c)
    ⊢ iprop(|={Set.univ}=> ((Every (Zr c) ∗ Zr c .bar) ∗ Scr c ∗ (PW P false c ∗ PW P true c) ∗ OOut P c)) := by
  unfold BodyEnd SG Lanes OA
  iintro ⟨#HC, ⟨⟨L1, L2, L3, L4⟩, ⟨P1, P2⟩, ⟨C1, C2⟩, Hb, ⟨A1, A2⟩, ⟨F1, F2⟩, M, Ho, ⟨⟨G1, G2, G3, G4⟩, ⟨⟨D1, -, O1⟩, ⟨D2, -, O2⟩, ⟨D3, -, O3⟩, ⟨D4, -, O4⟩⟩, ⟨S1, S2⟩, ⟨R1, R2⟩⟩⟩, I⟩
  imod (lane_end_T (P := P) (κ := κ) (c := c) false false) $$ [L1 G1] with ⟨L1, B1, Q1⟩
  · iframe HC L1 G1
  imod (lane_end_T (P := P) (κ := κ) (c := c) true false) $$ [L2 G2] with ⟨L2, B2, Q2⟩
  · iframe HC L2 G2
  imod (lane_end_T (P := P) (κ := κ) (c := c) false true) $$ [L3 G3] with ⟨L3, B3, Q3⟩
  · iframe HC L3 G3
  imod (lane_end_T (P := P) (κ := κ) (c := c) true true) $$ [L4 G4] with ⟨L4, B4, Q4⟩
  · iframe HC L4 G4
  imod (dir_end_T (P := P) (κ := κ) (c := c) false) $$ [P1 C1 S1 R1 A1 F1 Q1 Q3 D1 D3] with ⟨X1, Y1, W1⟩
  · isplitr; · iexact HC
    isplitl [P1]; · iexact P1
    isplitl [C1]; · iexact C1
    isplitl [S1]; · iexact S1
    isplitl [R1]; · iexact R1
    iframe A1 F1 Q1 Q3 D1 D3
  imod (dir_end_T (P := P) (κ := κ) (c := c) true) $$ [P2 C2 S2 R2 A2 F2 Q2 Q4 D2 D4] with ⟨X2, Y2, W2⟩
  · isplitr; · iexact HC
    isplitl [P2]; · iexact P2
    isplitl [C2]; · iexact C2
    isplitl [S2]; · iexact S2
    isplitl [R2]; · iexact R2
    iframe A2 F2 Q2 Q4 D2 D4
  imod (mxs_end (P := P) (κ := κ) (c := c)) $$ [M I] with ⟨M, V, I⟩
  · iframe HC M I
  imod (end_bar (P := P) (κ := κ) (c := c)) $$ [Hb] with Hb
  · iframe HC Hb
  imodintro
  unfold Every Scr OOut Lanes
  isplitl [L1 L2 L3 L4 X1 X2 M Hb]
  · isplitr [Hb]; · iframe L1 L2 L3 L4 X1 X2 M
    iexact Hb
  isplitl [B1 B2 B3 B4 Y1 Y2 V I]; · iframe B1 B2 B3 B4 Y1 Y2 V I
  iframe W1 W2 Ho O1 O2 O3 O4
end ends2

end Cert.Ring
-- ==== Proof.Toks.lean ====
/-
  The cells in a list, the rights to pay and the credits in lists, and what the launch makes of them.
-/
module

public import proofs.«01_k».proof.Proof.Ends
public import Idealize.ShloMosaic.Lib.Pipeline.BigSepL

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-! ## Chains over lists -/

theorem chain_get {α : Type} {M : Type} [URA M] (l : List α) (Φ : α → sProp M) :
    bigSep Finset.univ (fun i : Fin l.length => Φ (l.get i)) = bigSepL l Φ :=
  (bigSep_univ_eq_bigSepL (List.finRange l.length) (by ext i; simp) (List.nodup_finRange _) _).trans
    ((bigSepL_map l.get (List.finRange l.length) Φ).symm.trans (by rw [List.map_get_finRange]))

theorem chain_flat {α β : Type} {M : Type} [URA M] (f : α → List β) (l : List α) (Φ : β → sProp M) :
    bigSepL (l.flatMap f) Φ = bigSepL l fun a => bigSepL (f a) Φ := by
  induction l with
  | nil => rfl
  | cons a l ih => rw [List.flatMap_cons, bigSepL_append, bigSepL_cons, ih]; rfl

theorem chain_range {M : Type} [URA M] (Φ : ℕ → sProp M) : bigSepL (List.range 31) Φ = bigSep (Finset.Ico 0 31) Φ :=
  (bigSep_eq_bigSepL_of_eq (List.range 31) (by decide) List.nodup_range Φ).symm
theorem chain_range' {M : Type} [URA M] (Φ : ℕ → sProp M) : bigSepL (List.range' 1 62) Φ = bigSep (Finset.Ico 1 63) Φ :=
  (bigSep_eq_bigSepL_of_eq (List.range' 1 62) (by decide) List.nodup_range' Φ).symm

theorem chain_two {α : Type} (a b : α) (Φ : α → AP F) : bigSepL [a, b] Φ = iprop(Φ a ∗ Φ b) := rfl

/-- The four lanes' lists, one after the other. -/
def lanesL {α : Type} (L : Bool → Bool → List α) : List α := L false false ++ (L true false ++ (L false true ++ L true true))

theorem chain_lanes {α : Type} (L : Bool → Bool → List α) (Φ : α → AP F) :
    bigSepL (lanesL L) Φ = Lanes (fun d b => bigSepL (L d b) Φ) := by
  unfold lanesL Lanes
  rw [bigSepL_append, bigSepL_append, bigSepL_append]

/-- The five exchanges' lists. -/
def fivesL {α : Type} (L : Fin 5 → List α) : List α := L 0 ++ (L 1 ++ (L 2 ++ (L 3 ++ L 4)))
theorem chain_fives {α : Type} (L : Fin 5 → List α) (Φ : α → AP F) :
    bigSepL (fivesL L) Φ = iprop(bigSepL (L 0) Φ ∗ bigSepL (L 1) Φ ∗ bigSepL (L 2) Φ ∗ bigSepL (L 3) Φ ∗ bigSepL (L 4) Φ) := by
  unfold fivesL
  rw [bigSepL_append, bigSepL_append, bigSepL_append, bigSepL_append]

theorem lanes_mono {L M : Bool → Bool → AP F} (h : ∀ d b, L d b ⊢ M d b) : Lanes L ⊢ Lanes M := by
  unfold Lanes
  iintro ⟨A, B, C, D⟩
  isplitl [A]; · iapply (h _ _); iexact A
  isplitl [B]; · iapply (h _ _); iexact B
  isplitl [C]; · iapply (h _ _); iexact C
  iapply (h _ _); iexact D

theorem big_mono {α : Type} {S : Finset α} {Φ Ψ : α → AP F} (h : ∀ a ∈ S, Φ a ⊢ Ψ a) : bigSep S Φ ⊢ bigSep S Ψ := bigSep_mono h
theorem big_pair {α : Type} (S : Finset α) (Φ Ψ : α → AP F) : iprop(bigSep S Φ ∗ bigSep S Ψ) ⊢ bigSep S fun a => iprop(Φ a ∗ Ψ a) :=
  Entails.of_eq (bigSep_sep' S Φ Ψ).symm

theorem lanes_pair (L M : Bool → Bool → AP F) : iprop(Lanes L ∗ Lanes M) ⊢ Lanes (fun d b => iprop(L d b ∗ M d b)) := by
  unfold Lanes
  iintro ⟨⟨A, B, C, D⟩, A', B', C', D'⟩
  iframe A A' B B' C C' D D'

/-! ## The cells -/

def laneK (ph d b : Bool) : List K :=
  [.snd ph d 0 b, .snd ph d 1 b, .snd ph d 2 b] ++ [.rcv ph d 0 b, .rcv ph d 1 b, .rcv ph d 2 b]
def dirK (d : Bool) : List K := [.pf d, .st d] ++ [.crd false d, .crd true d]
def mxK (k : Fin 5) : List K := [.ms k, .mr k]
/-- Every cell but the barrier's. -/
def KL : List K := lanesL (fun d b => laneK false d b ++ laneK true d b) ++ ((dirK false ++ dirK true) ++ fivesL mxK)

theorem every_eq (Φ : K → AP F) : bigSepL KL Φ = Every Φ := by
  have h1 (ph d b : Bool) : bigSepL (laneK ph d b) Φ = LaneCel Φ ph d b := by unfold laneK; rw [bigSepL_append]; rfl
  have h2 (d : Bool) : bigSepL (dirK d) Φ = DirCel Φ d := by unfold dirK; rw [bigSepL_append]; rfl
  have h3 (k : Fin 5) : bigSepL (mxK k) Φ = MxCel Φ k := rfl
  unfold KL Every
  rw [bigSepL_append, bigSepL_append, bigSepL_append, chain_lanes, chain_fives]
  simp only [bigSepL_append, h1, h2, h3]

theorem KL_len : KL.length = 66 := by decide
theorem KL_nodup : (KL.map semOf).Nodup := by decide +kernel
theorem KL_all (k : K) : k = .bar ∨ k ∈ KL := by
  cases k with
  | bar => exact .inl rfl
  | snd ph d sl b => right; revert ph d sl b; decide +kernel
  | rcv ph d sl b => right; revert ph d sl b; decide +kernel
  | pf d => right; revert d; decide +kernel
  | st d => right; revert d; decide +kernel
  | ms k => right; revert k; decide +kernel
  | mr k => right; revert k; decide +kernel
  | crd ph d => right; revert ph d; decide +kernel
theorem bar_notin : K.bar ∉ KL := by decide +kernel

/-- The kernel's own semaphores, numbered. -/
def osem (i : Fin KL.length) : SemLoc sig := semOf (KL.get i)

theorem osem_inj : Function.Injective osem := by
  intro i j h
  have hn := List.nodup_iff_injective_get.mp (KL_nodup.of_map semOf)
  exact hn (semOf_inj h)
theorem osem_ne_bar (i : Fin KL.length) : osem i ≠ semOf .bar := fun h =>
  bar_notin (by rw [← semOf_inj h]; exact List.get_mem _ _)

/-! ## Whom a payment goes to -/

inductive Tg
  | own
  | near (d : Bool)
  | mate (k : Fin 5)
deriving DecidableEq

def Tg.dev : Tg → Dev nD → Dev nD
  | .own, c => c
  | .near d, c => nb d c
  | .mate k, c => xDv k c
def Tg.rev : Tg → Tg
  | .own => .own
  | .near d => .near (!d)
  | .mate k => .mate k
theorem Tg.dev_rev (t : Tg) (c : Dev nD) : t.dev (t.rev.dev c) = c := by
  cases t with
  | own => rfl
  | near d => exact nb_nb' d c
  | mate k => exact xDv_xDv k c
theorem Tg.rev_dev (t : Tg) (c : Dev nD) : t.rev.dev (t.dev c) = c := by
  cases t with
  | own => rfl
  | near d => exact nb_nb d c
  | mate k => exact xDv_xDv k c
def Tg.perm (t : Tg) : Dev nD ≃ Dev nD := ⟨t.dev, t.rev.dev, t.rev_dev, t.dev_rev⟩

/-! ## The rights to pay -/

abbrev TE := Tg × K × ℕ × ℕ

def supT (ph d b : Bool) : List TE :=
  (List.range 31).flatMap fun w => [(.own, .snd ph d (slot3 w) b, w / 3, 0), (.near d, .rcv ph d (slot3 w) b, w / 3, 0)]
def dirT (d : Bool) : List TE :=
  ([(.own, .pf d, 0, 0)] ++ (List.range 31).flatMap fun w => [(.own, .pf d, w + 1, 0)])
    ++ (([(.own, .st d, 0, 0)] ++ (List.range' 1 62).flatMap fun w => [(.own, .st d, w, 0)])
    ++ (((List.range 31).flatMap fun w => if w < 28 then [(.near (!d), .crd false d, 0, w)] else [])
    ++ (List.range 31).flatMap fun w => if 1 ≤ w ∧ w < 29 then [(.near (!d), .crd true d, 0, w - 1)] else []))
def mxT (k : Fin 5) : List TE := [(.own, .ms k, 0, 0), (.mate k, .mr k, 0, 0)]
def barT : List TE := [(.near true, .bar, 0, 0), (.near false, .bar, 0, 1)]
/-- Every right to pay a device has. -/
def TL : List TE := barT ++ (lanesL (fun d b => supT false d b ++ supT true d b) ++ ((dirT false ++ dirT true) ++ fivesL mxT))

/-- A cell's number. -/
def kn : K → ℕ
  | .bar => 0
  | .snd ph d sl b => 1 + (((cond ph 1 0 * 2 + cond d 1 0) * 2 + cond b 1 0) * 3 + sl.val)
  | .rcv ph d sl b => 31 + (((cond ph 1 0 * 2 + cond d 1 0) * 2 + cond b 1 0) * 3 + sl.val)
  | .pf d => 60 + cond d 1 0
  | .st d => 62 + cond d 1 0
  | .ms k => 64 + k.val
  | .mr k => 70 + k.val
  | .crd ph d => 80 + (cond ph 1 0 * 2 + cond d 1 0)
theorem TL_nodup : (TL.map fun e => (kn e.2.1 * 100 + e.2.2.1) * 100 + e.2.2.2).Nodup := by decide +kernel

def tokOf (c : Dev nD) (e : TE) : AP F := dutyTok ER (cel (e.1.dev c) e.2.1) e.2.2.1 (c, e.2.2.2)
theorem tok_eq (t : Tg) (k : K) (r n : ℕ) (h : payer k n (t.dev c) = c) : tokOf c (t, k, r, n) = (Tok (t.dev c) k r n : AP F) := by
  show dutyTok ER (cel (t.dev c) k) r (c, n) = dutyTok ER (cel (t.dev c) k) r (payer k n (t.dev c), n)
  rw [h]

/-- The rights as the launch hands them out. -/
def tokKey (x : Dev nD × Fin TL.length) : GSem nD τ sig × ℕ × DD :=
  (cel ((TL.get x.2).1.dev x.1) (TL.get x.2).2.1, (TL.get x.2).2.2.1, (x.1, (TL.get x.2).2.2.2))
theorem tokKey_inj : Function.Injective tokKey := by
  rintro ⟨c, i⟩ ⟨c', j⟩ h
  have hc : c = c' := congrArg (fun x : GSem nD τ sig × ℕ × DD => x.2.2.1) h
  subst hc
  have hk := semOf_inj (congrArg (fun x : GSem nD τ sig × ℕ × DD => x.1.2) h)
  have hr : (TL.get i).2.2.1 = (TL.get j).2.2.1 := congrArg (fun x : GSem nD τ sig × ℕ × DD => x.2.1) h
  have hn : (TL.get i).2.2.2 = (TL.get j).2.2.2 := congrArg (fun x : GSem nD τ sig × ℕ × DD => x.2.2.2) h
  have hi := (List.inj_on_of_nodup_map TL_nodup) (List.get_mem TL i) (List.get_mem TL j) (by
    show (kn (TL.get i).2.1 * 100 + (TL.get i).2.2.1) * 100 + (TL.get i).2.2.2 = (kn (TL.get j).2.1 * 100 + (TL.get j).2.2.1) * 100 + (TL.get j).2.2.2
    rw [hk, hr, hn])
  exact Prod.ext rfl (List.nodup_iff_injective_get.mp (TL_nodup.of_map _) hi)

/-! ## The credits -/

abbrev CE := Tg × K × ℕ × ℕ
def dueT (c : Dev nD) (e : CE) : Pay nD τ sig := due (e.1.dev c) e.2.1 e.2.2.1 e.2.2.2
def dueO (c : Dev nD) (e : CE) : Pay nD τ sig := due c e.2.1 e.2.2.1 e.2.2.2

def supCr (ph d b : Bool) : List CE := (List.range 31).flatMap fun w => [(.near d, .rcv ph d (slot3 w) b, lvR ph w, w / 3)]
def dirCr (d : Bool) : List CE :=
  ((List.range 31).flatMap fun w => if 3 ≤ w then [(.near (!d), .crd false d, 2 * (w - 3) + 3, 0)] else [])
    ++ (List.range 31).flatMap fun w => if 3 ≤ w then [(.near (!d), .crd true d, 100 + 2 * (w - 3) + 5, 0)] else []
def mxCr (k : Fin 5) : List CE := [(.mate k, .mr k, 70 + k.val, 0)]
def barCr : List CE := [(.near true, .bar, 1, 0), (.near false, .bar, 1, 0)]
/-- Every credit a device holds. -/
def CL : List CE := barCr ++ (lanesL (fun d b => supCr false d b ++ supCr true d b) ++ ((dirCr false ++ dirCr true) ++ fivesL mxCr))

def rsSendsE (s : ℕ) : List CE :=
  [(.near false, .rcv false false (slot3 s) false, 2 * s + 2, s / 3), (.near true, .rcv false true (slot3 s) false, 2 * s + 2, s / 3),
    (.near false, .rcv false false (slot3 s) true, 2 * s + 2, s / 3), (.near true, .rcv false true (slot3 s) true, 2 * s + 2, s / 3)]
def rsCrdsE (s : ℕ) : List CE :=
  if s < 28 then [(.near true, .crd false false, 2 * s + 3, 0), (.near false, .crd false true, 2 * s + 3, 0)] else []
def owedRSE (tl : List CE) : ℕ → List CE
  | 0 => tl
  | n + 1 => rsSendsE (30 - n) ++ (rsCrdsE (30 - n) ++ owedRSE tl n)
def agSendsE (t : ℕ) : List CE :=
  [(.near false, .rcv true false (slot3 t) false, 100 + 2 * t + 2, t / 3), (.near true, .rcv true true (slot3 t) false, 100 + 2 * t + 2, t / 3),
    (.near false, .rcv true false (slot3 t) true, 100 + 2 * t + 2, t / 3), (.near true, .rcv true true (slot3 t) true, 100 + 2 * t + 2, t / 3)]
def agCrdsE (t : ℕ) : List CE :=
  if 1 ≤ t ∧ t < 29 then [(.near true, .crd true false, 100 + 2 * t + 3, 0), (.near false, .crd true true, 100 + 2 * t + 3, 0)] else []
def owedAGE : ℕ → List CE
  | 0 => []
  | n + 1 => agSendsE (30 - n) ++ (agCrdsE (30 - n) ++ owedAGE n)
/-- Every payment, in a device's order. -/
def PL : List CE := (.near true, .bar, 1, 0) :: (.near false, .bar, 1, 0)
  :: owedRSE ([(.mate 0, .mr 0, 70, 0), (.mate 1, .mr 1, 71, 0), (.mate 2, .mr 2, 72, 0), (.mate 3, .mr 3, 73, 0), (.mate 4, .mr 4, 74, 0)] ++ owedAGE 31) 31

theorem owedAG_map (c : Dev nD) (n : ℕ) : owedAG c n = (owedAGE n).map (dueT c) := by
  induction n with
  | zero => rfl
  | succ n ih =>
    rw [owedAG, owedAGE, List.map_append, List.map_append, ih]
    have h : agCrds c (30 - n) = (agCrdsE (30 - n)).map (dueT c) := by unfold agCrds agCrdsE; split <;> rfl
    rw [h]; rfl
theorem owedRS_map (c : Dev nD) (tl : List CE) (n : ℕ) : owedRS c (tl.map (dueT c)) n = (owedRSE tl n).map (dueT c) := by
  induction n with
  | zero => rfl
  | succ n ih =>
    rw [owedRS, owedRSE, List.map_append, List.map_append, ih]
    have h : rsCrds c (30 - n) = (rsCrdsE (30 - n)).map (dueT c) := by unfold rsCrds rsCrdsE; split <;> rfl
    rw [h]; rfl
theorem owedAll_map (c : Dev nD) : owedAll c = PL.map (dueT c) := by
  unfold owedAll PL
  rw [List.map_cons, List.map_cons, ← owedRS_map, List.map_append, ← owedAG_map]; rfl

theorem PL_perm : PL.Perm CL := by decide +kernel

theorem tallyL_sum (l : List (Pay nD τ sig)) : tallyL l = (l.map Pay.tally).sum := by
  induction l with
  | nil => rfl
  | cons x l ih => rw [tallyL, List.map_cons, List.sum_cons, ih]

theorem sum_dues (l : List CE) : (∑ c : Dev nD, tallyL (l.map (dueT c))) = ∑ c : Dev nD, tallyL (l.map (dueO c)) := by
  induction l with
  | nil => rfl
  | cons e l ih =>
    simp only [List.map_cons, tallyL, Finset.sum_add_distrib, ih]
    congr 1
    exact Equiv.sum_comp e.1.perm (fun c => (due c e.2.1 e.2.2.1 e.2.2.2 : Pay nD τ sig).tally)

theorem owed_tally (c : Dev nD) : tallyL (owedAll c) = tallyL (CL.map (dueT c)) := by
  rw [owedAll_map, tallyL_sum, tallyL_sum]
  exact ((PL_perm.map (dueT c)).map Pay.tally).sum_eq

def credOf (c : Dev nD) (e : CE) : AP F := cred (dueO c e).tally

theorem launch_credits (c : Dev nD) : (Pipeline.launchCred (fun d => tallyL (owedAll d)) c : AP F) = bigSepL CL (credOf c) := by
  rw [Pipeline.launchCred_of_sum _ (fun d => tallyL (CL.map (dueO d))) (by
      rw [← sum_dues]; exact Finset.sum_congr rfl fun d _ => owed_tally d)
    (by
      intro d g h
      obtain ⟨i, hi⟩ : ∃ i, tallyL (CL.map (dueO d)) g i ≠ 0 := by
        by_contra hn
        push Not at hn
        exact h (Finsupp.ext hn)
      obtain ⟨x, hx, rfl, -⟩ := Idealize.ShloMosaic.TalkSites.tallyL_pos (Nat.pos_of_ne_zero hi)
      obtain ⟨e, -, rfl⟩ := List.mem_map.mp hx
      rfl),
    Idealize.ShloMosaic.TalkSites.cred_tallyL, bigSepL_map]
  rfl

end Cert.Ring
-- ==== Proof.Tiles.lean ====
/-
  A buffer whole and in rectangles: the scratch buffers and the result's rows.
-/
module

public import proofs.«01_k».proof.Proof.Ends
public import Idealize.ShloMosaic.Lib.Pipeline.BigSepL

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-! ## Rectangles of a view -/

theorem mem_unit {s : Shape} (off size : Fin s.rank → ℕ) (h : ∀ a, off a + size a ≤ s.size a) (i : s.Idx) :
    i ∈ (Rect.unit (s := s) off size h).set ↔ ∀ a, off a ≤ (i a).val ∧ (i a).val < off a + size a := by
  rw [← Rect.map_emb_univ]
  constructor
  · intro hi
    obtain ⟨j, -, rfl⟩ := Finset.mem_map.mp hi
    intro a
    have : (j a).val < size a := (j a).isLt
    have e : ((Rect.unit (s := s) off size h).emb j a).val = off a + 1 * (j a).val := rfl
    rw [e]; omega
  · intro hi
    refine Finset.mem_map.mpr ⟨fun a => ⟨(i a).val - off a, by have := hi a; show _ < size a; omega⟩, Finset.mem_univ _, ?_⟩
    funext a
    apply Fin.ext
    have e : ((Rect.unit (s := s) off size h).emb (fun a => ⟨(i a).val - off a, by have := hi a; show _ < size a; omega⟩) a).val
      = off a + 1 * ((i a).val - off a) := rfl
    rw [e]
    have := hi a
    omega

theorem unit_congr {s : Shape} {off off' size : Fin s.rank → ℕ} (e : off = off') (h : ∀ a, off a + size a ≤ s.size a)
    (h' : ∀ a, off' a + size a ≤ s.size a) : Rect.unit (s := s) off size h = Rect.unit (s := s) off' size h' := by subst e; rfl

/-- Rectangles that part a shape. -/
structure Parts {ι : Type} (s : Shape) (S : Finset ι) (r : ι → Rect s) : Prop where
  dis : ∀ i ∈ S, ∀ j ∈ S, i ≠ j → ∀ x, x ∈ (r i).set → x ∈ (r j).set → False
  cov : ∀ x, ∃ i ∈ S, x ∈ (r i).set

section parts
variable {ι : Type} [DecidableEq ι] {sp : Space} {s : Shape} {e : EltTy} {S : Finset ι} {r : ι → Rect s} (u : View sig .tc sp s e) (c : Dev nD)

theorem Parts.union (H : Parts s S r) : u.set = S.biUnion fun i => (u.slice (r i)).set := by
  ext x
  simp only [Finset.mem_biUnion, View.set_slice, Finset.mem_map]
  constructor
  · intro hx
    obtain ⟨y, -, rfl⟩ := Finset.mem_map.mp hx
    obtain ⟨i, hi, hy⟩ := H.cov y
    exact ⟨i, hi, y, hy, rfl⟩
  · rintro ⟨i, hi, y, hy, rfl⟩
    exact Finset.mem_map.mpr ⟨y, Finset.mem_univ _, rfl⟩
theorem Parts.disjoint (H : Parts s S r) : ∀ i ∈ S, ∀ j ∈ S, i ≠ j → Disjoint (u.slice (r i)).set (u.slice (r j)).set := by
  intro i hi j hj hne
  rw [Finset.disjoint_left]
  intro x h1 h2
  rw [View.set_slice] at h1 h2
  obtain ⟨y, hy, rfl⟩ := Finset.mem_map.mp h1
  obtain ⟨z, hz, hzy⟩ := Finset.mem_map.mp h2
  obtain rfl := u.emb.injective hzy
  exact H.dis i hi j hj hne z hy hz

theorem Parts.split (H : Parts s S r) : Raw (F := F) u c ⊢ bigSep S fun i => Raw (u.slice (r i)) c := by
  unfold Raw
  iintro ⟨%f, H0⟩
  ihave H1 := (Entails.of_eq ((congrArg (fun K => (u.loc (c : Thread nD τ) ↦[K]{fullShare} f : AP F)) (H.union u)).trans
    (pointsTo_biUnion (ℓ := u.loc (c : Thread nD τ)) S (fun i => (u.slice (r i)).set) (H.disjoint u)))) $$ H0
  iapply (show bigSep S (fun i => (u.loc (c : Thread nD τ) ↦[(u.slice (r i)).set]{fullShare} f : AP F))
      ⊢ bigSep S fun i => iprop(∃ f : Buf (Elt F) ((u.slice (r i)).loc (c : Thread nD τ)), (u.slice (r i)).loc (c : Thread nD τ) ↦[(u.slice (r i)).set]{fullShare} f)
    from bigSep_mono fun i _ => (by
      iintro H; iexists f; iexact H : (u.loc (c : Thread nD τ) ↦[(u.slice (r i)).set]{fullShare} f : AP F) ⊢ _))
  iexact H1

/-- The parts, each reading to something, as one. -/
theorem Parts.join [Nonempty (Buf (Elt F) (u.loc (c : Thread nD τ)))] (H : Parts s S r) (x : (i : ι) → Vec F (r i).shape e) :
    (bigSep S fun i => Piece (u.slice (r i)) c (x i)) ⊢
      (iprop(∃ g : Buf (Elt F) (u.loc (c : Thread nD τ)), ⌜∀ i ∈ S, (u.slice (r i)).read (Elt F) g = x i⌝ ∗ (u.loc (c : Thread nD τ) ↦[u.set]{fullShare} g)) : AP F) := by
  unfold Piece
  iintro H0
  ihave H1 := (bigSep_exists_pi S (fun (i : ι) (f : Buf (Elt F) (u.loc (c : Thread nD τ))) =>
    (iprop(⌜(u.slice (r i)).read (Elt F) f = x i⌝ ∗ (u.loc (c : Thread nD τ) ↦[(u.slice (r i)).set]{fullShare} f)) : AP F))) $$ H0
  icases H1 with ⟨%fs, H1⟩
  ihave H2 := (bigSep_pure_sep S (fun i => (u.slice (r i)).read (Elt F) (fs i) = x i)
    (fun i => (u.loc (c : Thread nD τ) ↦[(u.slice (r i)).set]{fullShare} (fs i) : AP F))) $$ H1
  icases H2 with ⟨%hx, H2⟩
  ihave H3 := (pointsTo_biUnion_join S (fun i => (u.slice (r i)).set) fs (Classical.arbitrary _) (H.disjoint u)) $$ H2
  icases H3 with ⟨%g, %hg, H3⟩
  iexists g
  isplitr
  · ipureintro
    intro i hi
    rw [← hx i hi]
    funext j
    rw [View.read_apply, View.read_apply]
    exact congrArg _ (hg i hi _ (Finset.mem_map_of_mem _ (Finset.mem_univ j)))
  · iapply (Entails.of_eq (congrArg (fun K => (u.loc (c : Thread nD τ) ↦[K]{fullShare} g : AP F)) (H.union u)).symm)
    iexact H3

theorem Parts.rejoin [Nonempty (Buf (Elt F) (u.loc (c : Thread nD τ)))] (H : Parts s S r) : (bigSep S fun i => Raw (F := F) (u.slice (r i)) c) ⊢ Raw u c := by
  unfold Raw
  iintro H0
  ihave H1 := (bigSep_exists_pi S (fun (i : ι) (f : Buf (Elt F) (u.loc (c : Thread nD τ))) =>
    (u.loc (c : Thread nD τ) ↦[(u.slice (r i)).set]{fullShare} f : AP F))) $$ H0
  icases H1 with ⟨%fs, H2⟩
  ihave H3 := (pointsTo_biUnion_join S (fun i => (u.slice (r i)).set) fs (Classical.arbitrary _) (H.disjoint u)) $$ H2
  icases H3 with ⟨%g, %hg, H3⟩
  iexists g
  iapply (Entails.of_eq (congrArg (fun K => (u.loc (c : Thread nD τ) ↦[K]{fullShare} g : AP F)) (H.union u)).symm)
  iexact H3

end parts

/-! ## The scratch buffers -/

theorem parts3 : Parts S3x64x8192 ([(0, false), (1, false), (2, false), (0, true), (1, true), (2, true)] : List (Fin 3 × Bool)).toFinset
    (fun x => r3 x.1 x.2) where
  dis := by
    rintro ⟨i, b⟩ - ⟨i', b'⟩ - hne x h1 h2
    have h1 := (mem_unit _ _ _ _).mp h1
    have h2 := (mem_unit _ _ _ _).mp h2
    have a0 := h1 0; have a1 := h1 1; have b0 := h2 0; have b1 := h2 1
    simp at a0 a1 b0 b1
    refine hne (Prod.ext (Fin.ext (by dsimp only; omega)) ?_)
    cases b <;> cases b' <;> simp [bit] at a1 b1 ⊢ <;> omega
  cov := by
    intro x
    have h0 : (x 0).val < 3 := (x 0).isLt
    have h1 : (x 1).val < 64 := (x 1).isLt
    have h2 : (x 2).val < 8192 := (x 2).isLt
    refine ⟨(⟨(x 0).val, h0⟩, decide (32 ≤ (x 1).val)), ?_, (mem_unit _ _ _ _).mpr ?_⟩
    · generalize (⟨(x 0).val, h0⟩ : Fin 3) = i
      generalize decide (32 ≤ (x 1).val) = b
      revert i b; decide
    · intro a
      fin_cases a
      · show (x 0).val ≤ (x 0).val ∧ (x 0).val < (x 0).val + 1; omega
      · show 32 * bit (decide (32 ≤ (x 1).val)) ≤ (x 1).val ∧ (x 1).val < 32 * bit (decide (32 ≤ (x 1).val)) + 32
        by_cases h : 32 ≤ (x 1).val
        · rw [decide_eq_true h]; simp only [bit]; omega
        · rw [decide_eq_false h]; simp only [bit]; omega
      · show 0 ≤ (x 2).val ∧ (x 2).val < 0 + 8192; omega
theorem parts2 : Parts S2x64x8192 ([0, 1] : List (Fin 2)).toFinset r2w where
  dis := by
    intro i _ i' _ hne x h1 h2
    have a0 := (mem_unit _ _ _ _).mp h1 0
    have b0 := (mem_unit _ _ _ _).mp h2 0
    simp at a0 b0
    exact hne (Fin.ext (by omega))
  cov := by
    intro x
    have h0 : (x 0).val < 2 := (x 0).isLt
    have h1 : (x 1).val < 64 := (x 1).isLt
    have h2 : (x 2).val < 8192 := (x 2).isLt
    refine ⟨⟨(x 0).val, h0⟩, ?_, (mem_unit _ _ _ _).mpr ?_⟩
    · generalize (⟨(x 0).val, h0⟩ : Fin 2) = i
      revert i; decide
    · intro a
      fin_cases a
      · show (x 0).val ≤ (x 0).val ∧ (x 0).val < (x 0).val + 1; omega
      · show 0 ≤ (x 1).val ∧ (x 1).val < 0 + 64; omega
      · show 0 ≤ (x 2).val ∧ (x 2).val < 0 + 8192; omega
theorem parts6 : Parts S6x128 ([0, 1, 2, 3, 4, 5] : List (Fin 6)).toFinset ra where
  dis := by
    intro i _ i' _ hne x h1 h2
    have a0 := (mem_unit _ _ _ _).mp h1 0
    have b0 := (mem_unit _ _ _ _).mp h2 0
    simp at a0 b0
    exact hne (Fin.ext (by omega))
  cov := by
    intro x
    have h0 : (x 0).val < 6 := (x 0).isLt
    have h1 : (x 1).val < 128 := (x 1).isLt
    refine ⟨⟨(x 0).val, h0⟩, ?_, (mem_unit _ _ _ _).mpr ?_⟩
    · generalize (⟨(x 0).val, h0⟩ : Fin 6) = i
      revert i; decide
    · intro a
      fin_cases a
      · show (x 0).val ≤ (x 0).val ∧ (x 0).val < (x 0).val + 1; omega
      · show 0 ≤ (x 1).val ∧ (x 1).val < 0 + 128; omega

/-- The three slots' two halves. -/
def Slots (R : Fin 3 → Bool → AP F) : AP F := iprop((R 0 false ∗ R 1 false ∗ R 2 false) ∗ (R 0 true ∗ R 1 true ∗ R 2 true))
theorem slots_eq (R : Fin 3 → Bool → AP F) :
    bigSep ([(0, false), (1, false), (2, false), (0, true), (1, true), (2, true)] : List (Fin 3 × Bool)).toFinset (fun x => R x.1 x.2) = Slots R := by
  rw [bigSep_eq_bigSepL _ (by decide)]
  exact (bigSepL_append [(0, false), (1, false), (2, false)] [(0, true), (1, true), (2, true)] (fun x : Fin 3 × Bool => R x.1 x.2))

section whole
variable {sp : Space} {e : EltTy}

theorem raw_slots (u : View sig .tc sp S3x64x8192 e) (c : Dev nD) : Raw (F := F) u c ⊣⊢ Slots fun sl b => Raw (u.slice (r3 sl b)) c := by
  rw [← slots_eq (fun sl b => Raw (F := F) (u.slice (r3 sl b)) c)]
  exact ⟨parts3.split u c, parts3.rejoin u c⟩
theorem raw_two (u : View sig .tc sp S2x64x8192 e) (c : Dev nD) :
    Raw (F := F) u c ⊣⊢ iprop(Raw (u.slice (r2w 0)) c ∗ Raw (u.slice (r2w 1)) c) := by
  have h : bigSep ([0, 1] : List (Fin 2)).toFinset (fun i => Raw (F := F) (u.slice (r2w i)) c) = iprop(Raw (u.slice (r2w 0)) c ∗ Raw (u.slice (r2w 1)) c) :=
    bigSep_eq_bigSepL _ (by decide) _
  rw [← h]
  exact ⟨parts2.split u c, parts2.rejoin u c⟩
theorem raw_six (u : View sig .tc sp S6x128 e) (c : Dev nD) :
    Raw (F := F) u c ⊣⊢ iprop(Raw (u.slice (ra 0)) c ∗ Raw (u.slice (ra 1)) c ∗ Raw (u.slice (ra 2)) c ∗ Raw (u.slice (ra 3)) c ∗ Raw (u.slice (ra 4)) c
      ∗ Raw (u.slice (ra 5)) c) := by
  have h : bigSep ([0, 1, 2, 3, 4, 5] : List (Fin 6)).toFinset (fun i => Raw (F := F) (u.slice (ra i)) c)
      = iprop(Raw (u.slice (ra 0)) c ∗ Raw (u.slice (ra 1)) c ∗ Raw (u.slice (ra 2)) c ∗ Raw (u.slice (ra 3)) c ∗ Raw (u.slice (ra 4)) c
      ∗ Raw (u.slice (ra 5)) c) := bigSep_eq_bigSepL _ (by decide) _
  rw [← h]
  exact ⟨parts6.split u c, parts6.rejoin u c⟩
end whole

end Cert.Ring
-- ==== Proof.Rows.lean ====
/-
  Which rows of the partial product and of the result a device's steps touch, and the result whole and in those rows.
-/
module

public import proofs.«01_k».proof.Proof.Toks
public import proofs.«01_k».proof.Proof.Tiles

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-! ## Row offsets -/

/-- The chunk of rows the result gets at step `t`, by the position on the ring. -/
def cO (d : Bool) (p t : ℕ) : ℕ := match d with
  | false => (p + 32 - t) % 32
  | true => (p + t) % 32
/-- The chunk of rows added at the reduction's step `s`. -/
def cP (d : Bool) (p s : ℕ) : ℕ := match d with
  | false => (p + 63 - s) % 32
  | true => (p + s + 1) % 32

theorem cO_lt (d : Bool) (p t : ℕ) : cO d p t < 32 := by cases d <;> exact Nat.mod_lt _ (by decide)
theorem cP_lt (d : Bool) (p t : ℕ) : cP d p t < 32 := by cases d <;> exact Nat.mod_lt _ (by decide)
theorem bit_le (b : Bool) : bit b ≤ 1 := by cases b <;> decide
theorem posT_lt (c : Dev nD) : posT c < 32 := by revert c; decide

def lo64 (d : Bool) (k : ℕ) : Fin 2 → ℕ := ![128 * k + 64 * bit d, 0]
def lo32 (d : Bool) (k : ℕ) (b : Bool) : Fin 2 → ℕ := ![128 * k + 64 * bit d + 32 * bit b, 0]

theorem off1 : ∀ c : Dev nD, k0_off1 (posW c) = lo64 false (posT c) := by decide +kernel
theorem off2 : ∀ c : Dev nD, k0_off2 (posW c) = lo64 true (posT c) := by decide +kernel
theorem off3 : ∀ (c : Dev nD) (s : Fin 31), k0_off3 (posW c) (BitVec.ofNat 32 s.val) = lo64 false (cP false (posT c) s.val) := by decide +kernel
theorem off4 : ∀ (c : Dev nD) (s : Fin 31), k0_off4 (posW c) (BitVec.ofNat 32 s.val) = lo64 true (cP true (posT c) s.val) := by decide +kernel
theorem off5 : ∀ c : Dev nD, k0_off5 (posW c) = lo64 false (cO false (posT c) 31) := by decide +kernel
theorem off6 : ∀ c : Dev nD, k0_off6 (posW c) = lo64 true (cO true (posT c) 31) := by decide +kernel
theorem off7 : ∀ (c : Dev nD) (t : Fin 31), k0_off7 (posW c) (BitVec.ofNat 32 t.val) = lo32 false (cO false (posT c) t.val) false := by decide +kernel
theorem off8 : ∀ (c : Dev nD) (t : Fin 31), k0_off8 (posW c) (BitVec.ofNat 32 t.val) = lo32 true (cO true (posT c) t.val) false := by decide +kernel
theorem off9 : ∀ (c : Dev nD) (t : Fin 31), k0_off9 (posW c) (BitVec.ofNat 32 t.val) = lo32 false (cO false (posT c) t.val) true := by decide +kernel
theorem off10 : ∀ (c : Dev nD) (t : Fin 31), k0_off10 (posW c) (BitVec.ofNat 32 t.val) = lo32 true (cO true (posT c) t.val) true := by decide +kernel

theorem in64 (d : Bool) {k : ℕ} (h : k < 32) : ∀ a, lo64 d k a + S64x8192.size a ≤ S4096x8192.size a := by
  intro a
  have := bit_le d
  fin_cases a
  · show 128 * k + 64 * bit d + 64 ≤ 4096; omega
  · show 0 + 8192 ≤ 8192; omega
theorem in32 (d b : Bool) {k : ℕ} (h : k < 32) : ∀ a, lo32 d k b a + S32x8192.size a ≤ S4096x8192.size a := by
  intro a
  have := bit_le d
  have := bit_le b
  fin_cases a
  · show 128 * k + 64 * bit d + 32 * bit b + 32 ≤ 4096; omega
  · show 0 + 8192 ≤ 8192; omega

def r64 (d : Bool) (k : ℕ) (h : k < 32) : Rect S4096x8192 := Rect.unit (s := S4096x8192) (lo64 d k) S64x8192.size (in64 d h)
def r32 (d b : Bool) (k : ℕ) (h : k < 32) : Rect S4096x8192 := Rect.unit (s := S4096x8192) (lo32 d k b) S32x8192.size (in32 d b h)

/-! ## The result's rows -/

abbrev OI := Bool × Option (ℕ × Bool)
def OL : List OI := [(false, none), (true, none)] ++ lanesL fun d b => (List.range 31).map fun t => (d, some (t, b))
theorem OL_nodup : OL.Nodup := by decide +kernel
theorem mem_OL : ∀ i : OI, i ∈ OL ↔ (∀ x, i.2 = some x → x.1 < 31) := by
  rintro ⟨d, _ | ⟨t, b⟩⟩ <;> cases d <;> (try cases b) <;> simp [OL, lanesL]

/-- The rows with the index. -/
def rO (p : ℕ) : OI → Rect S4096x8192
  | (d, none) => r64 d (cO d p 31) (cO_lt ..)
  | (d, some (t, b)) => r32 d b (cO d p t) (cO_lt ..)

/-- First row and number of rows. -/
def loO (p : ℕ) : OI → ℕ × ℕ
  | (d, none) => (128 * cO d p 31 + 64 * bit d, 64)
  | (d, some (t, b)) => (128 * cO d p t + 64 * bit d + 32 * bit b, 32)

theorem mem_rO (p : ℕ) (i : OI) (x : S4096x8192.Idx) :
    x ∈ (rO p i).set ↔ (loO p i).1 ≤ (x 0).val ∧ (x 0).val < (loO p i).1 + (loO p i).2 := by
  have h1 : (x 1).val < 8192 := (x 1).isLt
  rcases i with ⟨d, _ | ⟨t, b⟩⟩
  · refine (mem_unit _ _ (in64 d (cO_lt d p 31)) _).trans ⟨fun h => h 0, fun h a => ?_⟩
    fin_cases a
    · exact h
    · show 0 ≤ (x 1).val ∧ (x 1).val < 0 + 8192; omega
  · refine (mem_unit _ _ (in32 d b (cO_lt d p t)) _).trans ⟨fun h => h 0, fun h a => ?_⟩
    fin_cases a
    · exact h
    · show 0 ≤ (x 1).val ∧ (x 1).val < 0 + 8192; omega

theorem cO_inj (d : Bool) (p t u : ℕ) (hp : p < 32) (ht : t < 32) (hu : u < 32) (h : cO d p t = cO d p u) : t = u := by
  cases d <;> simp only [cO] at h <;> omega
theorem cO_surj (d : Bool) (p k : ℕ) (hp : p < 32) (hk : k < 32) : ∃ t < 32, cO d p t = k := by
  cases d
  · exact ⟨(p + 32 - k) % 32, Nat.mod_lt _ (by decide), by simp only [cO]; omega⟩
  · exact ⟨(k + 32 - p) % 32, Nat.mod_lt _ (by decide), by simp only [cO]; omega⟩

/-- The step of a row, with thirty-one for the last. -/
def stepO (i : OI) : ℕ := i.2.elim 31 Prod.fst
theorem loO_step (p : ℕ) (i : OI) (x : ℕ) (h : (loO p i).1 ≤ x ∧ x < (loO p i).1 + (loO p i).2) :
    x / 128 = cO i.1 p (stepO i) ∧ x % 128 / 64 = bit i.1 ∧ ∀ y, i.2 = some y → x % 64 / 32 = bit y.2 := by
  rcases i with ⟨d, _ | ⟨t, b⟩⟩
  · have := bit_le d
    simp only [loO] at h
    refine ⟨?_, ?_, nofun⟩
    · show _ = cO d p 31; omega
    · show _ = bit d; omega
  · have := bit_le d
    have := bit_le b
    simp only [loO] at h
    refine ⟨?_, ?_, ?_⟩
    · show _ = cO d p t; omega
    · show _ = bit d; omega
    · rintro y ⟨⟩; show _ = bit b; omega
theorem bit_inj {a b : Bool} (h : bit a = bit b) : a = b := by cases a <;> cases b <;> simp [bit] at h ⊢

theorem partsO (p : ℕ) (hp : p < 32) : Parts S4096x8192 OL.toFinset (rO p) where
  dis := by
    rintro ⟨d, t⟩ hi ⟨d', t'⟩ hj hne x h1 h2
    have hi := (mem_OL _).mp (List.mem_toFinset.mp hi)
    have hj := (mem_OL _).mp (List.mem_toFinset.mp hj)
    obtain ⟨a1, a2, a3⟩ := loO_step p _ _ ((mem_rO _ _ _).mp h1)
    obtain ⟨b1, b2, b3⟩ := loO_step p _ _ ((mem_rO _ _ _).mp h2)
    obtain rfl : d = d' := bit_inj (a2.symm.trans b2)
    have e := a1.symm.trans b1
    rcases t with _ | ⟨t, b⟩ <;> rcases t' with _ | ⟨t', b'⟩
    · exact hne rfl
    · have ht := hj _ rfl
      have := cO_inj d p 31 t' hp (by decide) (by simp only at ht; omega) e
      simp only at ht; omega
    · have ht := hi _ rfl
      have := cO_inj d p t 31 hp (by simp only at ht; omega) (by decide) e
      simp only at ht; omega
    · have ht := hi _ rfl
      have ht' := hj _ rfl
      obtain rfl := cO_inj d p t t' hp (by simp only at ht; omega) (by simp only at ht'; omega) e
      obtain rfl : b = b' := bit_inj ((a3 _ rfl).symm.trans (b3 _ rfl))
      exact hne rfl
  cov := by
    intro x
    have h0 : (x 0).val < 4096 := (x 0).isLt
    obtain ⟨d, hd⟩ : ∃ d, bit d = (x 0).val % 128 / 64 := by
      rcases (show (x 0).val % 128 / 64 = 0 ∨ (x 0).val % 128 / 64 = 1 by omega) with h | h
      · exact ⟨false, h.symm⟩
      · exact ⟨true, h.symm⟩
    obtain ⟨b, hb⟩ : ∃ b, bit b = (x 0).val % 64 / 32 := by
      rcases (show (x 0).val % 64 / 32 = 0 ∨ (x 0).val % 64 / 32 = 1 by omega) with h | h
      · exact ⟨false, h.symm⟩
      · exact ⟨true, h.symm⟩
    obtain ⟨t, ht, hk⟩ := cO_surj d p ((x 0).val / 128) hp (by omega)
    by_cases h31 : t = 31
    · subst h31
      refine ⟨(d, none), List.mem_toFinset.mpr ((mem_OL _).mpr nofun), (mem_rO _ _ _).mpr ?_⟩
      simp only [loO]; omega
    · refine ⟨(d, some (t, b)), List.mem_toFinset.mpr ((mem_OL _).mpr ?_), (mem_rO _ _ _).mpr ?_⟩
      · rintro y ⟨⟩; show t < 31; omega
      · simp only [loO]; omega

/-- Pieces of the result by their index. -/
theorem o_chain (Φ : OI → AP F) : bigSep OL.toFinset Φ
    = iprop((Φ (false, none) ∗ Φ (true, none)) ∗ Lanes (fun d b => bigSep (Finset.Ico 0 31) fun t => Φ (d, some (t, b)))) := by
  rw [bigSep_eq_bigSepL _ OL_nodup, OL, bigSepL_append, chain_lanes]
  have h : ∀ d b, bigSepL ((List.range 31).map fun t => ((d, some (t, b)) : OI)) Φ = bigSep (Finset.Ico 0 31) fun t => Φ (d, some (t, b)) :=
    fun d b => (bigSepL_map _ _ _).trans (chain_range _)
  simp only [h]
  rfl

theorem val31 {t : ℕ} (h : t < 31) : ((Fin.ofNat 31 t : Fin 31)).val = t := Nat.mod_eq_of_lt h

theorem oR_rows (c : Dev nD) (d b : Bool) {t : ℕ} (h : t < 31) :
    (oR c t d b).view = oM.view.slice (rO (posT c) (d, some (t, b))) := by
  have e : ∀ (o : Fin 2 → ℕ) (ho) (k : ℕ) (hk : k < 32), o = lo32 d k b →
      oM.view.slice (Rect.unit (s := S4096x8192) o S32x8192.size ho) = oM.view.slice (r32 d b k hk) := by
    intro o ho k hk e; subst e; rfl
  cases d <;> cases b
  · exact e _ (k0_off7_inb (posW c) (hpos c) (Fin.ofNat 31 t)) _ (cO_lt ..) ((off7 c (Fin.ofNat 31 t)).trans (by rw [val31 h]))
  · exact e _ (k0_off9_inb (posW c) (hpos c) (Fin.ofNat 31 t)) _ (cO_lt ..) ((off9 c (Fin.ofNat 31 t)).trans (by rw [val31 h]))
  · exact e _ (k0_off8_inb (posW c) (hpos c) (Fin.ofNat 31 t)) _ (cO_lt ..) ((off8 c (Fin.ofNat 31 t)).trans (by rw [val31 h]))
  · exact e _ (k0_off10_inb (posW c) (hpos c) (Fin.ofNat 31 t)) _ (cO_lt ..) ((off10 c (Fin.ofNat 31 t)).trans (by rw [val31 h]))
theorem at64 (M : View sig .tc .hbm S4096x8192 .f32) (d : Bool) (o : Fin 2 → ℕ) (ho) (k : ℕ) (hk : k < 32) (e : o = lo64 d k) :
      M.slice (Rect.unit (s := S4096x8192) o S64x8192.size ho) = M.slice (r64 d k hk) := by
    subst e; rfl
theorem oR0_rows (c : Dev nD) (d : Bool) : (oR0 c d).view = oM.view.slice (rO (posT c) (d, none)) := by
  cases d
  · exact at64 _ _ _ (k0_off5_inb (posW c) (hpos c)) _ (cO_lt ..) (off5 c)
  · exact at64 _ _ _ (k0_off6_inb (posW c) (hpos c)) _ (cO_lt ..) (off6 c)
theorem pR0_rows (c : Dev nD) (d : Bool) : (pR0 c d).view = pM.view.slice (r64 d (posT c) (posT_lt c)) := by
  cases d
  · exact at64 _ _ _ (k0_off1_inb (posW c) (hpos c)) _ _ (off1 c)
  · exact at64 _ _ _ (k0_off2_inb (posW c) (hpos c)) _ _ (off2 c)
theorem pR_rows (c : Dev nD) (d : Bool) {s : ℕ} (h : s < 31) : (pR c d s).view = pM.view.slice (r64 d (cP d (posT c) s) (cP_lt ..)) := by
  cases d
  · exact at64 _ _ _ (k0_off3_inb (posW c) (hpos c) (Fin.ofNat 31 s)) _ (cP_lt ..) ((off3 c (Fin.ofNat 31 s)).trans (by rw [val31 h]))
  · exact at64 _ _ _ (k0_off4_inb (posW c) (hpos c) (Fin.ofNat 31 s)) _ (cP_lt ..) ((off4 c (Fin.ofNat 31 s)).trans (by rw [val31 h]))

theorem lanes_congr {L L' : Bool → Bool → AP F} (h : ∀ d b, L d b = L' d b) : Lanes L = Lanes L' := by
  rw [show L = L' from funext fun d => funext (h d)]

theorem o_in (c : Dev nD) : Raw (F := F) oM.view c ⊢ OIn c := by
  refine ((partsO _ (posT_lt c)).split oM.view c).trans (Entails.of_eq ((o_chain _).trans ?_))
  unfold OIn
  rw [← oR0_rows, ← oR0_rows]
  refine congrArg (fun X => iprop(_ ∗ X)) (lanes_congr fun d b => ?_)
  unfold OT
  exact bigSep_congr fun t ht => (congrArg (fun v => Raw (F := F) v c) (oR_rows c d b (Finset.mem_Ico.mp ht).2)).symm

/-- What the rows of the result hold at the end. -/
def OVal (P : Dev nD → pM.view.ty.Contents (Elt F)) (c : Dev nD) : (i : OI) → Vec F (rO (posT c) i).shape .f32
  | (d, none) => Ov0 P d c
  | (d, some (t, b)) => Ov P d t c b
def OutOk (P : Dev nD → pM.view.ty.Contents (Elt F)) (c : Dev nD) (g : oM.view.ty.Contents (Elt F)) : Prop :=
  ∀ i ∈ OL.toFinset, (oM.view.slice (rO (posT c) i)).read (Elt F) g = OVal P c i

theorem piece_congr {sp : Space} {s : Shape} {e : EltTy} {u v : View sig .tc sp s e} (h : u = v) (c : Dev nD) (x : Vec F s e) :
    Piece u c x = Piece v c x := by rw [h]

instance [FloatOps F] : Nonempty (Buf (Elt F) (oM.view.loc (c : Thread nD τ))) := ⟨fun _ => (FloatOps.ofBits .f32 0 : F .f32)⟩

theorem o_out (c : Dev nD) : OOut P c ⊢ (iprop(∃ g : Buf (Elt F) (oM.view.loc (c : Thread nD τ)), ⌜OutOk P c g⌝
    ∗ (oM.view.loc (c : Thread nD τ) ↦[oM.view.set]{fullShare} g)) : AP F) := by
  refine BIBase.Entails.trans (Entails.of_eq ?_) ((partsO _ (posT_lt c)).join oM.view c (OVal P c))
  rw [o_chain]
  unfold OOut
  rw [piece_congr (oR0_rows c false), piece_congr (oR0_rows c true)]
  refine congrArg (fun X => iprop(_ ∗ X)) (lanes_congr fun d b => ?_)
  unfold OD
  rw [show Finset.range 31 = Finset.Ico 0 31 from by decide]
  exact bigSep_congr fun t ht => piece_congr (oR_rows c d b (Finset.mem_Ico.mp ht).2) _ _

theorem out_unique (c : Dev nD) {g g' : oM.view.ty.Contents (Elt F)} (h : OutOk P c g) (h' : OutOk P c g') : g = g' := by
  funext x
  obtain ⟨i, hi, hx⟩ := (partsO _ (posT_lt c)).cov x
  rw [← Rect.map_emb_univ] at hx
  obtain ⟨j, -, rfl⟩ := Finset.mem_map.mp hx
  have e := congrFun ((h i hi).trans (h' i hi).symm) j
  rw [View.read_apply, View.read_apply] at e
  exact e

end Cert.Ring
-- ==== Proof.Words.lean ====
/-
  What a device's host operations leave: its place on the ring, its neighbours' numbers and its partial product.
-/
module

public import proofs.«01_k».proof.Proof.Plan
public import proofs.«01_k».proof.Proof.Gen.KernelIdeal.Regions
public import Idealize.ShloMosaic.Lib.StableHlo.RunRead

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

/-- A table's word at the device's number. -/
def wordAt (t : S32.Idx → BitVec 32) (c : Dev nD) : S1.Idx → BitVec 32 :=
  let n : S_.Idx → BitVec 32 := Host.remui (Host.divui (constantI S_ 32 (Dev.word c)) (constantI S_ 32 1#32)) (constantI S_ 32 32#32)
  broadcastInDim S1 ![] bcast_S_S1 (shapeCast S_ (Host.dynamicSlice S1 t
    (fun _ => ((select (cmpi .slt n (constantI S_ 32 0#32)) (addi n (constantI S_ 32 32#32)) n : S_.Idx → BitVec 32) (Shape.Idx.first h_S_)).toInt) sliceFits_S32_S1) shapeCasts_S1_S_)

variable (m : (ℓ : Loc nD τ sig) → Buf (Elt F) ℓ) (c : Dev nD)

theorem V1_pos : V1 m c main_v11 = (wordAt (fun i => lit0 (S32.rowMajor i)) c : (⟨S1, .i32⟩ : BufTy).Contents (Elt F)) := by
  unfold V1 hostOps0
  generalize ((fun i => lit0 (S32.rowMajor i)) : S32.Idx → BitVec 32) = t0
  generalize ((fun i => lit1 (S32.rowMajor i)) : S32.Idx → BitVec 32) = t1
  generalize ((fun i => lit2 (S32.rowMajor i)) : S32.Idx → BitVec 32) = t2
  after_reads_simp
  refine congrArg (broadcastInDim S1 ![] bcast_S_S1) (congrArg (fun s => shapeCast S_ (Host.dynamicSlice S1 t0 s sliceFits_S32_S1) shapeCasts_S1_S_) (funext fun k => ?_))
  obtain rfl : k = 0 := Subsingleton.elim _ _
  simp only [Matrix.cons_val_zero, Matrix.cons_val_fin_one, cast_eq]
  after_reads_simp
  rfl
theorem V1_rgt : V1 m c main_v17 = (wordAt (fun i => lit1 (S32.rowMajor i)) c : (⟨S1, .i32⟩ : BufTy).Contents (Elt F)) := by
  unfold V1 hostOps0
  generalize ((fun i => lit0 (S32.rowMajor i)) : S32.Idx → BitVec 32) = t0
  generalize ((fun i => lit1 (S32.rowMajor i)) : S32.Idx → BitVec 32) = t1
  generalize ((fun i => lit2 (S32.rowMajor i)) : S32.Idx → BitVec 32) = t2
  after_reads_simp
  refine congrArg (broadcastInDim S1 ![] bcast_S_S1) (congrArg (fun s => shapeCast S_ (Host.dynamicSlice S1 t1 s sliceFits_S32_S1) shapeCasts_S1_S_) (funext fun k => ?_))
  obtain rfl : k = 0 := Subsingleton.elim _ _
  simp only [Matrix.cons_val_zero, Matrix.cons_val_fin_one, cast_eq]
  after_reads_simp
  rfl
theorem V1_lft : V1 m c main_v23 = (wordAt (fun i => lit2 (S32.rowMajor i)) c : (⟨S1, .i32⟩ : BufTy).Contents (Elt F)) := by
  unfold V1 hostOps0
  generalize ((fun i => lit0 (S32.rowMajor i)) : S32.Idx → BitVec 32) = t0
  generalize ((fun i => lit1 (S32.rowMajor i)) : S32.Idx → BitVec 32) = t1
  generalize ((fun i => lit2 (S32.rowMajor i)) : S32.Idx → BitVec 32) = t2
  after_reads_simp
  refine congrArg (broadcastInDim S1 ![] bcast_S_S1) (congrArg (fun s => shapeCast S_ (Host.dynamicSlice S1 t2 s sliceFits_S32_S1) shapeCasts_S1_S_) (funext fun k => ?_))
  obtain rfl : k = 0 := Subsingleton.elim _ _
  simp only [Matrix.cons_val_zero, Matrix.cons_val_fin_one, cast_eq]
  after_reads_simp
  rfl
theorem V1_part : V1 m c main_v1 = Host.dotGeneral (F := F) dot_S4096x128_S128x8192_S4096x8192_1_0_0_1_n_n none (m ((c : Thread nD τ).loc main_arg0)) (m ((c : Thread nD τ).loc main_arg1)) := by
  after_reads_simp

theorem word_pos : ∀ (c : Dev nD) (i : S1.Idx), wordAt (fun i => lit0 (S32.rowMajor i)) c i = posW c := by decide +kernel
theorem word_rgt : ∀ (c : Dev nD) (i : S1.Idx), wordAt (fun i => lit1 (S32.rowMajor i)) c i = rgtW c := by decide +kernel
theorem word_lft : ∀ (c : Dev nD) (i : S1.Idx), wordAt (fun i => lit2 (S32.rowMajor i)) c i = lftW c := by decide +kernel

end Cert.Ring
-- ==== Proof.Rights.lean ====
/-
  A device's rights to pay and its credits, as the run takes them.
-/
module

public import proofs.«01_k».proof.Proof.Toks

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-! ## Rights and credits together -/

theorem sup_intro (ph d b : Bool) :
    iprop(bigSepL (supT ph d b) (tokOf c) ∗ bigSepL (supCr ph d b) (credOf c)) ⊢ (Sup ph d b c 0 : AP F) := by
  unfold supT supCr Sup
  rw [chain_flat, chain_flat, chain_range, chain_range]
  refine BIBase.Entails.trans (big_pair _ _ _) (big_mono fun w _ => ?_)
  unfold Sup1
  rw [chain_two, bigSepL_singleton, tok_eq .own _ _ _ rfl, tok_eq (.near d) (.rcv ph d (slot3 w) b) (w / 3) 0 (nb_nb d c)]
  iintro ⟨⟨A, B⟩, C⟩
  isplitl [A]; · iexact A
  isplitl [B]; · iexact B
  iapply (Entails.of_eq (show credOf (F := F) c (.near d, .rcv ph d (slot3 w) b, lvR ph w, w / 3)
    = cred (tallyAt (cel c (.rcv ph d (slot3 w) b)) (lvR ph w) (amtR (.rcv ph d (slot3 w) b) (w / 3))) from rfl)); iexact C

theorem if_chain {α : Type} (p : Prop) [Decidable p] (e : α) (Φ : α → AP F) :
    bigSepL (if p then [e] else []) Φ = if p then Φ e else iprop(emp) := by split <;> rfl
theorem cred_crd (t : Tg) (ph d : Bool) (l : ℕ) : credOf (F := F) c (t, .crd ph d, l, 0) = cred (tallyAt (cel c (.crd ph d)) l 1) := rfl

theorem dir_intro (d : Bool) :
    iprop(bigSepL (dirT d) (tokOf c) ∗ bigSepL (dirCr d) (credOf c)) ⊢ (DirPay c d : AP F) := by
  unfold dirT dirCr DirPay
  rw [bigSepL_append, bigSepL_append, bigSepL_append, bigSepL_append, bigSepL_append, bigSepL_append, bigSepL_singleton, bigSepL_singleton,
    chain_flat, chain_flat, chain_flat, chain_flat, chain_flat, chain_flat, chain_range, chain_range', chain_range, chain_range, chain_range, chain_range]
  iintro ⟨⟨⟨A, B⟩, ⟨C, D⟩, E, G⟩, H, I⟩
  isplitl [A B]
  · isplitl [A]; · iapply (Entails.of_eq (tok_eq (c := c) (F := F) .own (.pf d) 0 0 rfl)); iexact A
    iapply (show bigSep (Finset.Ico 0 31) (fun w => bigSepL [((.own, .pf d, w + 1, 0) : TE)] (tokOf c)) ⊢ (SupP d c 0 : AP F) from by
      unfold SupP
      exact big_mono fun w _ => by rw [bigSepL_singleton, tok_eq .own _ _ _ rfl]; exact BI.Entails.refl _)
    iexact B
  isplitl [C D]
  · isplitl [C]; · iapply (Entails.of_eq (tok_eq (c := c) (F := F) .own (.st d) 0 0 rfl)); iexact C
    iapply (show bigSep (Finset.Ico 1 63) (fun w => bigSepL [((.own, .st d, w, 0) : TE)] (tokOf c)) ⊢ (SupSt d c 1 : AP F) from by
      unfold SupSt
      exact big_mono fun w _ => by rw [bigSepL_singleton, tok_eq .own _ _ _ rfl]; exact BI.Entails.refl _)
    iexact D
  isplitl [E H]
  · unfold SupC
    iapply (BIBase.Entails.trans (big_pair _ _ _) (big_mono (Φ := fun w => iprop(bigSepL (if w < 28 then [((.near (!d), .crd false d, 0, w) : TE)] else []) (tokOf c) ∗ bigSepL (if 3 ≤ w then [((.near (!d), .crd false d, 2 * (w - 3) + 3, 0) : CE)] else []) (credOf c)))
        (Ψ := fun w => SupC1 d c w) fun w _ => by
      unfold SupC1
      rw [if_chain, if_chain, tok_eq (.near (!d)) (.crd false d) 0 w (nb_nb' d c), cred_crd]
      iintro ⟨X, Y⟩
      isplitl [Y]; · iexact Y
      iexact X))
    isplitl [E]; · iexact E
    iexact H
  · unfold SupA
    iapply (BIBase.Entails.trans (big_pair _ _ _) (big_mono (Φ := fun w => iprop(bigSepL (if 1 ≤ w ∧ w < 29 then [((.near (!d), .crd true d, 0, w - 1) : TE)] else []) (tokOf c) ∗ bigSepL (if 3 ≤ w then [((.near (!d), .crd true d, 100 + 2 * (w - 3) + 5, 0) : CE)] else []) (credOf c)))
        (Ψ := fun w => SupA1 d c w) fun w _ => by
      unfold SupA1
      rw [if_chain, if_chain, tok_eq (.near (!d)) (.crd true d) 0 (w - 1) (nb_nb' d c), cred_crd]
      iintro ⟨X, Y⟩
      isplitl [Y]; · iexact Y
      iexact X))
    isplitl [G]; · iexact G
    iexact I

theorem mx_intro (k : Fin 5) : iprop(bigSepL (mxT k) (tokOf c) ∗ bigSepL (mxCr k) (credOf c)) ⊢ (MxPay c k : AP F) := by
  unfold mxT mxCr MxPay
  rw [chain_two, bigSepL_singleton, tok_eq .own _ _ _ rfl, tok_eq (.mate k) (.mr k) 0 0 (xDv_xDv k c)]
  iintro ⟨⟨A, B⟩, C⟩
  isplitl [A]; · iexact A
  isplitl [B]; · iexact B
  iapply (Entails.of_eq (show credOf (F := F) c (.mate k, .mr k, 70 + k.val, 0) = cred (tallyAt (cel c (.mr k)) (70 + k.val) (amtR (.mr k) 0)) from rfl)); iexact C

theorem bar_intro : iprop(bigSepL barT (tokOf c) ∗ bigSepL barCr (credOf c)) ⊢ (BarTok c : AP F) := by
  unfold barT barCr BarTok
  rw [chain_two, chain_two, tok_eq (.near true) .bar 0 0 (nb_nb true c),
    tok_eq (.near false) .bar 0 1 (nb_nb false c)]
  iintro ⟨⟨A, B⟩, C⟩
  isplitl [A B]
  · isplitl [A]; · iexact A
    iexact B
  have h : (tallyAt (cel c .bar) 1 2 : CellTallies nD τ sig ℕ) = tallyAt (cel c .bar) 1 1 + tallyAt (cel c .bar) 1 1 := (tallyAt_add _ _ 1 1).symm
  rw [h]
  iapply (cred_add _ _).2
  iexact C

theorem pay_intro : iprop(bigSepL TL (tokOf c) ∗ bigSepL CL (credOf c)) ⊢ (Pay0 c : AP F) := by
  unfold TL CL Pay0
  rw [bigSepL_append, bigSepL_append, bigSepL_append, bigSepL_append, bigSepL_append, bigSepL_append, bigSepL_append, bigSepL_append,
    chain_lanes, chain_lanes, chain_fives, chain_fives]
  iintro ⟨⟨A, B, ⟨C, D⟩, E0, E1, E2, E3, E4⟩, A', B', ⟨C', D'⟩, E0', E1', E2', E3', E4'⟩
  isplitl [A A']
  · iapply bar_intro; iframe A A'
  isplitl [B B']
  · iapply (BIBase.Entails.trans (lanes_pair _ _) (lanes_mono (L := fun d b => iprop(bigSepL (supT false d b ++ supT true d b) (tokOf c) ∗ bigSepL (supCr false d b ++ supCr true d b) (credOf c)))
        (M := fun d b => iprop(Sup false d b c 0 ∗ Sup true d b c 0)) fun d b => by
      rw [bigSepL_append, bigSepL_append]
      iintro ⟨⟨X, Y⟩, X', Y'⟩
      isplitl [X X']
      · iapply (sup_intro false d b); iframe X X'
      · iapply (sup_intro true d b); iframe Y Y'))
    iframe B B'
  isplitl [C C' D D']
  · isplitl [C C']
    · iapply (dir_intro false); iframe C C'
    · iapply (dir_intro true); iframe D D'
  isplitl [E0 E0']; · iapply (mx_intro 0); iframe E0 E0'
  isplitl [E1 E1']; · iapply (mx_intro 1); iframe E1 E1'
  isplitl [E2 E2']; · iapply (mx_intro 2); iframe E2 E2'
  isplitl [E3 E3']; · iapply (mx_intro 3); iframe E3 E3'
  iapply (mx_intro 4); iframe E4 E4'

end Cert.Ring
-- ==== Proof.Core.lean ====
/-
  A device's body with its three table words staged.
-/
module

public import proofs.«01_k».proof.Proof.Rows
public import proofs.«01_k».proof.Proof.Words
public import proofs.«01_k».proof.Proof.Rights
public import proofs.«01_k».proof.Proof.Body

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-- The body after its words are read. -/
def bodyRest (v3 : Elt F .i32) (h3 : k0_chk3 v3) (v4 : Elt F .i32) (h2 : k0_chk2 v4) (v5 : Elt F .i32) (h1 : k0_chk1 v5) (d0 : Dev nD) : PG F PUnit :=
  Pipeline.chain (itemsA v3 h3 v4 h2 v5 h1 d0) >>= fun _ => scaleLoad >>= fun sc => Pipeline.chain (itemsB v3 h3 v4 h2 v5 h1 sc)

abbrev wordR : Rect S1 := Rect.unit (s := S1) ![0] S1.size inb_S1_S1_0

theorem body_form (m1 m2 m3 : Memref sig .tc .smem S1 .i32) : (body m1 m2 m3 : PG F PUnit) =
    .op .deviceId fun d0 => smemLoadElt m1 wordR (View.loads_smem_one rfl numel1_S1) (Shape.Idx.first (numel1_S1.symm ▸ Nat.one_pos)) fun v3 =>
      .op (.assume (k0_chk3 v3) (k0_chk3.dec v3)) fun h3 =>
      smemLoadElt m2 wordR (View.loads_smem_one rfl numel1_S1) (Shape.Idx.first (numel1_S1.symm ▸ Nat.one_pos)) fun v4 =>
      .op (.assume (k0_chk2 v4) (k0_chk2.dec v4)) fun h2 =>
      smemLoadElt m3 wordR (View.loads_smem_one rfl numel1_S1) (Shape.Idx.first (numel1_S1.symm ▸ Nat.one_pos)) fun v5 =>
      .op (.assume (k0_chk1 v5) (k0_chk1.dec v5)) fun h1 => bodyRest v3 h3.down v4 h2.down v5 h1.down d0 := rfl

/-- A staged word read and found to be what is asked of it. -/
theorem word_step {Q : BitVec 32 → Prop} {dec : (w : BitVec 32) → Decidable (Q w)} (M : Memref sig .tc .smem S1 .i32) (w : BitVec 32) (hw : Q w) (Φ : PUnit → AP F)
    (k : (v : Elt F .i32) → PLift (Q v) → PG F PUnit) : (Piece M.view c (fun _ => w) : AP F)
    ⊢ iprop((Piece M.view c (fun _ => w) -∗ wpq c (k w ⟨hw⟩) Φ)
      -∗ wpq c (smemLoadElt M wordR (View.loads_smem_one rfl numel1_S1) (Shape.Idx.first (numel1_S1.symm ▸ Nat.one_pos)) fun v =>
        .op (.assume (Q v) (dec v)) fun h => k v h) Φ) := by
  unfold Piece
  iintro ⟨%f, %hf, H⟩ Hk
  have hl := wp_smemLoadElt (Q := Φ) VV (c : Thread nD τ) none Set.univ (defs := defs₀) (Γ := .empty) (m := M) (r := wordR) (hw := View.loads_smem_one rfl numel1_S1) (x := Shape.Idx.first (numel1_S1.symm ▸ Nat.one_pos)) (k := fun v =>
        .op (.assume (Q v) (dec v)) fun h => k v h) (S := M.view.set) (q := fullShare) (f := f) (View.set_slice_subset _ _)
  iapply hl $$ H
  iintro H
  have e : (M.access wordR).read (Elt F) f (Shape.Idx.first (numel1_S1.symm ▸ Nat.one_pos)) = w := by
    have := congrFun hf (wordR.emb (Shape.Idx.first (numel1_S1.symm ▸ Nat.one_pos)))
    exact this
  have hv : ∀ (v : Elt F .i32) (hv : v = w), wpq c (k w ⟨hw⟩) Φ ⊢ wpq c (.op (.assume (Q v) (dec v)) fun h => k v h) Φ := by
    intro v hv; subst hv; exact wp_assume VV (c : Thread nD τ) none Set.univ hw
  iapply (hv _ e)
  iapply Hk
  iexists f
  isplitr; · ipureintro; exact hf
  iexact H

theorem rest_run (Φ : PUnit → AP F) : iprop(Ctx P κ ∗ BodyIn P c ∗ Owe c (owedAll c))
    ⊢ iprop((BodyEnd P c ∗ Owe c [] -∗ Φ ⟨⟩) -∗ wpq c (bodyRest (posW c) (hpos c) (rgtW c) (hrgt c) (lftW c) (hlft c) c) Φ) := run_T (P := P) (κ := κ) (c := c) Φ

theorem body_run (m1 m2 m3 : Memref sig .tc .smem S1 .i32) (Φ : PUnit → AP F) :
    iprop((Piece m1.view c (fun _ => posW c) ∗ Piece m2.view c (fun _ => rgtW c) ∗ Piece m3.view c (fun _ => lftW c)) ∗ Ctx P κ ∗ BodyIn P c ∗ Owe c (owedAll c))
    ⊢ iprop(((Piece m1.view c (fun _ => posW c) ∗ Piece m2.view c (fun _ => rgtW c) ∗ Piece m3.view c (fun _ => lftW c)) -∗ BodyEnd P c ∗ Owe c [] -∗ Φ ⟨⟩)
      -∗ wpq c (body m1 m2 m3) Φ) := by
  rw [body_form]; unfold wpq; rw [wp_deviceId]
  iintro ⟨⟨H1, H2, H3⟩, HC, HB, HO⟩ Hk
  iapply (word_step (Q := k0_chk3) (dec := k0_chk3.dec) m1 (posW c) (hpos c) Φ
    (fun v3 h3 => smemLoadElt m2 wordR (View.loads_smem_one rfl numel1_S1) (Shape.Idx.first (numel1_S1.symm ▸ Nat.one_pos)) fun v4 =>
      .op (.assume (k0_chk2 v4) (k0_chk2.dec v4)) fun h2 =>
      smemLoadElt m3 wordR (View.loads_smem_one rfl numel1_S1) (Shape.Idx.first (numel1_S1.symm ▸ Nat.one_pos)) fun v5 =>
      .op (.assume (k0_chk1 v5) (k0_chk1.dec v5)) fun h1 => bodyRest v3 h3.down v4 h2.down v5 h1.down c)) $$ H1
  iintro H1
  iapply (word_step (Q := k0_chk2) (dec := k0_chk2.dec) m2 (rgtW c) (hrgt c) Φ
    (fun v4 h2 => smemLoadElt m3 wordR (View.loads_smem_one rfl numel1_S1) (Shape.Idx.first (numel1_S1.symm ▸ Nat.one_pos)) fun v5 =>
      .op (.assume (k0_chk1 v5) (k0_chk1.dec v5)) fun h1 => bodyRest (posW c) (hpos c) v4 h2.down v5 h1.down c)) $$ H2
  iintro H2
  iapply (word_step (Q := k0_chk1) (dec := k0_chk1.dec) m3 (lftW c) (hlft c) Φ
    (fun v5 h1 => bodyRest (posW c) (hpos c) (rgtW c) (hrgt c) v5 h1.down c)) $$ H3
  iintro H3
  iapply (rest_run (P := P) (κ := κ) (c := c) Φ) $$ [HC HB HO]
  · iframe HC HB HO
  iintro H
  iapply Hk $$ [H1 H2 H3] H
  iframe H1 H2 H3

/-! ## The scratch buffers, whole and in pieces -/

theorem raw_whole (b : Ref sig .tc) (c : Dev nD) : (iprop(∃ f : Buf (Elt F) ((c : Thread nD τ).loc b), ((c : Thread nD τ).loc b) ↦{fullShare} f) : AP F)
    = Raw (View.whole b) c := by
  unfold Raw; rw [View.set_whole]

theorem sb_slots (d : Bool) (c : Dev nD) : Raw (F := F) (sbM d).view c ⊣⊢ Slots fun sl b => Raw (sbP d sl b).view c := by
  rw [show (fun sl b => Raw (F := F) (sbP d sl b).view c) = fun sl b => Raw ((sbM d).access (r3 sl b)) c from funext fun sl => funext fun b => sb_raw d sl b c]
  exact raw_slots (sbM d).view c
theorem rv_slots (d : Bool) (c : Dev nD) : Raw (F := F) (rvM d).view c ⊣⊢ Slots fun sl b => Raw (rvP d sl b).view c := by
  rw [show (fun sl b => Raw (F := F) (rvP d sl b).view c) = fun sl b => Raw ((rvM d).access (r3 sl b)) c from funext fun sl => funext fun b => rv_raw d sl b c]
  exact raw_slots (rvM d).view c
theorem ag_slots (d : Bool) (c : Dev nD) : Raw (F := F) (agM d).view c ⊣⊢ Slots fun sl b => Raw (agP d sl b).view c := by
  rw [show (fun sl b => Raw (F := F) (agP d sl b).view c) = fun sl b => Raw ((agM d).access (r3 sl b)) c from funext fun sl => funext fun b => ag_raw d sl b c]
  exact raw_slots (agM d).view c

/-- What of one direction's buffers is not a lane's. -/
theorem dir_scr (d : Bool) (c : Dev nD) : (iprop(Raw (F := F) (locM d).view c ∗ Raw (accM d).view c ∗ Raw (oqM d).view c ∗ Raw (dqM d).view c) : AP F) ⊣⊢ DirScr c d := by
  unfold DirScr
  rw [loc_raw, loc_raw, acc_raw, show Raw (F := F) ((oqM d).access rhw) c = Raw (oqM d).view c from raw_rhw _ c,
    show Raw (F := F) ((dqM d).access rhw) c = Raw (dqM d).view c from raw_rhw _ c]
  constructor
  · iintro ⟨H1, H2, H3, H4⟩
    ihave A := (raw_two (locM d).view c).1 $$ H1
    ihave B := (raw_two (accM d).view c).1 $$ H2
    isplitl [A]; · iexact A
    isplitl [B]; · iexact B
    isplitl [H3]; · iexact H3
    iexact H4
  · iintro ⟨A, B, H3, H4⟩
    isplitl [A]; · iapply (raw_two (locM d).view c).2; iexact A
    isplitl [B]; · iapply (raw_two (accM d).view c).2; iexact B
    isplitl [H3]; · iexact H3
    iexact H4
theorem six_scr (M : Memref sig .tc .vmem S6x128 .f32) (c : Dev nD) : Raw (F := F) M.view c ⊣⊢ Six c M := raw_six M.view c

/-- One direction's message buffers. -/
theorem lane_scr (d : Bool) (c : Dev nD) : (iprop(Raw (F := F) (sbM d).view c ∗ Raw (rvM d).view c ∗ Raw (agM d).view c) : AP F)
    ⊣⊢ iprop(LaneScr c d false ∗ LaneScr c d true) := by
  unfold LaneScr
  constructor
  · iintro ⟨H1, H2, H3⟩
    ihave A := (sb_slots d c).1 $$ H1
    ihave B := (rv_slots d c).1 $$ H2
    ihave C := (ag_slots d c).1 $$ H3
    unfold Slots
    icases A with ⟨A1, A2⟩
    icases B with ⟨B1, B2⟩
    icases C with ⟨C1, C2⟩
    iframe A1 B1 C1 A2 B2 C2
  · iintro ⟨⟨A1, B1, C1⟩, A2, B2, C2⟩
    isplitl [A1 A2]
    · iapply (sb_slots d c).2; unfold Slots; isplitl [A1]; · iexact A1
      iexact A2
    isplitl [B1 B2]
    · iapply (rv_slots d c).2; unfold Slots; isplitl [B1]; · iexact B1
      iexact B2
    iapply (ag_slots d c).2; unfold Slots; isplitl [C1]; · iexact C1
    iexact C2

/-- The sixteen buffers, in the order they are declared. -/
def Sixteen (c : Dev nD) : AP F :=
  iprop(Raw (locM false).view c ∗ Raw (locM true).view c ∗ Raw (accM false).view c ∗ Raw (accM true).view c ∗ Raw (sbM false).view c ∗ Raw (sbM true).view c
    ∗ Raw (rvM false).view c ∗ Raw (rvM true).view c ∗ Raw (agM false).view c ∗ Raw (agM true).view c ∗ Raw (oqM false).view c ∗ Raw (oqM true).view c
    ∗ Raw (dqM false).view c ∗ Raw (dqM true).view c ∗ Raw avM.view c ∗ Raw aiM.view c)

theorem scratch_eq (c : Dev nD) : (Pipeline.scopedRest (Ix := ℕ) (Name := ℕ) (U := UU) (Lvl := ℕ) (Val := Elt F) spec0 c : AP F) = Sixteen c := by
  rw [scopedRest0_eq]
  simp only [raw_whole]
  rfl

theorem scr_iff (c : Dev nD) : Sixteen (F := F) c ⊣⊢ Scr c := by
  unfold Sixteen Scr Lanes
  constructor
  · iintro ⟨L0, L1, A0, A1, S0, S1, R0, R1, G0, G1, Q0, Q1, D0, D1, V, I⟩
    ihave X0 := (dir_scr false c).1 $$ [L0 A0 Q0 D0]
    · iframe L0 A0 Q0 D0
    ihave X1 := (dir_scr true c).1 $$ [L1 A1 Q1 D1]
    · iframe L1 A1 Q1 D1
    ihave Y0 := (lane_scr false c).1 $$ [S0 R0 G0]
    · iframe S0 R0 G0
    ihave Y1 := (lane_scr true c).1 $$ [S1 R1 G1]
    · iframe S1 R1 G1
    icases Y0 with ⟨Y00, Y01⟩
    icases Y1 with ⟨Y10, Y11⟩
    isplitl [Y00 Y01 Y10 Y11]
    · isplitl [Y00]; · iexact Y00
      isplitl [Y10]; · iexact Y10
      isplitl [Y01]; · iexact Y01
      iexact Y11
    isplitl [X0 X1]
    · isplitl [X0]; · iexact X0
      iexact X1
    isplitl [V]; · iapply (six_scr avM c).1; iexact V
    iapply (six_scr aiM c).1; iexact I
  · iintro ⟨⟨Y00, Y10, Y01, Y11⟩, ⟨X0, X1⟩, V, I⟩
    ihave X0 := (dir_scr false c).2 $$ X0
    ihave X1 := (dir_scr true c).2 $$ X1
    ihave Y0 := (lane_scr false c).2 $$ [Y00 Y01]
    · isplitl [Y00]; · iexact Y00
      iexact Y01
    ihave Y1 := (lane_scr true c).2 $$ [Y10 Y11]
    · isplitl [Y10]; · iexact Y10
      iexact Y11
    ihave V := (six_scr avM c).2 $$ V
    ihave I := (six_scr aiM c).2 $$ I
    icases X0 with ⟨L0, A0, Q0, D0⟩
    icases X1 with ⟨L1, A1, Q1, D1⟩
    icases Y0 with ⟨S0, R0, G0⟩
    icases Y1 with ⟨S1, R1, G1⟩
    iframe L0 L1 A0 A1 S0 S1 R0 R1 G0 G1 Q0 Q1 D0 D1 V I

/-! ## The partial product, whole and in two shares -/

theorem part_shares (P : Dev nD → pM.view.ty.Contents (Elt F)) (c : Dev nD) :
    ((c : Thread nD τ).loc main_v1 ↦{fullShare} (P c) : AP F) ⊣⊢ iprop(PW P false c ∗ PW P true c) :=
  pointsTo_share (PosShare.mem_left_op_right fullShare)

end Cert.Ring
-- ==== Proof.Oblig.lean ====
/-
  What the kernel call of a device asks of its body, and that the body meets it.
-/
module

public import proofs.«01_k».proof.Proof.Core
public import proofs.«01_k».proof.Proof.Gen.KernelIdeal.Points
public import proofs.«01_k».proof.Proof.Gen.KernelIdeal.Launch
public import Idealize.ShloMosaic.Lib.Pipeline.FrameBody

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-- What a device's result holds in the end: the one contents its pieces leave. -/
def res (P : Dev nD → pM.view.ty.Contents (Elt F)) (f₀ : (c : Dev nD) → oM.view.ty.Contents (Elt F)) (c : Dev nD) : oM.view.ty.Contents (Elt F) :=
  open Classical in if h : ∃ g, OutOk P c g then h.choose else f₀ c

theorem res_eq {f₀ : (c : Dev nD) → oM.view.ty.Contents (Elt F)} {g} (h : OutOk P c g) : res P f₀ c = g := by
  unfold res
  rw [dif_pos ⟨g, h⟩]
  exact out_unique c (Exists.choose_spec (⟨g, h⟩ : ∃ g, OutOk P c g)) h

theorem o_res (f₀ : (c : Dev nD) → oM.view.ty.Contents (Elt F)) : OOut P c ⊢ ((c : Thread nD τ).loc main_v24 ↦{fullShare} (res P f₀ c) : AP F) := by
  iintro H
  ihave H := (o_out c) $$ H
  icases H with ⟨%g, %hg, H⟩
  rw [res_eq hg]
  iapply (Entails.of_eq (show (oM.view.loc c ↦[oM.view.set]{fullShare} g : AP F) = ((c : Thread nD τ).loc main_v24 ↦{fullShare} g) from congrArg (fun S => (oM.view.loc c ↦[S]{fullShare} g : AP F)) (View.set_whole main_v24)))
  iexact H

/-- What the call needs beside its buffers: every cell's round, the payments, the neighbours' being ready. -/
def Xk (P : Dev nD → pM.view.ty.Contents (Elt F)) (c : Dev nD) : AP F :=
  iprop(∃ κ, Ctx P κ ∗ (Every (fun k => At c k 0) ∗ At c .bar 0) ∗ Pay0 c ∗ (reached ER (cel (nb true c) .bar) 0 ∗ reached ER (cel (nb false c) .bar) 0))
def Yk (c : Dev nD) : AP F := Zr c .bar

/-- Before the body and after it. -/
def PhiIn (P : Dev nD → pM.view.ty.Contents (Elt F)) (c : Dev nD) : AP F :=
  iprop(Xk P c ∗ Sixteen c ∗ (∃ r, prngReg c r) ∗ ((c : Thread nD τ).loc main_v1 ↦{fullShare} (P c)) ∗ Raw (View.whole main_v24) c)
def PhiOut (P : Dev nD → pM.view.ty.Contents (Elt F)) (f₀ : (c : Dev nD) → oM.view.ty.Contents (Elt F)) (c : Dev nD) : AP F :=
  iprop((Every (Zr c) ∗ Yk c) ∗ Sixteen c ∗ (∃ r, prngReg c r) ∗ ((c : Thread nD τ).loc main_v1 ↦{fullShare} (P c)) ∗ ((c : Thread nD τ).loc main_v24 ↦{fullShare} (res P f₀ c)))

theorem body_whole (m1 m2 m3 : Memref sig .tc .smem S1 .i32) (f₀ : (c : Dev nD) → oM.view.ty.Contents (Elt F)) (Φ : PUnit → AP F) :
    iprop((Piece m1.view c (fun _ => posW c) ∗ Piece m2.view c (fun _ => rgtW c) ∗ Piece m3.view c (fun _ => lftW c)) ∗ PhiIn P c ∗ Owe c (owedAll c))
    ⊢ iprop(((Piece m1.view c (fun _ => posW c) ∗ Piece m2.view c (fun _ => rgtW c) ∗ Piece m3.view c (fun _ => lftW c)) -∗ PhiOut P f₀ c ∗ Owe c [] -∗ Φ ⟨⟩)
      -∗ wpq c (body m1 m2 m3) Φ) := by
  unfold PhiIn Xk
  iintro ⟨HW, ⟨⟨%κ, #HC, HA, HP, HR⟩, HS, Hp, Hv, Ho⟩, HO⟩ Hk
  ihave HS := (scr_iff c).1 $$ HS
  ihave Hv := (part_shares P c).1 $$ Hv
  ihave Ho := (show Raw (View.whole main_v24) c ⊢ (OIn c : AP F) from o_in c) $$ Ho
  ihave HB := (body_pre (P := P) (c := c)) $$ [HA HS Hv Ho HP HR]
  · iframe HA HS Hv Ho HP HR
  icases HB with ⟨HB, HI⟩
  iapply (wp_fupd frame (wpE defs₀ VV (c : Thread nD τ) none) Set.univ (body m1 m2 m3) Φ)
  iapply (body_run (P := P) (κ := κ) (c := c) m1 m2 m3) $$ [HW HB HO]
  · iframe HW HC HB HO
  iintro HW ⟨HE, HO⟩
  imod (body_post (P := P) (κ := κ) (c := c)) $$ [HE HI] with ⟨HZ, HS, Hv, Ho⟩
  · iframe HC HE HI
  imodintro
  iapply Hk $$ HW
  isplitr [HO]
  · unfold PhiOut Yk
    ihave HS := (scr_iff c).2 $$ HS
    ihave Hv := (part_shares P c).2 $$ Hv
    ihave Ho := (o_res f₀) $$ Ho
    iframe HZ HS Hp Hv Ho
  iexact HO

/-! ## The call's data -/

variable (m : (ℓ : Loc nD τ sig) → Buf (Elt F) ℓ)

/-- Every device's partial product. -/
def Pm (c : Dev nD) : pM.view.ty.Contents (Elt F) := V1 m c main_v1
def f0 (c : Dev nD) : oM.view.ty.Contents (Elt F) := m ((c : Thread nD τ).loc main_v24)

def dat0 (c : Dev nD) : Pipeline.Dat τ (Elt F) ℕ ℕ UU ℕ cfg0 c where
  A := fun
    | (0 : Fin 3) => fun _ => posW c
    | (1 : Fin 3) => fun _ => rgtW c
    | (2 : Fin 3) => fun _ => lftW c
  after := fun
    | (0 : Fin 3) => fun _ _ => posW c
    | (1 : Fin 3) => fun _ _ => rgtW c
    | (2 : Fin 3) => fun _ _ => lftW c
  Φ t := if t.val = 0 then PhiIn (Pm m) c else PhiOut (Pm m) (f0 m) c
  q _ := fullShare
  owed t := if t.val = 0 then tallyL (owedAll c) else 0

theorem A_0 (c : Dev nD) : (dat0 m c).A 0 = V1 m c main_v11 := by rw [V1_pos]; exact funext fun i => (word_pos c i).symm
theorem A_1 (c : Dev nD) : (dat0 m c).A 1 = V1 m c main_v17 := by rw [V1_rgt]; exact funext fun i => (word_rgt c i).symm
theorem A_2 (c : Dev nD) : (dat0 m c).A 2 = V1 m c main_v23 := by rw [V1_lft]; exact funext fun i => (word_lft c i).symm

theorem before_0 (c : Dev nD) (d) : (dat0 m c).before 0 t0_0 d = fun _ => posW c := by
  rw [Pipeline.Dat.before_fetched _ 0 t0_0 (fetch0_0 _)]; rfl
theorem before_1 (c : Dev nD) (d) : (dat0 m c).before 1 t0_0 d = fun _ => rgtW c := by
  rw [Pipeline.Dat.before_fetched _ 1 t0_0 (fetch0_1 _)]; rfl
theorem before_2 (c : Dev nD) (d) : (dat0 m c).before 2 t0_0 d = fun _ => lftW c := by
  rw [Pipeline.Dat.before_fetched _ 2 t0_0 (fetch0_2 _)]; rfl

theorem owed_first (c : Dev nD) : (dat0 m c).owed 0 = tallyL (owedAll c) := rfl
theorem owed_last (c : Dev nD) : (dat0 m c).owed (Fin.last _) = 0 := by
  show (if (Fin.last cfg0.N).val = 0 then tallyL (owedAll c) else 0) = 0
  rw [Fin.val_last, if_neg (by rw [show cfg0.N = 1 from N_0]; decide)]
theorem Phi_first (c : Dev nD) : (dat0 m c).Φ 0 = PhiIn (Pm m) c := rfl
theorem Phi_last (c : Dev nD) : (dat0 m c).Φ (Fin.last _) = PhiOut (Pm m) (f0 m) c := by
  show (if (Fin.last cfg0.N).val = 0 then PhiIn (Pm m) c else PhiOut (Pm m) (f0 m) c) = _
  rw [Fin.val_last, if_neg (by rw [show cfg0.N = 1 from N_0]; decide)]

theorem owes_go (c : Dev nD) (t : Fin (cfg0.N + 1)) (l : List (Pay nD τ sig)) (h : (dat0 m c).owed t = tallyL l) : Owe c l ⊢ ((dat0 m c).owesAt 0 t : AP F) := by
  unfold Pipeline.Dat.owesAt Pipeline.owesWithin Pipeline.Dat.bound Owe; rw [h]
  iintro ⟨%W, HO⟩; iexists W; isplitr; · ipureintro; exact fun _ _ => Or.inl trivial
  iexact HO
theorem owes_come (c : Dev nD) (t : Fin (cfg0.N + 1)) (l : List (Pay nD τ sig)) (h : (dat0 m c).owed t = tallyL l) : ((dat0 m c).owesAt 0 t : AP F) ⊢ Owe c l := by
  unfold Pipeline.Dat.owesAt Pipeline.owesWithin Owe; rw [h]
  iintro ⟨%W, -, HO⟩; iexists W; iexact HO

theorem call_body : (defs₀ .tc cfg0.body (cfg0.bodyArgs t0_0 (cfg0.slots t0_0)) : PG F PUnit) = body (st0_0 t0_0) (st0_1 t0_0) (st0_2 t0_0) :=
  (show (defs₀ .tc cfg0.body (cfg0.bodyArgs t0_0 (cfg0.slots t0_0)) : PG F PUnit) = bodyAt0 t0_0 from rfl).trans (body_eq _ _ _ _ _ _)
/-- The body meets what the call asks of it. -/
theorem body_ok (c : Dev nD) : Pipeline.BodyObligation (dat0 m c) defs₀ VV 0 Set.univ := fun t => by
  obtain rfl := fin_N0 t
  rw [bigSep_W0, bigSep_W0]
  rw [show (dat0 m c).Φ t0_0.castSucc = PhiIn (Pm m) c from rfl, show (dat0 m c).Φ t0_0.succ = PhiOut (Pm m) (f0 m) c from Phi_last m c, call_body]
  simp only [before_0, before_1, before_2]
  iintro ⟨HI, HO, ⟨%d0, H0⟩, ⟨%d1, H1⟩, ⟨%d2, H2⟩⟩
  ihave HO := (owes_come m c t0_0.castSucc (owedAll c) (show (dat0 m c).owed t0_0.castSucc = tallyL (owedAll c) from rfl)) $$ HO
  have hb := body_whole (P := Pm m) (c := c) (st0_0 t0_0) (st0_1 t0_0) (st0_2 t0_0) (f0 m)
  generalize (body (st0_0 t0_0) (st0_1 t0_0) (st0_2 t0_0) : PG F PUnit) = q at hb ⊢
  iapply (hb _) $$ [HI HO H0 H1 H2]
  · isplitl [H0 H1 H2]
    · isplitl [H0]; · iapply (Entails.of_eq (show (owns c (st0_0 t0_0) fullShare (fun _ => posW c) : AP F) = Piece (st0_0 t0_0).view c (fun _ => posW c) from rfl)); iexact H0
      isplitl [H1]; · iapply (Entails.of_eq (show (owns c (st0_1 t0_0) fullShare (fun _ => rgtW c) : AP F) = Piece (st0_1 t0_0).view c (fun _ => rgtW c) from rfl)); iexact H1
      iapply (Entails.of_eq (show (owns c (st0_2 t0_0) fullShare (fun _ => lftW c) : AP F) = Piece (st0_2 t0_0).view c (fun _ => lftW c) from rfl)); iexact H2
    isplitl [HI]; · iexact HI
    iexact HO
  iintro HW ⟨HE, HO⟩
  isplitl [HE]; · iexact HE
  isplitl [HO]; · iapply (owes_go m c t0_0.succ [] (show (dat0 m c).owed t0_0.succ = tallyL [] from owed_last m c)); iexact HO
  iexact HW

end Cert.Ring
-- ==== Proof.Region.lean ====
/-
  The kernel call of a device as a segment of its program: what it is entered from, what it leaves.
-/
module

public import proofs.«01_k».proof.Proof.Oblig
public import proofs.«01_k».proof.Proof.Gen.KernelIdeal.Regions
public import Idealize.ShloMosaic.Lib.Pipeline.RegionTalk
public import Idealize.ShloMosaic.Lib.Rounds.Family

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

variable {P : Dev nD → pM.view.ty.Contents (Elt F)} {κ : GSem nD τ sig → ℕ} {c : Dev nD}

/-- What the launch keeps for the call: the ledger of rounds, the rights to open its own semaphores' rounds, its tokens and credits. -/
def Tk (P : Dev nD → pM.view.ty.Contents (Elt F)) (c : Dev nD) : AP F :=
  iprop((∃ κ, Ctx P κ) ∗ (At c .bar 0 ∗ bigSep Finset.univ fun i : Fin KL.length => openTok ER (cel c (KL.get i)))
    ∗ (bigSepL TL (tokOf c) ∗ bigSepL CL (credOf c)) ∗ (reached ER (cel (nb true c) .bar) 0 ∗ reached ER (cel (nb false c) .bar) 0))

theorem own_sems (c : Dev nD) : (Pipeline.ownSems0 osem c : AP F) = Every (Zr c) :=
  (show (Pipeline.ownSems0 osem c : AP F) = bigSep Finset.univ fun i : Fin KL.length => Zr c (KL.get i) from rfl).trans ((chain_get KL (Zr c)).trans (every_eq _))

theorem open_all (c : Dev nD) : iprop(Tk P c ∗ Pipeline.ownSems0 osem c ∗ levAts (SiteBlocks.L NL) SiteBlocks.lv) ⊢ (iprop(|={Set.univ}=> Xk P c) : AP F) := by
  unfold Tk Xk
  iintro ⟨⟨⟨%κ, #HC⟩, ⟨HB, HT⟩, HP, HR⟩, HZ, -⟩
  have h1 : iprop(Ctx P κ ∗ bigSep Finset.univ fun i : Fin KL.length => openTok ER (cel c (KL.get i)))
      ⊢ (bigSep Finset.univ fun i : Fin KL.length => iprop(cellInv ER (Rd P) (κ (cel c (KL.get i))) (cel c (KL.get i)) ∗ openTok ER (cel c (KL.get i))) : AP F) :=
    bigSep_with_persistent (R := Ctx P κ) fun i _ => by
      unfold Ctx
      iintro ⟨⟨HI, -⟩, HT⟩
      isplitl [HI]; · iapply HI
      iexact HT
  imod (Rounds.cells_open ER (Rd P) (Finset.univ : Finset (Fin KL.length)) (fun i => cel c (KL.get i)) (fun i => κ (cel c (KL.get i))) (Es := Set.univ)
    (fun _ _ => Set.mem_univ _)) $$ [HT HZ] with HA
  · isplitl [HT]
    · iapply h1; isplitr; · iexact HC
      iexact HT
    iapply (Entails.of_eq (show (Pipeline.ownSems0 osem c : AP F) = bigSep Finset.univ fun i : Fin KL.length => semVal (cel c (KL.get i)) 0 from rfl))
    iexact HZ
  imodintro
  iexists κ
  isplitr; · iexact HC
  isplitl [HA HB]
  · isplitl [HA]
    · iapply (Entails.of_eq ((chain_get KL (fun k => At c k 0)).trans (every_eq _)))
      iexact HA
    iexact HB
  isplitl [HP]; · iapply pay_intro; iexact HP
  iexact HR

variable (m : (ℓ : Loc nD τ sig) → Buf (Elt F) ℓ)

/-- A device's buffers after the call. -/
def W2 (c : Dev nD) : Valuation τ sig (Elt F) := Function.update (V1 m c) main_v24 (res (Pm m) (f0 m) c)

theorem W2_out (c : Dev nD) : W2 m c main_v24 = res (Pm m) (f0 m) c := by unfold W2; exact Function.update_self _ _ _
theorem W2_ne (c : Dev nD) (r : DevRef τ sig) (h : r ≠ Proc.devRef .tc main_v24) : W2 m c r = V1 m c r := by unfold W2; exact Function.update_of_ne h _ _
theorem W2_arg0 (c : Dev nD) : W2 m c main_arg0 = m ((c : Thread nD τ).loc main_arg0) :=
  (W2_ne m c _ (by decide)).trans ((V1_of m c main_arg0 (by decide)).trans rfl)
theorem W2_arg1 (c : Dev nD) : W2 m c main_arg1 = m ((c : Thread nD τ).loc main_arg1) :=
  (W2_ne m c _ (by decide)).trans ((V1_of m c main_arg1 (by decide)).trans rfl)

/-- The two buffers the body addresses itself, and all that no window moves. -/
def Hs : Finset (DevRef τ sig) := {Proc.devRef .tc main_v1, Proc.devRef .tc main_v24}
def Sr : Finset (DevRef τ sig) := Pipeline.ucRefs τ sig \ Pipeline.arrRefs (τ := τ) spec0

theorem Hs_sub : Hs ⊆ Sr := by decide +kernel

theorem held_Hs (c : Dev nD) (W : Valuation τ sig (Elt F)) : (StableHlo.held (c : Thread nD τ) Hs W : AP F)
    = iprop(((c : Thread nD τ).loc main_v1 ↦{fullShare} (W main_v1)) ∗ ((c : Thread nD τ).loc main_v24 ↦{fullShare} (W main_v24))) := by
  unfold StableHlo.held Hs
  rw [bigSep_insert (by decide), bigSep_singleton]; rfl

def pdats : (p : Fin 1) → (c : Dev nD) → Pipeline.Dat τ (Elt F) ℕ ℕ UU ℕ (cfgs p) c
  | 0 => dat0 m

theorem call_in (c : Dev nD) : iprop(Pipeline.scopedRest (Ix := ℕ) (Name := ℕ) (U := UU) (Lvl := ℕ) (Val := Elt F) spec0 c ∗ (∃ r, prngReg c r) ∗ StableHlo.held (c : Thread nD τ) Hs (V1 m c) ∗ Xk (Pm m) c)
    ⊢ (PhiIn (Pm m) c : AP F) := by
  rw [scratch_eq, held_Hs]
  unfold PhiIn
  iintro ⟨HS, Hp, ⟨Hv, Ho⟩, HX⟩
  isplitl [HX]; · iexact HX
  isplitl [HS]; · iexact HS
  isplitl [Hp]; · iexact Hp
  isplitl [Hv]; · iexact Hv
  iapply (Entails.of_eq (raw_whole main_v24 c))
  iexists (V1 m c main_v24)
  iexact Ho

theorem call_out (c : Dev nD) : (PhiOut (Pm m) (f0 m) c : AP F)
    ⊢ iprop(Pipeline.scopedRest (Ix := ℕ) (Name := ℕ) (U := UU) (Lvl := ℕ) (Val := Elt F) spec0 c ∗ (∃ r, prngReg c r) ∗ StableHlo.held (c : Thread nD τ) Hs (W2 m c) ∗ Pipeline.ownSems0 osem c ∗ Yk c) := by
  rw [scratch_eq, held_Hs, own_sems, W2_out, W2_ne m c (Proc.devRef .tc main_v1) (by decide)]
  unfold PhiOut
  iintro ⟨⟨HZ, HY⟩, HS, Hp, Hv, Ho⟩
  isplitl [HS]; · iexact HS
  isplitl [Hp]; · iexact Hp
  isplitl [Hv Ho]
  · isplitl [Hv]; · iexact Hv
    iexact Ho
  isplitl [HZ]; · iexact HZ
  iexact HY

theorem levels_ok : ∀ e ∈ CL, 0 < e.2.2.1 ∧ e.2.2.1 < NL := by decide +kernel

theorem cut_owed (c : Dev nD) (g : GSem nD τ sig) (i : ℕ) (h : 0 < tallyL (owedAll c) g i) : i ∈ SiteBlocks.L NL g ∧ 0 < i := by
  rw [owed_tally] at h
  obtain ⟨x, hx, rfl, rfl⟩ := Idealize.ShloMosaic.TalkSites.tallyL_pos h
  obtain ⟨e, he, rfl⟩ := List.mem_map.mp hx
  exact ⟨SiteBlocks.mem_L' rfl (levels_ok e he).2, (levels_ok e he).1⟩

theorem cut_all (c : Dev nD) (t : Fin (cfg0.N + 1)) (g : GSem nD τ sig) (i : ℕ) (h : 0 < (dat0 m c).owed t g i) : i ∈ SiteBlocks.L NL g ∧ 0 < i := by
  have e : (dat0 m c).owed t = if t.val = 0 then tallyL (owedAll c) else 0 := rfl
  rw [e] at h
  split at h
  · exact cut_owed c g i h
  · exact absurd h (Nat.lt_irrefl 0)

theorem own_facts : Pipeline.OwnSemFacts spec0 osem := by decide +kernel

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

set_option backward.isDefEq.respectTransparency.types false in
def reg0 : Pipeline.RegionSeg (pcfgs (F := F)) adm (pdats m) 0 defs₀ VV (SiteBlocks.L NL) SiteBlocks.lv 0 :=
  Pipeline.RegionSeg.ofTalk (pcfgs (F := F)) adm (pdats m) 0 defs₀ VV (SiteBlocks.L NL) SiteBlocks.lv 0 osem own_facts
    Hs Sr Hs_sub kitP rfl (fun c => (body_ok m c).loose)
    (fun _ => 0) (fun c => tallyL (owedAll c)) (fun c => (owed_first m c).trans (zero_add _).symm) (owed_last m) (fun _ => rfl)
    (fun _ w => by fin_cases w <;> rfl)
    (V1 m) (W2 m) (fun c b hb => W2_ne m c b fun h => (Finset.mem_sdiff.mp hb).2 (by rw [h]; decide))
    (Tk (Pm m)) Yk (Xk (Pm m)) Yk (fun c => open_all c) (fun c => call_in m c)
    (fun c => (Entails.of_eq (Phi_last m c)).trans (call_out m c))
    (fun c => by iintro H; imodintro; iexact H)
    (fun _ => 0)
    ⟨fun c w s => SiteBlocks.mem_L c _ (by decide), fun _ _ _ => le_refl 0, fun c t g i h => cut_all m c t g i h⟩
    (fun _ => iprop(emp))
    (fun c w => by
      fin_cases w
      · exact A_0 m c
      · exact A_1 m c
      · exact A_2 m c)
    (fun c w => by
      fin_cases w
      · exact ((dat0 m c).arrAt_in 0 rfl _).trans ((A_0 m c).trans (W2_ne m c _ (by decide)).symm)
      · exact ((dat0 m c).arrAt_in 1 rfl _).trans ((A_1 m c).trans (W2_ne m c _ (by decide)).symm)
      · exact ((dat0 m c).arrAt_in 2 rfl _).trans ((A_2 m c).trans (W2_ne m c _ (by decide)).symm))

end Cert.Ring
-- ==== Proof.Launch.lean ====
/-
  The whole machine's run: the ledger of rounds set up, dealt to the devices, and the final memory read.
-/
module

public import proofs.«01_k».proof.Proof.Region

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

variable {F : FTy → Type} [FloatOps F]

/-! ## The cells and the tokens -/

def barE : Dev nD ↪ GSem nD τ sig := ⟨fun c => cel c .bar, fun _ _ h => congrArg (fun g : GSem nD τ sig => g.1.1) h⟩
def ownE : Dev nD × Fin KL.length ↪ GSem nD τ sig :=
  ⟨fun x => cel x.1 (KL.get x.2), fun _ _ h => Prod.ext (congrArg (fun g : GSem nD τ sig => g.1.1) h) (osem_inj (congrArg Prod.snd h))⟩
def tokE : Dev nD × Fin TL.length ↪ GSem nD τ sig × ℕ × DD := ⟨tokKey, tokKey_inj⟩

def barS : Finset (GSem nD τ sig) := Finset.univ.map barE
def ownS : Finset (GSem nD τ sig) := Finset.univ.map ownE
def tokS : Finset (GSem nD τ sig × ℕ × DD) := Finset.univ.map tokE

theorem cells_apart : Disjoint barS ownS := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)

theorem cel_mem (c : Dev nD) (k : K) : cel c k ∈ barS ∪ ownS := by
  rcases KL_all k with rfl | h
  · exact Finset.mem_union_left _ (Finset.mem_map_of_mem barE (Finset.mem_univ c))
  · obtain ⟨i, rfl⟩ := List.get_of_mem h
    exact Finset.mem_union_right _ (Finset.mem_map_of_mem ownE (Finset.mem_univ (c, i)))

/-- What the protocol starts from, all of it put down at device 0 until it is dealt. -/
def startG : AP F := BI.own (ER (launchOf barS ownS tokS))
def GG (c : Dev nD) : AP F := if c = 0 then startG else iprop(emp)
theorem GG_all : bigSep Finset.univ (GG (F := F)) = startG := by
  rw [bigSep_univ_at _ (0 : Dev nD), bigSep_congr (s := Finset.univ.erase (0 : Dev nD)) (Ψ := fun _ => (BI.emp : AP F))
      fun c hc => by unfold GG; rw [if_neg (Finset.ne_of_mem_erase hc)]; rfl, BI.bigSep_emp_const]
  unfold GG; rw [if_pos rfl]
  exact BI.equiv_iff.mp sep_emp
theorem GG_all' : bigSep Finset.univ (GG (F := F)) = (BI.own (ER (launchOf barS ownS tokS)) : AP F) := GG_all

def u₀ : UU :=
  (initOf (Pipeline.cells cfgs cellOf_inj) (Pipeline.launchToks cfgs cellOf_inj), launchOf barS ownS tokS)

variable (m : (ℓ : Loc nD τ sig) → Buf (Elt F) ℓ)

/-! ## What is dealt -/

def Common (P : Dev nD → pM.view.ty.Contents (Elt F)) (κ : GSem nD τ sig → ℕ) : AP F :=
  iprop(Ctx P κ ∗ bigSep barS fun g => reached ER g 0)
instance (P : Dev nD → pM.view.ty.Contents (Elt F)) (κ : GSem nD τ sig → ℕ) : BI.Persistent (Common P κ) := by unfold Common; infer_instance

def Mine (c : Dev nD) : AP F :=
  iprop((atPos ER (cel c .bar) 0 ∅ 0 ∗ bigSep Finset.univ fun i : Fin KL.length => openTok ER (cel c (KL.get i)))
    ∗ bigSepL TL (tokOf c))
def Tally0 (ρ : Dev nD → PrngReg) (c : Dev nD) : AP F :=
  iprop(bigSepL CL (credOf c) ∗ owes (c : Thread nD τ) (tallyL (owedAll c)) ∅ ∗ prngReg c (ρ c))

/-- The state of a device that its host operations leave alone. -/
def EE : Fin 2 → Dev nD → AP F
  | 0, c => iprop(Tk (Pm m) c ∗ (∃ r, prngReg c r) ∗ ∃ W, owes (c : Thread nD τ) (tallyL (owedAll c)) W)
  | 1, _ => iprop(emp)

theorem bar_seen (x : Dev nD) : (bigSep barS fun g => (reached ER g 0 : AP F)) ⊢ reached ER (cel x .bar) 0 :=
  bigSep_elim (Finset.mem_map_of_mem barE (Finset.mem_univ x))

theorem deal_one (ρ : Dev nD → PrngReg) (κ : GSem nD τ sig → ℕ) (c : Dev nD) : iprop(Common (Pm m) κ ∗ (Mine c ∗ Tally0 ρ c)) ⊢ EE m 0 c := by
  unfold Common Mine Tally0
  rw [show EE m 0 c = iprop(Tk (Pm m) c ∗ (∃ r, prngReg c r) ∗ ∃ W, owes (c : Thread nD τ) (tallyL (owedAll c)) W) from rfl]
  unfold Tk At
  iintro ⟨⟨#HC, #HR⟩, ⟨⟨HA, HT⟩, HK⟩, HCr, HO, Hp⟩
  isplitr [HO Hp]
  · isplitr; · iexists κ; iexact HC
    isplitl [HA HT]
    · isplitl [HA]
      · isplitl [HA]; · iexact HA
        iapply (bar_seen c); iexact HR
      iexact HT
    isplitl [HK HCr]
    · isplitl [HK]; · iexact HK
      iexact HCr
    isplitr; · iapply (bar_seen (nb true c)); iexact HR
    iapply (bar_seen (nb false c)); iexact HR
  isplitl [Hp]; · iexists (ρ c); iexact Hp
  iexists ∅; iexact HO

theorem unscoped_bar (c : Dev nD) : (unscopedSems0 c : AP F) = semVal (cel c .bar) 0 := by
  unfold unscopedSems0
  rw [show (Finset.univ.filter fun sm : SemLoc sig => ¬ sm.isScoped .tc) = {semOf .bar} from by decide +kernel, BI.bigSep_singleton]

theorem ctx_intro (P : Dev nD → pM.view.ty.Contents (Elt F)) (κ : GSem nD τ sig → ℕ) :
    iprop((bigSep (barS ∪ ownS) fun g => cellInv ER (Rd P) (κ g) g) ∗ levAts (SiteBlocks.L NL) SiteBlocks.lv) ⊢ (Ctx P κ : AP F) := by
  unfold Ctx
  iintro ⟨#H, #HL⟩
  isplitr
  · iintro %c %k
    iapply (show (bigSep (barS ∪ ownS) fun g => (cellInv ER (Rd P) (κ g) g : AP F)) ⊢ cellInv ER (Rd P) (κ (cel c k)) (cel c k) from bigSep_elim (cel_mem c k))
    iexact H
  iexact HL

theorem toks_dealt : (bigSep tokS fun x => (dutyTok ER x.1 x.2.1 x.2.2 : AP F)) ⊢ bigSep Finset.univ fun c : Dev nD => bigSepL TL (tokOf c) :=
  Entails.of_eq (by
    unfold tokS
    rw [bigSep_map, bigSep_univ_prod]
    exact bigSep_congr fun c _ => (show _ = bigSep Finset.univ fun i : Fin TL.length => tokOf c (TL.get i) from rfl).trans (chain_get TL (tokOf c)))
theorem opens_dealt : (bigSep ownS fun g => (openTok ER g : AP F)) ⊢ bigSep Finset.univ fun c : Dev nD => bigSep Finset.univ fun i : Fin KL.length => openTok ER (cel c (KL.get i)) :=
  Entails.of_eq (by unfold ownS; rw [bigSep_map, bigSep_univ_prod]; rfl)
theorem bars_dealt (Ψ : GSem nD τ sig → AP F) : bigSep barS Ψ = bigSep Finset.univ fun c : Dev nD => Ψ (cel c .bar) := by
  unfold barS; rw [bigSep_map]; rfl

/-- The launch: the ledger set up and every device given its part. -/
theorem deal (ρ : Dev nD → PrngReg) :
    iprop((bigSep Finset.univ fun c : Dev nD => iprop(unscopedSems0 c ∗ owes (c : Thread nD τ) (tallyL (owedAll c)) ∅
        ∗ Pipeline.launchCred (fun d => tallyL (owedAll d)) c ∗ prngReg c (ρ c) ∗ GG c)) ∗ levAts (SiteBlocks.L NL) SiteBlocks.lv)
      ⊢ (iprop(|={Set.univ}=> bigSep Finset.univ (EE m 0)) : AP F) := by
  have hone : (bigSep Finset.univ fun c : Dev nD => (iprop(unscopedSems0 c ∗ owes (c : Thread nD τ) (tallyL (owedAll c)) ∅
        ∗ Pipeline.launchCred (fun d => tallyL (owedAll d)) c ∗ prngReg c (ρ c) ∗ GG c) : AP F))
      ⊢ iprop((bigSep Finset.univ fun c : Dev nD => Tally0 ρ c) ∗ (bigSep Finset.univ fun c : Dev nD => semVal (cel c .bar) 0) ∗ bigSep Finset.univ (GG (F := F))) := by
    rw [← bigSep_sep', ← bigSep_sep']
    exact big_mono fun c _ => by
      unfold Tally0
      rw [unscoped_bar, launch_credits]
      iintro ⟨Hu, HO, HC, Hp, HG⟩
      isplitl [HO HC Hp]
      · isplitl [HC]; · iexact HC
        isplitl [HO]; · iexact HO
        iexact Hp
      isplitl [Hu]; · iexact Hu
      iexact HG
  iintro ⟨H, #HL⟩
  ihave H := hone $$ H
  icases H with ⟨HR, Hv, HG⟩
  imod (Rounds.fund_launch ER (Rd (Pm m)) cells_apart (fun g _ h => h) tokS) $$ [Hv HG] with ⟨%κ, -, #Hinv, #Hr, Hat, Hopen, Htok⟩
  · isplitl [Hv]
    · iapply (Entails.of_eq (bars_dealt (F := F) (fun g => semVal g 0)).symm); iexact Hv
    iapply (Entails.of_eq (GG_all' (F := F))); iexact HG
  imodintro
  iapply (bigSep_with_persistent (R := Common (Pm m) κ) (Φ := fun c => iprop(Mine c ∗ Tally0 ρ c)) fun c _ => deal_one m ρ κ c)
  isplitr
  · unfold Common
    isplitr
    · iapply (ctx_intro (Pm m) κ); isplitr; · iexact Hinv
      iexact HL
    iexact Hr
  iapply (big_pair Finset.univ (fun c => Mine c) (fun c => Tally0 ρ c))
  isplitr [HR]
  · unfold Mine
    iapply (big_pair Finset.univ (fun c : Dev nD => iprop(atPos ER (cel c .bar) 0 ∅ 0 ∗ bigSep Finset.univ fun i : Fin KL.length => openTok ER (cel c (KL.get i)))) (fun c => bigSepL TL (tokOf c)))
    isplitr [Htok]
    · iapply (big_pair Finset.univ (fun c : Dev nD => atPos ER (cel c .bar) 0 ∅ 0) (fun c : Dev nD => bigSep Finset.univ fun i : Fin KL.length => openTok ER (cel c (KL.get i))))
      isplitl [Hat]
      · iapply (Entails.of_eq (bars_dealt (F := F) (fun g => atPos ER g 0 ∅ 0))); iexact Hat
      iapply opens_dealt; iexact Hopen
    iapply toks_dealt; iexact Htok
  iexact HR

/-! ## Into the call and out of it -/

theorem go_in (c : Dev nD) : iprop(StableHlo.held (c : Thread nD τ) (Pipeline.ucRefs τ sig) (V1 m c) ∗ EE m 0 c) ⊢ (reg0 m).pre c := by
  show _ ⊢ iprop(StableHlo.held (c : Thread nD τ) (Pipeline.arrRefs (τ := τ) spec0) (V1 m c) ∗ (∃ r, prngReg c r)
    ∗ (StableHlo.held (c : Thread nD τ) Sr (V1 m c) ∗ emp) ∗ Tk (Pm m) c ∗ ∃ Wd, owes (c : Thread nD τ) (0 + tallyL (owedAll c)) Wd)
  rw [zero_add, StableHlo.held_sub_split (c : Thread nD τ) (Pipeline.arrRefs_sub_ucRefs spec0 (by decide)) (V1 m c),
    show EE m 0 c = iprop(Tk (Pm m) c ∗ (∃ r, prngReg c r) ∗ ∃ W, owes (c : Thread nD τ) (tallyL (owedAll c)) W) from rfl]
  iintro ⟨⟨HA, HS⟩, HT, Hp, HO⟩
  isplitl [HA]; · iexact HA
  isplitl [Hp]; · iexact Hp
  isplitl [HS]
  · isplitl [HS]; · iexact HS
    iempintro
  isplitl [HT]; · iexact HT
  iexact HO

theorem go_out (c : Dev nD) : (reg0 m).post c
    ⊢ iprop((StableHlo.held (c : Thread nD τ) (Pipeline.ucRefs τ sig) (W2 m c) ∗ semVal (cel c .bar) 0) ∗ ∃ W, owes (c : Thread nD τ) (0 : CellTallies nD τ sig ℕ) W) := by
  show iprop(StableHlo.held (c : Thread nD τ) (Pipeline.arrRefs (τ := τ) spec0) (W2 m c) ∗ (∃ r, prngReg c r)
    ∗ (StableHlo.held (c : Thread nD τ) Sr (W2 m c) ∗ emp) ∗ Yk c ∗ ∃ Wd, owes (c : Thread nD τ) (0 : CellTallies nD τ sig ℕ) Wd) ⊢ _
  rw [StableHlo.held_sub_split (c : Thread nD τ) (Pipeline.arrRefs_sub_ucRefs spec0 (by decide)) (W2 m c)]
  iintro ⟨HA, -, ⟨HS, -⟩, HY, HO⟩
  isplitr [HO]
  · isplitl [HA HS]
    · isplitl [HA]; · iexact HA
      iexact HS
    unfold Yk; iexact HY
  iexact HO

theorem only_bar : ∀ sm : SemLoc sig, sm.isScoped .tc = false → sm = semOf .bar := by decide +kernel

abbrev inUc (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

set_option backward.isDefEq.respectTransparency.types false in
/-- From any memory with zero counters every run ends, with the arguments as they were, each device's result `res`, and every counter at zero. -/
theorem run_main (ρ : Dev nD → PrngReg) : θ_run (defs (F := F)) (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v24) = res (Pm m) (f0 m) c) ∧ r.2.sem = fun _ => 0) := by
  refine Pipeline.θ_run_regions_kit_dev_sems (pcfgs (F := F)) adm (pdats m) 0 cellOf_inj EP defs₀ VV (SiteBlocks.L NL) SiteBlocks.lv m ρ main
    (segs m VV (SiteBlocks.L NL) SiteBlocks.lv (EE m) 0 (pdats m) (reg0 m))
    (fun c Q => by
      rewrite [main_chain c, Pipeline.Seg.run_eq_chain,
        show (segs m VV (SiteBlocks.L NL) SiteBlocks.lv (EE m) 0 (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => tallyL (owedAll c)) (SiteBlocks.hL NL) (GG (F := F)) u₀
    (by
      unfold u₀
      iintro Hu
      ihave H := (ownU_pair _ _) $$ Hu
      icases H with ⟨HP, HX⟩
      imodintro
      isplitl [HP]; · iexact HP
      iapply (Entails.of_eq (GG_all' (F := F)).symm); iexact HX)
    (T₀ := fun c => iprop(StableHlo.held (c : Thread nD τ) (Pipeline.ucRefs τ sig) (V0 m c) ∗ EE m 0 c))
    (Tₙ := fun c => iprop(StableHlo.held (c : Thread nD τ) (Pipeline.ucRefs τ sig) (W2 m c) ∗ semVal (cel c .bar) 0))
    (hch := fun c => ⟨.rfl, go_in m c, go_out m c⟩)
    (hinit := ?_)
    (QY := fun c s => ((s.mem ((c : Thread nD τ).loc main_arg0) = m ((c : Thread nD τ).loc main_arg0)
        ∧ s.mem ((c : Thread nD τ).loc main_arg1) = m ((c : Thread nD τ).loc main_arg1))
        ∧ s.mem ((c : Thread nD τ).loc main_v24) = res (Pm m) (f0 m) c) ∧ s.sem (cel c .bar) = 0)
    (hfin := fun c s' => ?_)
    (hQ := fun s h hs => ⟨fun c => (h c).1, sem_eq_zero hs fun c sm hsm => by
      obtain rfl := only_bar sm hsm
      exact (h c).2⟩)
  · have hsplit : (bigSep Finset.univ fun c : Dev nD => (iprop(unscopedBufs c (fun b => m ((c : Thread nD τ).loc b)) ∗ unscopedSems0 c
          ∗ owes (c : Thread nD τ) (tallyL (owedAll c)) ∅ ∗ Pipeline.launchCred (fun d => tallyL (owedAll d)) c ∗ prngReg c (ρ c) ∗ GG c) : AP F))
        ⊢ iprop((bigSep Finset.univ fun c : Dev nD => StableHlo.held (c : Thread nD τ) (Pipeline.ucRefs τ sig) (V0 m c))
            ∗ bigSep Finset.univ fun c : Dev nD => iprop(unscopedSems0 c ∗ owes (c : Thread nD τ) (tallyL (owedAll c)) ∅
              ∗ Pipeline.launchCred (fun d => tallyL (owedAll d)) c ∗ prngReg c (ρ c) ∗ GG c)) := by
      rw [← bigSep_sep']
      exact bigSep_mono fun c _ => by rw [← Pipeline.unscopedBufs_held (Ix := ℕ) (Name := ℕ) (U := UU) (Lvl := ℕ) c (V0 m c)]; exact BI.Entails.refl _
    iintro ⟨H, HL⟩
    ihave H := hsplit $$ H
    icases H with ⟨Hh, Hr⟩
    imod (deal m ρ) $$ [Hr HL] with HE
    · isplitl [Hr]; · iexact Hr
      iexact HL
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (W2 m c) s') $$ [Hh HSI]
    · isplitl [Hh] <;> iassumption
    icases Hr with ⟨%h, HSI⟩
    imodintro
    isplitr
    · ipureintro
      exact ⟨⟨⟨(h _ (inUc main_arg0 (by decide))).trans (W2_arg0 m c), (h _ (inUc main_arg1 (by decide))).trans (W2_arg1 m c)⟩,
        (h _ (inUc main_v24 (by decide))).trans (W2_out m c)⟩, by simpa using hb⟩
    · iexact HSI

end Cert.Ring
-- ==== Proof.Same.lean ====
/- The two printed programs of the kernel are one text: definition by definition they are the same. -/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

theorem sig_eq : Cert.Kernel.sig = Cert.KernelIdeal.sig := by with_reducible_and_instances rfl
theorem labels_eq : Cert.Kernel.Λ₀ = Cert.KernelIdeal.Λ₀ := by with_reducible_and_instances rfl

set_option maxRecDepth 100000 in
set_option maxHeartbeats 40000000 in
/-- The kernel functions are one. -/
theorem body_same : Cert.Kernel.cc0_body (F := F) = Cert.KernelIdeal.cc0_body (F := F) := rfl

set_option maxRecDepth 100000 in
set_option maxHeartbeats 40000000 in
/-- The kernels' body tables are one: at their one label each runs its kernel function on the call's operands. -/
theorem defs0_same : Cert.Kernel.defs₀ (F := F) = Cert.KernelIdeal.defs₀ (F := F) := by
  unfold Cert.Kernel.defs₀ Cert.KernelIdeal.defs₀
  rw [body_same]
  refine congrArg Defs.onTc (funext fun l => funext fun a => ?_)
  rcases l with ⟨_ | n, h⟩
  · rcases a with ⟨t, s⟩
    exact congrArg (fun q => q) rfl
  · exact absurd h (by omega)

/-- The whole body tables are one. -/
theorem defs_same : Cert.Kernel.defs (F := F) = Cert.KernelIdeal.defs (F := F) :=
  congrArg (Pipeline.defs (Cert.KernelIdeal.pcfgs (F := F))) defs0_same

set_option maxRecDepth 100000 in
set_option maxHeartbeats 40000000 in
/-- The host programs are one. -/
theorem main_same : Cert.Kernel.main (F := F) = Cert.KernelIdeal.main (F := F) := rfl

end Cert.Same
-- ==== Proof.Frames.lean ====
/- The frames of the kernel: at the ideal reading and at the words. The two printed programs are one text, so one run covers
   both. -/
module

public import proofs.«01_k».proof.Proof.Launch
public import proofs.«01_k».proof.Defs
public import proofs.«01_k».proof.Proof.Same
public import Idealize.ShloMosaic.PureOps.BitExact

@[expose] public section

noncomputable section

namespace Cert.Ring

open Idealize.ShloMosaic Idealize.SL.Sem

/-- The frame of the kernel read ideally. -/
theorem frame_ideal : Cert.quiescent_KernelIdeal := fun m ρ _ =>
  (θ_run (Cert.KernelIdeal.defs (F := Ideal)) (onTc (τ := Cert.KernelIdeal.τ) (Cert.KernelIdeal.main (F := Ideal))) ⟨m, fun _ => 0, ρ⟩).mono
    (fun _ h => And.intro (fun c => (h.1 c).1) h.2) (run_main (F := Ideal) m ρ)

/-- The frame of the kernel over words. -/
theorem frame_words : Cert.quiescent_Kernel := fun m ρ _ => by
  rw [Cert.Same.main_same, Cert.Same.defs_same]
  exact (θ_run (Cert.KernelIdeal.defs (F := Bits)) (onTc (τ := Cert.KernelIdeal.τ) (Cert.KernelIdeal.main (F := Bits))) ⟨m, fun _ => 0, ρ⟩).mono
    (fun _ h => And.intro (fun c => (h.1 c).1) h.2) (run_main (F := Bits) m ρ)

end Cert.Ring
-- ==== Proof.Sums.lean ====
/- The values that the kernel leaves, read ideally: what the reduction's ring accumulates is, chunk by chunk, the sum of all
   devices' partial products. -/
module

public import proofs.«01_k».proof.Proof.Rows
public import Idealize.ShloMosaic.PureOps.Ideal
public import Idealize.ShloMosaic.PureOps.Ideal.Laws

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

open scoped BigOperators

/-! ## Half blocks and casts of one leading unit -/

section casts
variable {α : Type}

theorem up64_at (x : S64x8192.Idx → α) (i : S1x64x8192.Idx) : up64 x i = x (fun a => i a.succ) :=
  shapeCast_addUnit_apply ![64, 8192] x _ i
theorem up32_at (x : S32x8192.Idx → α) (i : S1x32x8192.Idx) : up32 x i = x (fun a => i a.succ) :=
  shapeCast_addUnit_apply ![32, 8192] x _ i
theorem dn_up32 (x : S32x8192.Idx → α) (h : S1x32x8192.ShapeCasts S32x8192) : shapeCast S32x8192 (up32 x) h = x := shapeCast_shapeCast ..
theorem dn_up64 (x : S64x8192.Idx → α) (h : S1x64x8192.ShapeCasts S64x8192) : shapeCast S64x8192 (up64 x) h = x := shapeCast_shapeCast ..

theorem half_up (b : Bool) (x : S64x8192.Idx → α) : half b (up64 x) = up32 fun j => x (hhIx b j) := by
  funext j
  rw [up32_at]
  show up64 x (hIx b j) = _
  rw [up64_at]
  let j' : S32x8192.Idx := fun a => j a.succ
  show x (fun a => hIx b j a.succ) = x (hhIx b j')
  refine congrArg x (Shape.idx_ext₂ ?_ ?_)
  · exact (hIx_row b j).trans (hhIx_row b j').symm
  · refine Eq.trans ?_ (hhIx_col b j').symm
    show (hIx b j 2).val = (j 2).val
    simp [hIx, Rect.emb, Rect.unit]

theorem glue_halves (x : S64x8192.Idx → α) : glue (up32 fun j => x (hhIx false j)) (up32 fun j => x (hhIx true j)) = up64 x := by
  funext i
  rcases hIx_cov i with ⟨j, rfl⟩ | ⟨j, rfl⟩
  · rw [glue_false, ← half_up]; rfl
  · rw [glue_true, ← half_up]; rfl

end casts

/-! ## The payloads, ideally -/

theorem payInit_ideal (x : S64x8192.Idx → Ideal .f32) : payInit (F := Ideal) (up64 x) = up64 x := by
  unfold payInit
  rw [dn_up64]
  rfl
theorem addV_ideal (x : S32x8192.Idx → Ideal .bf16) (y : S32x8192.Idx → Ideal .f32) :
    addV (F := Ideal) (up32 x) (up32 y) = fun j => (x j + y j : EReal) := by
  unfold addV
  rw [dn_up32, dn_up32]
  rfl
theorem payAdd_ideal (x : S32x8192.Idx → Ideal .bf16) (y : S32x8192.Idx → Ideal .f32) :
    payAdd (F := Ideal) (up32 x) (up32 y) = up32 fun j => (x j + y j : EReal) := by
  unfold payAdd
  rw [addV_ideal]
  rfl
theorem payLast_ideal (x : S32x8192.Idx → Ideal .bf16) (y : S32x8192.Idx → Ideal .f32) :
    payLast (F := Ideal) (up32 x) (up32 y) = up32 fun j => (x j + y j : EReal) := by
  unfold payLast
  rw [addV_ideal]

/-! ## Which rows -/

/-- The chunk a device sends at step `s` of the reduction. -/
def cS (d : Bool) (p : ℕ) : ℕ → ℕ
  | 0 => p
  | s + 1 => cP d p s
theorem cS_lt (d : Bool) {p : ℕ} (h : p < 32) : ∀ s, cS d p s < 32
  | 0 => h
  | _ + 1 => cP_lt ..
/-- Row `j` of half `d` of chunk `k`. -/
def gx (d : Bool) (k : Fin 32) (j : S64x8192.Idx) : S4096x8192.Idx := (r64 d k.val k.isLt).emb j
def ck (d : Bool) (s : ℕ) (c : Dev nD) : Fin 32 := ⟨cS d (posT c) s, cS_lt d (posT_lt c) s⟩
/-- The device `t` places upstream. -/
def upst (d : Bool) (t : ℕ) (c : Dev nD) : Dev nD := (nb (!d))^[t] c

theorem ck_up : ∀ (d : Bool) (c : Dev nD) (s : Fin 31), ck d s.val (nb (!d) c) = ck d (s.val + 1) c := by decide +kernel
theorem upst_all : ∀ (d : Bool) (c : Dev nD), Function.Bijective fun t : Fin 32 => upst d t.val c := by decide +kernel

theorem read_at {sp : Space} {s : Shape} {e : EltTy} {u v : View sig .tc sp s e} (h : u = v) (Val : EltTy → Type) (f : u.ty.Contents Val) :
    u.read Val f = v.read Val (cast (congrArg (fun w : View sig .tc sp s e => w.ty.Contents Val) h) f) := by
  subst h; rfl

variable (P : Dev nD → pM.view.ty.Contents (Elt Ideal))

/-- Device `c`'s partial product at an index. -/
def Pt (c : Dev nD) (i : S4096x8192.Idx) : EReal := P c i

theorem Pin0_at (d : Bool) (c : Dev nD) : Pin0 P d c = fun j => Pt P c (gx d (ck d 0 c) j) := by
  cases d
  · exact (read_at (pR0_rows c false) (Elt Ideal) (P c)).trans rfl
  · exact (read_at (pR0_rows c true) (Elt Ideal) (P c)).trans rfl
theorem Pin_at (d : Bool) (c : Dev nD) {s : ℕ} (h : s < 31) : Pin P d s c = fun j => Pt P c (gx d (ck d (s + 1) c) j) := by
  cases d
  · exact (read_at (pR_rows c false h) (Elt Ideal) (P c)).trans rfl
  · exact (read_at (pR_rows c true h) (Elt Ideal) (P c)).trans rfl

/-! ## The reduction -/

theorem Av_at (d : Bool) : ∀ (s : ℕ) (_ : s < 31) (c : Dev nD) (b : Bool),
    Av P d s c b = up32 fun j => ∑ t ∈ Finset.range (s + 1), Pt P (upst d t c) (gx d (ck d s c) (hhIx b j))
  | 0, _, c, b => by
      show half b (payInit (up64 (Pin0 P d c))) = _
      rw [payInit_ideal, Pin0_at, half_up]
      refine congrArg up32 (funext fun j => ?_)
      rw [Finset.sum_range_one]
      rfl
  | s + 1, h, c, b => by
      show payAdd (Av P d s (nb (!d) c) b) (half b (up64 (Pin P d s c))) = _
      rw [Av_at d s (by omega), Pin_at P d c (by omega), half_up, payAdd_ideal]
      refine congrArg up32 (funext fun j => ?_)
      rw [Finset.sum_range_succ' _ (s + 1), show ck d s (nb (!d) c) = ck d (s + 1) c from ck_up d c ⟨s, by omega⟩]
      rfl

/-- The sum of all devices' partial products. -/
def Zs (i : S4096x8192.Idx) : EReal := ∑ c : Dev nD, Pt P c i

theorem sum_up (d : Bool) (c : Dev nD) (i : S4096x8192.Idx) : ∑ t ∈ Finset.range 32, Pt P (upst d t c) i = Zs P i := by
  rw [Finset.sum_range fun t => Pt P (upst d t c) i]
  exact Function.Bijective.sum_comp (upst_all d c) fun e => Pt P e i

theorem Lastv_at (d : Bool) (c : Dev nD) (b : Bool) :
    Lastv P d c b = up32 fun j => Zs P (gx d (ck d 31 c) (hhIx b j)) := by
  show payLast (Av P d 30 (nb (!d) c) b) (half b (up64 (Pin P d 30 c))) = _
  rw [Av_at P d 30 (by omega), Pin_at P d c (by omega), half_up, payLast_ideal]
  refine congrArg up32 (funext fun j => ?_)
  rw [← sum_up P d c, Finset.sum_range_succ' _ 31, show ck d 30 (nb (!d) c) = ck d 31 c from ck_up d c ⟨30, by omega⟩]
  rfl

/-- What a device holds after the reduction: the whole sum, of the half chunk it ends with. -/
theorem Acc_at (d : Bool) (c : Dev nD) : Acc P d c = up64 fun j => Zs P (gx d (ck d 31 c) j) := by
  unfold Acc
  rw [Lastv_at, Lastv_at]
  exact glue_halves fun j => Zs P (gx d (ck d 31 c) j)

end Cert.Ring
-- ==== Proof.Maxes.lean ====
/- The scale, read ideally: the butterfly's rounds leave on every device the largest magnitude of the whole sum. -/
module

public import proofs.«01_k».proof.Proof.Sums

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

open scoped BigOperators

/-- The magnitude of an extended real. -/
def mag (x : EReal) : EReal := max x (-x)

theorem word_bot : Ideal.ofBits .f32 0xFF800000#32 = ⊥ := by simp [Ideal.ofBits, Ideal.ieee]

/-- A maximum over a set, folded from the least element. -/
theorem fold_max {ι : Type} (s : Finset ι) (f : ι → EReal) : s.fold max ⊥ f = s.sup f := rfl

/-- A reduction to one element is the least upper bound of all elements. -/
theorem red_all {s t : Shape} {axes : List (Fin s.rank)} (src : s.Idx → EReal) (h : s.Reduces axes t) (hφ : FKind.Formats .f32)
    (hacc : (0xFF800000#32 : BitVec 32) = FKind.maximumf.neutral .f32 hφ) (ht : ∀ j k : t.Idx, j = k) (j : t.Idx) :
    multiReduction (F := Ideal) (φ := .f32) .maximumf axes t src 0xFF800000#32 h hφ hacc j = ⨆ i, src i := by
  rw [multiReduction_maximumf_eq_fold, Finset.filter_true_of_mem fun i _ => ht _ _]
  refine Eq.trans (b := Finset.univ.fold max (Ideal.ofBits .f32 0xFF800000#32) src) rfl ?_
  rw [word_bot, fold_max, Finset.sup_univ_eq_iSup]

theorem S1_one (j k : S1.Idx) : j = k := funext fun a => Fin.ext (by
  have h1 := (j a).isLt
  have h2 := (k a).isLt
  have : S1.size a = 1 := by fin_cases a; rfl
  omega)

/-- A block's index without its leading unit. -/
def tail64 (i : S1x64x8192.Idx) : S64x8192.Idx := fun a => i a.succ
theorem tail64_surj : Function.Surjective tail64 := fun j =>
  ⟨fun a => match a with | ⟨0, _⟩ => ⟨0, Nat.one_pos⟩ | ⟨1, _⟩ => j 0 | ⟨2, _⟩ => j 1, Shape.idx_ext₂ rfl rfl⟩

/-- The one element of a one-element vector. -/
theorem the_one (v : S1.Idx → EReal) (j : S1.Idx) :
    extractAt ![0, 0, 0] (shapeCast S1x1x1 v shapeCasts_S1_S1x1x1) inpos_S1x1x1_p0_0_0 = v j := congrArg v (S1_one _ _)

theorem halfMax_at (x : S64x8192.Idx → EReal) : halfMax (F := Ideal) (up64 x) = ⨆ j, mag (x j) := by
  have j1 : S1.Idx := fun a => ⟨0, by fin_cases a; decide⟩
  have h : (shapeCast S1x64x8192 (absf (F := Ideal) (φ := .f32) x) shapeCasts_S64x8192_S1x64x8192) = fun i => mag (x (tail64 i)) :=
    funext fun i => up64_at (fun j => mag (x j)) i
  unfold halfMax
  rw [dn_up64, the_one _ j1, h]
  refine (red_all (fun i => mag (x (tail64 i))) reduces_S1x64x8192_S1 (.inl rfl) rfl S1_one j1).trans ?_
  exact tail64_surj.iSup_comp (g := fun j => mag (x j))

/-! ## The butterfly -/

variable (P : Dev nD → pM.view.ty.Contents (Elt Ideal))

/-- The largest magnitude a device holds. -/
def top0 (c : Dev nD) : EReal := max (halfMax (F := Ideal) (Acc P false c)) (halfMax (F := Ideal) (Acc P true c))
/-- The largest magnitude a device knows of after `k` rounds. -/
def topk : ℕ → Dev nD → EReal
  | 0, c => top0 P c
  | k + 1, c => max (topk k c) (topk k (xDv (Fin.ofNat 5 k) c))

theorem broadcast_max (a b : EReal) : broadcast S1x128 (Scalar.maximumf (F := Ideal) (φ := .f32) a b) = fun _ => max a b := rfl
theorem payMax0_at (v w : Vec Ideal S1x64x8192 .f32) :
    payMax0 (F := Ideal) v w = fun _ => max (halfMax (F := Ideal) v : EReal) (halfMax (F := Ideal) w) := by
  unfold payMax0
  rw [shapeCast_self]
  exact broadcast_max _ _
theorem payMax_at (a b : EReal) : payMax (F := Ideal) (fun _ => a) (fun _ => b) = fun _ => max a b := by
  unfold payMax
  rw [shapeCast_self]
  rfl
theorem Mx_zero (c : Dev nD) : Mx P 0 c = payMax0 (Acc P false c) (Acc P true c) := by unfold Mx; rfl
theorem Mx_succ (k : ℕ) (c : Dev nD) : Mx P (k + 1) c = payMax (Mx P k c) (Mx P k (xDv (Fin.ofNat 5 k) c)) := by
  conv_lhs => unfold Mx

theorem Mx_at (k : ℕ) : ∀ c : Dev nD, Mx P k c = fun _ => topk P k c := by
  induction k with
  | zero => intro c; rw [Mx_zero, payMax0_at, topk, top0]
  | succ k ih => intro c; rw [Mx_succ, ih, ih, payMax_at, topk]

/-- A number's bits from bit `k` on, that bit turned. -/
def flipT (k : ℕ) (c : ℕ) : ℕ := if c / 2 ^ k % 2 = 0 then c / 2 ^ k + 1 else c / 2 ^ k - 1
theorem flipT_xor : ∀ (k : Fin 5) (c : Fin 32), (c.val ^^^ (2 ^ k.val)) % 32 / 2 ^ k.val = flipT k.val c.val := by decide
theorem xDv_val (k : Fin 5) (c : Dev nD) : (xDv k c).val = (c.val ^^^ (2 ^ k.val)) % 32 := rfl
theorem xDv_flip (k : Fin 5) (c : Dev nD) : (xDv k c).val / 2 ^ k.val = flipT k.val c.val := by
  rw [xDv_val]; exact flipT_xor k c
theorem xDv_near (k : Fin 5) (e c : Dev nD) (h : e.val / 2 ^ (k.val + 1) = c.val / 2 ^ (k.val + 1)) :
    e.val / 2 ^ k.val = c.val / 2 ^ k.val ∨ e.val / 2 ^ k.val = (xDv k c).val / 2 ^ k.val := by
  rw [xDv_flip, flipT]
  rw [pow_succ, ← Nat.div_div_eq_div_mul, ← Nat.div_div_eq_div_mul] at h
  generalize e.val / 2 ^ k.val = x at h ⊢
  generalize c.val / 2 ^ k.val = y at h ⊢
  split_ifs <;> omega

theorem topk_le (B : EReal) (h : ∀ c, top0 P c ≤ B) : ∀ k c, topk P k c ≤ B
  | 0, c => h c
  | k + 1, c => max_le (topk_le B h k c) (topk_le B h k _)
theorem le_topk : ∀ (k : ℕ) (_ : k ≤ 5) (e c : Dev nD), e.val / 2 ^ k = c.val / 2 ^ k → top0 P e ≤ topk P k c
  | 0, _, e, c, h => by
      obtain rfl : e = c := Fin.ext (by simpa using h)
      exact le_rfl
  | k + 1, hk, e, c, h => by
      have hv : (Fin.ofNat 5 k).val = k := Nat.mod_eq_of_lt (by omega)
      have hn := xDv_near (Fin.ofNat 5 k) e c
      rw [hv] at hn
      rcases hn h with h | h
      · exact (le_topk k (by omega) e c h).trans (le_max_left ..)
      · exact (le_topk k (by omega) e _ h).trans (le_max_right ..)

/-- Every half chunk is some device's. -/
theorem own_all : ∀ (d : Bool) (k : Fin 32), ∃ c : Dev nD, ck d 31 c = k := by decide +kernel
theorem gx_row (d : Bool) (k : Fin 32) (j : S64x8192.Idx) : (gx d k j 0).val = 128 * k.val + 64 * bit d + (j 0).val := by
  show 128 * k.val + 64 * bit d + 1 * (j 0).val = _
  omega
theorem gx_col (d : Bool) (k : Fin 32) (j : S64x8192.Idx) : (gx d k j 1).val = (j 1).val := by
  show 0 + 1 * (j 1).val = _
  omega
theorem gx_all (i : S4096x8192.Idx) : ∃ (d : Bool) (k : Fin 32) (j : S64x8192.Idx), gx d k j = i := by
  have h0 : (i 0).val < 4096 := (i 0).isLt
  have h1 : (i 1).val < 8192 := (i 1).isLt
  obtain ⟨d, hd⟩ : ∃ d : Bool, bit d = (i 0).val % 128 / 64 := by
    have : (i 0).val % 128 / 64 = 0 ∨ (i 0).val % 128 / 64 = 1 := by omega
    rcases this with h | h
    · exact ⟨false, h.symm⟩
    · exact ⟨true, h.symm⟩
  let j : S64x8192.Idx := fun a => match a with
    | ⟨0, _⟩ => ⟨(i 0).val % 64, Nat.mod_lt _ (Nat.succ_pos 63)⟩
    | ⟨1, _⟩ => ⟨(i 1).val, h1⟩
  refine ⟨d, ⟨(i 0).val / 128, by omega⟩, j, Shape.idx_ext₂ ?_ ?_⟩
  · rw [gx_row]
    show 128 * ((i 0).val / 128) + 64 * bit d + (i 0).val % 64 = _
    omega
  · rw [gx_col]

theorem top0_le (c : Dev nD) : top0 P c ≤ ⨆ i, mag (Zs P i) := by
  unfold top0
  rw [Acc_at, Acc_at, halfMax_at, halfMax_at]
  exact max_le (iSup_le fun j => le_iSup (fun i => mag (Zs P i)) _) (iSup_le fun j => le_iSup (fun i => mag (Zs P i)) _)
theorem le_top0 (d : Bool) (c : Dev nD) (j : S64x8192.Idx) : mag (Zs P (gx d (ck d 31 c) j)) ≤ top0 P c := by
  unfold top0
  rw [Acc_at, Acc_at, halfMax_at, halfMax_at]
  cases d
  · exact (le_iSup (fun j => mag (Zs P (gx false (ck false 31 c) j))) j).trans (le_max_left ..)
  · exact (le_iSup (fun j => mag (Zs P (gx true (ck true 31 c) j))) j).trans (le_max_right ..)

/-- After the rounds every device knows the largest magnitude of all. -/
theorem topk_all (c : Dev nD) : topk P 5 c = ⨆ i, mag (Zs P i) := by
  refine le_antisymm (topk_le P _ (top0_le P) 5 c) (iSup_le fun i => ?_)
  obtain ⟨d, k, j, rfl⟩ := gx_all i
  obtain ⟨e, rfl⟩ := own_all d k
  refine (le_top0 P d e j).trans (le_topk P 5 le_rfl e c ?_)
  rw [show e.val / 2 ^ 5 = 0 from Nat.div_eq_of_lt e.isLt, show c.val / 2 ^ 5 = 0 from Nat.div_eq_of_lt c.isLt]

/-- The scale: the largest magnitude over 127. -/
theorem Sc_at (c : Dev nD) : Sc P c = Ideal.div (⨆ i, mag (Zs P i)) (Ideal.ofBits .f32 0x42FE0000#32) := by
  unfold Sc scaleV
  rw [Mx_at, topk_all]
  refine congrArg (fun x => Ideal.div x (Ideal.ofBits .f32 0x42FE0000#32)) ?_
  refine (red_all (t := S1) (fun _ : S1x1x128.Idx => ⨆ i, mag (Zs P i)) reduces_S1x1x128_S1 (.inl rfl) rfl S1_one _).trans ?_
  haveI : Nonempty S1x1x128.Idx := ⟨fun a => ⟨0, by fin_cases a <;> decide⟩⟩
  exact ciSup_const

end Cert.Ring
-- ==== Proof.Quant.lean ====
/- An element's quantisation, read ideally: an integer between -127 and 127 is the same after its passage through eight bits. -/
module

public import Idealize.ShloMosaic.PureOps.Ideal
public import Idealize.ShloMosaic.PureOps.Ideal.Laws
public import Idealize.ShloMosaic.Lib.IdealHost

@[expose] public section

noncomputable section

namespace Cert.Ring

open Idealize.ShloMosaic

/-- The words of 127 and of -127. -/
def w127 : EReal := Ideal.ofBits .f32 0x42FE0000#32
def wm127 : EReal := Ideal.ofBits .f32 0xC2FE0000#32

theorem w127_eq : w127 = (((127 : ℤ) : ℝ) : EReal) := by
  simp [w127, Ideal.ofBits, Ideal.ieee, -EReal.coe_mul]; norm_num
theorem wm127_eq : wm127 = (((-127 : ℤ) : ℝ) : EReal) := by
  simp [wm127, Ideal.ofBits, Ideal.ieee, -EReal.coe_mul, -EReal.coe_neg]; norm_num

/-- A quotient rounded and clipped. -/
def clip (y : EReal) : EReal := min w127 (max wm127 (Ideal.liftRound Ideal.roundHalfEven y))

theorem coe_le_int (a b : ℤ) : (((a : ℝ) : EReal) ≤ ((b : ℝ) : EReal)) ↔ a ≤ b := by
  rw [EReal.coe_le_coe_iff, Int.cast_le]
theorem max_int (a b : ℤ) : max ((a : ℝ) : EReal) ((b : ℝ) : EReal) = (((max a b : ℤ) : ℝ) : EReal) := by
  rcases le_total a b with h | h
  · rw [max_eq_right h, max_eq_right ((coe_le_int a b).mpr h)]
  · rw [max_eq_left h, max_eq_left ((coe_le_int b a).mpr h)]
theorem min_int (a b : ℤ) : min ((a : ℝ) : EReal) ((b : ℝ) : EReal) = (((min a b : ℤ) : ℝ) : EReal) := by
  rcases le_total a b with h | h
  · rw [min_eq_left h, min_eq_left ((coe_le_int a b).mpr h)]
  · rw [min_eq_right h, min_eq_right ((coe_le_int b a).mpr h)]

theorem clip_int (y : EReal) : ∃ n : ℤ, -127 ≤ n ∧ n ≤ 127 ∧ clip y = ((n : ℝ) : EReal) := by
  unfold clip
  rw [w127_eq, wm127_eq]
  induction y with
  | bot => exact ⟨-127, by omega, by omega, by rw [Ideal.liftRound_bot, max_bot_right, min_int]; norm_num⟩
  | top => exact ⟨127, by omega, by omega, by rw [Ideal.liftRound_top, max_top_right, min_top_right]⟩
  | coe r => exact ⟨min 127 (max (-127) (Ideal.roundHalfEven r)), by omega, by omega, by rw [Ideal.liftRound_coe, max_int, min_int]⟩

theorem byte_int (n : ℤ) (h1 : -127 ≤ n) (h2 : n ≤ 127) : (Ideal.fptosi 8 ((n : ℝ) : EReal)).toInt = n := by
  unfold Ideal.fptosi
  rw [Ideal.toIntClamped_coe, Int.floor_intCast, Int.ceil_intCast, ite_self, BitVec.toInt_ofInt]
  have : max (-((2 ^ (8 - 1) : ℕ) : ℤ)) (min (((2 ^ (8 - 1) : ℕ) : ℤ) - 1) n) = n := by norm_num; omega
  rw [this]
  exact Int.bmod_eq_of_le (by norm_num; omega) (by norm_num; omega)

/-- Through eight bits and back. -/
theorem byte_clip (y : EReal) : (((Ideal.fptosi 8 (clip y)).toInt : ℝ) : EReal) = clip y := by
  obtain ⟨n, h1, h2, h⟩ := clip_int y
  rw [h, byte_int n h1 h2]

end Cert.Ring
-- ==== Proof.Value.lean ====
/- The result, read ideally: every row is the whole sum's row, quantised with the one scale and brought back. -/
module

public import proofs.«01_k».proof.Proof.Maxes
public import proofs.«01_k».proof.Proof.Quant

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Cert.KernelIdeal Cert.KernelIdeal.Gen

open scoped BigOperators

/-- An element over the scale, rounded, clipped and times the scale. -/
def qd (s y : EReal) : EReal := clip (Ideal.div y s) * s

theorem payQuant_at (s : EReal) (x : S64x8192.Idx → EReal) :
    payQuant (F := Ideal) s (up64 x) = fun j => Ideal.fptosi 8 (clip (Ideal.div (x j) s)) := by
  unfold payQuant
  rw [dn_up64, shapeCast_self]
  rfl
theorem payDeq0_at (s : EReal) (q : S64x8192.Idx → BitVec 8) :
    payDeq0 (F := Ideal) s q = fun j => ((((q j).toInt : ℝ) : EReal) * s : EReal) := by
  unfold payDeq0
  rw [shapeCast_self]
  rfl
theorem payDeq_at (s : EReal) (q : S32x8192.Idx → BitVec 8) :
    payDeq (F := Ideal) s (up32 q) = fun j => ((((q j).toInt : ℝ) : EReal) * s : EReal) := by
  unfold payDeq
  rw [dn_up32, shapeCast_self]
  rfl

variable (P : Dev nD → pM.view.ty.Contents (Elt Ideal))

/-- The scale all devices use. -/
def scal : EReal := Ideal.div (⨆ i, mag (Zs P i)) w127

theorem Sc_scal (c : Dev nD) : Sc P c = scal P := Sc_at P c

theorem Qv_at (d : Bool) (c : Dev nD) :
    Qv P d c = fun j => Ideal.fptosi 8 (clip (Ideal.div (Zs P (gx d (ck d 31 c) j)) (scal P))) := by
  unfold Qv
  rw [Acc_at, Sc_scal, payQuant_at]

theorem Gv_zero (d : Bool) (c : Dev nD) (b : Bool) : Gv P d 0 c b = fun j => Qv P d c (hhIx b j) := by unfold Gv; rfl
theorem Gv_succ (d : Bool) (t : ℕ) (c : Dev nD) (b : Bool) : Gv P d (t + 1) c b = Gv P d t (nb (!d) c) b := by
  conv_lhs => unfold Gv
theorem Gv_at (d : Bool) (b : Bool) (t : ℕ) : ∀ c : Dev nD, Gv P d t c b = fun j => Qv P d (upst d t c) (hhIx b j) := by
  induction t with
  | zero => intro c; rw [Gv_zero]; rfl
  | succ t ih => intro c; rw [Gv_succ, ih]; rfl

theorem own_O : ∀ (d : Bool) (c : Dev nD), (ck d 31 c).val = cO d (posT c) 31 := by decide +kernel
theorem got_O : ∀ (d : Bool) (c : Dev nD) (t : Fin 31), (ck d 31 (upst d (t.val + 1) c)).val = cO d (posT c) t.val := by decide +kernel

/-- The chunk the result's step `t` fills. -/
def co (d : Bool) (t : ℕ) (c : Dev nD) : Fin 32 := ⟨cO d (posT c) t, cO_lt ..⟩

theorem Ov0_at (d : Bool) (c : Dev nD) : Ov0 P d c = fun j => qd (scal P) (Zs P (gx d (co d 31 c) j)) := by
  unfold Ov0
  rw [Sc_scal, Qv_at, payDeq0_at]
  funext j
  show _ * _ = _
  rw [byte_clip, show ck d 31 c = co d 31 c from Fin.ext (own_O d c)]
  rfl
theorem Ov_at (d : Bool) (t : ℕ) (h : t < 31) (c : Dev nD) (b : Bool) :
    Ov P d t c b = fun j => qd (scal P) (Zs P (gx d (co d t c) (hhIx b j))) := by
  unfold Ov
  rw [Sc_scal, Gv_at, Qv_at, payDeq_at]
  funext j
  show _ * _ = _
  rw [byte_clip, show ck d 31 (upst d (t + 1) c) = co d t c from Fin.ext (got_O d c ⟨t, h⟩)]
  rfl

theorem r32_row (d b : Bool) (k : Fin 32) (j : S32x8192.Idx) : (r32 d b k.val k.isLt).emb j = gx d k (hhIx b j) := by
  refine Shape.idx_ext₂ ?_ ?_
  · rw [gx_row, hhIx_row]
    show 128 * k.val + 64 * bit d + 32 * bit b + 1 * (j 0).val = _
    omega
  · rw [gx_col, hhIx_col]
    show 0 + 1 * (j 1).val = _
    omega

/-- What the kernel leaves in the result. -/
def fin (i : S4096x8192.Idx) : EReal := qd (scal P) (Zs P i)

theorem fin_ok (c : Dev nD) : OutOk P c (fin P) := by
  rintro ⟨d, _ | ⟨t, b⟩⟩ hi
  · exact (show _ = _ from rfl).trans (Ov0_at P d c).symm
  · have h : t < 31 := (mem_OL _).mp (List.mem_toFinset.mp hi) _ rfl
    refine Eq.trans (b := fun j => fin P ((r32 d b (co d t c).val (co d t c).isLt).emb j)) rfl ?_
    exact Eq.trans (funext fun j => congrArg (fin P) (r32_row d b (co d t c) j)) (Ov_at P d t h c b).symm

end Cert.Ring
-- ==== Proof.Ref.lean ====
/- The reference's run: a host program of one device, every buffer at the end the operations' fold over the arguments. -/
module

public import proofs.«01_k».proof.Defs
public import proofs.«01_k».proof.Proof.Gen.ReferenceIdeal
public import Idealize.ShloMosaic.Adequacy
public import Idealize.ShloMosaic.Init
public import Idealize.ShloMosaic.Lib.StableHlo.Run
public import Idealize.ShloMosaic.Lib.Quiescent

@[expose] public section

noncomputable section

namespace Cert.Ref

open Idealize.ShloMosaic Idealize.SL.Sem Idealize.ShloMosaic.StableHlo Cert.ReferenceIdeal Cert.ReferenceIdeal.Gen
open Idealize.ShloMosaic.TcCoe

variable {F : FTy → Type} [FloatOps F]

/-- The reference's operations, in order, the two calls' bodies in their places. -/
abbrev ops : List (HloOp τ sig (Elt F)) :=
  [ binary main_arg0 main_arg1 main_v0 (fun l r => Host.dotGeneral dot_S4096x4096_S4096x8192_S4096x8192_1_0_0_1_n_n none l r),
    unary main_v0 main_v1 Host.absf,
    nullary main_cst (constant S_ .f32 0xFF800000#32),
    binary main_v1 main_cst main_v2 (fun x v => Host.reduce FloatOps.maximumf x v Facts₀.reducesTo_S4096x8192_S_d0_1 Facts₀.h_S_),
    nullary main_cst_0 (constant S_ .f32 0x42FE0000#32),
    binary main_v2 main_cst_0 main_v3 Host.divf,
    unary main_v3 main_v4 (broadcastInDim S4096x8192 ![] Facts₀.bcast_S_S4096x8192),
    binary main_v0 main_v4 main_v5 Host.divf,
    TRef.unary (.of main_v5) main_call0.v0 Host.roundeven,
    nullary main_cst_1 (constant S_ .f32 0xC2FE0000#32),
    nullary main_cst_2 (constant S_ .f32 0x42FE0000#32),
    TRef.unary (.of main_cst_1) main_call1.v0 id,
    TRef.unary main_call1.v0 main_call1.v1 (broadcastInDim S4096x8192 ![] Facts₀.bcast_S_S4096x8192),
    TRef.binary main_call1.v1 (.of main_v6) main_call1.v2 maximumf,
    TRef.unary (.of main_cst_2) main_call1.v3 id,
    TRef.unary main_call1.v3 main_call1.v4 (broadcastInDim S4096x8192 ![] Facts₀.bcast_S_S4096x8192),
    TRef.binary main_call1.v4 main_call1.v2 main_call1.v5 minimumf,
    unary main_v3 main_v8 (broadcastInDim S4096x8192 ![] Facts₀.bcast_S_S4096x8192),
    binary main_v7 main_v8 main_v9 mulf ]

theorem main_ops (c : Dev nD) : main (F := F) c = seq ops := by
  simp only [main, fn_round.body, fn_clip.body, seq, bind_assoc, pure_bind]
  rfl

/-- The whole product. -/
def Y (x : FVec F S4096x4096 .bf16) (w : FVec F S4096x8192 .bf16) : FVec F S4096x8192 .f32 :=
  Host.dotGeneral dot_S4096x4096_S4096x8192_S4096x8192_1_0_0_1_n_n none x w

/-- The scale: the largest magnitude over 127. -/
def scl (x : FVec F S4096x4096 .bf16) (w : FVec F S4096x8192 .bf16) : FVec F S_ .f32 :=
  Host.divf (Host.reduce FloatOps.maximumf (Host.absf (Y x w)) (constant S_ .f32 0xFF800000#32) Facts₀.reducesTo_S4096x8192_S_d0_1
    Facts₀.h_S_) (constant S_ .f32 0x42FE0000#32)

/-- The reference's result. -/
def out (x : FVec F S4096x4096 .bf16) (w : FVec F S4096x8192 .bf16) : FVec F S4096x8192 .f32 :=
  mulf (minimumf (broadcastInDim S4096x8192 ![] Facts₀.bcast_S_S4096x8192 (constant S_ .f32 0x42FE0000#32))
      (maximumf (broadcastInDim S4096x8192 ![] Facts₀.bcast_S_S4096x8192 (constant S_ .f32 0xC2FE0000#32))
        (Host.roundeven (Host.divf (Y x w) (broadcastInDim S4096x8192 ![] Facts₀.bcast_S_S4096x8192 (scl x w))))))
    (broadcastInDim S4096x8192 ![] Facts₀.bcast_S_S4096x8192 (scl x w))

theorem out_eq (V : Valuation τ sig (Elt F)) :
    after ops V (main_v9 : DevRef τ sig) = out (V (main_arg0 : DevRef τ sig)) (V (main_arg1 : DevRef τ sig)) := by
  after_results_simp
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem refs_none : (Finset.univ.filter fun b : Ref sig .tc => b.isScoped) = ∅ := by decide
theorem sems_none : (Finset.univ.filter fun sm : SemLoc sig => sm.isScoped .tc) = ∅ := by decide

theorem ops_in : (ops : List (HloOp τ sig (Elt F))).Forall fun op => op.bufs ⊆ tcRefs τ sig :=
  ⟨binary_bufs_sub .., unary_bufs_sub .., nullary_bufs_sub .., binary_bufs_sub .., nullary_bufs_sub .., binary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub .., unary_bufs_sub ..,
    binary_bufs_sub ..⟩

/-- From any memory the reference ends with its result in place, its arguments as launched and every counter zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v9)
          = out (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v9).trans (out_eq _), (h c main_arg0).trans (arg0_eq _), (h c main_arg1).trans (arg1_eq _)⟩,
      sem_eq_zero_of_no_sems (by decide) r.2⟩)
    (run_seq refs_none sems_none defs main (fun _ => ops) main_ops (fun _ => ops_in) m ρ)

/-- The frame of the reference. -/
theorem frame_ref : Cert.quiescent_ReferenceIdeal := fun m ρ _ =>
  (θ_run (defs (F := Ideal)) _ _).mono (fun _ h => ⟨fun c => (h.1 c).2, h.2⟩) (run_ref (F := Ideal) m ρ)

end Cert.Ref
-- ==== Proof.Dot.lean ====
/- The partial products, read ideally: their sum over the devices is the whole product. -/
module

public import proofs.«01_k».proof.Proof.Ref
public import Idealize.ShloMosaic.Lib.StackMember
public import Idealize.ShloMosaic.Lib.Layout
public import proofs.«01_k».proof.Proof.Gen.KernelIdeal

@[expose] public section

noncomputable section

namespace Cert.Ring

open Idealize.ShloMosaic Idealize.ShloMosaic.ValueIdx
open scoped BigOperators

abbrev T4096x128 : Shape := ⟨2, ![4096, 128]⟩
abbrev T128x8192 : Shape := ⟨2, ![128, 8192]⟩
abbrev T4096x4096 : Shape := ⟨2, ![4096, 4096]⟩
abbrev T4096x8192 : Shape := ⟨2, ![4096, 8192]⟩

/-- A sum of 4096 terms by 32 groups of 128. -/
theorem sum_split (f : Fin 4096 → EReal) :
    ∑ k, f k = ∑ e : Fin 32, ∑ l : Fin 128, f ⟨e.val * 128 + l.val, by have := e.isLt; have := l.isLt; omega⟩ := by
  rw [← (finProdFinEquiv (m := 32) (n := 128)).sum_comp fun k : Fin (32 * 128) => f k, Fintype.sum_prod_type]
  refine Finset.sum_congr rfl fun e _ => Finset.sum_congr rfl fun l _ => congrArg f (Fin.ext ?_)
  show l.val + 128 * e.val = e.val * 128 + l.val
  omega

variable (x : T4096x4096.Idx → EReal) (w : T4096x8192.Idx → EReal)

theorem part_at (e : Fin 32) (a : Fin 4096) (b : Fin 8192) :
    Host.dotGeneral (F := Ideal) (φ₁ := .bf16) (φ₂ := .bf16) Cert.KernelIdeal.dot_S4096x128_S128x8192_S4096x8192_1_0_0_1_n_n none
      (Layout.block T4096x128 T4096x4096 1 32 e x) (Layout.block T128x8192 T4096x8192 0 32 e w) (ix2 a b)
    = ∑ l : Fin 128, x (ix2 a ⟨e.val * 128 + l.val, by have := e.isLt; have := l.isLt; omega⟩)
        * w (ix2 ⟨e.val * 128 + l.val, by have := e.isLt; have := l.isLt; omega⟩ b) := by
  refine (StackMember.dotGeneral_plain_apply none (Layout.block T4096x128 T4096x4096 1 32 e x)
    (Layout.block T128x8192 T4096x8192 0 32 e w) a b).trans ?_
  refine Finset.sum_congr rfl fun l _ => ?_
  refine congrArg₂ (fun p q : EReal => p * q) (congrArg x ?_) (congrArg w ?_)
  · exact Shape.idx_ext₂ rfl rfl
  · exact Shape.idx_ext₂ rfl rfl

theorem whole_at (a : Fin 4096) (b : Fin 8192) :
    Cert.Ref.Y (F := Ideal) x w (ix2 a b) = ∑ k : Fin 4096, x (ix2 a k) * w (ix2 k b) :=
  StackMember.dotGeneral_plain_apply none x w a b

/-- The partial products' sum. -/
theorem parts_sum (i : T4096x8192.Idx) :
    (∑ e : Fin 32, (Host.dotGeneral (F := Ideal) (φ₁ := .bf16) (φ₂ := .bf16) Cert.KernelIdeal.dot_S4096x128_S128x8192_S4096x8192_1_0_0_1_n_n none
      (Layout.block T4096x128 T4096x4096 1 32 e x) (Layout.block T128x8192 T4096x8192 0 32 e w) i : EReal))
    = Cert.Ref.Y (F := Ideal) x w i := by
  obtain ⟨a, b, rfl⟩ : ∃ (a : Fin 4096) (b : Fin 8192), i = ix2 a b := ⟨i 0, i 1, eq_ix2 i⟩
  refine Eq.trans ?_ ((whole_at x w a b).trans (sum_split _)).symm
  exact Finset.sum_congr rfl fun e _ => part_at x w e _ _

end Cert.Ring
-- ==== Proof.Agree.lean ====
/- The two results agree: the reference's result, element by element, is what the kernel leaves, and so both runs end with the
   same contents. -/
module

public import proofs.«01_k».proof.Proof.Value
public import proofs.«01_k».proof.Proof.Dot
public import proofs.«01_k».proof.Proof.Launch

@[expose] public section

noncomputable section

namespace Cert.Ring

open Idealize.ShloMosaic Idealize.SL.Sem
open Idealize.ShloMosaic.TcCoe
open scoped BigOperators

/-! ## The reference -/

section reference
open Cert.ReferenceIdeal

variable (x : T4096x4096.Idx → EReal) (w : T4096x8192.Idx → EReal)

/-- The whole product at an index. -/
def Yt (i : T4096x8192.Idx) : EReal := Cert.Ref.Y (F := Ideal) x w i

theorem S0_one (j k : S_.Idx) : j = k := funext fun a => a.elim0

theorem top_at (h : S4096x8192.ReducesTo [0, 1] S_) (hu : 0 < S_.numel) (j : S_.Idx) :
    Host.reduce (FloatOps.maximumf (F := Ideal) (φ := .f32)) (Host.absf (F := Ideal) (φ := .f32) (Cert.Ref.Y (F := Ideal) x w))
      (constant (F := Ideal) S_ .f32 0xFF800000#32) h hu j = ⨆ i, mag (Yt x w i) := by
  rw [Host.reduce_eq_fold, Finset.filter_true_of_mem fun i _ => S0_one _ _]
  refine Eq.trans (b := Finset.univ.fold max (Ideal.ofBits .f32 0xFF800000#32) fun i => mag (Yt x w i)) rfl ?_
  rw [word_bot, fold_max, Finset.sup_univ_eq_iSup]

theorem div_at (a b : S_.Idx → EReal) (j : S_.Idx) : Host.divf (F := Ideal) (φ := .f32) a b j = Ideal.div (a j) (b j) := rfl

theorem scl_at (j : S_.Idx) : Cert.Ref.scl (F := Ideal) x w j = Ideal.div (⨆ i, mag (Yt x w i)) w127 := by
  unfold Cert.Ref.scl
  refine (div_at _ _ j).trans ?_
  rw [top_at]
  rfl

theorem quant_at (y : S4096x8192.Idx → EReal) (s : S_.Idx → EReal) (h : S_.BroadcastsInDim S4096x8192 ![]) (i : S4096x8192.Idx) :
    mulf (F := Ideal) (φ := .f32) (minimumf (broadcastInDim S4096x8192 ![] h (constant (F := Ideal) S_ .f32 0x42FE0000#32))
      (maximumf (broadcastInDim S4096x8192 ![] h (constant (F := Ideal) S_ .f32 0xC2FE0000#32))
        (Host.roundeven (Host.divf y (broadcastInDim S4096x8192 ![] h s)))))
      (broadcastInDim S4096x8192 ![] h s) i = qd (s fun a => a.elim0) (y i) := by
  have hs : broadcastInDim S4096x8192 ![] h s = fun _ => s fun a => a.elim0 := funext fun i => congrArg s (S0_one _ _)
  rw [hs]
  rfl

theorem out_at (i : S4096x8192.Idx) :
    Cert.Ref.out (F := Ideal) x w i = qd (Ideal.div (⨆ i, mag (Yt x w i)) w127) (Yt x w i) := by
  unfold Cert.Ref.out
  refine (quant_at _ _ _ i).trans ?_
  rw [scl_at]
  rfl

end reference

/-! ## The kernel -/

open Cert.KernelIdeal

variable (m : (ℓ : Loc nD τ sig) → Buf (Elt Ideal) ℓ) (x : T4096x4096.Idx → EReal) (w : T4096x8192.Idx → EReal)

theorem sum_at (hx : ∀ c : Dev nD, m ((c.tc : Thread nD τ).loc main_arg0) = Layout.block T4096x128 T4096x4096 1 32 c x)
    (hw : ∀ c : Dev nD, m ((c.tc : Thread nD τ).loc main_arg1) = Layout.block T128x8192 T4096x8192 0 32 c w) (i : S4096x8192.Idx) :
    Zs (Pm m) i = Yt x w i := by
  unfold Zs Yt
  rw [← parts_sum x w i]
  refine Finset.sum_congr rfl fun c _ => ?_
  unfold Pt Pm
  rw [V1_part, hx, hw]

theorem fin_out (hx : ∀ c : Dev nD, m ((c.tc : Thread nD τ).loc main_arg0) = Layout.block T4096x128 T4096x4096 1 32 c x)
    (hw : ∀ c : Dev nD, m ((c.tc : Thread nD τ).loc main_arg1) = Layout.block T128x8192 T4096x8192 0 32 c w) :
    fin (Pm m) = Cert.Ref.out (F := Ideal) x w := by
  have h : Zs (Pm m) = Yt x w := funext fun i => sum_at m x w hx hw i
  funext i
  rw [out_at]
  unfold fin scal
  rw [h]

/-- Both programs, ideally, end with the same result. -/
theorem agree : Cert.algebraic_KernelIdeal_ReferenceIdeal := fun m g m' g' _ h =>
  ⟨Cert.Ref.out (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) (onTc (τ := Cert.KernelIdeal.τ) (Cert.KernelIdeal.main (F := Ideal))) ⟨m, fun _ => 0, g⟩).mono
      (fun _ hr c => ⟨((hr.1 c).2.trans (res_eq (fin_ok (Pm m) c))).trans
          (fin_out m _ _ (fun c => (h c).1) fun c => (h c).2), (hr.1 c).1.1, (hr.1 c).1.2⟩) (run_main (F := Ideal) m g),
    (θ_run (Cert.ReferenceIdeal.defs (F := Ideal)) (onTc (τ := Cert.ReferenceIdeal.τ) (Cert.ReferenceIdeal.main (F := Ideal))) ⟨m', fun _ => 0, g'⟩).mono
      (fun _ hr => hr.1 0) (Cert.Ref.run_ref (F := Ideal) m' g')⟩

end Cert.Ring
-- ==== Proof.lean ====
module

public import proofs.«01_k».proof.Defs
public import proofs.«01_k».proof.Proof.Frames
public import proofs.«01_k».proof.Proof.Agree
public import proofs.«01_k».proof.Proof.Ref

@[expose] public section

noncomputable section

namespace Cert.Proof

theorem claim : Cert.Claim := ⟨Cert.Kernel.Gen.facts, Cert.KernelIdeal.Gen.facts, Cert.ReferenceIdeal.Gen.facts,
  Cert.Ring.frame_words, Cert.Ring.frame_ideal, Cert.Ref.frame_ref, trivial, Cert.Ring.agree⟩

end Cert.Proof

end
